-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_bwd [hPre_finite_bwd : Cert.Pre_finite_bwd.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_bwd.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_bwd [hPre_finite_bwd : Cert.Pre_finite_bwd.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_bwd.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))) = (fun _ => 1#1)

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActIdeal_finite_bwd [hPre_finite_bwd : Cert.Pre_finite_bwd.Facts] (m : (ℓ : Loc Cert.FfnActIdeal.nD Cert.FfnActIdeal.τ Cert.FfnActIdeal.sig) → Buf (Elt Ideal) ℓ) : Prop :=
  ∀ c : Dev Cert.FfnActIdeal.nD,
    (Cert.Pre_finite_bwd.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3)) (m ((c.tc : Thread Cert.FfnActIdeal.nD Cert.FfnActIdeal.τ).loc Cert.FfnActIdeal.main_arg4))) = (fun _ => 1#1)

def Pre_FfnActRefIdeal (m : (ℓ : Loc Cert.FfnActRefIdeal.nD Cert.FfnActRefIdeal.τ Cert.FfnActRefIdeal.sig) → Buf (Elt Ideal) ℓ) : Prop :=
  True

def Pre_FfnActRefIdeal_finite_bwd [hPre_finite_bwd : Cert.Pre_finite_bwd.Facts] (m : (ℓ : Loc Cert.FfnActRefIdeal.nD Cert.FfnActRefIdeal.τ Cert.FfnActRefIdeal.sig) → Buf (Elt Ideal) ℓ) : Prop :=
  ∀ c : Dev Cert.FfnActRefIdeal.nD,
    (Cert.Pre_finite_bwd.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3)) (m ((c.tc : Thread Cert.FfnActRefIdeal.nD Cert.FfnActRefIdeal.τ).loc Cert.FfnActRefIdeal.main_arg4))) = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_finite_in [hPre_finite_in : Cert.Pre_finite_in.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_finite_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))) = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_finite_in [hPre_finite_in : Cert.Pre_finite_in.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_finite_in.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4))) = (fun _ => 1#1)

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixOutBwd (m : (ℓ : Loc Cert.MixOutBwd.nD Cert.MixOutBwd.τ Cert.MixOutBwd.sig) → Buf (Elt Bits) ℓ) : Prop :=
  True

def Pre_MixOutBwdIdeal (m : (ℓ : Loc Cert.MixOutBwdIdeal.nD Cert.MixOutBwdIdeal.τ Cert.MixOutBwdIdeal.sig) → Buf (Elt Ideal) ℓ) : Prop :=
  True

def Pre_MixOutBwdRefIdeal (m : (ℓ : Loc Cert.MixOutBwdRefIdeal.nD Cert.MixOutBwdRefIdeal.τ Cert.MixOutBwdRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamGu (m : (ℓ : Loc Cert.AdamGu.nD Cert.AdamGu.τ Cert.AdamGu.sig) → Buf (Elt Bits) ℓ) : Prop :=
  True

def Pre_AdamGuIdeal (m : (ℓ : Loc Cert.AdamGuIdeal.nD Cert.AdamGuIdeal.τ Cert.AdamGuIdeal.sig) → Buf (Elt Ideal) ℓ) : Prop :=
  True

def Pre_AdamGuRefIdeal (m : (ℓ : Loc Cert.AdamGuRefIdeal.nD Cert.AdamGuRefIdeal.τ Cert.AdamGuRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_finite_bwd [hFfnBwdIdeal : Cert.FfnBwdIdeal.Facts] [hPre_finite_bwd : Cert.Pre_finite_bwd.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_bwd m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnBwdRefIdeal_pre_finite_bwd [hFfnBwdRefIdeal : Cert.FfnBwdRefIdeal.Facts] [hPre_finite_bwd : Cert.Pre_finite_bwd.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_bwd m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3)
      ∧ r.2.mem ((c.tc : Thread Cert.FfnAct.nD Cert.FfnAct.τ).loc Cert.FfnAct.main_arg4) = m ((c.tc : Thread Cert.FfnAct.nD Cert.FfnAct.τ).loc Cert.FfnAct.main_arg4))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
      ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4))
      ∧ r.2.sem = fun _ => 0)

def quiescent_FfnActIdeal_pre_finite_bwd [hFfnActIdeal : Cert.FfnActIdeal.Facts] [hPre_finite_bwd : Cert.Pre_finite_bwd.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal_finite_bwd m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
      ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3)
      ∧ r.2.mem ((c.tc : Thread Cert.FfnActRefIdeal.nD Cert.FfnActRefIdeal.τ).loc Cert.FfnActRefIdeal.main_arg4) = m ((c.tc : Thread Cert.FfnActRefIdeal.nD Cert.FfnActRefIdeal.τ).loc Cert.FfnActRefIdeal.main_arg4))
      ∧ r.2.sem = fun _ => 0)

def quiescent_FfnActRefIdeal_pre_finite_bwd [hFfnActRefIdeal : Cert.FfnActRefIdeal.Facts] [hPre_finite_bwd : Cert.Pre_finite_bwd.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal_finite_bwd m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3)
      ∧ r.2.mem ((c.tc : Thread Cert.FfnActRefIdeal.nD Cert.FfnActRefIdeal.τ).loc Cert.FfnActRefIdeal.main_arg4) = m ((c.tc : Thread Cert.FfnActRefIdeal.nD Cert.FfnActRefIdeal.τ).loc Cert.FfnActRefIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInIdeal_pre_finite_in [hFfnInIdeal : Cert.FfnInIdeal.Facts] [hPre_finite_in : Cert.Pre_finite_in.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_finite_in m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4))
      ∧ r.2.sem = fun _ => 0)

def quiescent_FfnInRefIdeal_pre_finite_in [hFfnInRefIdeal : Cert.FfnInRefIdeal.Facts] [hPre_finite_in : Cert.Pre_finite_in.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_finite_in m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4))
      ∧ r.2.sem = fun _ => 0)

def quiescent_MixOutBwd [hMixOutBwd : Cert.MixOutBwd.Facts] : Prop :=
  ∀ (m : (ℓ : Loc Cert.MixOutBwd.nD Cert.MixOutBwd.τ Cert.MixOutBwd.sig) → Buf (Elt Bits) ℓ) (g : Dev Cert.MixOutBwd.nD → PrngReg), Pre_MixOutBwd m →
    θ_run (Cert.MixOutBwd.defs (F := Bits)) (onTc (τ := Cert.MixOutBwd.τ) (Cert.MixOutBwd.main (F := Bits))) ⟨m, fun _ => 0, g⟩ (fun r => (∀ c : Dev Cert.MixOutBwd.nD,
      r.2.mem ((c.tc : Thread Cert.MixOutBwd.nD Cert.MixOutBwd.τ).loc Cert.MixOutBwd.main_arg0) = m ((c.tc : Thread Cert.MixOutBwd.nD Cert.MixOutBwd.τ).loc Cert.MixOutBwd.main_arg0)
      ∧ r.2.mem ((c.tc : Thread Cert.MixOutBwd.nD Cert.MixOutBwd.τ).loc Cert.MixOutBwd.main_arg1) = m ((c.tc : Thread Cert.MixOutBwd.nD Cert.MixOutBwd.τ).loc Cert.MixOutBwd.main_arg1)
      ∧ r.2.mem ((c.tc : Thread Cert.MixOutBwd.nD Cert.MixOutBwd.τ).loc Cert.MixOutBwd.main_arg2) = m ((c.tc : Thread Cert.MixOutBwd.nD Cert.MixOutBwd.τ).loc Cert.MixOutBwd.main_arg2)
      ∧ r.2.mem ((c.tc : Thread Cert.MixOutBwd.nD Cert.MixOutBwd.τ).loc Cert.MixOutBwd.main_arg3) = m ((c.tc : Thread Cert.MixOutBwd.nD Cert.MixOutBwd.τ).loc Cert.MixOutBwd.main_arg3))
      ∧ r.2.sem = fun _ => 0)

def quiescent_MixOutBwdIdeal [hMixOutBwdIdeal : Cert.MixOutBwdIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg), Pre_MixOutBwdIdeal m →
    θ_run (Cert.MixOutBwdIdeal.defs (F := Ideal)) (onTc (τ := Cert.MixOutBwdIdeal.τ) (Cert.MixOutBwdIdeal.main (F := Ideal))) ⟨m, fun _ => 0, g⟩ (fun r => (∀ c : Dev Cert.MixOutBwdIdeal.nD,
      r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
      ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
      ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
      ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3))
      ∧ r.2.sem = fun _ => 0)

def quiescent_MixOutBwdRefIdeal [hMixOutBwdRefIdeal : Cert.MixOutBwdRefIdeal.Facts] : Prop :=
  ∀ (m : (ℓ : Loc Cert.MixOutBwdRefIdeal.nD Cert.MixOutBwdRefIdeal.τ Cert.MixOutBwdRefIdeal.sig) → Buf (Elt Ideal) ℓ) (g : Dev Cert.MixOutBwdRefIdeal.nD → PrngReg), Pre_MixOutBwdRefIdeal m →
    θ_run (Cert.MixOutBwdRefIdeal.defs (F := Ideal)) (onTc (τ := Cert.MixOutBwdRefIdeal.τ) (Cert.MixOutBwdRefIdeal.main (F := Ideal))) ⟨m, fun _ => 0, g⟩ (fun r => (∀ c : Dev Cert.MixOutBwdRefIdeal.nD,
      r.2.mem ((c.tc : Thread Cert.MixOutBwdRefIdeal.nD Cert.MixOutBwdRefIdeal.τ).loc Cert.MixOutBwdRefIdeal.main_arg0) = m ((c.tc : Thread Cert.MixOutBwdRefIdeal.nD Cert.MixOutBwdRefIdeal.τ).loc Cert.MixOutBwdRefIdeal.main_arg0)
      ∧ r.2.mem ((c.tc : Thread Cert.MixOutBwdRefIdeal.nD Cert.MixOutBwdRefIdeal.τ).loc Cert.MixOutBwdRefIdeal.main_arg1) = m ((c.tc : Thread Cert.MixOutBwdRefIdeal.nD Cert.MixOutBwdRefIdeal.τ).loc Cert.MixOutBwdRefIdeal.main_arg1)
      ∧ r.2.mem ((c.tc : Thread Cert.MixOutBwdRefIdeal.nD Cert.MixOutBwdRefIdeal.τ).loc Cert.MixOutBwdRefIdeal.main_arg2) = m ((c.tc : Thread Cert.MixOutBwdRefIdeal.nD Cert.MixOutBwdRefIdeal.τ).loc Cert.MixOutBwdRefIdeal.main_arg2)
      ∧ r.2.mem ((c.tc : Thread Cert.MixOutBwdRefIdeal.nD Cert.MixOutBwdRefIdeal.τ).loc Cert.MixOutBwdRefIdeal.main_arg3) = m ((c.tc : Thread Cert.MixOutBwdRefIdeal.nD Cert.MixOutBwdRefIdeal.τ).loc Cert.MixOutBwdRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamGu [hAdamGu : Cert.AdamGu.Facts] : Prop :=
  ∀ (m : (ℓ : Loc Cert.AdamGu.nD Cert.AdamGu.τ Cert.AdamGu.sig) → Buf (Elt Bits) ℓ) (g : Dev Cert.AdamGu.nD → PrngReg), Pre_AdamGu m →
    θ_run (Cert.AdamGu.defs (F := Bits)) (onTc (τ := Cert.AdamGu.τ) (Cert.AdamGu.main (F := Bits))) ⟨m, fun _ => 0, g⟩ (fun r => (∀ c : Dev Cert.AdamGu.nD,
      r.2.mem ((c.tc : Thread Cert.AdamGu.nD Cert.AdamGu.τ).loc Cert.AdamGu.main_arg0) = m ((c.tc : Thread Cert.AdamGu.nD Cert.AdamGu.τ).loc Cert.AdamGu.main_arg0)
      ∧ r.2.mem ((c.tc : Thread Cert.AdamGu.nD Cert.AdamGu.τ).loc Cert.AdamGu.main_arg1) = m ((c.tc : Thread Cert.AdamGu.nD Cert.AdamGu.τ).loc Cert.AdamGu.main_arg1)
      ∧ r.2.mem ((c.tc : Thread Cert.AdamGu.nD Cert.AdamGu.τ).loc Cert.AdamGu.main_arg2) = m ((c.tc : Thread Cert.AdamGu.nD Cert.AdamGu.τ).loc Cert.AdamGu.main_arg2)
      ∧ r.2.mem ((c.tc : Thread Cert.AdamGu.nD Cert.AdamGu.τ).loc Cert.AdamGu.main_arg3) = m ((c.tc : Thread Cert.AdamGu.nD Cert.AdamGu.τ).loc Cert.AdamGu.main_arg3)
      ∧ r.2.mem ((c.tc : Thread Cert.AdamGu.nD Cert.AdamGu.τ).loc Cert.AdamGu.main_arg4) = m ((c.tc : Thread Cert.AdamGu.nD Cert.AdamGu.τ).loc Cert.AdamGu.main_arg4))
      ∧ r.2.sem = fun _ => 0)

def quiescent_AdamGuIdeal [hAdamGuIdeal : Cert.AdamGuIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg), Pre_AdamGuIdeal m →
    θ_run (Cert.AdamGuIdeal.defs (F := Ideal)) (onTc (τ := Cert.AdamGuIdeal.τ) (Cert.AdamGuIdeal.main (F := Ideal))) ⟨m, fun _ => 0, g⟩ (fun r => (∀ c : Dev Cert.AdamGuIdeal.nD,
      r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
      ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
      ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
      ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3)
      ∧ r.2.mem ((c.tc : Thread Cert.AdamGuIdeal.nD Cert.AdamGuIdeal.τ).loc Cert.AdamGuIdeal.main_arg4) = m ((c.tc : Thread Cert.AdamGuIdeal.nD Cert.AdamGuIdeal.τ).loc Cert.AdamGuIdeal.main_arg4))
      ∧ r.2.sem = fun _ => 0)

def quiescent_AdamGuRefIdeal [hAdamGuRefIdeal : Cert.AdamGuRefIdeal.Facts] : Prop :=
  ∀ (m : (ℓ : Loc Cert.AdamGuRefIdeal.nD Cert.AdamGuRefIdeal.τ Cert.AdamGuRefIdeal.sig) → Buf (Elt Ideal) ℓ) (g : Dev Cert.AdamGuRefIdeal.nD → PrngReg), Pre_AdamGuRefIdeal m →
    θ_run (Cert.AdamGuRefIdeal.defs (F := Ideal)) (onTc (τ := Cert.AdamGuRefIdeal.τ) (Cert.AdamGuRefIdeal.main (F := Ideal))) ⟨m, fun _ => 0, g⟩ (fun r => (∀ c : Dev Cert.AdamGuRefIdeal.nD,
      r.2.mem ((c.tc : Thread Cert.AdamGuRefIdeal.nD Cert.AdamGuRefIdeal.τ).loc Cert.AdamGuRefIdeal.main_arg0) = m ((c.tc : Thread Cert.AdamGuRefIdeal.nD Cert.AdamGuRefIdeal.τ).loc Cert.AdamGuRefIdeal.main_arg0)
      ∧ r.2.mem ((c.tc : Thread Cert.AdamGuRefIdeal.nD Cert.AdamGuRefIdeal.τ).loc Cert.AdamGuRefIdeal.main_arg1) = m ((c.tc : Thread Cert.AdamGuRefIdeal.nD Cert.AdamGuRefIdeal.τ).loc Cert.AdamGuRefIdeal.main_arg1)
      ∧ r.2.mem ((c.tc : Thread Cert.AdamGuRefIdeal.nD Cert.AdamGuRefIdeal.τ).loc Cert.AdamGuRefIdeal.main_arg2) = m ((c.tc : Thread Cert.AdamGuRefIdeal.nD Cert.AdamGuRefIdeal.τ).loc Cert.AdamGuRefIdeal.main_arg2)
      ∧ r.2.mem ((c.tc : Thread Cert.AdamGuRefIdeal.nD Cert.AdamGuRefIdeal.τ).loc Cert.AdamGuRefIdeal.main_arg3) = m ((c.tc : Thread Cert.AdamGuRefIdeal.nD Cert.AdamGuRefIdeal.τ).loc Cert.AdamGuRefIdeal.main_arg3)
      ∧ r.2.mem ((c.tc : Thread Cert.AdamGuRefIdeal.nD Cert.AdamGuRefIdeal.τ).loc Cert.AdamGuRefIdeal.main_arg4) = m ((c.tc : Thread Cert.AdamGuRefIdeal.nD Cert.AdamGuRefIdeal.τ).loc Cert.AdamGuRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v55_2)) (v3 : (c : Dev Cert.KernelIdeal.nD) → Buf (Elt Ideal) ((c.tc : Thread Cert.KernelIdeal.nD Cert.KernelIdeal.τ).loc Cert.KernelIdeal.main_v55_3)) (v4 : (c : Dev Cert.KernelIdeal.nD) → Buf (Elt Ideal) ((c.tc : Thread Cert.KernelIdeal.nD Cert.KernelIdeal.τ).loc Cert.KernelIdeal.main_v55_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_v55_2) = v2 c
          ∧ r.2.mem ((c.tc : Thread Cert.KernelIdeal.nD Cert.KernelIdeal.τ).loc Cert.KernelIdeal.main_v55_3) = v3 c
          ∧ r.2.mem ((c.tc : Thread Cert.KernelIdeal.nD Cert.KernelIdeal.τ).loc Cert.KernelIdeal.main_v55_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v125) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_v116) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnBwd_FfnBwdIdeal : Prop :=
  True

def algebraic_FfnBwdIdeal_FfnBwdRefIdeal_pre_finite_bwd [hFfnBwdIdeal : Cert.FfnBwdIdeal.Facts] [hFfnBwdRefIdeal : Cert.FfnBwdRefIdeal.Facts] [hPre_finite_bwd : Cert.Pre_finite_bwd.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_bwd m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v19_0)) (v1 : (c : Dev Cert.FfnBwdIdeal.nD) → Buf (Elt Ideal) ((c.tc : Thread Cert.FfnBwdIdeal.nD Cert.FfnBwdIdeal.τ).loc Cert.FfnBwdIdeal.main_v19_1)) (v2 : (c : Dev Cert.FfnBwdIdeal.nD) → Buf (Elt Ideal) ((c.tc : Thread Cert.FfnBwdIdeal.nD Cert.FfnBwdIdeal.τ).loc Cert.FfnBwdIdeal.main_v19_2)) (v3 : (c : Dev Cert.FfnBwdIdeal.nD) → Buf (Elt Ideal) ((c.tc : Thread Cert.FfnBwdIdeal.nD Cert.FfnBwdIdeal.τ).loc Cert.FfnBwdIdeal.main_v19_3)) (v4 : (c : Dev Cert.FfnBwdIdeal.nD) → Buf (Elt Ideal) ((c.tc : Thread Cert.FfnBwdIdeal.nD Cert.FfnBwdIdeal.τ).loc Cert.FfnBwdIdeal.main_v19_4)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v19_0) = v0 c
          ∧ r.2.mem ((c.tc : Thread Cert.FfnBwdIdeal.nD Cert.FfnBwdIdeal.τ).loc Cert.FfnBwdIdeal.main_v19_1) = v1 c
          ∧ r.2.mem ((c.tc : Thread Cert.FfnBwdIdeal.nD Cert.FfnBwdIdeal.τ).loc Cert.FfnBwdIdeal.main_v19_2) = v2 c
          ∧ r.2.mem ((c.tc : Thread Cert.FfnBwdIdeal.nD Cert.FfnBwdIdeal.τ).loc Cert.FfnBwdIdeal.main_v19_3) = v3 c
          ∧ r.2.mem ((c.tc : Thread Cert.FfnBwdIdeal.nD Cert.FfnBwdIdeal.τ).loc Cert.FfnBwdIdeal.main_v19_4) = v4 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v56) = v0 c
          ∧ r.2.mem ((c.tc : Thread Cert.FfnBwdRefIdeal.nD Cert.FfnBwdRefIdeal.τ).loc Cert.FfnBwdRefIdeal.main_v57) = v1 c
          ∧ r.2.mem ((c.tc : Thread Cert.FfnBwdRefIdeal.nD Cert.FfnBwdRefIdeal.τ).loc Cert.FfnBwdRefIdeal.main_v58) = v2 c
          ∧ r.2.mem ((c.tc : Thread Cert.FfnBwdRefIdeal.nD Cert.FfnBwdRefIdeal.τ).loc Cert.FfnBwdRefIdeal.main_v59) = v3 c
          ∧ r.2.mem ((c.tc : Thread Cert.FfnBwdRefIdeal.nD Cert.FfnBwdRefIdeal.τ).loc Cert.FfnBwdRefIdeal.main_v60) = v4 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v2)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v2) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v7) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v2)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v2) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v7) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v4_0)) (v1 : (c : Dev Cert.FfnFwdIdeal.nD) → Buf (Elt Ideal) ((c.tc : Thread Cert.FfnFwdIdeal.nD Cert.FfnFwdIdeal.τ).loc Cert.FfnFwdIdeal.main_v4_1)) (v2 : (c : Dev Cert.FfnFwdIdeal.nD) → Buf (Elt Ideal) ((c.tc : Thread Cert.FfnFwdIdeal.nD Cert.FfnFwdIdeal.τ).loc Cert.FfnFwdIdeal.main_v4_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v4_0) = v0 c
          ∧ r.2.mem ((c.tc : Thread Cert.FfnFwdIdeal.nD Cert.FfnFwdIdeal.τ).loc Cert.FfnFwdIdeal.main_v4_1) = v1 c
          ∧ r.2.mem ((c.tc : Thread Cert.FfnFwdIdeal.nD Cert.FfnFwdIdeal.τ).loc Cert.FfnFwdIdeal.main_v4_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v21) = v0 c
          ∧ r.2.mem ((c.tc : Thread Cert.FfnFwdRefIdeal.nD Cert.FfnFwdRefIdeal.τ).loc Cert.FfnFwdRefIdeal.main_v22) = v1 c
          ∧ r.2.mem ((c.tc : Thread Cert.FfnFwdRefIdeal.nD Cert.FfnFwdRefIdeal.τ).loc Cert.FfnFwdRefIdeal.main_v23) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v2)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v2) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v7) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_FfnAct_FfnActIdeal : Prop :=
  True

def algebraic_FfnActIdeal_FfnActRefIdeal_pre_finite_bwd [hFfnActIdeal : Cert.FfnActIdeal.Facts] [hFfnActRefIdeal : Cert.FfnActRefIdeal.Facts] [hPre_finite_bwd : Cert.Pre_finite_bwd.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal_finite_bwd m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)
      ∧ m' ((c.tc : Thread Cert.FfnActRefIdeal.nD Cert.FfnActRefIdeal.τ).loc Cert.FfnActRefIdeal.main_arg3) = m ((c.tc : Thread Cert.FfnActIdeal.nD Cert.FfnActIdeal.τ).loc Cert.FfnActIdeal.main_arg3)
      ∧ m' ((c.tc : Thread Cert.FfnActRefIdeal.nD Cert.FfnActRefIdeal.τ).loc Cert.FfnActRefIdeal.main_arg4) = m ((c.tc : Thread Cert.FfnActIdeal.nD Cert.FfnActIdeal.τ).loc Cert.FfnActIdeal.main_arg4)) →
    ∃ (v0 : (c : Dev Cert.FfnActIdeal.nD) → Buf (Elt Ideal) ((c.tc : Thread Cert.FfnActIdeal.nD Cert.FfnActIdeal.τ).loc Cert.FfnActIdeal.main_v16_0)) (v1 : (c : Dev Cert.FfnActIdeal.nD) → Buf (Elt Ideal) ((c.tc : Thread Cert.FfnActIdeal.nD Cert.FfnActIdeal.τ).loc Cert.FfnActIdeal.main_v16_1)) (v2 : (c : Dev Cert.FfnActIdeal.nD) → Buf (Elt Ideal) ((c.tc : Thread Cert.FfnActIdeal.nD Cert.FfnActIdeal.τ).loc Cert.FfnActIdeal.main_v16_2)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v16_0) = v0 c
          ∧ r.2.mem ((c.tc : Thread Cert.FfnActIdeal.nD Cert.FfnActIdeal.τ).loc Cert.FfnActIdeal.main_v16_1) = v1 c
          ∧ r.2.mem ((c.tc : Thread Cert.FfnActIdeal.nD Cert.FfnActIdeal.τ).loc Cert.FfnActIdeal.main_v16_2) = v2 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
          ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v31) = v0 c
          ∧ r.2.mem ((c.tc : Thread Cert.FfnActRefIdeal.nD Cert.FfnActRefIdeal.τ).loc Cert.FfnActRefIdeal.main_v32) = v1 c
          ∧ r.2.mem ((c.tc : Thread Cert.FfnActRefIdeal.nD Cert.FfnActRefIdeal.τ).loc Cert.FfnActRefIdeal.main_v33) = v2 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2)
          ∧ r.2.mem ((c.tc : Thread Cert.FfnActRefIdeal.nD Cert.FfnActRefIdeal.τ).loc Cert.FfnActRefIdeal.main_arg3) = m' ((c.tc : Thread Cert.FfnActRefIdeal.nD Cert.FfnActRefIdeal.τ).loc Cert.FfnActRefIdeal.main_arg3)
          ∧ r.2.mem ((c.tc : Thread Cert.FfnActRefIdeal.nD Cert.FfnActRefIdeal.τ).loc Cert.FfnActRefIdeal.main_arg4) = m' ((c.tc : Thread Cert.FfnActRefIdeal.nD Cert.FfnActRefIdeal.τ).loc Cert.FfnActRefIdeal.main_arg4))

def preserves_FfnIn_FfnInIdeal : Prop :=
  True

def algebraic_FfnInIdeal_FfnInRefIdeal_pre_finite_in [hFfnInIdeal : Cert.FfnInIdeal.Facts] [hFfnInRefIdeal : Cert.FfnInRefIdeal.Facts] [hPre_finite_in : Cert.Pre_finite_in.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_finite_in m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)) →
    ∃ (v0 : (c : Dev Cert.FfnInIdeal.nD) → Buf (Elt Ideal) ((c.tc : Thread Cert.FfnInIdeal.nD Cert.FfnInIdeal.τ).loc Cert.FfnInIdeal.main_v3_0)) (v1 : (c : Dev Cert.FfnInIdeal.nD) → Buf (Elt Ideal) ((c.tc : Thread Cert.FfnInIdeal.nD Cert.FfnInIdeal.τ).loc Cert.FfnInIdeal.main_v3_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v3_0) = v0 c
          ∧ r.2.mem ((c.tc : Thread Cert.FfnInIdeal.nD Cert.FfnInIdeal.τ).loc Cert.FfnInIdeal.main_v3_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v39) = v0 c
          ∧ r.2.mem ((c.tc : Thread Cert.FfnInRefIdeal.nD Cert.FfnInRefIdeal.τ).loc Cert.FfnInRefIdeal.main_v40) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v1_0)) (v1 : (c : Dev Cert.MixOutIdeal.nD) → Buf (Elt Ideal) ((c.tc : Thread Cert.MixOutIdeal.nD Cert.MixOutIdeal.τ).loc Cert.MixOutIdeal.main_v1_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v1_0) = v0 c
          ∧ r.2.mem ((c.tc : Thread Cert.MixOutIdeal.nD Cert.MixOutIdeal.τ).loc Cert.MixOutIdeal.main_v1_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_v0) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4))

def preserves_MixOutBwd_MixOutBwdIdeal : Prop :=
  True

def algebraic_MixOutBwdIdeal_MixOutBwdRefIdeal [hMixOutBwdIdeal : Cert.MixOutBwdIdeal.Facts] [hMixOutBwdRefIdeal : Cert.MixOutBwdRefIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg)
    (m' : (ℓ : Loc Cert.MixOutBwdRefIdeal.nD Cert.MixOutBwdRefIdeal.τ Cert.MixOutBwdRefIdeal.sig) → Buf (Elt Ideal) ℓ) (g' : Dev Cert.MixOutBwdRefIdeal.nD → PrngReg), Pre_MixOutBwdIdeal m →
    (∀ c : Dev Cert.MixOutBwdIdeal.nD,
      m' ((c.tc : Thread Cert.MixOutBwdRefIdeal.nD Cert.MixOutBwdRefIdeal.τ).loc Cert.MixOutBwdRefIdeal.main_arg0) = m ((c.tc : Thread Cert.MixOutBwdIdeal.nD Cert.MixOutBwdIdeal.τ).loc Cert.MixOutBwdIdeal.main_arg0)
      ∧ m' ((c.tc : Thread Cert.MixOutBwdRefIdeal.nD Cert.MixOutBwdRefIdeal.τ).loc Cert.MixOutBwdRefIdeal.main_arg1) = m ((c.tc : Thread Cert.MixOutBwdIdeal.nD Cert.MixOutBwdIdeal.τ).loc Cert.MixOutBwdIdeal.main_arg1)
      ∧ m' ((c.tc : Thread Cert.MixOutBwdRefIdeal.nD Cert.MixOutBwdRefIdeal.τ).loc Cert.MixOutBwdRefIdeal.main_arg2) = m ((c.tc : Thread Cert.MixOutBwdIdeal.nD Cert.MixOutBwdIdeal.τ).loc Cert.MixOutBwdIdeal.main_arg2)
      ∧ m' ((c.tc : Thread Cert.MixOutBwdRefIdeal.nD Cert.MixOutBwdRefIdeal.τ).loc Cert.MixOutBwdRefIdeal.main_arg3) = m ((c.tc : Thread Cert.MixOutBwdIdeal.nD Cert.MixOutBwdIdeal.τ).loc Cert.MixOutBwdIdeal.main_arg3)) →
    ∃ (v0 : (c : Dev Cert.MixOutBwdIdeal.nD) → Buf (Elt Ideal) ((c.tc : Thread Cert.MixOutBwdIdeal.nD Cert.MixOutBwdIdeal.τ).loc Cert.MixOutBwdIdeal.main_v1_0)) (v1 : (c : Dev Cert.MixOutBwdIdeal.nD) → Buf (Elt Ideal) ((c.tc : Thread Cert.MixOutBwdIdeal.nD Cert.MixOutBwdIdeal.τ).loc Cert.MixOutBwdIdeal.main_v1_1)) (v2 : (c : Dev Cert.MixOutBwdIdeal.nD) → Buf (Elt Ideal) ((c.tc : Thread Cert.MixOutBwdIdeal.nD Cert.MixOutBwdIdeal.τ).loc Cert.MixOutBwdIdeal.main_v1_2)) (v3 : (c : Dev Cert.MixOutBwdIdeal.nD) → Buf (Elt Ideal) ((c.tc : Thread Cert.MixOutBwdIdeal.nD Cert.MixOutBwdIdeal.τ).loc Cert.MixOutBwdIdeal.main_v1_3)) (v4 : (c : Dev Cert.MixOutBwdIdeal.nD) → Buf (Elt Ideal) ((c.tc : Thread Cert.MixOutBwdIdeal.nD Cert.MixOutBwdIdeal.τ).loc Cert.MixOutBwdIdeal.main_v1_4)),
      θ_run (Cert.MixOutBwdIdeal.defs (F := Ideal)) (onTc (τ := Cert.MixOutBwdIdeal.τ) (Cert.MixOutBwdIdeal.main (F := Ideal))) ⟨m, fun _ => 0, g⟩ (fun r => ∀ c : Dev Cert.MixOutBwdIdeal.nD,
          r.2.mem ((c.tc : Thread Cert.MixOutBwdIdeal.nD Cert.MixOutBwdIdeal.τ).loc Cert.MixOutBwdIdeal.main_v1_0) = v0 c
          ∧ r.2.mem ((c.tc : Thread Cert.MixOutBwdIdeal.nD Cert.MixOutBwdIdeal.τ).loc Cert.MixOutBwdIdeal.main_v1_1) = v1 c
          ∧ r.2.mem ((c.tc : Thread Cert.MixOutBwdIdeal.nD Cert.MixOutBwdIdeal.τ).loc Cert.MixOutBwdIdeal.main_v1_2) = v2 c
          ∧ r.2.mem ((c.tc : Thread Cert.MixOutBwdIdeal.nD Cert.MixOutBwdIdeal.τ).loc Cert.MixOutBwdIdeal.main_v1_3) = v3 c
          ∧ r.2.mem ((c.tc : Thread Cert.MixOutBwdIdeal.nD Cert.MixOutBwdIdeal.τ).loc Cert.MixOutBwdIdeal.main_v1_4) = v4 c
          ∧ r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
          ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
          ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
          ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3))
      ∧ θ_run (Cert.MixOutBwdRefIdeal.defs (F := Ideal)) (onTc (τ := Cert.MixOutBwdRefIdeal.τ) (Cert.MixOutBwdRefIdeal.main (F := Ideal))) ⟨m', fun _ => 0, g'⟩ (fun r => ∀ c : Dev Cert.MixOutBwdRefIdeal.nD,
          r.2.mem ((c.tc : Thread Cert.MixOutBwdRefIdeal.nD Cert.MixOutBwdRefIdeal.τ).loc Cert.MixOutBwdRefIdeal.main_v9) = v0 c
          ∧ r.2.mem ((c.tc : Thread Cert.MixOutBwdRefIdeal.nD Cert.MixOutBwdRefIdeal.τ).loc Cert.MixOutBwdRefIdeal.main_v7) = v1 c
          ∧ r.2.mem ((c.tc : Thread Cert.MixOutBwdRefIdeal.nD Cert.MixOutBwdRefIdeal.τ).loc Cert.MixOutBwdRefIdeal.main_v10) = v2 c
          ∧ r.2.mem ((c.tc : Thread Cert.MixOutBwdRefIdeal.nD Cert.MixOutBwdRefIdeal.τ).loc Cert.MixOutBwdRefIdeal.main_v16) = v3 c
          ∧ r.2.mem ((c.tc : Thread Cert.MixOutBwdRefIdeal.nD Cert.MixOutBwdRefIdeal.τ).loc Cert.MixOutBwdRefIdeal.main_v22) = v4 c
          ∧ r.2.mem ((c.tc : Thread Cert.MixOutBwdRefIdeal.nD Cert.MixOutBwdRefIdeal.τ).loc Cert.MixOutBwdRefIdeal.main_arg0) = m' ((c.tc : Thread Cert.MixOutBwdRefIdeal.nD Cert.MixOutBwdRefIdeal.τ).loc Cert.MixOutBwdRefIdeal.main_arg0)
          ∧ r.2.mem ((c.tc : Thread Cert.MixOutBwdRefIdeal.nD Cert.MixOutBwdRefIdeal.τ).loc Cert.MixOutBwdRefIdeal.main_arg1) = m' ((c.tc : Thread Cert.MixOutBwdRefIdeal.nD Cert.MixOutBwdRefIdeal.τ).loc Cert.MixOutBwdRefIdeal.main_arg1)
          ∧ r.2.mem ((c.tc : Thread Cert.MixOutBwdRefIdeal.nD Cert.MixOutBwdRefIdeal.τ).loc Cert.MixOutBwdRefIdeal.main_arg2) = m' ((c.tc : Thread Cert.MixOutBwdRefIdeal.nD Cert.MixOutBwdRefIdeal.τ).loc Cert.MixOutBwdRefIdeal.main_arg2)
          ∧ r.2.mem ((c.tc : Thread Cert.MixOutBwdRefIdeal.nD Cert.MixOutBwdRefIdeal.τ).loc Cert.MixOutBwdRefIdeal.main_arg3) = m' ((c.tc : Thread Cert.MixOutBwdRefIdeal.nD Cert.MixOutBwdRefIdeal.τ).loc Cert.MixOutBwdRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v1_0)) (v1 : (c : Dev Cert.AdamOutIdeal.nD) → Buf (Elt Ideal) ((c.tc : Thread Cert.AdamOutIdeal.nD Cert.AdamOutIdeal.τ).loc Cert.AdamOutIdeal.main_v1_1)) (v2 : (c : Dev Cert.AdamOutIdeal.nD) → Buf (Elt Ideal) ((c.tc : Thread Cert.AdamOutIdeal.nD Cert.AdamOutIdeal.τ).loc Cert.AdamOutIdeal.main_v1_2)) (v3 : (c : Dev Cert.AdamOutIdeal.nD) → Buf (Elt Ideal) ((c.tc : Thread Cert.AdamOutIdeal.nD Cert.AdamOutIdeal.τ).loc Cert.AdamOutIdeal.main_v1_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v1_0) = v0 c
          ∧ r.2.mem ((c.tc : Thread Cert.AdamOutIdeal.nD Cert.AdamOutIdeal.τ).loc Cert.AdamOutIdeal.main_v1_1) = v1 c
          ∧ r.2.mem ((c.tc : Thread Cert.AdamOutIdeal.nD Cert.AdamOutIdeal.τ).loc Cert.AdamOutIdeal.main_v1_2) = v2 c
          ∧ r.2.mem ((c.tc : Thread Cert.AdamOutIdeal.nD Cert.AdamOutIdeal.τ).loc Cert.AdamOutIdeal.main_v1_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v6) = v0 c
          ∧ r.2.mem ((c.tc : Thread Cert.AdamOutRefIdeal.nD Cert.AdamOutRefIdeal.τ).loc Cert.AdamOutRefIdeal.main_v30) = v1 c
          ∧ r.2.mem ((c.tc : Thread Cert.AdamOutRefIdeal.nD Cert.AdamOutRefIdeal.τ).loc Cert.AdamOutRefIdeal.main_v11) = v2 c
          ∧ r.2.mem ((c.tc : Thread Cert.AdamOutRefIdeal.nD Cert.AdamOutRefIdeal.τ).loc Cert.AdamOutRefIdeal.main_v17) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v1_0)) (v1 : (c : Dev Cert.AdamInIdeal.nD) → Buf (Elt Ideal) ((c.tc : Thread Cert.AdamInIdeal.nD Cert.AdamInIdeal.τ).loc Cert.AdamInIdeal.main_v1_1)) (v2 : (c : Dev Cert.AdamInIdeal.nD) → Buf (Elt Ideal) ((c.tc : Thread Cert.AdamInIdeal.nD Cert.AdamInIdeal.τ).loc Cert.AdamInIdeal.main_v1_2)) (v3 : (c : Dev Cert.AdamInIdeal.nD) → Buf (Elt Ideal) ((c.tc : Thread Cert.AdamInIdeal.nD Cert.AdamInIdeal.τ).loc Cert.AdamInIdeal.main_v1_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_0) = v0 c
          ∧ r.2.mem ((c.tc : Thread Cert.AdamInIdeal.nD Cert.AdamInIdeal.τ).loc Cert.AdamInIdeal.main_v1_1) = v1 c
          ∧ r.2.mem ((c.tc : Thread Cert.AdamInIdeal.nD Cert.AdamInIdeal.τ).loc Cert.AdamInIdeal.main_v1_2) = v2 c
          ∧ r.2.mem ((c.tc : Thread Cert.AdamInIdeal.nD Cert.AdamInIdeal.τ).loc Cert.AdamInIdeal.main_v1_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v6) = v0 c
          ∧ r.2.mem ((c.tc : Thread Cert.AdamInRefIdeal.nD Cert.AdamInRefIdeal.τ).loc Cert.AdamInRefIdeal.main_v30) = v1 c
          ∧ r.2.mem ((c.tc : Thread Cert.AdamInRefIdeal.nD Cert.AdamInRefIdeal.τ).loc Cert.AdamInRefIdeal.main_v11) = v2 c
          ∧ r.2.mem ((c.tc : Thread Cert.AdamInRefIdeal.nD Cert.AdamInRefIdeal.τ).loc Cert.AdamInRefIdeal.main_v17) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v1_0)) (v1 : (c : Dev Cert.AdamDownIdeal.nD) → Buf (Elt Ideal) ((c.tc : Thread Cert.AdamDownIdeal.nD Cert.AdamDownIdeal.τ).loc Cert.AdamDownIdeal.main_v1_1)) (v2 : (c : Dev Cert.AdamDownIdeal.nD) → Buf (Elt Ideal) ((c.tc : Thread Cert.AdamDownIdeal.nD Cert.AdamDownIdeal.τ).loc Cert.AdamDownIdeal.main_v1_2)) (v3 : (c : Dev Cert.AdamDownIdeal.nD) → Buf (Elt Ideal) ((c.tc : Thread Cert.AdamDownIdeal.nD Cert.AdamDownIdeal.τ).loc Cert.AdamDownIdeal.main_v1_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v1_0) = v0 c
          ∧ r.2.mem ((c.tc : Thread Cert.AdamDownIdeal.nD Cert.AdamDownIdeal.τ).loc Cert.AdamDownIdeal.main_v1_1) = v1 c
          ∧ r.2.mem ((c.tc : Thread Cert.AdamDownIdeal.nD Cert.AdamDownIdeal.τ).loc Cert.AdamDownIdeal.main_v1_2) = v2 c
          ∧ r.2.mem ((c.tc : Thread Cert.AdamDownIdeal.nD Cert.AdamDownIdeal.τ).loc Cert.AdamDownIdeal.main_v1_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v6) = v0 c
          ∧ r.2.mem ((c.tc : Thread Cert.AdamDownRefIdeal.nD Cert.AdamDownRefIdeal.τ).loc Cert.AdamDownRefIdeal.main_v30) = v1 c
          ∧ r.2.mem ((c.tc : Thread Cert.AdamDownRefIdeal.nD Cert.AdamDownRefIdeal.τ).loc Cert.AdamDownRefIdeal.main_v11) = v2 c
          ∧ r.2.mem ((c.tc : Thread Cert.AdamDownRefIdeal.nD Cert.AdamDownRefIdeal.τ).loc Cert.AdamDownRefIdeal.main_v17) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamGu_AdamGuIdeal : Prop :=
  True

def algebraic_AdamGuIdeal_AdamGuRefIdeal [hAdamGuIdeal : Cert.AdamGuIdeal.Facts] [hAdamGuRefIdeal : Cert.AdamGuRefIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg)
    (m' : (ℓ : Loc Cert.AdamGuRefIdeal.nD Cert.AdamGuRefIdeal.τ Cert.AdamGuRefIdeal.sig) → Buf (Elt Ideal) ℓ) (g' : Dev Cert.AdamGuRefIdeal.nD → PrngReg), Pre_AdamGuIdeal m →
    (∀ c : Dev Cert.AdamGuIdeal.nD,
      m' ((c.tc : Thread Cert.AdamGuRefIdeal.nD Cert.AdamGuRefIdeal.τ).loc Cert.AdamGuRefIdeal.main_arg0) = m ((c.tc : Thread Cert.AdamGuIdeal.nD Cert.AdamGuIdeal.τ).loc Cert.AdamGuIdeal.main_arg0)
      ∧ m' ((c.tc : Thread Cert.AdamGuRefIdeal.nD Cert.AdamGuRefIdeal.τ).loc Cert.AdamGuRefIdeal.main_arg1) = m ((c.tc : Thread Cert.AdamGuIdeal.nD Cert.AdamGuIdeal.τ).loc Cert.AdamGuIdeal.main_arg1)
      ∧ m' ((c.tc : Thread Cert.AdamGuRefIdeal.nD Cert.AdamGuRefIdeal.τ).loc Cert.AdamGuRefIdeal.main_arg2) = m ((c.tc : Thread Cert.AdamGuIdeal.nD Cert.AdamGuIdeal.τ).loc Cert.AdamGuIdeal.main_arg2)
      ∧ m' ((c.tc : Thread Cert.AdamGuRefIdeal.nD Cert.AdamGuRefIdeal.τ).loc Cert.AdamGuRefIdeal.main_arg3) = m ((c.tc : Thread Cert.AdamGuIdeal.nD Cert.AdamGuIdeal.τ).loc Cert.AdamGuIdeal.main_arg3)
      ∧ m' ((c.tc : Thread Cert.AdamGuRefIdeal.nD Cert.AdamGuRefIdeal.τ).loc Cert.AdamGuRefIdeal.main_arg4) = m ((c.tc : Thread Cert.AdamGuIdeal.nD Cert.AdamGuIdeal.τ).loc Cert.AdamGuIdeal.main_arg4)) →
    ∃ (v0 : (c : Dev Cert.AdamGuIdeal.nD) → Buf (Elt Ideal) ((c.tc : Thread Cert.AdamGuIdeal.nD Cert.AdamGuIdeal.τ).loc Cert.AdamGuIdeal.main_v5)) (v1 : (c : Dev Cert.AdamGuIdeal.nD) → Buf (Elt Ideal) ((c.tc : Thread Cert.AdamGuIdeal.nD Cert.AdamGuIdeal.τ).loc Cert.AdamGuIdeal.main_v6)) (v2 : (c : Dev Cert.AdamGuIdeal.nD) → Buf (Elt Ideal) ((c.tc : Thread Cert.AdamGuIdeal.nD Cert.AdamGuIdeal.τ).loc Cert.AdamGuIdeal.main_v7)) (v3 : (c : Dev Cert.AdamGuIdeal.nD) → Buf (Elt Ideal) ((c.tc : Thread Cert.AdamGuIdeal.nD Cert.AdamGuIdeal.τ).loc Cert.AdamGuIdeal.main_v8)),
      θ_run (Cert.AdamGuIdeal.defs (F := Ideal)) (onTc (τ := Cert.AdamGuIdeal.τ) (Cert.AdamGuIdeal.main (F := Ideal))) ⟨m, fun _ => 0, g⟩ (fun r => ∀ c : Dev Cert.AdamGuIdeal.nD,
          r.2.mem ((c.tc : Thread Cert.AdamGuIdeal.nD Cert.AdamGuIdeal.τ).loc Cert.AdamGuIdeal.main_v5) = v0 c
          ∧ r.2.mem ((c.tc : Thread Cert.AdamGuIdeal.nD Cert.AdamGuIdeal.τ).loc Cert.AdamGuIdeal.main_v6) = v1 c
          ∧ r.2.mem ((c.tc : Thread Cert.AdamGuIdeal.nD Cert.AdamGuIdeal.τ).loc Cert.AdamGuIdeal.main_v7) = v2 c
          ∧ r.2.mem ((c.tc : Thread Cert.AdamGuIdeal.nD Cert.AdamGuIdeal.τ).loc Cert.AdamGuIdeal.main_v8) = v3 c
          ∧ r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
          ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
          ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
          ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3)
          ∧ r.2.mem ((c.tc : Thread Cert.AdamGuIdeal.nD Cert.AdamGuIdeal.τ).loc Cert.AdamGuIdeal.main_arg4) = m ((c.tc : Thread Cert.AdamGuIdeal.nD Cert.AdamGuIdeal.τ).loc Cert.AdamGuIdeal.main_arg4))
      ∧ θ_run (Cert.AdamGuRefIdeal.defs (F := Ideal)) (onTc (τ := Cert.AdamGuRefIdeal.τ) (Cert.AdamGuRefIdeal.main (F := Ideal))) ⟨m', fun _ => 0, g'⟩ (fun r => ∀ c : Dev Cert.AdamGuRefIdeal.nD,
          r.2.mem ((c.tc : Thread Cert.AdamGuRefIdeal.nD Cert.AdamGuRefIdeal.τ).loc Cert.AdamGuRefIdeal.main_v7) = v0 c
          ∧ r.2.mem ((c.tc : Thread Cert.AdamGuRefIdeal.nD Cert.AdamGuRefIdeal.τ).loc Cert.AdamGuRefIdeal.main_v31) = v1 c
          ∧ r.2.mem ((c.tc : Thread Cert.AdamGuRefIdeal.nD Cert.AdamGuRefIdeal.τ).loc Cert.AdamGuRefIdeal.main_v12) = v2 c
          ∧ r.2.mem ((c.tc : Thread Cert.AdamGuRefIdeal.nD Cert.AdamGuRefIdeal.τ).loc Cert.AdamGuRefIdeal.main_v18) = v3 c
          ∧ r.2.mem ((c.tc : Thread Cert.AdamGuRefIdeal.nD Cert.AdamGuRefIdeal.τ).loc Cert.AdamGuRefIdeal.main_arg0) = m' ((c.tc : Thread Cert.AdamGuRefIdeal.nD Cert.AdamGuRefIdeal.τ).loc Cert.AdamGuRefIdeal.main_arg0)
          ∧ r.2.mem ((c.tc : Thread Cert.AdamGuRefIdeal.nD Cert.AdamGuRefIdeal.τ).loc Cert.AdamGuRefIdeal.main_arg1) = m' ((c.tc : Thread Cert.AdamGuRefIdeal.nD Cert.AdamGuRefIdeal.τ).loc Cert.AdamGuRefIdeal.main_arg1)
          ∧ r.2.mem ((c.tc : Thread Cert.AdamGuRefIdeal.nD Cert.AdamGuRefIdeal.τ).loc Cert.AdamGuRefIdeal.main_arg2) = m' ((c.tc : Thread Cert.AdamGuRefIdeal.nD Cert.AdamGuRefIdeal.τ).loc Cert.AdamGuRefIdeal.main_arg2)
          ∧ r.2.mem ((c.tc : Thread Cert.AdamGuRefIdeal.nD Cert.AdamGuRefIdeal.τ).loc Cert.AdamGuRefIdeal.main_arg3) = m' ((c.tc : Thread Cert.AdamGuRefIdeal.nD Cert.AdamGuRefIdeal.τ).loc Cert.AdamGuRefIdeal.main_arg3)
          ∧ r.2.mem ((c.tc : Thread Cert.AdamGuRefIdeal.nD Cert.AdamGuRefIdeal.τ).loc Cert.AdamGuRefIdeal.main_arg4) = m' ((c.tc : Thread Cert.AdamGuRefIdeal.nD Cert.AdamGuRefIdeal.τ).loc Cert.AdamGuRefIdeal.main_arg4))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)) →
    ∃ (v0 : (c : Dev Cert.AdamSmallIdeal.nD) → Buf (Elt Ideal) ((c.tc : Thread Cert.AdamSmallIdeal.nD Cert.AdamSmallIdeal.τ).loc Cert.AdamSmallIdeal.main_v11)) (v1 : (c : Dev Cert.AdamSmallIdeal.nD) → Buf (Elt Ideal) ((c.tc : Thread Cert.AdamSmallIdeal.nD Cert.AdamSmallIdeal.τ).loc Cert.AdamSmallIdeal.main_v13)) (v2 : (c : Dev Cert.AdamSmallIdeal.nD) → Buf (Elt Ideal) ((c.tc : Thread Cert.AdamSmallIdeal.nD Cert.AdamSmallIdeal.τ).loc Cert.AdamSmallIdeal.main_v15)) (v3 : (c : Dev Cert.AdamSmallIdeal.nD) → Buf (Elt Ideal) ((c.tc : Thread Cert.AdamSmallIdeal.nD Cert.AdamSmallIdeal.τ).loc Cert.AdamSmallIdeal.main_v17)) (v4 : (c : Dev Cert.AdamSmallIdeal.nD) → Buf (Elt Ideal) ((c.tc : Thread Cert.AdamSmallIdeal.nD Cert.AdamSmallIdeal.τ).loc Cert.AdamSmallIdeal.main_v12)) (v5 : (c : Dev Cert.AdamSmallIdeal.nD) → Buf (Elt Ideal) ((c.tc : Thread Cert.AdamSmallIdeal.nD Cert.AdamSmallIdeal.τ).loc Cert.AdamSmallIdeal.main_v14)) (v6 : (c : Dev Cert.AdamSmallIdeal.nD) → Buf (Elt Ideal) ((c.tc : Thread Cert.AdamSmallIdeal.nD Cert.AdamSmallIdeal.τ).loc Cert.AdamSmallIdeal.main_v16)) (v7 : (c : Dev Cert.AdamSmallIdeal.nD) → Buf (Elt Ideal) ((c.tc : Thread Cert.AdamSmallIdeal.nD Cert.AdamSmallIdeal.τ).loc Cert.AdamSmallIdeal.main_v18)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v11) = v0 c
          ∧ r.2.mem ((c.tc : Thread Cert.AdamSmallIdeal.nD Cert.AdamSmallIdeal.τ).loc Cert.AdamSmallIdeal.main_v13) = v1 c
          ∧ r.2.mem ((c.tc : Thread Cert.AdamSmallIdeal.nD Cert.AdamSmallIdeal.τ).loc Cert.AdamSmallIdeal.main_v15) = v2 c
          ∧ r.2.mem ((c.tc : Thread Cert.AdamSmallIdeal.nD Cert.AdamSmallIdeal.τ).loc Cert.AdamSmallIdeal.main_v17) = v3 c
          ∧ r.2.mem ((c.tc : Thread Cert.AdamSmallIdeal.nD Cert.AdamSmallIdeal.τ).loc Cert.AdamSmallIdeal.main_v12) = v4 c
          ∧ r.2.mem ((c.tc : Thread Cert.AdamSmallIdeal.nD Cert.AdamSmallIdeal.τ).loc Cert.AdamSmallIdeal.main_v14) = v5 c
          ∧ r.2.mem ((c.tc : Thread Cert.AdamSmallIdeal.nD Cert.AdamSmallIdeal.τ).loc Cert.AdamSmallIdeal.main_v16) = v6 c
          ∧ r.2.mem ((c.tc : Thread Cert.AdamSmallIdeal.nD Cert.AdamSmallIdeal.τ).loc Cert.AdamSmallIdeal.main_v18) = v7 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v7) = v0 c
          ∧ r.2.mem ((c.tc : Thread Cert.AdamSmallRefIdeal.nD Cert.AdamSmallRefIdeal.τ).loc Cert.AdamSmallRefIdeal.main_v32) = v1 c
          ∧ r.2.mem ((c.tc : Thread Cert.AdamSmallRefIdeal.nD Cert.AdamSmallRefIdeal.τ).loc Cert.AdamSmallRefIdeal.main_v13) = v2 c
          ∧ r.2.mem ((c.tc : Thread Cert.AdamSmallRefIdeal.nD Cert.AdamSmallRefIdeal.τ).loc Cert.AdamSmallRefIdeal.main_v19) = v3 c
          ∧ r.2.mem ((c.tc : Thread Cert.AdamSmallRefIdeal.nD Cert.AdamSmallRefIdeal.τ).loc Cert.AdamSmallRefIdeal.main_v8) = v4 c
          ∧ r.2.mem ((c.tc : Thread Cert.AdamSmallRefIdeal.nD Cert.AdamSmallRefIdeal.τ).loc Cert.AdamSmallRefIdeal.main_v56) = v5 c
          ∧ r.2.mem ((c.tc : Thread Cert.AdamSmallRefIdeal.nD Cert.AdamSmallRefIdeal.τ).loc Cert.AdamSmallRefIdeal.main_v37) = v6 c
          ∧ r.2.mem ((c.tc : Thread Cert.AdamSmallRefIdeal.nD Cert.AdamSmallRefIdeal.τ).loc Cert.AdamSmallRefIdeal.main_v43) = v7 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7))

def Claim : Prop :=
  ∃ (hKernel : Cert.Kernel.Facts) (hKernelIdeal : Cert.KernelIdeal.Facts) (hReferenceIdeal : Cert.ReferenceIdeal.Facts) (hFfnBwd : Cert.FfnBwd.Facts) (hFfnBwdIdeal : Cert.FfnBwdIdeal.Facts) (hFfnBwdRefIdeal : Cert.FfnBwdRefIdeal.Facts) (hDwUp : Cert.DwUp.Facts) (hDwUpIdeal : Cert.DwUpIdeal.Facts) (hDwUpRefIdeal : Cert.DwUpRefIdeal.Facts) (hDwDown : Cert.DwDown.Facts) (hDwDownIdeal : Cert.DwDownIdeal.Facts) (hDwDownRefIdeal : Cert.DwDownRefIdeal.Facts) (hFfnFwd : Cert.FfnFwd.Facts) (hFfnFwdIdeal : Cert.FfnFwdIdeal.Facts) (hFfnFwdRefIdeal : Cert.FfnFwdRefIdeal.Facts) (hDwIn : Cert.DwIn.Facts) (hDwInIdeal : Cert.DwInIdeal.Facts) (hDwInRefIdeal : Cert.DwInRefIdeal.Facts) (hDwOut : Cert.DwOut.Facts) (hDwOutIdeal : Cert.DwOutIdeal.Facts) (hDwOutRefIdeal : Cert.DwOutRefIdeal.Facts) (hFfnAct : Cert.FfnAct.Facts) (hFfnActIdeal : Cert.FfnActIdeal.Facts) (hFfnActRefIdeal : Cert.FfnActRefIdeal.Facts) (hFfnIn : Cert.FfnIn.Facts) (hFfnInIdeal : Cert.FfnInIdeal.Facts) (hFfnInRefIdeal : Cert.FfnInRefIdeal.Facts) (hMixOut : Cert.MixOut.Facts) (hMixOutIdeal : Cert.MixOutIdeal.Facts) (hMixOutRefIdeal : Cert.MixOutRefIdeal.Facts) (hMixOutBwd : Cert.MixOutBwd.Facts) (hMixOutBwdIdeal : Cert.MixOutBwdIdeal.Facts) (hMixOutBwdRefIdeal : Cert.MixOutBwdRefIdeal.Facts) (hAdamOut : Cert.AdamOut.Facts) (hAdamOutIdeal : Cert.AdamOutIdeal.Facts) (hAdamOutRefIdeal : Cert.AdamOutRefIdeal.Facts) (hAdamIn : Cert.AdamIn.Facts) (hAdamInIdeal : Cert.AdamInIdeal.Facts) (hAdamInRefIdeal : Cert.AdamInRefIdeal.Facts) (hAdamDown : Cert.AdamDown.Facts) (hAdamDownIdeal : Cert.AdamDownIdeal.Facts) (hAdamDownRefIdeal : Cert.AdamDownRefIdeal.Facts) (hAdamGu : Cert.AdamGu.Facts) (hAdamGuIdeal : Cert.AdamGuIdeal.Facts) (hAdamGuRefIdeal : Cert.AdamGuRefIdeal.Facts) (hAdamSmall : Cert.AdamSmall.Facts) (hAdamSmallIdeal : Cert.AdamSmallIdeal.Facts) (hAdamSmallRefIdeal : Cert.AdamSmallRefIdeal.Facts) (hPre_finite : Cert.Pre_finite.Facts) (hPre_finite_bwd : Cert.Pre_finite_bwd.Facts) (hPre_finite_in : Cert.Pre_finite_in.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnBwd (hFfnBwd := hFfnBwd)
    ∧ quiescent_FfnBwdIdeal (hFfnBwdIdeal := hFfnBwdIdeal)
    ∧ quiescent_FfnBwdIdeal_pre_finite_bwd (hFfnBwdIdeal := hFfnBwdIdeal) (hPre_finite_bwd := hPre_finite_bwd)
    ∧ quiescent_FfnBwdRefIdeal (hFfnBwdRefIdeal := hFfnBwdRefIdeal)
    ∧ quiescent_FfnBwdRefIdeal_pre_finite_bwd (hFfnBwdRefIdeal := hFfnBwdRefIdeal) (hPre_finite_bwd := hPre_finite_bwd)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_FfnAct (hFfnAct := hFfnAct)
    ∧ quiescent_FfnActIdeal (hFfnActIdeal := hFfnActIdeal)
    ∧ quiescent_FfnActIdeal_pre_finite_bwd (hFfnActIdeal := hFfnActIdeal) (hPre_finite_bwd := hPre_finite_bwd)
    ∧ quiescent_FfnActRefIdeal (hFfnActRefIdeal := hFfnActRefIdeal)
    ∧ quiescent_FfnActRefIdeal_pre_finite_bwd (hFfnActRefIdeal := hFfnActRefIdeal) (hPre_finite_bwd := hPre_finite_bwd)
    ∧ quiescent_FfnIn (hFfnIn := hFfnIn)
    ∧ quiescent_FfnInIdeal (hFfnInIdeal := hFfnInIdeal)
    ∧ quiescent_FfnInIdeal_pre_finite_in (hFfnInIdeal := hFfnInIdeal) (hPre_finite_in := hPre_finite_in)
    ∧ quiescent_FfnInRefIdeal (hFfnInRefIdeal := hFfnInRefIdeal)
    ∧ quiescent_FfnInRefIdeal_pre_finite_in (hFfnInRefIdeal := hFfnInRefIdeal) (hPre_finite_in := hPre_finite_in)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixOutBwd (hMixOutBwd := hMixOutBwd)
    ∧ quiescent_MixOutBwdIdeal (hMixOutBwdIdeal := hMixOutBwdIdeal)
    ∧ quiescent_MixOutBwdRefIdeal (hMixOutBwdRefIdeal := hMixOutBwdRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamGu (hAdamGu := hAdamGu)
    ∧ quiescent_AdamGuIdeal (hAdamGuIdeal := hAdamGuIdeal)
    ∧ quiescent_AdamGuRefIdeal (hAdamGuRefIdeal := hAdamGuRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnBwd_FfnBwdIdeal
    ∧ algebraic_FfnBwdIdeal_FfnBwdRefIdeal_pre_finite_bwd (hFfnBwdIdeal := hFfnBwdIdeal) (hFfnBwdRefIdeal := hFfnBwdRefIdeal) (hPre_finite_bwd := hPre_finite_bwd)
    ∧ preserves_DwUp_DwUpIdeal
    ∧ algebraic_DwUpIdeal_DwUpRefIdeal (hDwUpIdeal := hDwUpIdeal) (hDwUpRefIdeal := hDwUpRefIdeal)
    ∧ preserves_DwDown_DwDownIdeal
    ∧ algebraic_DwDownIdeal_DwDownRefIdeal (hDwDownIdeal := hDwDownIdeal) (hDwDownRefIdeal := hDwDownRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_DwIn_DwInIdeal
    ∧ algebraic_DwInIdeal_DwInRefIdeal (hDwInIdeal := hDwInIdeal) (hDwInRefIdeal := hDwInRefIdeal)
    ∧ preserves_DwOut_DwOutIdeal
    ∧ algebraic_DwOutIdeal_DwOutRefIdeal (hDwOutIdeal := hDwOutIdeal) (hDwOutRefIdeal := hDwOutRefIdeal)
    ∧ preserves_FfnAct_FfnActIdeal
    ∧ algebraic_FfnActIdeal_FfnActRefIdeal_pre_finite_bwd (hFfnActIdeal := hFfnActIdeal) (hFfnActRefIdeal := hFfnActRefIdeal) (hPre_finite_bwd := hPre_finite_bwd)
    ∧ preserves_FfnIn_FfnInIdeal
    ∧ algebraic_FfnInIdeal_FfnInRefIdeal_pre_finite_in (hFfnInIdeal := hFfnInIdeal) (hFfnInRefIdeal := hFfnInRefIdeal) (hPre_finite_in := hPre_finite_in)
    ∧ preserves_MixOut_MixOutIdeal
    ∧ algebraic_MixOutIdeal_MixOutRefIdeal (hMixOutIdeal := hMixOutIdeal) (hMixOutRefIdeal := hMixOutRefIdeal)
    ∧ preserves_MixOutBwd_MixOutBwdIdeal
    ∧ algebraic_MixOutBwdIdeal_MixOutBwdRefIdeal (hMixOutBwdIdeal := hMixOutBwdIdeal) (hMixOutBwdRefIdeal := hMixOutBwdRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamIn_AdamInIdeal
    ∧ algebraic_AdamInIdeal_AdamInRefIdeal (hAdamInIdeal := hAdamInIdeal) (hAdamInRefIdeal := hAdamInRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamGu_AdamGuIdeal
    ∧ algebraic_AdamGuIdeal_AdamGuRefIdeal (hAdamGuIdeal := hAdamGuIdeal) (hAdamGuRefIdeal := hAdamGuRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_finite.lean ====
abbrev S4096x1152 : Shape := ⟨2, ![4096, 1152]⟩
abbrev S6x4096 : Shape := ⟨2, ![6, 4096]⟩
abbrev S4096x384 : Shape := ⟨2, ![4096, 384]⟩
abbrev S_ : Shape := ⟨0, ![]⟩

class Facts : Prop where
  bcast_S_S4096x1152 : S_.BroadcastsInDim S4096x1152 (![] : Fin 0 → Fin S4096x1152.rank)
  reducesTo_S4096x1152_S_d0_1 : S4096x1152.ReducesTo [0, 1] S_
  h_S_ : 0 < S_.numel
  bcast_S_S6x4096 : S_.BroadcastsInDim S6x4096 (![] : Fin 0 → Fin S6x4096.rank)
  reducesTo_S6x4096_S_d0_1 : S6x4096.ReducesTo [0, 1] S_
  bcast_S_S4096x384 : S_.BroadcastsInDim S4096x384 (![] : Fin 0 → Fin S4096x384.rank)
  reducesTo_S4096x384_S_d0_1 : S4096x384.ReducesTo [0, 1] S_

variable [Facts]

def fn {F : FTy → Type} [FloatOps F] (main_arg0 : FVec F S4096x1152 .f32) (main_arg1 : FVec F S6x4096 .f32) (main_arg2 : FVec F S4096x384 .f32) : IVec S_ 1 :=
  let main_v0 : FVec F S4096x1152 .f32 := Host.absf main_arg0
  let main_cst : FVec F S_ .f32 := constant S_ .f32 0x7F800000#32
  let main_v1 : FVec F S4096x1152 .f32 := broadcastInDim S4096x1152 ![] bcast_S_S4096x1152 main_cst
  let main_v2 : IVec S4096x1152 1 := cmpf .olt main_v0 main_v1
  let main_c : IVec S_ 1 := constantI S_ 1 1#1
  let main_v3 : IVec S_ 1 := (fun x v => Host.reduce IntOp.andi x v reducesTo_S4096x1152_S_d0_1 h_S_) main_v2 main_c
  let main_v4 : FVec F S6x4096 .f32 := Host.absf main_arg1
  let main_cst_0 : FVec F S_ .f32 := constant S_ .f32 0x7F800000#32
  let main_v5 : FVec F S6x4096 .f32 := broadcastInDim S6x4096 ![] bcast_S_S6x4096 main_cst_0
  let main_v6 : IVec S6x4096 1 := cmpf .olt main_v4 main_v5
  let main_c_1 : IVec S_ 1 := constantI S_ 1 1#1
  let main_v7 : IVec S_ 1 := (fun x v => Host.reduce IntOp.andi x v reducesTo_S6x4096_S_d0_1 h_S_) main_v6 main_c_1
  let main_v8 : IVec S_ 1 := andi main_v3 main_v7
  let main_v9 : FVec F S4096x384 .f32 := Host.absf main_arg2
  let main_cst_2 : FVec F S_ .f32 := constant S_ .f32 0x7F800000#32
  let main_v10 : FVec F S4096x384 .f32 := broadcastInDim S4096x384 ![] bcast_S_S4096x384 main_cst_2
  let main_v11 : IVec S4096x384 1 := cmpf .olt main_v9 main_v10
  let main_c_3 : IVec S_ 1 := constantI S_ 1 1#1
  let main_v12 : IVec S_ 1 := (fun x v => Host.reduce IntOp.andi x v reducesTo_S4096x384_S_d0_1 h_S_) main_v11 main_c_3
  let main_v13 : IVec S_ 1 := andi main_v8 main_v12
  main_v13
-- ==== Pre_finite_bwd.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S4096x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S1024 .f32) (main_arg2 : FVec F S1024x5632 .f32) (main_arg3 : FVec F S2816x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite_in.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_arg4 : FVec F S4096x1024 .f32) (main_v13 : IVec S_ 1) (main_v15 : FVec F S4096x5632 .f32) (main_v16 : FVec F S4096x5632 .f32) : IVec S_ 1 :=
  let main_v17 : IVec S4096x5632 1 := cmpf .olt main_v15 main_v16
  let main_c_5 : IVec S_ 1 := constantI S_ 1 1#1
  let main_v18 : IVec S_ 1 := (fun x v => Host.reduce IntOp.andi x v reducesTo_S4096x5632_S_d0_1 h_S_) main_v17 main_c_5
  let main_v19 : IVec S_ 1 := andi main_v13 main_v18
  let main_v20 : FVec F S4096x1024 .f32 := Host.absf main_arg4
  let main_cst_6 : FVec F S_ .f32 := constant S_ .f32 0x7F800000#32
  let main_v21 : FVec F S4096x1024 .f32 := broadcastInDim S4096x1024 ![] bcast_S_S4096x1024 main_cst_6
  let main_v22 : IVec S4096x1024 1 := cmpf .olt main_v20 main_v21
  let main_c_7 : IVec S_ 1 := constantI S_ 1 1#1
  let main_v23 : IVec S_ 1 := (fun x v => Host.reduce IntOp.andi x v reducesTo_S4096x1024_S_d0_1 h_S_) main_v22 main_c_7
  let main_v24 : IVec S_ 1 := andi main_v19 main_v23
  main_v24

def fn {F : FTy → Type} [FloatOps F] (main_arg0 : FVec F S4096x1024 .f32) (main_arg1 : FVec F S1024 .f32) (main_arg2 : FVec F S1024x5632 .f32) (main_arg3 : FVec F S4096x5632 .bf16) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S4096x5632 .f32 := (extf .f32 · bitsLt_bf16_f32) main_arg3
  let main_v15 : FVec F S4096x5632 .f32 := Host.absf main_v14
  let main_cst_4 : FVec F S_ .f32 := constant S_ .f32 0x7F800000#32
  let main_v16 : FVec F S4096x5632 .f32 := broadcastInDim S4096x5632 ![] bcast_S_S4096x5632 main_cst_4
  fn_part1 (F := F) main_arg4 main_v13 main_v15 main_v16
-- ==== Kernel.lean ====
abbrev S4096x1152 : Shape := ⟨2, ![4096, 1152]⟩
abbrev S6x4096 : Shape := ⟨2, ![6, 4096]⟩
abbrev S4096x384 : Shape := ⟨2, ![4096, 384]⟩
abbrev S4096x768 : Shape := ⟨2, ![4096, 768]⟩
abbrev S768x4096 : Shape := ⟨2, ![768, 4096]⟩
abbrev S4096x3x6x64 : Shape := ⟨4, ![4096, 3, 6, 64]⟩
abbrev S3x6x4096x64 : Shape := ⟨4, ![3, 6, 4096, 64]⟩
abbrev S1x6x4096x64 : Shape := ⟨4, ![1, 6, 4096, 64]⟩
abbrev S6x4096x64 : Shape := ⟨3, ![6, 4096, 64]⟩
abbrev S4096 : Shape := ⟨1, ![4096]⟩
abbrev S6x4096x4096 : Shape := ⟨3, ![6, 4096, 4096]⟩
abbrev S_ : Shape := ⟨0, ![]⟩
abbrev S6x4096x1 : Shape := ⟨3, ![6, 4096, 1]⟩
abbrev S6x1x4096 : Shape := ⟨3, ![6, 1, 4096]⟩
abbrev S1x4096 : Shape := ⟨2, ![1, 4096]⟩
abbrev S4096x1 : Shape := ⟨2, ![4096, 1]⟩
abbrev S4096x4096 : Shape := ⟨2, ![4096, 4096]⟩
abbrev S4096x6x64 : Shape := ⟨3, ![4096, 6, 64]⟩
abbrev S3x2x4096 : Shape := ⟨3, ![3, 2, 4096]⟩
abbrev S3x8x4096 : Shape := ⟨3, ![3, 8, 4096]⟩
abbrev S24x4096 : Shape := ⟨2, ![24, 4096]⟩
abbrev S4096x24 : Shape := ⟨2, ![4096, 24]⟩
abbrev S4096x128 : Shape := ⟨2, ![4096, 128]⟩
abbrev S3x4096x128 : Shape := ⟨3, ![3, 4096, 128]⟩
abbrev S1024x128 : Shape := ⟨2, ![1024, 128]⟩
abbrev S128x1024 : Shape := ⟨2, ![128, 1024]⟩
abbrev S1x8x1024 : Shape := ⟨3, ![1, 8, 1024]⟩
abbrev S8x1024 : Shape := ⟨2, ![8, 1024]⟩
abbrev S1x8x4096 : Shape := ⟨3, ![1, 8, 4096]⟩
abbrev S1x1024x128 : Shape := ⟨3, ![1, 1024, 128]⟩
abbrev S4x128x1024 : Shape := ⟨3, ![4, 128, 1024]⟩
abbrev S4x8x1024 : Shape := ⟨3, ![4, 8, 1024]⟩
abbrev S1x128 : Shape := ⟨2, ![1, 128]⟩
abbrev S128x1 : Shape := ⟨2, ![128, 1]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1x1x1024 : Shape := ⟨3, ![1, 1, 1024]⟩
abbrev S1x128x1024 : Shape := ⟨3, ![1, 128, 1024]⟩

abbrev nBuf : Space → Nat
  | .hbm => 79
  | .vmem => 33
  | .smem => 0
  | _ => 0

abbrev bufTy : (tb : Table) → Fin (tcTables nBuf tb) → BufTy
  | .hbm, ⟨0, _⟩ => ⟨S4096x1152, .f32⟩
  | .hbm, ⟨1, _⟩ => ⟨S6x4096, .f32⟩
  | .hbm, ⟨2, _⟩ => ⟨S4096x384, .f32⟩
  | .hbm, ⟨3, _⟩ => ⟨S4096x1152, .bf16⟩
  | .hbm, ⟨4, _⟩ => ⟨S4096x768, .f32⟩
  | .hbm, ⟨5, _⟩ => ⟨S768x4096, .f32⟩
  | .hbm, ⟨6, _⟩ => ⟨S768x4096, .bf16⟩
  | .hbm, ⟨7, _⟩ => ⟨S4096x3x6x64, .f32⟩
  | .hbm, ⟨8, _⟩ => ⟨S3x6x4096x64, .f32⟩
  | .hbm, ⟨9, _⟩ => ⟨S1x6x4096x64, .f32⟩
  | .hbm, ⟨10, _⟩ => ⟨S6x4096x64, .f32⟩
  | .hbm, ⟨11, _⟩ => ⟨S1x6x4096x64, .f32⟩
  | .hbm, ⟨12, _⟩ => ⟨S6x4096x64, .f32⟩
  | .hbm, ⟨13, _⟩ => ⟨S1x6x4096x64, .f32⟩
  | .hbm, ⟨14, _⟩ => ⟨S6x4096x64, .f32⟩
  | .hbm, ⟨15, _⟩ => ⟨S4096, .i32⟩
  | .hbm, ⟨16, _⟩ => ⟨S6x4096x4096, .f32⟩
  | .hbm, ⟨17, _⟩ => ⟨S_, .f32⟩
  | .hbm, ⟨18, _⟩ => ⟨S6x4096x4096, .f32⟩
  | .hbm, ⟨19, _⟩ => ⟨S6x4096x4096, .f32⟩
  | .hbm, ⟨20, _⟩ => ⟨S6x4096x1, .f32⟩
  | .hbm, ⟨21, _⟩ => ⟨S6x4096x4096, .f32⟩
  | .hbm, ⟨22, _⟩ => ⟨S6x4096x4096, .f32⟩
  | .hbm, ⟨23, _⟩ => ⟨S6x1x4096, .f32⟩
  | .hbm, ⟨24, _⟩ => ⟨S6x4096x4096, .f32⟩
  | .hbm, ⟨25, _⟩ => ⟨S6x4096x4096, .f32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S6x4096x4096, .i1⟩
  | .hbm, ⟨34, _⟩ => ⟨S6x4096x4096, .f32⟩
  | .hbm, ⟨35, _⟩ => ⟨S6x4096x4096, .f32⟩
  | .hbm, ⟨36, _⟩ => ⟨S_, .f32⟩
  | .hbm, ⟨37, _⟩ => ⟨S6x4096, .f32⟩
  | .hbm, ⟨38, _⟩ => ⟨S6x4096x1, .f32⟩
  | .hbm, ⟨39, _⟩ => ⟨S6x4096x4096, .f32⟩
  | .hbm, ⟨40, _⟩ => ⟨S6x4096x4096, .f32⟩
  | .hbm, ⟨41, _⟩ => ⟨S6x4096x4096, .f32⟩
  | .hbm, ⟨42, _⟩ => ⟨S_, .f32⟩
  | .hbm, ⟨43, _⟩ => ⟨S6x4096, .f32⟩
  | .hbm, ⟨44, _⟩ => ⟨S6x4096x1, .f32⟩
  | .hbm, ⟨45, _⟩ => ⟨S6x4096x4096, .f32⟩
  | .hbm, ⟨46, _⟩ => ⟨S6x4096x4096, .f32⟩
  | .hbm, ⟨47, _⟩ => ⟨S6x4096x64, .f32⟩
  | .hbm, ⟨48, _⟩ => ⟨S4096x6x64, .f32⟩
  | .hbm, ⟨49, _⟩ => ⟨S6x4096x64, .f32⟩
  | .hbm, ⟨50, _⟩ => ⟨S6x4096x1, .f32⟩
  | .hbm, ⟨51, _⟩ => ⟨S6x4096x1, .f32⟩
  | .hbm, ⟨52, _⟩ => ⟨S6x4096, .f32⟩
  | .hbm, ⟨53, _⟩ => ⟨S6x4096x64, .f32⟩
  | .hbm, ⟨54, _⟩ => ⟨S_, .f32⟩
  | .hbm, ⟨55, _⟩ => ⟨S6x4096, .f32⟩
  | .hbm, ⟨56, _⟩ => ⟨S3x2x4096, .f32⟩
  | .hbm, ⟨57, _⟩ => ⟨S_, .i32⟩
  | .hbm, ⟨58, _⟩ => ⟨S_, .f32⟩
  | .hbm, ⟨59, _⟩ => ⟨S3x8x4096, .f32⟩
  | .hbm, ⟨60, _⟩ => ⟨S24x4096, .f32⟩
  | .hbm, ⟨61, _⟩ => ⟨S4096x24, .f32⟩
  | .hbm, ⟨62, _⟩ => ⟨S_, .i32⟩
  | .hbm, ⟨63, _⟩ => ⟨S_, .f32⟩
  | .hbm, ⟨64, _⟩ => ⟨S4096x128, .f32⟩
  | .hbm, ⟨65, _⟩ => ⟨S4096x384, .bf16⟩
  | .hbm, ⟨66, _⟩ => ⟨S3x2x4096, .f32⟩
  | .hbm, ⟨67, _⟩ => ⟨S_, .i32⟩
  | .hbm, ⟨68, _⟩ => ⟨S_, .f32⟩
  | .hbm, ⟨69, _⟩ => ⟨S3x8x4096, .f32⟩
  | .hbm, ⟨70, _⟩ => ⟨S3x2x4096, .f32⟩
  | .hbm, ⟨71, _⟩ => ⟨S_, .i32⟩
  | .hbm, ⟨72, _⟩ => ⟨S_, .f32⟩
  | .hbm, ⟨73, _⟩ => ⟨S3x8x4096, .f32⟩
  | .hbm, ⟨74, _⟩ => ⟨S4096x384, .bf16⟩
  | .hbm, ⟨75, _⟩ => ⟨S4096x384, .bf16⟩
  | .hbm, ⟨76, _⟩ => ⟨S4096x384, .bf16⟩
  | .hbm, ⟨77, _⟩ => ⟨S3x8x4096, .f32⟩
  | .hbm, ⟨78, _⟩ => ⟨S3x4096x128, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S128x1024, .bf16⟩
  | .local _ .vmem, ⟨5, _⟩ => ⟨S128x1024, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1x8x1024, .f32⟩
  | .local _ .vmem, ⟨11, _⟩ => ⟨S1x8x1024, .f32⟩
  | .local _ .vmem, ⟨12, _⟩ => ⟨S1x8x1024, .f32⟩
  | .local _ .vmem, ⟨13, _⟩ => ⟨S1x8x1024, .f32⟩
  | .local _ .vmem, ⟨14, _⟩ => ⟨S8x1024, .f32⟩
  | .local _ .vmem, ⟨15, _⟩ => ⟨S8x1024, .f32⟩
  | .local _ .vmem, ⟨16, _⟩ => ⟨S1024x128, .f32⟩
  | .local _ .vmem, ⟨17, _⟩ => ⟨S1024x128, .f32⟩
  | .local _ .vmem, ⟨18, _⟩ => ⟨S4096x128, .bf16⟩
  | .local _ .vmem, ⟨19, _⟩ => ⟨S4096x128, .bf16⟩
  | .local _ .vmem, ⟨20, _⟩ => ⟨S1024x128, .bf16⟩
  | .local _ .vmem, ⟨21, _⟩ => ⟨S1024x128, .bf16⟩
  | .local _ .vmem, ⟨22, _⟩ => ⟨S1024x128, .bf16⟩
  | .local _ .vmem, ⟨23, _⟩ => ⟨S1024x128, .bf16⟩
  | .local _ .vmem, ⟨24, _⟩ => ⟨S1x8x4096, .f32⟩
  | .local _ .vmem, ⟨25, _⟩ => ⟨S1x8x4096, .f32⟩
  | .local _ .vmem, ⟨26, _⟩ => ⟨S1x1024x128, .f32⟩
  | .local _ .vmem, ⟨27, _⟩ => ⟨S1x1024x128, .f32⟩
  | .local _ .vmem, ⟨28, _⟩ => ⟨S4x128x1024, .f32⟩
  | .local _ .vmem, ⟨29, _⟩ => ⟨S1024x128, .f32⟩
  | .local _ .vmem, ⟨30, _⟩ => ⟨S1024x128, .f32⟩
  | .local _ .vmem, ⟨31, _⟩ => ⟨S4x8x1024, .f32⟩
  | .local _ .vmem, ⟨32, _⟩ => ⟨S1024x128, .f32⟩
  | _, _ => ⟨S4096x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_c : Ref sig .tc := ⟨.hbm, 57, rfl⟩
abbrev main_call1_v0 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_4 : Ref sig .tc := ⟨.hbm, 62, rfl⟩
abbrev main_call2_v0 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_5 : Ref sig .tc := ⟨.hbm, 67, rfl⟩
abbrev main_call3_v0 : Ref sig .tc := ⟨.hbm, 68, rfl⟩
abbrev main_v52 : Ref sig .tc := ⟨.hbm, 69, rfl⟩
abbrev main_v53 : Ref sig .tc := ⟨.hbm, 70, rfl⟩
abbrev main_c_6 : Ref sig .tc := ⟨.hbm, 71, rfl⟩
abbrev main_call4_v0 : Ref sig .tc := ⟨.hbm, 72, rfl⟩
abbrev main_v54 : Ref sig .tc := ⟨.hbm, 73, rfl⟩
abbrev main_v55_0 : Ref sig .tc := ⟨.hbm, 74, rfl⟩
abbrev main_v55_1 : Ref sig .tc := ⟨.hbm, 75, rfl⟩
abbrev main_v55_2 : Ref sig .tc := ⟨.hbm, 76, rfl⟩
abbrev main_v55_3 : Ref sig .tc := ⟨.hbm, 77, rfl⟩
abbrev main_v55_4 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![3, 4, 4], ![false, false, false]⟩

def k0_cond3 (i : grid0.Coords) : BitVec 1 :=
  let arg2 : BitVec 32 := BitVec.ofNat 32 (i 2).val
  let arg1 : BitVec 32 := BitVec.ofNat 32 (i 1).val
  let v14 : BitVec 1 := Scalar.cmpi .sgt arg2 arg1
  let v15 : BitVec 32 := Scalar.extui v14
  let c0_i32_5 : BitVec 32 := 0#32
  let v16 : BitVec 1 := Scalar.cmpi .ne v15 c0_i32_5
  v16

def k0_off1 (i : grid0.Coords) : Fin 3 → Nat :=
  let arg2 : BitVec 32 := BitVec.ofNat 32 (i 2).val
  let v91 : Index := Scalar.indexCast arg2
  let c0_47 : Index := 0#32
  let c0_48 : Index := 0#32
  ![v91.toNat, 0, 0]
def k0_off2 (i : grid0.Coords) : Fin 3 → Nat :=
  let arg2 : BitVec 32 := BitVec.ofNat 32 (i 2).val
  let v106 : Index := Scalar.indexCast arg2
  let c0_54 : Index := 0#32
  let c0_55 : Index := 0#32
  ![v106.toNat, 0, 0]
def k0_off3 (i : grid0.Coords) : Fin 3 → Nat :=
  let arg2 : BitVec 32 := BitVec.ofNat 32 (i 2).val
  let v198 : Index := Scalar.indexCast arg2
  let c1_101 : Index := 1#32
  let c0_102 : Index := 0#32
  ![v198.toNat, 1, 0]
def k0_cond4 (i : grid0.Coords) : BitVec 1 :=
  let arg2 : BitVec 32 := BitVec.ofNat 32 (i 2).val
  let arg1 : BitVec 32 := BitVec.ofNat 32 (i 1).val
  let v17 : BitVec 1 := Scalar.cmpi .eq arg2 arg1
  let v18 : BitVec 32 := Scalar.extui v17
  let c0_i32_6 : BitVec 32 := 0#32
  let v19 : BitVec 1 := Scalar.cmpi .ne v18 c0_i32_6
  v19

def k0_off4 (i : grid0.Coords) : Fin 3 → Nat :=
  let arg2 : BitVec 32 := BitVec.ofNat 32 (i 2).val
  let v96 : Index := Scalar.indexCast arg2
  let c0_48 : Index := 0#32
  let c0_49 : Index := 0#32
  ![v96.toNat, 0, 0]
def k0_off5 (i : grid0.Coords) : Fin 3 → Nat :=
  let arg2 : BitVec 32 := BitVec.ofNat 32 (i 2).val
  let v111 : Index := Scalar.indexCast arg2
  let c0_55 : Index := 0#32
  let c0_56 : Index := 0#32
  ![v111.toNat, 0, 0]
def k0_off6 (i : grid0.Coords) : Fin 3 → Nat :=
  let arg2 : BitVec 32 := BitVec.ofNat 32 (i 2).val
  let v205 : Index := Scalar.indexCast arg2
  let c1_103 : Index := 1#32
  let c0_104 : Index := 0#32
  ![v205.toNat, 1, 0]
def k0_cond6 (i : grid0.Coords) : BitVec 1 :=
  let arg1 : BitVec 32 := BitVec.ofNat 32 (i 1).val
  let c3_i32_8 : BitVec 32 := 3#32
  let v23 : BitVec 1 := Scalar.cmpi .eq arg1 c3_i32_8
  let arg2 : BitVec 32 := BitVec.ofNat 32 (i 2).val
  let c3_i32_9 : BitVec 32 := 3#32
  let v24 : BitVec 1 := Scalar.cmpi .eq arg2 c3_i32_9
  let v25 : BitVec 1 := Scalar.andi v23 v24
  let v26 : BitVec 32 := Scalar.extui v25
  let c0_i32_10 : BitVec 32 := 0#32
  let v27 : BitVec 1 := Scalar.cmpi .ne v26 c0_i32_10
  v27

def k0_cond5 (i : grid0.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_7 : BitVec 32 := 0#32
  let v22 : BitVec 1 := Scalar.cmpi .ne v21 c0_i32_7
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x8x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 2 → Memref sig .tc .vmem S1x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== ReferenceIdeal.lean ====
abbrev S4096x1152 : Shape := ⟨2, ![4096, 1152]⟩
abbrev S6x4096 : Shape := ⟨2, ![6, 4096]⟩
abbrev S4096x384 : Shape := ⟨2, ![4096, 384]⟩
abbrev S4096x3x6x64 : Shape := ⟨4, ![4096, 3, 6, 64]⟩
abbrev S3x6x4096x64 : Shape := ⟨4, ![3, 6, 4096, 64]⟩
abbrev S1x6x4096x64 : Shape := ⟨4, ![1, 6, 4096, 64]⟩
abbrev S6x4096x64 : Shape := ⟨3, ![6, 4096, 64]⟩
abbrev S4096x6x64 : Shape := ⟨3, ![4096, 6, 64]⟩
abbrev S4096 : Shape := ⟨1, ![4096]⟩
abbrev S6x4096x4096 : Shape := ⟨3, ![6, 4096, 4096]⟩
abbrev S_ : Shape := ⟨0, ![]⟩
abbrev S6x4096x1 : Shape := ⟨3, ![6, 4096, 1]⟩
abbrev S6x1x4096 : Shape := ⟨3, ![6, 1, 4096]⟩
abbrev S1x4096 : Shape := ⟨2, ![1, 4096]⟩
abbrev S4096x1 : Shape := ⟨2, ![4096, 1]⟩
abbrev S4096x4096 : Shape := ⟨2, ![4096, 4096]⟩
abbrev S6x64x4096 : Shape := ⟨3, ![6, 64, 4096]⟩
abbrev S3x2x4096 : Shape := ⟨3, ![3, 2, 4096]⟩
abbrev S3x1x4096 : Shape := ⟨3, ![3, 1, 4096]⟩
abbrev S3x4096 : Shape := ⟨2, ![3, 4096]⟩
abbrev S3x8x4096 : Shape := ⟨3, ![3, 8, 4096]⟩
abbrev S3x4096x128 : Shape := ⟨3, ![3, 4096, 128]⟩
abbrev S3x4096x1 : Shape := ⟨3, ![3, 4096, 1]⟩

abbrev nBuf : Space → Nat
  | .hbm => 164
  | .vmem => 0
  | .smem => 0
  | _ => 0

abbrev hbmTy0_0 (i : Nat) : BufTy := match i % 128 with
  | 0 => ⟨S4096x1152, .f32⟩
  | 1 => ⟨S6x4096, .f32⟩
  | 2 => ⟨S4096x384, .f32⟩
  | 3 => ⟨S4096x3x6x64, .f32⟩
  | 4 => ⟨S3x6x4096x64, .f32⟩
  | 5 => ⟨S1x6x4096x64, .f32⟩
  | 6 => ⟨S6x4096x64, .f32⟩
  | 7 => ⟨S1x6x4096x64, .f32⟩
  | 8 => ⟨S6x4096x64, .f32⟩
  | 9 => ⟨S1x6x4096x64, .f32⟩
  | 10 => ⟨S6x4096x64, .f32⟩
  | 11 => ⟨S4096x6x64, .f32⟩
  | 12 => ⟨S6x4096x64, .f32⟩
  | 13 => ⟨S4096, .i32⟩
  | 14 => ⟨S6x4096x4096, .f32⟩
  | 15 => ⟨S_, .f32⟩
  | 16 => ⟨S6x4096x4096, .f32⟩
  | 17 => ⟨S6x4096x4096, .f32⟩
  | 18 => ⟨S6x4096x1, .f32⟩
  | 19 => ⟨S6x4096x4096, .f32⟩
  | 20 => ⟨S6x4096x4096, .f32⟩
  | 21 => ⟨S6x1x4096, .f32⟩
  | 22 => ⟨S6x4096x4096, .f32⟩
  | 23 => ⟨S6x4096x4096, .f32⟩
  | 24 => ⟨S1x4096, .i32⟩
  | 25 => ⟨S4096x1, .i32⟩
  | 26 => ⟨S4096x4096, .i32⟩
  | 27 => ⟨S4096x4096, .i32⟩
  | 28 => ⟨S4096x4096, .i1⟩
  | 29 => ⟨S_, .f32⟩
  | 30 => ⟨S_, .f32⟩
  | 31 => ⟨S6x4096x4096, .i1⟩
  | 32 => ⟨S6x4096x4096, .f32⟩
  | 33 => ⟨S6x4096x4096, .f32⟩
  | 34 => ⟨S_, .f32⟩
  | 35 => ⟨S6x4096x4096, .f32⟩
  | 36 => ⟨S_, .f32⟩
  | 37 => ⟨S6x4096, .f32⟩
  | 38 => ⟨S6x4096x1, .f32⟩
  | 39 => ⟨S6x4096x4096, .f32⟩
  | 40 => ⟨S6x4096x4096, .i1⟩
  | 41 => ⟨S6x4096x4096, .f32⟩
  | 42 => ⟨S_, .f32⟩
  | 43 => ⟨S6x4096, .f32⟩
  | 44 => ⟨S_, .f32⟩
  | 45 => ⟨S6x4096, .f32⟩
  | 46 => ⟨S6x4096, .f32⟩
  | 47 => ⟨S_, .f32⟩
  | 48 => ⟨S6x4096, .f32⟩
  | 49 => ⟨S6x4096, .i1⟩
  | 50 => ⟨S_, .f32⟩
  | 51 => ⟨S6x4096, .f32⟩
  | 52 => ⟨S6x4096, .i1⟩
  | 53 => ⟨S_, .f32⟩
  | 54 => ⟨S6x4096, .f32⟩
  | 55 => ⟨S_, .f32⟩
  | 56 => ⟨S6x4096, .f32⟩
  | 57 => ⟨S_, .f32⟩
  | 58 => ⟨S6x4096, .f32⟩
  | 59 => ⟨S6x4096, .f32⟩
  | 60 => ⟨S6x4096, .f32⟩
  | 61 => ⟨S6x4096x1, .f32⟩
  | 62 => ⟨S6x4096x4096, .f32⟩
  | 63 => ⟨S6x4096x4096, .f32⟩
  | 64 => ⟨S6x4096x4096, .f32⟩
  | 65 => ⟨S_, .f32⟩
  | 66 => ⟨S6x4096, .f32⟩
  | 67 => ⟨S6x4096x1, .f32⟩
  | 68 => ⟨S6x4096x4096, .f32⟩
  | 69 => ⟨S6x4096x4096, .f32⟩
  | 70 => ⟨S6x4096x1, .f32⟩
  | 71 => ⟨S_, .f32⟩
  | 72 => ⟨S6x4096x1, .f32⟩
  | 73 => ⟨S6x4096x1, .f32⟩
  | 74 => ⟨S6x4096x64, .f32⟩
  | 75 => ⟨S6x64x4096, .f32⟩
  | 76 => ⟨S6x4096x64, .f32⟩
  | 77 => ⟨S6x4096x4096, .f32⟩
  | 78 => ⟨S6x4096x4096, .f32⟩
  | 79 => ⟨S6x4096x4096, .f32⟩
  | 80 => ⟨S6x4096x4096, .f32⟩
  | 81 => ⟨S_, .f32⟩
  | 82 => ⟨S6x4096, .f32⟩
  | 83 => ⟨S6x4096x1, .f32⟩
  | 84 => ⟨S6x4096x1, .f32⟩
  | 85 => ⟨S6x4096x4096, .f32⟩
  | 86 => ⟨S6x4096x4096, .f32⟩
  | 87 => ⟨S_, .f32⟩
  | 88 => ⟨S6x4096, .f32⟩
  | 89 => ⟨S6x4096x4096, .f32⟩
  | 90 => ⟨S6x4096x4096, .f32⟩
  | 91 => ⟨S6x4096x4096, .f32⟩
  | 92 => ⟨S_, .f32⟩
  | 93 => ⟨S6x4096x4096, .f32⟩
  | 94 => ⟨S6x4096x4096, .f32⟩
  | 95 => ⟨S6x4096x4096, .f32⟩
  | 96 => ⟨S_, .f32⟩
  | 97 => ⟨S6x4096, .f32⟩
  | 98 => ⟨S6x1x4096, .f32⟩
  | 99 => ⟨S_, .f32⟩
  | 100 => ⟨S6x4096, .f32⟩
  | 101 => ⟨S_, .f32⟩
  | 102 => ⟨S6x4096, .f32⟩
  | 103 => ⟨S6x4096x1, .f32⟩
  | 104 => ⟨S_, .f32⟩
  | 105 => ⟨S6x4096, .f32⟩
  | 106 => ⟨S_, .f32⟩
  | 107 => ⟨S6x4096x4096, .f32⟩
  | 108 => ⟨S6x4096x4096, .f32⟩
  | 109 => ⟨S6x4096x64, .f32⟩
  | 110 => ⟨S6x4096x64, .f32⟩
  | 111 => ⟨S3x2x4096, .f32⟩
  | 112 => ⟨S3x1x4096, .f32⟩
  | 113 => ⟨S3x4096, .f32⟩
  | 114 => ⟨S3x2x4096, .f32⟩
  | 115 => ⟨S3x1x4096, .f32⟩
  | 116 => ⟨S3x4096, .f32⟩
  | 117 => ⟨S_, .f32⟩
  | 118 => ⟨S3x4096, .f32⟩
  | 119 => ⟨S3x1x4096, .f32⟩
  | 120 => ⟨S3x1x4096, .f32⟩
  | 121 => ⟨S3x1x4096, .f32⟩
  | 122 => ⟨S3x1x4096, .f32⟩
  | 123 => ⟨S3x1x4096, .f32⟩
  | 124 => ⟨S3x1x4096, .f32⟩
  | 125 => ⟨S3x1x4096, .f32⟩
  | 126 => ⟨S3x1x4096, .f32⟩
  | 127 => ⟨S3x8x4096, .f32⟩
  | _ => ⟨S4096x1152, .f32⟩

abbrev hbmTy0_1 (i : Nat) : BufTy := match i % 128 with
  | 0 => ⟨S3x4096x128, .i32⟩
  | 1 => ⟨S3x4096x128, .i32⟩
  | 2 => ⟨S3x2x4096, .f32⟩
  | 3 => ⟨S_, .i32⟩
  | 4 => ⟨S3x4096x128, .i32⟩
  | 5 => ⟨S3x4096x128, .i32⟩
  | 6 => ⟨S3x4096x128, .i1⟩
  | 7 => ⟨S3x1x4096, .f32⟩
  | 8 => ⟨S3x4096, .f32⟩
  | 9 => ⟨S3x4096x1, .f32⟩
  | 10 => ⟨S_, .i32⟩
  | 11 => ⟨S3x4096x128, .i32⟩
  | 12 => ⟨S3x4096x128, .i32⟩
  | 13 => ⟨S_, .i32⟩
  | 14 => ⟨S3x4096x128, .i32⟩
  | 15 => ⟨S3x4096x128, .i32⟩
  | 16 => ⟨S3x4096x128, .i1⟩
  | 17 => ⟨S3x1x4096, .f32⟩
  | 18 => ⟨S3x4096, .f32⟩
  | 19 => ⟨S3x4096x1, .f32⟩
  | 20 => ⟨S_, .f32⟩
  | 21 => ⟨S_, .f32⟩
  | 22 => ⟨S3x4096x128, .f32⟩
  | 23 => ⟨S3x4096x128, .f32⟩
  | 24 => ⟨S3x4096x128, .f32⟩
  | 25 => ⟨S3x4096x128, .f32⟩
  | 26 => ⟨S3x4096x128, .f32⟩
  | 27 => ⟨S4096x6x64, .f32⟩
  | 28 => ⟨S4096x384, .f32⟩
  | 29 => ⟨S4096x384, .bf16⟩
  | 30 => ⟨S4096x6x64, .f32⟩
  | 31 => ⟨S4096x384, .f32⟩
  | 32 => ⟨S4096x384, .bf16⟩
  | 33 => ⟨S4096x6x64, .f32⟩
  | 34 => ⟨S4096x384, .f32⟩
  | 35 => ⟨S4096x384, .bf16⟩
  | _ => ⟨S4096x1152, .f32⟩

abbrev hbmTy (i : Nat) : BufTy := match i / 128 with
  | 0 => hbmTy0_0 i
  | 1 => hbmTy0_1 i
  | _ => ⟨S4096x1152, .f32⟩

abbrev bufTy : (tb : Table) → Fin (tcTables nBuf tb) → BufTy
  | .hbm, ⟨i, _⟩ => hbmTy i
  | _, _ => ⟨S4096x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_v25_1 : Ref sig .tc := ⟨.hbm, 31, rfl⟩
abbrev main_call0_v2 : Ref sig .tc := ⟨.hbm, 32, rfl⟩
abbrev main_v25_0 : Ref sig .tc := ⟨.hbm, 33, rfl⟩
abbrev main_call0_cst : Ref sig .tc := ⟨.hbm, 34, rfl⟩
abbrev main_v25_2 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_call1_cst : Ref sig .tc := ⟨.hbm, 92, rfl⟩
abbrev main_call1_v0 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_cst_15 : Ref sig .tc := ⟨.hbm, 101, rfl⟩
abbrev main_v75 : Ref sig .tc := ⟨.hbm, 102, rfl⟩
abbrev main_v76 : Ref sig .tc := ⟨.hbm, 103, rfl⟩
abbrev main_cst_16 : Ref sig .tc := ⟨.hbm, 104, rfl⟩
abbrev main_v77 : Ref sig .tc := ⟨.hbm, 105, rfl⟩
abbrev main_cst_17 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_18 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_c : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_c_19 : Ref sig .tc := ⟨.hbm, 138, rfl⟩
abbrev main_v107 : Ref sig .tc := ⟨.hbm, 139, rfl⟩
abbrev main_v108 : Ref sig .tc := ⟨.hbm, 140, rfl⟩
abbrev main_c_20 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_21 : Ref sig .tc := ⟨.hbm, 148, rfl⟩
abbrev main_call2_v0 : Ref sig .tc := ⟨.hbm, 149, rfl⟩
abbrev main_call2_v1 : Ref sig .tc := ⟨.hbm, 150, rfl⟩
abbrev main_call2_v2 : Ref sig .tc := ⟨.hbm, 151, rfl⟩
abbrev main_v115 : Ref sig .tc := ⟨.hbm, 152, rfl⟩
abbrev main_call3_v0 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩

abbrev nD : Nat := 1
abbrev τ : Topo := Topo.v7x

variable {F : FTy → Type} [FloatOps F]
-- ==== FfnBwd.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S5632x1024 : Shape := ⟨2, ![5632, 1024]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S1536x1024 : Shape := ⟨2, ![1536, 1024]⟩
abbrev S256x1536 : Shape := ⟨2, ![256, 1536]⟩
abbrev S1280x1024 : Shape := ⟨2, ![1280, 1024]⟩
abbrev S256x1280 : Shape := ⟨2, ![256, 1280]⟩
abbrev S256 : Shape := ⟨1, ![256]⟩
abbrev S256x1 : Shape := ⟨2, ![256, 1]⟩

abbrev nBuf : Space → Nat
  | .hbm => 32
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x5632, .bf16⟩
  | .hbm, ⟨23, _⟩ => ⟨S1x1024, .f32⟩
  | .hbm, ⟨24, _⟩ => ⟨S5632x1024, .f32⟩
  | .hbm, ⟨25, _⟩ => ⟨S5632x1024, .bf16⟩
  | .hbm, ⟨26, _⟩ => ⟨S2816x1024, .bf16⟩
  | .hbm, ⟨27, _⟩ => ⟨S4096x1024, .f32⟩
  | .hbm, ⟨28, _⟩ => ⟨S1x1024, .f32⟩
  | .hbm, ⟨29, _⟩ => ⟨S4096x5632, .bf16⟩
  | .hbm, ⟨30, _⟩ => ⟨S4096x2816, .bf16⟩
  | .hbm, ⟨31, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x5632, .bf16⟩
  | .local _ .vmem, ⟨6, _⟩ => ⟨S256x5632, .bf16⟩
  | .local _ .vmem, ⟨7, _⟩ => ⟨S5632x1024, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x5632, .bf16⟩
  | .local _ .vmem, ⟨13, _⟩ => ⟨S256x5632, .bf16⟩
  | .local _ .vmem, ⟨14, _⟩ => ⟨S256x2816, .bf16⟩
  | .local _ .vmem, ⟨15, _⟩ => ⟨S256x2816, .bf16⟩
  | .local _ .vmem, ⟨16, _⟩ => ⟨S256x1024, .bf16⟩
  | .local _ .vmem, ⟨17, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev main_v19_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v105 : BitVec 1 := Scalar.cmpi .eq arg0 c0_i32
  let v106 : BitVec 32 := Scalar.extui v105
  let c0_i32_56 : BitVec 32 := 0#32
  let v107 : BitVec 1 := Scalar.cmpi .ne v106 c0_i32_56
  v107

def k0_cond2 (i : grid0.Coords) : BitVec 1 :=
  let arg0 : BitVec 32 := BitVec.ofNat 32 (i 0).val
  let c0_i32 : BitVec 32 := 0#32
  let v105 : BitVec 1 := Scalar.cmpi .eq arg0 c0_i32
  let v_true : BitVec 1 := 1#1
  let v108 : BitVec 1 := Scalar.xori v105 v_true
  let v109 : BitVec 32 := Scalar.extui v108
  let c0_i32_57 : BitVec 32 := 0#32
  let v110 : BitVec 1 := Scalar.cmpi .ne v109 c0_i32_57
  v110

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnBwdRefIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S_, .f32⟩
  | .hbm, ⟨59, _⟩ => ⟨S4096x5632, .f32⟩
  | .hbm, ⟨60, _⟩ => ⟨S_, .f32⟩
  | .hbm, ⟨61, _⟩ => ⟨S4096x5632, .f32⟩
  | .hbm, ⟨62, _⟩ => ⟨S4096x5632, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x1024, .f32⟩
  | .hbm, ⟨77, _⟩ => ⟨S4096x1024, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S1x1024, .f32⟩
  | .hbm, ⟨91, _⟩ => ⟨S4096x5632, .bf16⟩
  | .hbm, ⟨92, _⟩ => ⟨S4096x2816, .bf16⟩
  | .hbm, ⟨93, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_cst_6 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_10 : Ref sig .tc := ⟨.hbm, 79, rfl⟩
abbrev main_v48 : Ref sig .tc := ⟨.hbm, 80, rfl⟩
abbrev main_v49 : Ref sig .tc := ⟨.hbm, 81, rfl⟩
abbrev main_cst_11 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩

abbrev nD : Nat := 1
abbrev τ : Topo := Topo.v7x

variable {F : FTy → Type} [FloatOps F]
-- ==== DwUp.lean ====
abbrev S4096x5632 : Shape := ⟨2, ![4096, 5632]⟩
abbrev S4096x1024 : Shape := ⟨2, ![4096, 1024]⟩
abbrev S1x4096x5632 : Shape := ⟨3, ![1, 4096, 5632]⟩
abbrev S1x4096x1024 : Shape := ⟨3, ![1, 4096, 1024]⟩
abbrev S1x5632x1024 : Shape := ⟨3, ![1, 5632, 1024]⟩
abbrev S1x2048x1408 : Shape := ⟨3, ![1, 2048, 1408]⟩
abbrev S1x2048x1024 : Shape := ⟨3, ![1, 2048, 1024]⟩
abbrev S1x1408x1024 : Shape := ⟨3, ![1, 1408, 1024]⟩
abbrev S1408x1024 : Shape := ⟨2, ![1408, 1024]⟩
abbrev S2048x1408 : Shape := ⟨2, ![2048, 1408]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S1x4096x5632, .bf16⟩
  | .hbm, ⟨3, _⟩ => ⟨S1x4096x1024, .bf16⟩
  | .hbm, ⟨4, _⟩ => ⟨S1x5632x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 1, 2], ![false, false, false, false]⟩

def k0_cond2 (i : grid0.Coords) : BitVec 1 :=
  let arg3 : BitVec 32 := BitVec.ofNat 32 (i 3).val
  let c1_i32 : BitVec 32 := 1#32
  let v13 : BitVec 1 := Scalar.cmpi .eq arg3 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DwUpIdeal.lean ====
abbrev S4096x5632 : Shape := ⟨2, ![4096, 5632]⟩
abbrev S4096x1024 : Shape := ⟨2, ![4096, 1024]⟩
abbrev S1x4096x5632 : Shape := ⟨3, ![1, 4096, 5632]⟩
abbrev S1x4096x1024 : Shape := ⟨3, ![1, 4096, 1024]⟩
abbrev S1x5632x1024 : Shape := ⟨3, ![1, 5632, 1024]⟩
abbrev S1x2048x1408 : Shape := ⟨3, ![1, 2048, 1408]⟩
abbrev S1x2048x1024 : Shape := ⟨3, ![1, 2048, 1024]⟩
abbrev S1x1408x1024 : Shape := ⟨3, ![1, 1408, 1024]⟩
abbrev S1408x1024 : Shape := ⟨2, ![1408, 1024]⟩
abbrev S2048x1408 : Shape := ⟨2, ![2048, 1408]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S1x4096x5632, .bf16⟩
  | .hbm, ⟨3, _⟩ => ⟨S1x4096x1024, .bf16⟩
  | .hbm, ⟨4, _⟩ => ⟨S1x5632x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 1, 2], ![false, false, false, false]⟩

def k0_cond2 (i : grid0.Coords) : BitVec 1 :=
  let arg3 : BitVec 32 := BitVec.ofNat 32 (i 3).val
  let c1_i32 : BitVec 32 := 1#32
  let v13 : BitVec 1 := Scalar.cmpi .eq arg3 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DwUpRefIdeal.lean ====
abbrev S4096x5632 : Shape := ⟨2, ![4096, 5632]⟩
abbrev S4096x1024 : Shape := ⟨2, ![4096, 1024]⟩
abbrev S_ : Shape := ⟨0, ![]⟩
abbrev S5632x1024 : Shape := ⟨2, ![5632, 1024]⟩
abbrev S1024x5632 : Shape := ⟨2, ![1024, 5632]⟩
abbrev S1x5632x1024 : Shape := ⟨3, ![1, 5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S_, .f32⟩
  | .hbm, ⟨3, _⟩ => ⟨S5632x1024, .f32⟩
  | .hbm, ⟨4, _⟩ => ⟨S4096x5632, .f32⟩
  | .hbm, ⟨5, _⟩ => ⟨S4096x1024, .f32⟩
  | .hbm, ⟨6, _⟩ => ⟨S4096x1024, .f32⟩
  | .hbm, ⟨7, _⟩ => ⟨S1024x5632, .f32⟩
  | .hbm, ⟨8, _⟩ => ⟨S5632x1024, .f32⟩
  | .hbm, ⟨9, _⟩ => ⟨S5632x1024, .bf16⟩
  | .hbm, ⟨10, _⟩ => ⟨S1x5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwDown.lean ====
abbrev S4096x2816 : Shape := ⟨2, ![4096, 2816]⟩
abbrev S4096x1024 : Shape := ⟨2, ![4096, 1024]⟩
abbrev S1x4096x2816 : Shape := ⟨3, ![1, 4096, 2816]⟩
abbrev S1x4096x1024 : Shape := ⟨3, ![1, 4096, 1024]⟩
abbrev S1x2816x1024 : Shape := ⟨3, ![1, 2816, 1024]⟩
abbrev S1x2048x1408 : Shape := ⟨3, ![1, 2048, 1408]⟩
abbrev S1x2048x1024 : Shape := ⟨3, ![1, 2048, 1024]⟩
abbrev S1x1408x1024 : Shape := ⟨3, ![1, 1408, 1024]⟩
abbrev S1408x1024 : Shape := ⟨2, ![1408, 1024]⟩
abbrev S2048x1408 : Shape := ⟨2, ![2048, 1408]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x4096x2816, .bf16⟩
  | .hbm, ⟨3, _⟩ => ⟨S1x4096x1024, .bf16⟩
  | .hbm, ⟨4, _⟩ => ⟨S1x2816x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 1, 2], ![false, false, false, false]⟩

def k0_cond2 (i : grid0.Coords) : BitVec 1 :=
  let arg3 : BitVec 32 := BitVec.ofNat 32 (i 3).val
  let c1_i32 : BitVec 32 := 1#32
  let v13 : BitVec 1 := Scalar.cmpi .eq arg3 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DwDownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnFwd.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S5632x1024 : Shape := ⟨2, ![5632, 1024]⟩
abbrev S4096x5632 : Shape := ⟨2, ![4096, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1536x1024 : Shape := ⟨2, ![1536, 1024]⟩
abbrev S512x1536 : Shape := ⟨2, ![512, 1536]⟩
abbrev S1280x1024 : Shape := ⟨2, ![1280, 1024]⟩
abbrev S512x1280 : Shape := ⟨2, ![512, 1280]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S5632x1024, .f32⟩
  | .hbm, ⟨6, _⟩ => ⟨S5632x1024, .bf16⟩
  | .hbm, ⟨7, _⟩ => ⟨S2816x1024, .bf16⟩
  | .hbm, ⟨8, _⟩ => ⟨S4096x1024, .f32⟩
  | .hbm, ⟨9, _⟩ => ⟨S4096x1024, .bf16⟩
  | .hbm, ⟨10, _⟩ => ⟨S4096x5632, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x5632, .bf16⟩
  | .local _ .vmem, ⟨10, _⟩ => ⟨S512x5632, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnFwdRefIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | .hbm, ⟨39, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== DwIn.lean ====
abbrev S4096x1024 : Shape := ⟨2, ![4096, 1024]⟩
abbrev S4096x1920 : Shape := ⟨2, ![4096, 1920]⟩
abbrev S1x4096x1024 : Shape := ⟨3, ![1, 4096, 1024]⟩
abbrev S1x4096x1920 : Shape := ⟨3, ![1, 4096, 1920]⟩
abbrev S1x1024x1920 : Shape := ⟨3, ![1, 1024, 1920]⟩
abbrev S1x4096x640 : Shape := ⟨3, ![1, 4096, 640]⟩
abbrev S1x1024x640 : Shape := ⟨3, ![1, 1024, 640]⟩
abbrev S1024x640 : Shape := ⟨2, ![1024, 640]⟩
abbrev S4096x640 : Shape := ⟨2, ![4096, 640]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1920, .bf16⟩
  | .hbm, ⟨2, _⟩ => ⟨S1x4096x1024, .bf16⟩
  | .hbm, ⟨3, _⟩ => ⟨S1x4096x1920, .bf16⟩
  | .hbm, ⟨4, _⟩ => ⟨S1x1024x1920, .bf16⟩
  | .local _ .vmem, ⟨0, _⟩ => ⟨S1x4096x1024, .bf16⟩
  | .local _ .vmem, ⟨1, _⟩ => ⟨S1x4096x640, .bf16⟩
  | .local _ .vmem, ⟨2, _⟩ => ⟨S1x4096x640, .bf16⟩
  | .local _ .vmem, ⟨3, _⟩ => ⟨S1x1024x640, .bf16⟩
  | .local _ .vmem, ⟨4, _⟩ => ⟨S1x1024x640, .bf16⟩
  | .local _ .vmem, ⟨5, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 3, 1], ![false, false, false, false]⟩

def k0_cond2 (i : grid0.Coords) : BitVec 1 :=
  let arg3 : BitVec 32 := BitVec.ofNat 32 (i 3).val
  let c0_i32_10 : BitVec 32 := 0#32
  let v13 : BitVec 1 := Scalar.cmpi .eq arg3 c0_i32_10
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S1x4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DwInRefIdeal.lean ====
abbrev S4096x1024 : Shape := ⟨2, ![4096, 1024]⟩
abbrev S4096x1920 : Shape := ⟨2, ![4096, 1920]⟩
abbrev S_ : Shape := ⟨0, ![]⟩
abbrev S1024x1920 : Shape := ⟨2, ![1024, 1920]⟩
abbrev S1920x1024 : Shape := ⟨2, ![1920, 1024]⟩
abbrev S1x1024x1920 : Shape := ⟨3, ![1, 1024, 1920]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1920, .bf16⟩
  | .hbm, ⟨2, _⟩ => ⟨S_, .f32⟩
  | .hbm, ⟨3, _⟩ => ⟨S1024x1920, .f32⟩
  | .hbm, ⟨4, _⟩ => ⟨S4096x1024, .f32⟩
  | .hbm, ⟨5, _⟩ => ⟨S4096x1920, .f32⟩
  | .hbm, ⟨6, _⟩ => ⟨S4096x1920, .f32⟩
  | .hbm, ⟨7, _⟩ => ⟨S1920x1024, .f32⟩
  | .hbm, ⟨8, _⟩ => ⟨S1024x1920, .f32⟩
  | .hbm, ⟨9, _⟩ => ⟨S1024x1920, .bf16⟩
  | .hbm, ⟨10, _⟩ => ⟨S1x1024x1920, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwOut.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x4096x1024, .bf16⟩
  | .hbm, ⟨3, _⟩ => ⟨S1x4096x1024, .f32⟩
  | .hbm, ⟨4, _⟩ => ⟨S1x1024x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def k0_cond2 (i : grid0.Coords) : BitVec 1 :=
  let arg3 : BitVec 32 := BitVec.ofNat 32 (i 3).val
  let c3_i32 : BitVec 32 := 3#32
  let v14 : BitVec 1 := Scalar.cmpi .eq arg3 c3_i32
  let v15 : BitVec 32 := Scalar.extui v14
  let c0_i32_10 : BitVec 32 := 0#32
  let v16 : BitVec 1 := Scalar.cmpi .ne v15 c0_i32_10
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== DwOutRefIdeal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnAct.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S1536x1024 : Shape := ⟨2, ![1536, 1024]⟩
abbrev S256x1536 : Shape := ⟨2, ![256, 1536]⟩
abbrev S1280x1024 : Shape := ⟨2, ![1280, 1024]⟩
abbrev S256x1280 : Shape := ⟨2, ![256, 1280]⟩

abbrev nBuf : Space → Nat
  | .hbm => 27
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x5632, .bf16⟩
  | .hbm, ⟨23, _⟩ => ⟨S2816x1024, .bf16⟩
  | .hbm, ⟨24, _⟩ => ⟨S4096x5632, .bf16⟩
  | .hbm, ⟨25, _⟩ => ⟨S4096x2816, .bf16⟩
  | .hbm, ⟨26, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S2816x1024, .bf16⟩
  | .local _ .vmem, ⟨5, _⟩ => ⟨S256x5632, .bf16⟩
  | .local _ .vmem, ⟨6, _⟩ => ⟨S256x5632, .bf16⟩
  | .local _ .vmem, ⟨7, _⟩ => ⟨S256x2816, .bf16⟩
  | .local _ .vmem, ⟨8, _⟩ => ⟨S256x2816, .bf16⟩
  | .local _ .vmem, ⟨9, _⟩ => ⟨S256x1024, .bf16⟩
  | .local _ .vmem, ⟨10, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnActRefIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S_, .f32⟩
  | .hbm, ⟨54, _⟩ => ⟨S4096x5632, .f32⟩
  | .hbm, ⟨55, _⟩ => ⟨S_, .f32⟩
  | .hbm, ⟨56, _⟩ => ⟨S4096x5632, .f32⟩
  | .hbm, ⟨57, _⟩ => ⟨S4096x5632, .f32⟩
  | .hbm, ⟨58, _⟩ => ⟨S4096x5632, .bf16⟩
  | .hbm, ⟨59, _⟩ => ⟨S4096x2816, .bf16⟩
  | .hbm, ⟨60, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v16_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v16_1 : Ref sig .tc := ⟨.hbm, 35, rfl⟩
abbrev main_v16_0 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_cst_4 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩

abbrev nD : Nat := 1
abbrev τ : Topo := Topo.v7x

variable {F : FTy → Type} [FloatOps F]
-- ==== FfnIn.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S1x1024 : Shape := ⟨2, ![1, 1024]⟩
abbrev S5632x1024 : Shape := ⟨2, ![5632, 1024]⟩
abbrev S256x1024 : Shape := ⟨2, ![256, 1024]⟩
abbrev S256x5632 : Shape := ⟨2, ![256, 5632]⟩
abbrev S256x1536 : Shape := ⟨2, ![256, 1536]⟩
abbrev S1536x1024 : Shape := ⟨2, ![1536, 1024]⟩
abbrev S256x1280 : Shape := ⟨2, ![256, 1280]⟩
abbrev S1280x1024 : Shape := ⟨2, ![1280, 1024]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .bf16⟩
  | .hbm, ⟨4, _⟩ => ⟨S4096x1024, .f32⟩
  | .hbm, ⟨5, _⟩ => ⟨S1x1024, .f32⟩
  | .hbm, ⟨6, _⟩ => ⟨S5632x1024, .f32⟩
  | .hbm, ⟨7, _⟩ => ⟨S5632x1024, .bf16⟩
  | .hbm, ⟨8, _⟩ => ⟨S4096x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x5632, .bf16⟩
  | .local _ .vmem, ⟨6, _⟩ => ⟨S256x5632, .bf16⟩
  | .local _ .vmem, ⟨7, _⟩ => ⟨S5632x1024, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v50 : BitVec 1 := Scalar.cmpi .eq arg0 c0_i32
  let v51 : BitVec 32 := Scalar.extui v50
  let c0_i32_29 : BitVec 32 := 0#32
  let v52 : BitVec 1 := Scalar.cmpi .ne v51 c0_i32_29
  v52

def k0_cond2 (i : grid0.Coords) : BitVec 1 :=
  let arg0 : BitVec 32 := BitVec.ofNat 32 (i 0).val
  let c0_i32 : BitVec 32 := 0#32
  let v50 : BitVec 1 := Scalar.cmpi .eq arg0 c0_i32
  let v_true : BitVec 1 := 1#1
  let v53 : BitVec 1 := Scalar.xori v50 v_true
  let v54 : BitVec 32 := Scalar.extui v53
  let c0_i32_30 : BitVec 32 := 0#32
  let v55 : BitVec 1 := Scalar.cmpi .ne v54 c0_i32_30
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfnInRefIdeal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x5632, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== MixOut.lean ====
abbrev S4096x1024 : Shape := ⟨2, ![4096, 1024]⟩
abbrev S4096x384 : Shape := ⟨2, ![4096, 384]⟩
abbrev S4096x256 : Shape := ⟨2, ![4096, 256]⟩
abbrev S1024x1024 : Shape := ⟨2, ![1024, 1024]⟩
abbrev S512x1024 : Shape := ⟨2, ![512, 1024]⟩
abbrev S512x384 : Shape := ⟨2, ![512, 384]⟩
abbrev S512x256 : Shape := ⟨2, ![512, 256]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x384, .bf16⟩
  | .hbm, ⟨2, _⟩ => ⟨S4096x256, .bf16⟩
  | .hbm, ⟨3, _⟩ => ⟨S4096x384, .bf16⟩
  | .hbm, ⟨4, _⟩ => ⟨S1024x1024, .f32⟩
  | .hbm, ⟨5, _⟩ => ⟨S1024x1024, .bf16⟩
  | .hbm, ⟨6, _⟩ => ⟨S4096x1024, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x256, .bf16⟩
  | .local _ .vmem, ⟨5, _⟩ => ⟨S512x256, .bf16⟩
  | .local _ .vmem, ⟨6, _⟩ => ⟨S512x384, .bf16⟩
  | .local _ .vmem, ⟨7, _⟩ => ⟨S512x384, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixOutRefIdeal.lean ====
abbrev S4096x1024 : Shape := ⟨2, ![4096, 1024]⟩
abbrev S4096x384 : Shape := ⟨2, ![4096, 384]⟩
abbrev S4096x256 : Shape := ⟨2, ![4096, 256]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x384, .bf16⟩
  | .hbm, ⟨2, _⟩ => ⟨S4096x256, .bf16⟩
  | .hbm, ⟨3, _⟩ => ⟨S4096x384, .bf16⟩
  | .hbm, ⟨4, _⟩ => ⟨S1024x1024, .f32⟩
  | .hbm, ⟨5, _⟩ => ⟨S4096x1024, .bf16⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== MixOutBwd.lean ====
abbrev S4096x384 : Shape := ⟨2, ![4096, 384]⟩
abbrev S1024x1024 : Shape := ⟨2, ![1024, 1024]⟩
abbrev S4096x1024 : Shape := ⟨2, ![4096, 1024]⟩
abbrev S4096x256 : Shape := ⟨2, ![4096, 256]⟩
abbrev S3x8x4096 : Shape := ⟨3, ![3, 8, 4096]⟩
abbrev S512x1024 : Shape := ⟨2, ![512, 1024]⟩
abbrev S512x384 : Shape := ⟨2, ![512, 384]⟩
abbrev S512x256 : Shape := ⟨2, ![512, 256]⟩
abbrev S3x8x512 : Shape := ⟨3, ![3, 8, 512]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S8x512 : Shape := ⟨2, ![8, 512]⟩
abbrev S1x8x512 : Shape := ⟨3, ![1, 8, 512]⟩

abbrev nBuf : Space → Nat
  | .hbm => 10
  | .vmem => 17
  | .smem => 0
  | _ => 0

abbrev bufTy : (tb : Table) → Fin (tcTables nBuf tb) → BufTy
  | .hbm, ⟨0, _⟩ => ⟨S4096x384, .bf16⟩
  | .hbm, ⟨1, _⟩ => ⟨S4096x384, .bf16⟩
  | .hbm, ⟨2, _⟩ => ⟨S1024x1024, .f32⟩
  | .hbm, ⟨3, _⟩ => ⟨S4096x1024, .f32⟩
  | .hbm, ⟨4, _⟩ => ⟨S1024x1024, .bf16⟩
  | .hbm, ⟨5, _⟩ => ⟨S4096x384, .bf16⟩
  | .hbm, ⟨6, _⟩ => ⟨S4096x256, .f32⟩
  | .hbm, ⟨7, _⟩ => ⟨S4096x384, .bf16⟩
  | .hbm, ⟨8, _⟩ => ⟨S3x8x4096, .f32⟩
  | .hbm, ⟨9, _⟩ => ⟨S3x8x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S512x384, .bf16⟩
  | .local _ .vmem, ⟨9, _⟩ => ⟨S512x256, .f32⟩
  | .local _ .vmem, ⟨10, _⟩ => ⟨S512x256, .f32⟩
  | .local _ .vmem, ⟨11, _⟩ => ⟨S512x384, .bf16⟩
  | .local _ .vmem, ⟨12, _⟩ => ⟨S512x384, .bf16⟩
  | .local _ .vmem, ⟨13, _⟩ => ⟨S3x8x512, .f32⟩
  | .local _ .vmem, ⟨14, _⟩ => ⟨S3x8x512, .f32⟩
  | .local _ .vmem, ⟨15, _⟩ => ⟨S3x8x512, .f32⟩
  | .local _ .vmem, ⟨16, _⟩ => ⟨S3x8x512, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixOutBwdRefIdeal.lean ====
abbrev S4096x384 : Shape := ⟨2, ![4096, 384]⟩
abbrev S1024x1024 : Shape := ⟨2, ![1024, 1024]⟩
abbrev S4096x1024 : Shape := ⟨2, ![4096, 1024]⟩
abbrev S_ : Shape := ⟨0, ![]⟩
abbrev S4096x256 : Shape := ⟨2, ![4096, 256]⟩
abbrev S4096x3x2x64 : Shape := ⟨4, ![4096, 3, 2, 64]⟩
abbrev S4096x3x2 : Shape := ⟨3, ![4096, 3, 2]⟩
abbrev S4096x3x8 : Shape := ⟨3, ![4096, 3, 8]⟩
abbrev S3x8x4096 : Shape := ⟨3, ![3, 8, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S4096x384, .bf16⟩
  | .hbm, ⟨2, _⟩ => ⟨S1024x1024, .f32⟩
  | .hbm, ⟨3, _⟩ => ⟨S4096x1024, .f32⟩
  | .hbm, ⟨4, _⟩ => ⟨S4096x384, .f32⟩
  | .hbm, ⟨5, _⟩ => ⟨S_, .f32⟩
  | .hbm, ⟨6, _⟩ => ⟨S4096x256, .f32⟩
  | .hbm, ⟨7, _⟩ => ⟨S4096x384, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x384, .f32⟩
  | .hbm, ⟨12, _⟩ => ⟨S4096x256, .f32⟩
  | .hbm, ⟨13, _⟩ => ⟨S4096x384, .f32⟩
  | .hbm, ⟨14, _⟩ => ⟨S4096x384, .bf16⟩
  | .hbm, ⟨15, _⟩ => ⟨S4096x384, .bf16⟩
  | .hbm, ⟨16, _⟩ => ⟨S4096x384, .f32⟩
  | .hbm, ⟨17, _⟩ => ⟨S4096x384, .f32⟩
  | .hbm, ⟨18, _⟩ => ⟨S4096x3x2x64, .f32⟩
  | .hbm, ⟨19, _⟩ => ⟨S_, .f32⟩
  | .hbm, ⟨20, _⟩ => ⟨S4096x3x2, .f32⟩
  | .hbm, ⟨21, _⟩ => ⟨S_, .i32⟩
  | .hbm, ⟨22, _⟩ => ⟨S_, .f32⟩
  | .hbm, ⟨23, _⟩ => ⟨S4096x3x8, .f32⟩
  | .hbm, ⟨24, _⟩ => ⟨S3x8x4096, .f32⟩
  | .hbm, ⟨25, _⟩ => ⟨S4096x384, .f32⟩
  | .hbm, ⟨26, _⟩ => ⟨S4096x384, .f32⟩
  | .hbm, ⟨27, _⟩ => ⟨S4096x3x2x64, .f32⟩
  | .hbm, ⟨28, _⟩ => ⟨S_, .f32⟩
  | .hbm, ⟨29, _⟩ => ⟨S4096x3x2, .f32⟩
  | .hbm, ⟨30, _⟩ => ⟨S_, .i32⟩
  | .hbm, ⟨31, _⟩ => ⟨S_, .f32⟩
  | .hbm, ⟨32, _⟩ => ⟨S4096x3x8, .f32⟩
  | .hbm, ⟨33, _⟩ => ⟨S3x8x4096, .f32⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_c_2 : Ref sig .tc := ⟨.hbm, 30, rfl⟩
abbrev main_call1_v0 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== AdamOut.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 13
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S8x128x1024, .bf16⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 1 → Memref sig .tc .vmem S8x128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== AdamOutRefIdeal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamIn.lean ====
abbrev S8x128x1830 : Shape := ⟨3, ![8, 128, 1830]⟩
abbrev S2x128x1830 : Shape := ⟨3, ![2, 128, 1830]⟩
abbrev S1x128x1830 : Shape := ⟨3, ![1, 128, 1830]⟩
abbrev S128x1830 : Shape := ⟨2, ![128, 1830]⟩

abbrev nBuf : Space → Nat
  | .hbm => 13
  | .vmem => 16
  | .smem => 0
  | _ => 0

abbrev bufTy : (tb : Table) → Fin (tcTables nBuf tb) → BufTy
  | .hbm, ⟨0, _⟩ => ⟨S8x128x1830, .bf16⟩
  | .hbm, ⟨1, _⟩ => ⟨S8x128x1830, .bf16⟩
  | .hbm, ⟨2, _⟩ => ⟨S2x128x1830, .f32⟩
  | .hbm, ⟨3, _⟩ => ⟨S2x128x1830, .f32⟩
  | .hbm, ⟨4, _⟩ => ⟨S2x128x1830, .f32⟩
  | .hbm, ⟨5, _⟩ => ⟨S2x128x1830, .f32⟩
  | .hbm, ⟨6, _⟩ => ⟨S2x128x1830, .f32⟩
  | .hbm, ⟨7, _⟩ => ⟨S2x128x1830, .f32⟩
  | .hbm, ⟨8, _⟩ => ⟨S2x128x1830, .f32⟩
  | .hbm, ⟨9, _⟩ => ⟨S2x128x1830, .f32⟩
  | .hbm, ⟨10, _⟩ => ⟨S2x128x1830, .f32⟩
  | .hbm, ⟨11, _⟩ => ⟨S2x128x1830, .f32⟩
  | .hbm, ⟨12, _⟩ => ⟨S2x128x1830, .f32⟩
  | .local _ .vmem, ⟨0, _⟩ => ⟨S8x128x1830, .bf16⟩
  | .local _ .vmem, ⟨1, _⟩ => ⟨S1x128x1830, .f32⟩
  | .local _ .vmem, ⟨2, _⟩ => ⟨S1x128x1830, .f32⟩
  | .local _ .vmem, ⟨3, _⟩ => ⟨S1x128x1830, .f32⟩
  | .local _ .vmem, ⟨4, _⟩ => ⟨S1x128x1830, .f32⟩
  | .local _ .vmem, ⟨5, _⟩ => ⟨S1x128x1830, .f32⟩
  | .local _ .vmem, ⟨6, _⟩ => ⟨S1x128x1830, .f32⟩
  | .local _ .vmem, ⟨7, _⟩ => ⟨S1x128x1830, .f32⟩
  | .local _ .vmem, ⟨8, _⟩ => ⟨S8x128x1830, .bf16⟩
  | .local _ .vmem, ⟨9, _⟩ => ⟨S1x128x1830, .f32⟩
  | .local _ .vmem, ⟨10, _⟩ => ⟨S1x128x1830, .f32⟩
  | .local _ .vmem, ⟨11, _⟩ => ⟨S1x128x1830, .f32⟩
  | .local _ .vmem, ⟨12, _⟩ => ⟨S1x128x1830, .f32⟩
  | .local _ .vmem, ⟨13, _⟩ => ⟨S1x128x1830, .f32⟩
  | .local _ .vmem, ⟨14, _⟩ => ⟨S1x128x1830, .f32⟩
  | .local _ .vmem, ⟨15, _⟩ => ⟨S1x128x1830, .f32⟩
  | _, _ => ⟨S8x128x1830, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1830 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1830 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1830 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1830 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1830 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1830 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1830 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1830 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 1 → Memref sig .tc .vmem S8x128x1830 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x128x1830 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x1830 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x1830 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x128x1830 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x128x1830 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x128x1830 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x128x1830 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== AdamInRefIdeal.lean ====
abbrev S8x128x1830 : Shape := ⟨3, ![8, 128, 1830]⟩
abbrev S2x128x1830 : Shape := ⟨3, ![2, 128, 1830]⟩
abbrev S_ : Shape := ⟨0, ![]⟩
abbrev S128x1830 : Shape := ⟨2, ![128, 1830]⟩
abbrev S1x128x1830 : Shape := ⟨3, ![1, 128, 1830]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1830, .bf16⟩
  | .hbm, ⟨1, _⟩ => ⟨S8x128x1830, .bf16⟩
  | .hbm, ⟨2, _⟩ => ⟨S2x128x1830, .f32⟩
  | .hbm, ⟨3, _⟩ => ⟨S2x128x1830, .f32⟩
  | .hbm, ⟨4, _⟩ => ⟨S2x128x1830, .f32⟩
  | .hbm, ⟨5, _⟩ => ⟨S8x128x1830, .f32⟩
  | .hbm, ⟨6, _⟩ => ⟨S_, .f32⟩
  | .hbm, ⟨7, _⟩ => ⟨S128x1830, .f32⟩
  | .hbm, ⟨8, _⟩ => ⟨S8x128x1830, .f32⟩
  | .hbm, ⟨9, _⟩ => ⟨S_, .f32⟩
  | .hbm, ⟨10, _⟩ => ⟨S128x1830, .f32⟩
  | .hbm, ⟨11, _⟩ => ⟨S1x128x1830, .f32⟩
  | .hbm, ⟨12, _⟩ => ⟨S1x128x1830, .f32⟩
  | .hbm, ⟨13, _⟩ => ⟨S2x128x1830, .f32⟩
  | .hbm, ⟨14, _⟩ => ⟨S_, .f32⟩
  | .hbm, ⟨15, _⟩ => ⟨S2x128x1830, .f32⟩
  | .hbm, ⟨16, _⟩ => ⟨S2x128x1830, .f32⟩
  | .hbm, ⟨17, _⟩ => ⟨S_, .f32⟩
  | .hbm, ⟨18, _⟩ => ⟨S2x128x1830, .f32⟩
  | .hbm, ⟨19, _⟩ => ⟨S2x128x1830, .f32⟩
  | .hbm, ⟨20, _⟩ => ⟨S2x128x1830, .f32⟩
  | .hbm, ⟨21, _⟩ => ⟨S_, .f32⟩
  | .hbm, ⟨22, _⟩ => ⟨S2x128x1830, .f32⟩
  | .hbm, ⟨23, _⟩ => ⟨S2x128x1830, .f32⟩
  | .hbm, ⟨24, _⟩ => ⟨S2x128x1830, .f32⟩
  | .hbm, ⟨25, _⟩ => ⟨S_, .f32⟩
  | .hbm, ⟨26, _⟩ => ⟨S2x128x1830, .f32⟩
  | .hbm, ⟨27, _⟩ => ⟨S2x128x1830, .f32⟩
  | .hbm, ⟨28, _⟩ => ⟨S2x128x1830, .f32⟩
  | .hbm, ⟨29, _⟩ => ⟨S_, .f32⟩
  | .hbm, ⟨30, _⟩ => ⟨S2x128x1830, .f32⟩
  | .hbm, ⟨31, _⟩ => ⟨S2x128x1830, .f32⟩
  | .hbm, ⟨32, _⟩ => ⟨S_, .f32⟩
  | .hbm, ⟨33, _⟩ => ⟨S2x128x1830, .f32⟩
  | .hbm, ⟨34, _⟩ => ⟨S2x128x1830, .f32⟩
  | .hbm, ⟨35, _⟩ => ⟨S2x128x1830, .f32⟩
  | .hbm, ⟨36, _⟩ => ⟨S_, .f32⟩
  | .hbm, ⟨37, _⟩ => ⟨S2x128x1830, .f32⟩
  | .hbm, ⟨38, _⟩ => ⟨S2x128x1830, .f32⟩
  | .hbm, ⟨39, _⟩ => ⟨S2x128x1830, .f32⟩
  | .hbm, ⟨40, _⟩ => ⟨S_, .f32⟩
  | .hbm, ⟨41, _⟩ => ⟨S2x128x1830, .f32⟩
  | .hbm, ⟨42, _⟩ => ⟨S2x128x1830, .f32⟩
  | .hbm, ⟨43, _⟩ => ⟨S2x128x1830, .f32⟩
  | .hbm, ⟨44, _⟩ => ⟨S_, .f32⟩
  | .hbm, ⟨45, _⟩ => ⟨S2x128x1830, .f32⟩
  | .hbm, ⟨46, _⟩ => ⟨S2x128x1830, .f32⟩
  | _, _ => ⟨S8x128x1830, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamDown.lean ====
abbrev S8x352x1024 : Shape := ⟨3, ![8, 352, 1024]⟩
abbrev S2x352x1024 : Shape := ⟨3, ![2, 352, 1024]⟩
abbrev S1x352x1024 : Shape := ⟨3, ![1, 352, 1024]⟩
abbrev S352x1024 : Shape := ⟨2, ![352, 1024]⟩

abbrev nBuf : Space → Nat
  | .hbm => 13
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S2x352x1024, .f32⟩
  | .hbm, ⟨12, _⟩ => ⟨S2x352x1024, .f32⟩
  | .local _ .vmem, ⟨0, _⟩ => ⟨S8x352x1024, .bf16⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S8x352x1024, .bf16⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 1 → Memref sig .tc .vmem S8x352x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x352x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x352x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x352x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x352x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x352x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x352x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x352x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== AdamDownRefIdeal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamGu.lean ====
abbrev S8x704x1024 : Shape := ⟨3, ![8, 704, 1024]⟩
abbrev S2x1024x704 : Shape := ⟨3, ![2, 1024, 704]⟩
abbrev S2x704x1024 : Shape := ⟨3, ![2, 704, 1024]⟩
abbrev S8x352x1024 : Shape := ⟨3, ![8, 352, 1024]⟩
abbrev S1x352x1024 : Shape := ⟨3, ![1, 352, 1024]⟩
abbrev S352x1024 : Shape := ⟨2, ![352, 1024]⟩

abbrev nBuf : Space → Nat
  | .hbm => 20
  | .vmem => 32
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S2x704x1024, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S2x1024x704, .f32⟩
  | .local _ .vmem, ⟨0, _⟩ => ⟨S8x352x1024, .bf16⟩
  | .local _ .vmem, ⟨1, _⟩ => ⟨S8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S8x352x1024, .bf16⟩
  | .local _ .vmem, ⟨17, _⟩ => ⟨S8x352x1024, .bf16⟩
  | .local _ .vmem, ⟨18, _⟩ => ⟨S1x352x1024, .f32⟩
  | .local _ .vmem, ⟨19, _⟩ => ⟨S1x352x1024, .f32⟩
  | .local _ .vmem, ⟨20, _⟩ => ⟨S1x352x1024, .f32⟩
  | .local _ .vmem, ⟨21, _⟩ => ⟨S1x352x1024, .f32⟩
  | .local _ .vmem, ⟨22, _⟩ => ⟨S1x352x1024, .f32⟩
  | .local _ .vmem, ⟨23, _⟩ => ⟨S1x352x1024, .f32⟩
  | .local _ .vmem, ⟨24, _⟩ => ⟨S1x352x1024, .f32⟩
  | .local _ .vmem, ⟨25, _⟩ => ⟨S1x352x1024, .f32⟩
  | .local _ .vmem, ⟨26, _⟩ => ⟨S1x352x1024, .f32⟩
  | .local _ .vmem, ⟨27, _⟩ => ⟨S1x352x1024, .f32⟩
  | .local _ .vmem, ⟨28, _⟩ => ⟨S1x352x1024, .f32⟩
  | .local _ .vmem, ⟨29, _⟩ => ⟨S1x352x1024, .f32⟩
  | .local _ .vmem, ⟨30, _⟩ => ⟨S1x352x1024, .f32⟩
  | .local _ .vmem, ⟨31, _⟩ => ⟨S1x352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 2 → Memref sig .tc .vmem S8x352x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x352x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x352x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x352x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x352x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x352x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x352x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x352x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamGuRefIdeal.lean ====
abbrev S8x704x1024 : Shape := ⟨3, ![8, 704, 1024]⟩
abbrev S2x1024x704 : Shape := ⟨3, ![2, 1024, 704]⟩
abbrev S_ : Shape := ⟨0, ![]⟩
abbrev S704x1024 : Shape := ⟨2, ![704, 1024]⟩
abbrev S1x704x1024 : Shape := ⟨3, ![1, 704, 1024]⟩
abbrev S2x704x1024 : Shape := ⟨3, ![2, 704, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S8x704x1024, .f32⟩
  | .hbm, ⟨6, _⟩ => ⟨S_, .f32⟩
  | .hbm, ⟨7, _⟩ => ⟨S704x1024, .f32⟩
  | .hbm, ⟨8, _⟩ => ⟨S8x704x1024, .f32⟩
  | .hbm, ⟨9, _⟩ => ⟨S_, .f32⟩
  | .hbm, ⟨10, _⟩ => ⟨S704x1024, .f32⟩
  | .hbm, ⟨11, _⟩ => ⟨S1x704x1024, .f32⟩
  | .hbm, ⟨12, _⟩ => ⟨S1x704x1024, .f32⟩
  | .hbm, ⟨13, _⟩ => ⟨S2x704x1024, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S_, .f32⟩
  | .hbm, ⟨19, _⟩ => ⟨S2x1024x704, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S_, .f32⟩
  | .hbm, ⟨34, _⟩ => ⟨S2x1024x704, .f32⟩
  | .hbm, ⟨35, _⟩ => ⟨S2x1024x704, .f32⟩
  | .hbm, ⟨36, _⟩ => ⟨S2x1024x704, .f32⟩
  | .hbm, ⟨37, _⟩ => ⟨S_, .f32⟩
  | .hbm, ⟨38, _⟩ => ⟨S2x1024x704, .f32⟩
  | .hbm, ⟨39, _⟩ => ⟨S2x1024x704, .f32⟩
  | .hbm, ⟨40, _⟩ => ⟨S2x1024x704, .f32⟩
  | .hbm, ⟨41, _⟩ => ⟨S_, .f32⟩
  | .hbm, ⟨42, _⟩ => ⟨S2x1024x704, .f32⟩
  | .hbm, ⟨43, _⟩ => ⟨S2x1024x704, .f32⟩
  | .hbm, ⟨44, _⟩ => ⟨S2x1024x704, .f32⟩
  | .hbm, ⟨45, _⟩ => ⟨S_, .f32⟩
  | .hbm, ⟨46, _⟩ => ⟨S2x1024x704, .f32⟩
  | .hbm, ⟨47, _⟩ => ⟨S2x1024x704, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== AdamSmall.lean ====
abbrev S8x384x128 : Shape := ⟨3, ![8, 384, 128]⟩
abbrev S2x256x72 : Shape := ⟨3, ![2, 256, 72]⟩
abbrev S2x128x96 : Shape := ⟨3, ![2, 128, 96]⟩
abbrev S_ : Shape := ⟨0, ![]⟩
abbrev S2x256x128 : Shape := ⟨3, ![2, 256, 128]⟩
abbrev S2x128x128 : Shape := ⟨3, ![2, 128, 128]⟩
abbrev S2x384x128 : Shape := ⟨3, ![2, 384, 128]⟩
abbrev S1x384x128 : Shape := ⟨3, ![1, 384, 128]⟩
abbrev S384x128 : Shape := ⟨2, ![384, 128]⟩

abbrev nBuf : Space → Nat
  | .hbm => 45
  | .vmem => 16
  | .smem => 0
  | _ => 0

abbrev bufTy : (tb : Table) → Fin (tcTables nBuf tb) → BufTy
  | .hbm, ⟨0, _⟩ => ⟨S8x384x128, .bf16⟩
  | .hbm, ⟨1, _⟩ => ⟨S8x384x128, .bf16⟩
  | .hbm, ⟨2, _⟩ => ⟨S2x256x72, .f32⟩
  | .hbm, ⟨3, _⟩ => ⟨S2x128x96, .f32⟩
  | .hbm, ⟨4, _⟩ => ⟨S2x256x72, .f32⟩
  | .hbm, ⟨5, _⟩ => ⟨S2x128x96, .f32⟩
  | .hbm, ⟨6, _⟩ => ⟨S2x256x72, .f32⟩
  | .hbm, ⟨7, _⟩ => ⟨S2x128x96, .f32⟩
  | .hbm, ⟨8, _⟩ => ⟨S_, .i32⟩
  | .hbm, ⟨9, _⟩ => ⟨S_, .f32⟩
  | .hbm, ⟨10, _⟩ => ⟨S2x256x128, .f32⟩
  | .hbm, ⟨11, _⟩ => ⟨S_, .i32⟩
  | .hbm, ⟨12, _⟩ => ⟨S_, .f32⟩
  | .hbm, ⟨13, _⟩ => ⟨S2x128x128, .f32⟩
  | .hbm, ⟨14, _⟩ => ⟨S2x384x128, .f32⟩
  | .hbm, ⟨15, _⟩ => ⟨S_, .i32⟩
  | .hbm, ⟨16, _⟩ => ⟨S_, .f32⟩
  | .hbm, ⟨17, _⟩ => ⟨S2x256x128, .f32⟩
  | .hbm, ⟨18, _⟩ => ⟨S_, .i32⟩
  | .hbm, ⟨19, _⟩ => ⟨S_, .f32⟩
  | .hbm, ⟨20, _⟩ => ⟨S2x128x128, .f32⟩
  | .hbm, ⟨21, _⟩ => ⟨S2x384x128, .f32⟩
  | .hbm, ⟨22, _⟩ => ⟨S_, .i32⟩
  | .hbm, ⟨23, _⟩ => ⟨S_, .f32⟩
  | .hbm, ⟨24, _⟩ => ⟨S2x256x128, .f32⟩
  | .hbm, ⟨25, _⟩ => ⟨S_, .i32⟩
  | .hbm, ⟨26, _⟩ => ⟨S_, .f32⟩
  | .hbm, ⟨27, _⟩ => ⟨S2x128x128, .f32⟩
  | .hbm, ⟨28, _⟩ => ⟨S2x384x128, .f32⟩
  | .hbm, ⟨29, _⟩ => ⟨S2x384x128, .f32⟩
  | .hbm, ⟨30, _⟩ => ⟨S2x384x128, .f32⟩
  | .hbm, ⟨31, _⟩ => ⟨S2x384x128, .f32⟩
  | .hbm, ⟨32, _⟩ => ⟨S2x384x128, .f32⟩
  | .hbm, ⟨33, _⟩ => ⟨S2x384x128, .f32⟩
  | .hbm, ⟨34, _⟩ => ⟨S2x384x128, .f32⟩
  | .hbm, ⟨35, _⟩ => ⟨S2x384x128, .f32⟩
  | .hbm, ⟨36, _⟩ => ⟨S2x384x128, .f32⟩
  | .hbm, ⟨37, _⟩ => ⟨S2x256x72, .f32⟩
  | .hbm, ⟨38, _⟩ => ⟨S2x128x96, .f32⟩
  | .hbm, ⟨39, _⟩ => ⟨S2x256x72, .f32⟩
  | .hbm, ⟨40, _⟩ => ⟨S2x128x96, .f32⟩
  | .hbm, ⟨41, _⟩ => ⟨S2x256x72, .f32⟩
  | .hbm, ⟨42, _⟩ => ⟨S2x128x96, .f32⟩
  | .hbm, ⟨43, _⟩ => ⟨S2x256x72, .f32⟩
  | .hbm, ⟨44, _⟩ => ⟨S2x128x96, .f32⟩
  | .local _ .vmem, ⟨0, _⟩ => ⟨S8x384x128, .bf16⟩
  | .local _ .vmem, ⟨1, _⟩ => ⟨S1x384x128, .f32⟩
  | .local _ .vmem, ⟨2, _⟩ => ⟨S1x384x128, .f32⟩
  | .local _ .vmem, ⟨3, _⟩ => ⟨S1x384x128, .f32⟩
  | .local _ .vmem, ⟨4, _⟩ => ⟨S1x384x128, .f32⟩
  | .local _ .vmem, ⟨5, _⟩ => ⟨S1x384x128, .f32⟩
  | .local _ .vmem, ⟨6, _⟩ => ⟨S1x384x128, .f32⟩
  | .local _ .vmem, ⟨7, _⟩ => ⟨S1x384x128, .f32⟩
  | .local _ .vmem, ⟨8, _⟩ => ⟨S8x384x128, .bf16⟩
  | .local _ .vmem, ⟨9, _⟩ => ⟨S1x384x128, .f32⟩
  | .local _ .vmem, ⟨10, _⟩ => ⟨S1x384x128, .f32⟩
  | .local _ .vmem, ⟨11, _⟩ => ⟨S1x384x128, .f32⟩
  | .local _ .vmem, ⟨12, _⟩ => ⟨S1x384x128, .f32⟩
  | .local _ .vmem, ⟨13, _⟩ => ⟨S1x384x128, .f32⟩
  | .local _ .vmem, ⟨14, _⟩ => ⟨S1x384x128, .f32⟩
  | .local _ .vmem, ⟨15, _⟩ => ⟨S1x384x128, .f32⟩
  | _, _ => ⟨S8x384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_c_1 : Ref sig .tc := ⟨.hbm, 15, rfl⟩
abbrev main_call2_v0 : Ref sig .tc := ⟨.hbm, 16, rfl⟩
abbrev main_v3 : Ref sig .tc := ⟨.hbm, 17, rfl⟩
abbrev main_c_2 : Ref sig .tc := ⟨.hbm, 18, rfl⟩
abbrev main_call3_v0 : Ref sig .tc := ⟨.hbm, 19, rfl⟩
abbrev main_v4 : Ref sig .tc := ⟨.hbm, 20, rfl⟩
abbrev main_v5 : Ref sig .tc := ⟨.hbm, 21, rfl⟩
abbrev main_c_3 : Ref sig .tc := ⟨.hbm, 22, rfl⟩
abbrev main_call4_v0 : Ref sig .tc := ⟨.hbm, 23, rfl⟩
abbrev main_v6 : Ref sig .tc := ⟨.hbm, 24, rfl⟩
abbrev main_c_4 : Ref sig .tc := ⟨.hbm, 25, rfl⟩
abbrev main_call5_v0 : Ref sig .tc := ⟨.hbm, 26, rfl⟩
abbrev main_v7 : Ref sig .tc := ⟨.hbm, 27, rfl⟩
abbrev main_v8 : Ref sig .tc := ⟨.hbm, 28, rfl⟩
abbrev main_v9_0 : Ref sig .tc := ⟨.hbm, 29, rfl⟩
abbrev main_v9_1 : Ref sig .tc := ⟨.hbm, 30, rfl⟩
abbrev main_v9_2 : Ref sig .tc := ⟨.hbm, 31, rfl⟩
abbrev main_v9_3 : Ref sig .tc := ⟨.hbm, 32, rfl⟩
abbrev main_v10_0 : Ref sig .tc := ⟨.hbm, 33, rfl⟩
abbrev main_v10_1 : Ref sig .tc := ⟨.hbm, 34, rfl⟩
abbrev main_v10_2 : Ref sig .tc := ⟨.hbm, 35, rfl⟩
abbrev main_v10_3 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x384x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x384x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x384x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 1 → Memref sig .tc .vmem S8x384x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x384x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x384x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x384x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x384x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x384x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x384x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== AdamSmallRefIdeal.lean ====
abbrev S8x384x128 : Shape := ⟨3, ![8, 384, 128]⟩
abbrev S2x256x72 : Shape := ⟨3, ![2, 256, 72]⟩
abbrev S2x128x96 : Shape := ⟨3, ![2, 128, 96]⟩
abbrev S_ : Shape := ⟨0, ![]⟩
abbrev S384x128 : Shape := ⟨2, ![384, 128]⟩
abbrev S1x384x128 : Shape := ⟨3, ![1, 384, 128]⟩
abbrev S2x384x128 : Shape := ⟨3, ![2, 384, 128]⟩

abbrev nBuf : Space → Nat
  | .hbm => 85
  | .vmem => 0
  | .smem => 0
  | _ => 0

abbrev bufTy : (tb : Table) → Fin (tcTables nBuf tb) → BufTy
  | .hbm, ⟨0, _⟩ => ⟨S8x384x128, .bf16⟩
  | .hbm, ⟨1, _⟩ => ⟨S8x384x128, .bf16⟩
  | .hbm, ⟨2, _⟩ => ⟨S2x256x72, .f32⟩
  | .hbm, ⟨3, _⟩ => ⟨S2x128x96, .f32⟩
  | .hbm, ⟨4, _⟩ => ⟨S2x256x72, .f32⟩
  | .hbm, ⟨5, _⟩ => ⟨S2x128x96, .f32⟩
  | .hbm, ⟨6, _⟩ => ⟨S2x256x72, .f32⟩
  | .hbm, ⟨7, _⟩ => ⟨S2x128x96, .f32⟩
  | .hbm, ⟨8, _⟩ => ⟨S8x384x128, .f32⟩
  | .hbm, ⟨9, _⟩ => ⟨S_, .f32⟩
  | .hbm, ⟨10, _⟩ => ⟨S384x128, .f32⟩
  | .hbm, ⟨11, _⟩ => ⟨S8x384x128, .f32⟩
  | .hbm, ⟨12, _⟩ => ⟨S_, .f32⟩
  | .hbm, ⟨13, _⟩ => ⟨S384x128, .f32⟩
  | .hbm, ⟨14, _⟩ => ⟨S1x384x128, .f32⟩
  | .hbm, ⟨15, _⟩ => ⟨S1x384x128, .f32⟩
  | .hbm, ⟨16, _⟩ => ⟨S2x384x128, .f32⟩
  | .hbm, ⟨17, _⟩ => ⟨S2x256x72, .f32⟩
  | .hbm, ⟨18, _⟩ => ⟨S2x128x96, .f32⟩
  | .hbm, ⟨19, _⟩ => ⟨S_, .f32⟩
  | .hbm, ⟨20, _⟩ => ⟨S2x256x72, .f32⟩
  | .hbm, ⟨21, _⟩ => ⟨S2x256x72, .f32⟩
  | .hbm, ⟨22, _⟩ => ⟨S_, .f32⟩
  | .hbm, ⟨23, _⟩ => ⟨S2x256x72, .f32⟩
  | .hbm, ⟨24, _⟩ => ⟨S2x256x72, .f32⟩
  | .hbm, ⟨25, _⟩ => ⟨S2x256x72, .f32⟩
  | .hbm, ⟨26, _⟩ => ⟨S_, .f32⟩
  | .hbm, ⟨27, _⟩ => ⟨S2x256x72, .f32⟩
  | .hbm, ⟨28, _⟩ => ⟨S2x256x72, .f32⟩
  | .hbm, ⟨29, _⟩ => ⟨S2x256x72, .f32⟩
  | .hbm, ⟨30, _⟩ => ⟨S_, .f32⟩
  | .hbm, ⟨31, _⟩ => ⟨S2x256x72, .f32⟩
  | .hbm, ⟨32, _⟩ => ⟨S2x256x72, .f32⟩
  | .hbm, ⟨33, _⟩ => ⟨S2x256x72, .f32⟩
  | .hbm, ⟨34, _⟩ => ⟨S_, .f32⟩
  | .hbm, ⟨35, _⟩ => ⟨S2x256x72, .f32⟩
  | .hbm, ⟨36, _⟩ => ⟨S2x256x72, .f32⟩
  | .hbm, ⟨37, _⟩ => ⟨S_, .f32⟩
  | .hbm, ⟨38, _⟩ => ⟨S2x256x72, .f32⟩
  | .hbm, ⟨39, _⟩ => ⟨S2x256x72, .f32⟩
  | .hbm, ⟨40, _⟩ => ⟨S2x256x72, .f32⟩
  | .hbm, ⟨41, _⟩ => ⟨S_, .f32⟩
  | .hbm, ⟨42, _⟩ => ⟨S2x256x72, .f32⟩
  | .hbm, ⟨43, _⟩ => ⟨S2x256x72, .f32⟩
  | .hbm, ⟨44, _⟩ => ⟨S2x256x72, .f32⟩
  | .hbm, ⟨45, _⟩ => ⟨S_, .f32⟩
  | .hbm, ⟨46, _⟩ => ⟨S2x256x72, .f32⟩
  | .hbm, ⟨47, _⟩ => ⟨S2x256x72, .f32⟩
  | .hbm, ⟨48, _⟩ => ⟨S2x256x72, .f32⟩
  | .hbm, ⟨49, _⟩ => ⟨S_, .f32⟩
  | .hbm, ⟨50, _⟩ => ⟨S2x256x72, .f32⟩
  | .hbm, ⟨51, _⟩ => ⟨S2x256x72, .f32⟩
  | .hbm, ⟨52, _⟩ => ⟨S_, .f32⟩
  | .hbm, ⟨53, _⟩ => ⟨S2x128x96, .f32⟩
  | .hbm, ⟨54, _⟩ => ⟨S2x128x96, .f32⟩
  | .hbm, ⟨55, _⟩ => ⟨S_, .f32⟩
  | .hbm, ⟨56, _⟩ => ⟨S2x128x96, .f32⟩
  | .hbm, ⟨57, _⟩ => ⟨S2x128x96, .f32⟩
  | .hbm, ⟨58, _⟩ => ⟨S2x128x96, .f32⟩
  | .hbm, ⟨59, _⟩ => ⟨S_, .f32⟩
  | .hbm, ⟨60, _⟩ => ⟨S2x128x96, .f32⟩
  | .hbm, ⟨61, _⟩ => ⟨S2x128x96, .f32⟩
  | .hbm, ⟨62, _⟩ => ⟨S2x128x96, .f32⟩
  | .hbm, ⟨63, _⟩ => ⟨S_, .f32⟩
  | .hbm, ⟨64, _⟩ => ⟨S2x128x96, .f32⟩
  | .hbm, ⟨65, _⟩ => ⟨S2x128x96, .f32⟩
  | .hbm, ⟨66, _⟩ => ⟨S2x128x96, .f32⟩
  | .hbm, ⟨67, _⟩ => ⟨S_, .f32⟩
  | .hbm, ⟨68, _⟩ => ⟨S2x128x96, .f32⟩
  | .hbm, ⟨69, _⟩ => ⟨S2x128x96, .f32⟩
  | .hbm, ⟨70, _⟩ => ⟨S_, .f32⟩
  | .hbm, ⟨71, _⟩ => ⟨S2x128x96, .f32⟩
  | .hbm, ⟨72, _⟩ => ⟨S2x128x96, .f32⟩
  | .hbm, ⟨73, _⟩ => ⟨S2x128x96, .f32⟩
  | .hbm, ⟨74, _⟩ => ⟨S_, .f32⟩
  | .hbm, ⟨75, _⟩ => ⟨S2x128x96, .f32⟩
  | .hbm, ⟨76, _⟩ => ⟨S2x128x96, .f32⟩
  | .hbm, ⟨77, _⟩ => ⟨S2x128x96, .f32⟩
  | .hbm, ⟨78, _⟩ => ⟨S_, .f32⟩
  | .hbm, ⟨79, _⟩ => ⟨S2x128x96, .f32⟩
  | .hbm, ⟨80, _⟩ => ⟨S2x128x96, .f32⟩
  | .hbm, ⟨81, _⟩ => ⟨S2x128x96, .f32⟩
  | .hbm, ⟨82, _⟩ => ⟨S_, .f32⟩
  | .hbm, ⟨83, _⟩ => ⟨S2x128x96, .f32⟩
  | .hbm, ⟨84, _⟩ => ⟨S2x128x96, .f32⟩
  | _, _ => ⟨S8x384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_cst_11 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_12 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_13 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_14 : Ref sig .tc := ⟨.hbm, 67, rfl⟩
abbrev main_v44 : Ref sig .tc := ⟨.hbm, 68, rfl⟩
abbrev main_v45 : Ref sig .tc := ⟨.hbm, 69, rfl⟩
abbrev main_cst_15 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_16 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_17 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_18 : Ref sig .tc := ⟨.hbm, 82, rfl⟩
abbrev main_v55 : Ref sig .tc := ⟨.hbm, 83, rfl⟩
abbrev main_v56 : Ref sig .tc := ⟨.hbm, 84, rfl⟩

abbrev nD : Nat := 1
abbrev τ : Topo := Topo.v7x

variable {F : FTy → Type} [FloatOps F]
-- ==== Proof.Pieces.lean ====
/- The body of the gradient kernel, cut at its six guards. Each piece is a program that ends in the rest of the body. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Grad

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At a head pair's first tile the query-side accumulators are zeroed. The rest of the body follows as `k`. -/
noncomputable def zeroAll (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole) (k : Unit → Prog (TpuEff nD τ sig (Elt F) Λ₀ .tc) PUnit) : Prog (TpuEff nD τ sig (Elt F) Λ₀ .tc) PUnit := do
  if k0_h1 : Scalar.cmpi .ne (Scalar.extui (Scalar.andi (Scalar.cmpi .eq (BitVec.ofNat 32 (i 1).val) 0#32) (Scalar.cmpi .eq (BitVec.ofNat 32 (i 2).val) 0#32))) 0#32 = 1#1 then do
    let v29 : Vec F S4x128x1024 .f32 ← Prog.lift (.load arg17 (Rect.unit (s := S4x128x1024) ![0, 0, 0] S4x128x1024.size inb_S4x128x1024_S4x128x1024_0_0_0).toLoadRect (View.loadsAt_vmem h_S4x128x1024))
    Prog.lift (.store arg17 (Rect.unit (s := S4x128x1024) ![0, 0, 0] S4x128x1024.size inb_S4x128x1024_S4x128x1024_0_0_0) (k0_pay3 (F := F)) Finset.univ (View.stores_vmem_bits_univ h_S4x128x1024 rfl) (.inl rfl))
    let v33 : Vec F S4x8x1024 .f32 ← Prog.lift (.load arg20 (Rect.unit (s := S4x8x1024) ![0, 0, 0] S4x8x1024.size inb_S4x8x1024_S4x8x1024_0_0_0).toLoadRect (View.loadsAt_vmem h_S4x8x1024))
    Prog.lift (.store arg20 (Rect.unit (s := S4x8x1024) ![0, 0, 0] S4x8x1024.size inb_S4x8x1024_S4x8x1024_0_0_0) (k0_pay4 (F := F)) Finset.univ (View.stores_vmem_bits_univ h_S4x8x1024 rfl) (.inl rfl))
    pure ⟨⟩
  else do
    pure ⟨⟩
  k ⟨⟩

/-- At a key tile's first query tile the key-side accumulators are zeroed. The rest of the body follows as `k`. -/
noncomputable def zeroKeys (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole) (k : Unit → Prog (TpuEff nD τ sig (Elt F) Λ₀ .tc) PUnit) : Prog (TpuEff nD τ sig (Elt F) Λ₀ .tc) PUnit := do
  if k0_h2 : Scalar.cmpi .ne (Scalar.extui (Scalar.cmpi .eq (BitVec.ofNat 32 (i 2).val) 0#32)) 0#32 = 1#1 then do
    let v29 : Vec F S1024x128 .f32 ← Prog.lift (.load arg18 (Rect.unit (s := S1024x128) ![0, 0] S1024x128.size inb_S1024x128_S1024x128_0_0).toLoadRect (View.loadsAt_vmem h_S1024x128))
    Prog.lift (.store arg18 (Rect.unit (s := S1024x128) ![0, 0] S1024x128.size inb_S1024x128_S1024x128_0_0) (k0_pay5 (F := F)) Finset.univ (View.stores_vmem_bits_univ h_S1024x128 rfl) (.inl rfl))
    let v33 : Vec F S1024x128 .f32 ← Prog.lift (.load arg19 (Rect.unit (s := S1024x128) ![0, 0] S1024x128.size inb_S1024x128_S1024x128_0_0).toLoadRect (View.loadsAt_vmem h_S1024x128))
    Prog.lift (.store arg19 (Rect.unit (s := S1024x128) ![0, 0] S1024x128.size inb_S1024x128_S1024x128_0_0) (k0_pay6 (F := F)) Finset.univ (View.stores_vmem_bits_univ h_S1024x128 rfl) (.inl rfl))
    let v37 : Vec F S1024x128 .f32 ← Prog.lift (.load arg21 (Rect.unit (s := S1024x128) ![0, 0] S1024x128.size inb_S1024x128_S1024x128_0_0).toLoadRect (View.loadsAt_vmem h_S1024x128))
    Prog.lift (.store arg21 (Rect.unit (s := S1024x128) ![0, 0] S1024x128.size inb_S1024x128_S1024x128_0_0) (k0_pay7 (F := F)) Finset.univ (View.stores_vmem_bits_univ h_S1024x128 rfl) (.inl rfl))
    pure ⟨⟩
  else do
    pure ⟨⟩
  k ⟨⟩

/-- The step of a query tile that lies wholly after the key tile. The rest of the body follows as `k`. -/
noncomputable def stepFull (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole) (k : Unit → Prog (TpuEff nD τ sig (Elt F) Λ₀ .tc) PUnit) : Prog (TpuEff nD τ sig (Elt F) Λ₀ .tc) PUnit := do
  let arg0 : BitVec 32 := BitVec.ofNat 32 (i 0).val
  let arg2 : BitVec 32 := BitVec.ofNat 32 (i 2).val
  if k0_h3 : k0_cond3 i = 1#1 then do
    let ⟨v29, v31, v33, v35, v37, v38, v40, v46, v61, v63⟩ : Σ' (v29 : FVec F S1024x128 .bf16) (v31 : FVec F S1024x128 .bf16) (v33 : FVec F S128x1024 .bf16) (v35 : FVec F S1024x128 .bf16) (v37 : FVec F S1024x128 .bf16) (v38 : IVec S1024x128 32) (v40 : FVec F S1024x128 .f32) (v46 : FVec F S1024x128 .bf16) (v61 : FVec F S1024x1024 .f32), FVec F S1x1024 .f32 ← k0_part1 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 k0_pay1
    let ⟨v76, v101⟩ : Σ' (v76 : FVec F S1024x1024 .f32), FVec F S128x1024 .f32 ← k0_part2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg2 k0_pay1 k0_pay2 k0_h3 v33 v35 v37 v46 v61 v63
    let ⟨v131, v132, v138, cst_71⟩ : Σ' (v131 : IVec S1x128 1) (v132 : IVec S128x1 1) (v138 : FVec F S1024x128 .bf16), FVec F S1024x1024 .f32 ← k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg2 k0_pay1 k0_pay2 k0_h3 v29 v38 v76 v101
    let ⟨v168, v170⟩ : Σ' (v168 : FVec F S1024x1024 .f32), FVec F S1024x1024 .bf16 ← k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v31 v35 v37 v38 v40 v131 v138 cst_71
    let ⟨v208, v212, v213⟩ : Σ' (v208 : Vec F S1024x128 .f32) (v212 : IVec S1024x128 1), FVec F S1024 .f32 ← k0_part5 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg2 k0_h3 v33 v38 v132 v138 v168 v170
    let v220 : Vec F S1024x128 .f32 ← Prog.lift (.load arg21 (Rect.unit (s := S1024x128) ![0, 0] S1024x128.size inb_S1024x128_S1024x128_0_0).toLoadRect (View.loadsAt_vmem h_S1024x128))
    Prog.lift (.store arg21 (Rect.unit (s := S1024x128) ![0, 0] S1024x128.size inb_S1024x128_S1024x128_0_0) (k0_pay8 v208 v212 v213) Finset.univ (View.stores_vmem_bits_univ h_S1024x128 rfl) (.inl rfl))
    pure ⟨⟩
  else do
    pure ⟨⟩
  k ⟨⟩

/-- The step of a query tile on the diagonal: pairs with the key after the query are masked. The rest of the body follows as `k`. -/
noncomputable def stepDiag (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole) (k : Unit → Prog (TpuEff nD τ sig (Elt F) Λ₀ .tc) PUnit) : Prog (TpuEff nD τ sig (Elt F) Λ₀ .tc) PUnit := do
  let arg0 : BitVec 32 := BitVec.ofNat 32 (i 0).val
  let arg2 : BitVec 32 := BitVec.ofNat 32 (i 2).val
  if k0_h4 : k0_cond4 i = 1#1 then do
    let ⟨v29, v31, v33, v35, v37, v40, v41, v43, v49, v64⟩ : Σ' (v29 : FVec F S1024x128 .bf16) (v31 : FVec F S1024x128 .bf16) (v33 : FVec F S128x1024 .bf16) (v35 : FVec F S1024x128 .bf16) (v37 : FVec F S1024x128 .bf16) (v40 : IVec S1024x1024 1) (v41 : IVec S1024x128 32) (v43 : FVec F S1024x128 .f32) (v49 : FVec F S1024x128 .bf16), FVec F S1024x1024 .f32 ← k0_part6 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 k0_pay1
    let ⟨v81, v83, v98, v102⟩ : Σ' (v81 : FVec F S1024x1024 .f32) (v83 : FVec F S1024x1024 .bf16) (v98 : FVec F S128x1024 .f32), FVec F S128x1024 .bf16 ← k0_part7 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg2 k0_pay1 k0_pay2 k0_h4 v33 v35 v37 v40 v49 v64
    let ⟨v136, v137, v138, v139⟩ : Σ' (v136 : IVec S1x128 1) (v137 : IVec S128x1 1) (v138 : FVec F S1024x128 .bf16), IVec S1x128 1 ← k0_part8 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg2 k0_pay1 k0_pay2 k0_h4 v41 v81 v83 v98 v102
    let ⟨v143, v175, v177, v178, v179⟩ : Σ' (v143 : FVec F S1024x128 .bf16) (v175 : FVec F S1024x1024 .f32) (v177 : FVec F S1024x1024 .bf16) (v178 : Vec F S1024x128 .f32), FVec F S1024x128 .f32 ← k0_part9 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v29 v31 v35 v37 v40 v41 v43 v136 v138 v139
    k0_part10 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg2 k0_h4 v33 v137 v143 v175 v177 v178 v179
    let v215 : Vec F S1024x128 .f32 ← Prog.lift (.load arg21 (Rect.unit (s := S1024x128) ![0, 0] S1024x128.size inb_S1024x128_S1024x128_0_0).toLoadRect (View.loadsAt_vmem h_S1024x128))
    let v227 : Vec F S1024x128 .f32 ← Prog.lift (.load arg21 (Rect.unit (s := S1024x128) ![0, 0] S1024x128.size inb_S1024x128_S1024x128_0_0).toLoadRect (View.loadsAt_vmem h_S1024x128))
    Prog.lift (.store arg21 (Rect.unit (s := S1024x128) ![0, 0] S1024x128.size inb_S1024x128_S1024x128_0_0) (k0_pay9 i v41 v175 v215) Finset.univ (View.stores_vmem_bits_univ h_S1024x128 rfl) (.inl rfl))
    pure ⟨⟩
  else do
    pure ⟨⟩
  k ⟨⟩

/-- At a key tile's last query tile the key-side accumulators are written out. The rest of the body follows as `k`. -/
noncomputable def storeKeys (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole) (k : Unit → Prog (TpuEff nD τ sig (Elt F) Λ₀ .tc) PUnit) : Prog (TpuEff nD τ sig (Elt F) Λ₀ .tc) PUnit := do
  if k0_h5 : k0_cond5 i = 1#1 then do
    let v28 : Vec F S1024x128 .f32 ← Prog.lift (.load arg18 (Rect.unit (s := S1024x128) ![0, 0] S1024x128.size inb_S1024x128_S1024x128_0_0).toLoadRect (View.loadsAt_vmem h_S1024x128))
    let v30 : Vec F S1024x128 .bf16 ← Prog.lift (.load arg13 (Rect.unit (s := S1024x128) ![0, 0] S1024x128.size inb_S1024x128_S1024x128_0_0).toLoadRect (View.loadsAt_vmem h_S1024x128))
    Prog.lift (.store arg13 (Rect.unit (s := S1024x128) ![0, 0] S1024x128.size inb_S1024x128_S1024x128_0_0) (k0_pay10 v28) Finset.univ (View.stores_vmem h_S1024x128 (harg13.storeExact_slice rfl _ packedbf16_S1024x128_S1024x128_0_0) (fun _ => rfl)) (.inl rfl))
    let v31 : Vec F S1024x128 .f32 ← Prog.lift (.load arg19 (Rect.unit (s := S1024x128) ![0, 0] S1024x128.size inb_S1024x128_S1024x128_0_0).toLoadRect (View.loadsAt_vmem h_S1024x128))
    let v33 : Vec F S1024x128 .bf16 ← Prog.lift (.load arg14 (Rect.unit (s := S1024x128) ![0, 0] S1024x128.size inb_S1024x128_S1024x128_0_0).toLoadRect (View.loadsAt_vmem h_S1024x128))
    Prog.lift (.store arg14 (Rect.unit (s := S1024x128) ![0, 0] S1024x128.size inb_S1024x128_S1024x128_0_0) (k0_pay11 v31) Finset.univ (View.stores_vmem h_S1024x128 (harg14.storeExact_slice rfl _ packedbf16_S1024x128_S1024x128_0_0) (fun _ => rfl)) (.inl rfl))
    let v34 : Vec F S1024x128 .f32 ← Prog.lift (.load arg21 (Rect.unit (s := S1024x128) ![0, 0] S1024x128.size inb_S1024x128_S1024x128_0_0).toLoadRect (View.loadsAt_vmem h_S1024x128))
    let v35 : Vec F S1x1024x128 .f32 ← Prog.lift (.load arg16 (Rect.unit (s := S1x1024x128) ![0, 0, 0] S1x1024x128.size inb_S1x1024x128_S1x1024x128_0_0_0).toLoadRect (View.loadsAt_vmem h_S1x1024x128))
    Prog.lift (.store arg16 (Rect.unit (s := S1x1024x128) ![0, 0, 0] S1x1024x128.size inb_S1x1024x128_S1x1024x128_0_0_0) (k0_pay12 v34) Finset.univ (View.stores_vmem_bits_univ h_S1x1024x128 rfl) (.inl rfl))
    pure ⟨⟩
  else do
    pure ⟨⟩
  k ⟨⟩

/-- At a head pair's last tile the query-side accumulators are written out. The rest of the body follows as `k`. -/
noncomputable def storeQueries (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole) (k : Unit → Prog (TpuEff nD τ sig (Elt F) Λ₀ .tc) PUnit) : Prog (TpuEff nD τ sig (Elt F) Λ₀ .tc) PUnit := do
  if k0_h6 : k0_cond6 i = 1#1 then do
    k0_part11 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
    let v53 : Vec F S1x8x1024 .f32 ← Prog.lift (.load arg20 (Rect.unit (s := S4x8x1024) ![2, 0, 0] S1x8x1024.size inb_S4x8x1024_S1x8x1024_2_0_0).toLoadRect (View.loadsAt_vmem h_S1x8x1024))
    let v55 : Vec F S1x8x1024 .f32 ← Prog.lift (.load arg15 (Rect.unit (s := S1x8x4096) ![0, 0, 2048] S1x8x1024.size inb_S1x8x4096_S1x8x1024_0_0_2048).toLoadRect (View.loadsAt_vmem h_S1x8x1024))
    Prog.lift (.store arg15 (Rect.unit (s := S1x8x4096) ![0, 0, 2048] S1x8x1024.size inb_S1x8x4096_S1x8x1024_0_0_2048) (k0_pay13 v53) Finset.univ (View.stores_vmem_bits_univ h_S1x8x1024 rfl) (.inl rfl))
    let v58 : Vec F S1x128x1024 .f32 ← Prog.lift (.load arg17 (Rect.unit (s := S4x128x1024) ![3, 0, 0] S1x128x1024.size inb_S4x128x1024_S1x128x1024_3_0_0).toLoadRect (View.loadsAt_vmem h_S1x128x1024))
    let v62 : Vec F S1024x128 .bf16 ← Prog.lift (.load arg12 (Rect.unit (s := S4096x128) ![3072, 0] S1024x128.size inb_S4096x128_S1024x128_3072_0).toLoadRect (View.loadsAt_vmem h_S1024x128))
    Prog.lift (.store arg12 (Rect.unit (s := S4096x128) ![3072, 0] S1024x128.size inb_S4096x128_S1024x128_3072_0) (k0_pay14 v58) Finset.univ (View.stores_vmem h_S1024x128 (harg12.storeExact_slice rfl _ packedbf16_S4096x128_S1024x128_3072_0) (fun _ => rfl)) (.inl rfl))
    let v63 : Vec F S1x8x1024 .f32 ← Prog.lift (.load arg20 (Rect.unit (s := S4x8x1024) ![3, 0, 0] S1x8x1024.size inb_S4x8x1024_S1x8x1024_3_0_0).toLoadRect (View.loadsAt_vmem h_S1x8x1024))
    let v65 : Vec F S1x8x1024 .f32 ← Prog.lift (.load arg15 (Rect.unit (s := S1x8x4096) ![0, 0, 3072] S1x8x1024.size inb_S1x8x4096_S1x8x1024_0_0_3072).toLoadRect (View.loadsAt_vmem h_S1x8x1024))
    Prog.lift (.store arg15 (Rect.unit (s := S1x8x4096) ![0, 0, 3072] S1x8x1024.size inb_S1x8x4096_S1x8x1024_0_0_3072) (k0_pay15 v63) Finset.univ (View.stores_vmem_bits_univ h_S1x8x1024 rfl) (.inl rfl))
    pure ⟨⟩
  else do
    pure ⟨⟩
  k ⟨⟩

set_option maxRecDepth 65536 in
/-- The kernel's body is its six pieces in turn. -/
theorem body_eq (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole) :
    cc0_fox_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = zeroAll i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (fun _ => zeroKeys i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (fun _ => stepFull i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (fun _ => stepDiag i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (fun _ => storeKeys i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (fun _ => storeQueries i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (fun _ => pure ⟨⟩)))))) := rfl

end Cert.KernelIdeal.Grad
-- ==== Proof.State.lean ====
/- What the gradient kernel carries from one tile to the next, and how one tile changes it, as plain functions of the values. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic
public import Idealize.ShloMosaic.Lib.WordCmp
public import Idealize.ShloMosaic.Lib.ValueIdx
public import proofs.«01_k».proof.Proof.Pieces

@[expose] public section

set_option maxRecDepth 16384

noncomputable section

namespace Cert.KernelIdeal.Grad

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow

/-- The tiles a grid point reads: queries, keys, keys transposed, values, output gradients, log-sums, row products, and the decay along lanes and along rows. -/
@[ext] structure Ins (F : FTy → Type) where
  q : Vec F S1024x128 .bf16
  k : Vec F S1024x128 .bf16
  kt : Vec F S128x1024 .bf16
  v : Vec F S1024x128 .bf16
  g : Vec F S1024x128 .bf16
  lse : Vec F S1x8x1024 .f32
  row : Vec F S1x8x1024 .f32
  cumT : Vec F S8x1024 .f32
  cum : Vec F S1024x128 .f32

/-- The accumulators: of the queries' gradient (transposed, by query tile), the keys', the values', and the decay's along queries and along keys. -/
@[ext] structure Acc (F : FTy → Type) where
  dq : Vec F S4x128x1024 .f32
  dk : Vec F S1024x128 .f32
  dv : Vec F S1024x128 .f32
  cq : Vec F S4x8x1024 .f32
  ck : Vec F S1024x128 .f32

/-- Query tile `j` of the queries' accumulator. -/
def slab (j : Fin 4) (x : Vec F S4x128x1024 .f32) : Vec F S1x128x1024 .f32 :=
  window x ![j.val, 0, 0] S1x128x1024.size ((by decide +kernel : ∀ j : Fin 4, ∀ a, ![j.val, 0, 0] a + S1x128x1024.size a ≤ S4x128x1024.size a) j)

/-- Query tile `j` of the decay's accumulator, all heads. -/
def heads (j : Fin 4) (x : Vec F S4x8x1024 .f32) : Vec F S1x8x1024 .f32 :=
  window x ![j.val, 0, 0] S1x8x1024.size ((by decide +kernel : ∀ j : Fin 4, ∀ a, ![j.val, 0, 0] a + S1x8x1024.size a ≤ S4x8x1024.size a) j)

/-- Query tile `j` of the decay's accumulator at head `r` of the pair. -/
def head (j : Fin 4) (r : Fin 2) (x : Vec F S4x8x1024 .f32) : Vec F S1x1x1024 .f32 :=
  window x ![j.val, r.val, 0] S1x1x1024.size ((by decide +kernel : ∀ j : Fin 4, ∀ r : Fin 2, ∀ a, ![j.val, r.val, 0] a + S1x1x1024.size a ≤ S4x8x1024.size a) j r)

/-- Head `r`'s row of a tile of log-sums or row products. -/
def stat (r : Fin 2) (x : Vec F S1x8x1024 .f32) : Vec F S1x1x1024 .f32 :=
  window x ![0, r.val, 0] S1x1x1024.size ((by decide +kernel : ∀ r : Fin 2, ∀ a, ![0, r.val, 0] a + S1x1x1024.size a ≤ S1x8x1024.size a) r)

/-- Row `r` of the decay along lanes. -/
def lane (r : Fin 2) (x : Vec F S8x1024 .f32) : Vec F S1x1024 .f32 :=
  window x ![r.val, 0] S1x1024.size ((by decide +kernel : ∀ r : Fin 2, ∀ a, ![r.val, 0] a + S1x1024.size a ≤ S8x1024.size a) r)

/-! What a load or a store at the printed offsets is, in these terms. -/

variable {κ : Kind} {sp : Space}

theorem readAt_tile {e : EltTy} (v : View sig κ sp S1024x128 e) (f : v.ty.Contents (Elt F)) (inb) :
    v.readAt (Elt F) (Rect.unit (s := S1024x128) ![0, 0] ![1024, 128] inb).toLoadRect f = v.read (Elt F) f := View.readAt_full v f inb

theorem readAt_tileT {e : EltTy} (v : View sig κ sp S128x1024 e) (f : v.ty.Contents (Elt F)) (inb) :
    v.readAt (Elt F) (Rect.unit (s := S128x1024) ![0, 0] ![128, 1024] inb).toLoadRect f = v.read (Elt F) f := View.readAt_full v f inb

/-- A load of a whole accumulator just stored whole is what was stored. -/
theorem readCov_tile (v : View sig κ sp S1024x128 .f32) (inb inb') (w : S1024x128.Idx → Elt F .f32) (L) :
    v.readCov (⟨Rect.unit (s := S1024x128) ![0, 0] ![1024, 128] inb', w⟩ :: L) (Rect.unit (s := S1024x128) ![0, 0] ![1024, 128] inb).toLoadRect = w :=
  View.readCov_full v inb inb' w L

theorem readAt_slab (v : View sig κ sp S4x128x1024 .f32) (f : v.ty.Contents (Elt F)) (j : Fin 4) {off : Fin 3 → ℕ} (inb) (h : off = ![j.val, 0, 0]) :
    v.readAt (Elt F) (Rect.unit (s := S4x128x1024) off ![1, 128, 1024] inb).toLoadRect f = slab j (v.read (Elt F) f) := View.readAt_unit v f inb h _

theorem readAt_head (v : View sig κ sp S4x8x1024 .f32) (f : v.ty.Contents (Elt F)) (j : Fin 4) (r : Fin 2) {off : Fin 3 → ℕ} (inb) (h : off = ![j.val, r.val, 0]) :
    v.readAt (Elt F) (Rect.unit (s := S4x8x1024) off ![1, 1, 1024] inb).toLoadRect f = head j r (v.read (Elt F) f) := View.readAt_unit v f inb h _

theorem readAt_stat (v : View sig κ sp S1x8x1024 .f32) (f : v.ty.Contents (Elt F)) (r : Fin 2) {off : Fin 3 → ℕ} (inb) (h : off = ![0, r.val, 0]) :
    v.readAt (Elt F) (Rect.unit (s := S1x8x1024) off ![1, 1, 1024] inb).toLoadRect f = stat r (v.read (Elt F) f) := View.readAt_unit v f inb h _

theorem readAt_lane (v : View sig κ sp S8x1024 .f32) (f : v.ty.Contents (Elt F)) (r : Fin 2) {off : Fin 2 → ℕ} (inb) (h : off = ![r.val, 0]) :
    v.readAt (Elt F) (Rect.unit (s := S8x1024) off ![1, 1024] inb).toLoadRect f = lane r (v.read (Elt F) f) := View.readAt_unit v f inb h _

/-- A load of a query tile just stored at the same offsets is what was stored. -/
theorem readCov_slab (v : View sig κ sp S4x128x1024 .f32) {off off' : Fin 3 → ℕ} (inb inb') (w : S1x128x1024.Idx → Elt F .f32) (L) (h : off = off') :
    v.readCov (⟨Rect.unit (s := S4x128x1024) off' ![1, 128, 1024] inb', w⟩ :: L) (Rect.unit (s := S4x128x1024) off ![1, 128, 1024] inb).toLoadRect = w := by
  subst h
  unfold View.readCov
  rw [View.readAt_unit _ _ _ rfl inb, View.read_writes_cons_put _ _ _ _ _ rfl]
  exact window_put_same _ _ _ _ _

/-- The head pair as the kernel's word. -/
abbrev pairWord (i : grid0.Coords) : BitVec 32 := BitVec.ofNat 32 (i 0).val

/-- The lane numbers of a tile. -/
abbrev lanes : IVec S1024x128 32 := iota .tc S1024x128 32 [1] iota_S1024x128_d1_w32

/-- The zero accumulator a product starts from. -/
abbrev zeros : FVec F S1024x1024 .f32 := constant S1024x1024 .f32 0x00000000#32

/-! ## A query tile after the key tile -/

/-- Scores of the first head, keys by queries, before the log-sum is taken off. -/
def fullS (i : grid0.Coords) (x : Ins F) : FVec F S1024x1024 .f32 := k0_pay23 (pairWord i) k0_pay1 x.q x.k x.cum (lane 0 x.cumT)
/-- The scores' gradient of the first head. -/
def fullD0 (i : grid0.Coords) (x : Ins F) : FVec F S1024x1024 .f32 :=
  k0_pay27 k0_pay1 (k0_pay19 x.v) (k0_pay20 x.g) (fullS i x) (k0_pay24 (stat 0 x.lse)) (stat 0 x.row)
/-- The scores' gradient of the second head. -/
def fullD1 (i : grid0.Coords) (x : Ins F) : FVec F S1024x1024 .f32 :=
  k0_pay40 (pairWord i) (k0_pay17 x.k) (k0_pay19 x.v) (k0_pay20 x.g) lanes (k0_pay21 x.cum) (k0_pay35 k0_pay1) (k0_pay37 k0_pay1 (k0_pay16 x.q)) zeros (lane 1 x.cumT) (stat 1 x.lse) (stat 1 x.row)
/-- The same, rounded for the products. -/
def fullB1 (i : grid0.Coords) (x : Ins F) : FVec F S1024x1024 .bf16 :=
  k0_pay41 (pairWord i) (k0_pay17 x.k) (k0_pay19 x.v) (k0_pay20 x.g) lanes (k0_pay21 x.cum) (k0_pay35 k0_pay1) (k0_pay37 k0_pay1 (k0_pay16 x.q)) zeros (lane 1 x.cumT) (stat 1 x.lse) (stat 1 x.row)

def fullDv0 (i : grid0.Coords) (x : Ins F) (d : Vec F S1024x128 .f32) : Vec F S1024x128 .f32 :=
  k0_pay29 k0_pay1 (k0_pay20 x.g) (fullS i x) (k0_pay24 (stat 0 x.lse)) d
def fullDv1 (i : grid0.Coords) (x : Ins F) (d : Vec F S1024x128 .f32) : Vec F S1024x128 .f32 :=
  k0_pay42 (pairWord i) (k0_pay17 x.k) (k0_pay20 x.g) lanes (k0_pay21 x.cum) (k0_pay35 k0_pay1) (k0_pay37 k0_pay1 (k0_pay16 x.q)) zeros (lane 1 x.cumT) (stat 1 x.lse) d
def fullDk0 (i : grid0.Coords) (x : Ins F) (d : Vec F S1024x128 .f32) : Vec F S1024x128 .f32 :=
  k0_pay30 k0_pay1 (k0_pay19 x.v) (k0_pay20 x.g) (k0_pay22 k0_pay1 x.q) (fullS i x) (k0_pay24 (stat 0 x.lse)) (stat 0 x.row) d
def fullDk1 (i : grid0.Coords) (x : Ins F) (d : Vec F S1024x128 .f32) : Vec F S1024x128 .f32 :=
  k0_pay43 (k0_pay37 k0_pay1 (k0_pay16 x.q)) (fullB1 i x) d
def fullDq0 (i : grid0.Coords) (x : Ins F) (d : Vec F S1x128x1024 .f32) : Vec F S1x128x1024 .f32 :=
  k0_pay32 (k0_pay31 k0_pay1 k0_pay2 (k0_pay18 x.kt) (k0_pay19 x.v) (k0_pay20 x.g) (fullS i x) (k0_pay24 (stat 0 x.lse)) (stat 0 x.row) d)
def fullDq1 (i : grid0.Coords) (x : Ins F) (d : Vec F S1x128x1024 .f32) : Vec F S1x128x1024 .f32 :=
  k0_pay44 (k0_pay18 x.kt) (k0_pay36 k0_pay2) (fullB1 i x) d
def fullCk0 (i : grid0.Coords) (x : Ins F) (d : Vec F S1024x128 .f32) : Vec F S1024x128 .f32 := k0_pay34 (pairWord i) lanes (fullD0 i x) d
def fullCk1 (i : grid0.Coords) (x : Ins F) (d : Vec F S1024x128 .f32) : Vec F S1024x128 .f32 := k0_pay8 d (k0_pay46 (pairWord i) lanes) (k0_pay47 (fullD1 i x))

/-- The accumulators after a step on a query tile that lies after the key tile. -/
def fullNext (i : grid0.Coords) (x : Ins F) (s : Acc F) : Acc F where
  dq := put s.dq ![(i 2).val, 0, 0] S1x128x1024.size (fullDq1 i x (fullDq0 i x (slab (i 2) s.dq)))
  dk := fullDk1 i x (fullDk0 i x s.dk)
  dv := fullDv1 i x (fullDv0 i x s.dv)
  cq := put (put s.cq ![(i 2).val, 0, 0] S1x1x1024.size (k0_pay33 (fullD0 i x) (head (i 2) 0 s.cq)))
    ![(i 2).val, 1, 0] S1x1x1024.size (k0_pay45 (fullD1 i x) (head (i 2) 1 s.cq))
  ck := fullCk1 i x (fullCk0 i x s.ck)

/-! ## A query tile on the diagonal -/

/-- Scores of the first head on the diagonal. -/
def diagS (i : grid0.Coords) (x : Ins F) : FVec F S1024x1024 .f32 := k0_pay56 (pairWord i) k0_pay1 x.q x.k x.cum (lane 0 x.cumT)
/-- The masked scores' gradient of the first head. -/
def diagD0 (i : grid0.Coords) (x : Ins F) : FVec F S1024x1024 .f32 :=
  k0_pay59 k0_pay1 (k0_pay51 x.v) (k0_pay52 x.g) k0_pay53 (diagS i x) (stat 0 x.lse) (stat 0 x.row)
def diagB0 (i : grid0.Coords) (x : Ins F) : FVec F S1024x1024 .bf16 :=
  k0_pay60 k0_pay1 (k0_pay51 x.v) (k0_pay52 x.g) k0_pay53 (diagS i x) (stat 0 x.lse) (stat 0 x.row)
/-- The masked scores' gradient of the second head. -/
def diagD1 (i : grid0.Coords) (x : Ins F) : FVec F S1024x1024 .f32 :=
  k0_pay75 (pairWord i) (k0_pay48 x.q) (k0_pay49 x.k) (k0_pay51 x.v) (k0_pay52 x.g) k0_pay53 lanes (k0_pay54 x.cum) (k0_pay68 k0_pay1) (k0_pay70 (F := F)) (k0_pay71 k0_pay1) (lane 1 x.cumT) (stat 1 x.lse) (stat 1 x.row)
def diagB1 (i : grid0.Coords) (x : Ins F) : FVec F S1024x1024 .bf16 :=
  k0_pay76 (pairWord i) (k0_pay48 x.q) (k0_pay49 x.k) (k0_pay51 x.v) (k0_pay52 x.g) k0_pay53 lanes (k0_pay54 x.cum) (k0_pay68 k0_pay1) (k0_pay70 (F := F)) (k0_pay71 k0_pay1) (lane 1 x.cumT) (stat 1 x.lse) (stat 1 x.row)

def diagDv0 (i : grid0.Coords) (x : Ins F) (d : Vec F S1024x128 .f32) : Vec F S1024x128 .f32 :=
  k0_pay61 k0_pay1 (k0_pay52 x.g) k0_pay53 (diagS i x) (stat 0 x.lse) d
def diagDv1 (i : grid0.Coords) (x : Ins F) (d : Vec F S1024x128 .f32) : Vec F S1024x128 .f32 :=
  k0_pay78 d (k0_pay77 (pairWord i) (k0_pay48 x.q) (k0_pay49 x.k) (k0_pay52 x.g) k0_pay53 lanes (k0_pay54 x.cum) (k0_pay68 k0_pay1) (k0_pay70 (F := F)) (k0_pay71 k0_pay1) (lane 1 x.cumT) (stat 1 x.lse))
def diagDk0 (i : grid0.Coords) (x : Ins F) (d : Vec F S1024x128 .f32) : Vec F S1024x128 .f32 :=
  k0_pay62 k0_pay1 (k0_pay51 x.v) (k0_pay52 x.g) k0_pay53 (k0_pay55 k0_pay1 x.q) (diagS i x) (stat 0 x.lse) (stat 0 x.row) d
def diagDk1 (i : grid0.Coords) (x : Ins F) (d : Vec F S1024x128 .f32) : Vec F S1024x128 .f32 :=
  k0_pay79 (k0_pay72 (k0_pay48 x.q) (k0_pay70 (F := F)) (k0_pay71 k0_pay1)) (diagB1 i x) d
def diagDq0 (i : grid0.Coords) (x : Ins F) (d : Vec F S1x128x1024 .f32) : Vec F S1x128x1024 .f32 :=
  k0_pay65 (diagB0 i x) (k0_pay63 d) (k0_pay64 k0_pay2 (k0_pay50 x.kt))
def diagDq1 (i : grid0.Coords) (x : Ins F) (d : Vec F S1x128x1024 .f32) : Vec F S1x128x1024 .f32 :=
  k0_pay80 (k0_pay50 x.kt) (k0_pay69 k0_pay2) (diagB1 i x) d
def diagCk0 (i : grid0.Coords) (x : Ins F) (d : Vec F S1024x128 .f32) : Vec F S1024x128 .f32 := k0_pay67 (pairWord i) lanes (diagD0 i x) d
def diagCk1 (i : grid0.Coords) (x : Ins F) (d : Vec F S1024x128 .f32) : Vec F S1024x128 .f32 := k0_pay9 i lanes (diagD1 i x) d

/-- The accumulators after a step on the diagonal. -/
def diagNext (i : grid0.Coords) (x : Ins F) (s : Acc F) : Acc F where
  dq := put s.dq ![(i 2).val, 0, 0] S1x128x1024.size (diagDq1 i x (diagDq0 i x (slab (i 2) s.dq)))
  dk := diagDk1 i x (diagDk0 i x s.dk)
  dv := diagDv1 i x (diagDv0 i x s.dv)
  cq := put (put s.cq ![(i 2).val, 0, 0] S1x1x1024.size (k0_pay66 (diagD0 i x) (head (i 2) 0 s.cq)))
    ![(i 2).val, 1, 0] S1x1x1024.size (k0_pay81 (diagD1 i x) (head (i 2) 1 s.cq))
  ck := diagCk1 i x (diagCk0 i x s.ck)

/-! ## The whole body -/

/-- The guard of the query side's zeroing, as the kernel computes it. -/
abbrev condPair (i : grid0.Coords) : Prop := Scalar.cmpi .ne (Scalar.extui (Scalar.andi (Scalar.cmpi .eq (BitVec.ofNat 32 (i 1).val) 0#32) (Scalar.cmpi .eq (BitVec.ofNat 32 (i 2).val) 0#32))) 0#32 = 1#1
/-- The guard of the key side's zeroing. -/
abbrev condTile (i : grid0.Coords) : Prop := Scalar.cmpi .ne (Scalar.extui (Scalar.cmpi .eq (BitVec.ofNat 32 (i 2).val) 0#32)) 0#32 = 1#1

def zeroPair (i : grid0.Coords) (s : Acc F) : Acc F := if condPair i then { s with dq := k0_pay3, cq := k0_pay4 } else s
def zeroTile (i : grid0.Coords) (s : Acc F) : Acc F := if condTile i then { s with dk := k0_pay5, dv := k0_pay6, ck := k0_pay7 } else s
def addFull (i : grid0.Coords) (x : Ins F) (s : Acc F) : Acc F := if k0_cond3 i = 1#1 then fullNext i x s else s
def addDiag (i : grid0.Coords) (x : Ins F) (s : Acc F) : Acc F := if k0_cond4 i = 1#1 then diagNext i x s else s

/-- The accumulators after grid point `i`, from the tiles it reads and the accumulators before it. -/
def next (i : grid0.Coords) (x : Ins F) (s : Acc F) : Acc F := addDiag i x (addFull i x (zeroTile i (zeroPair i s)))

/-- The queries' gradient as written out: each query tile transposed. -/
def outDq (s : Acc F) : Vec F S4096x128 .bf16 := fun y =>
  k0_pay82 (slab ⟨(y 0).val / 1024, (Nat.div_lt_iff_lt_mul (by norm_num)).2 (y 0).isLt⟩ s.dq) (ValueIdx.ix2 ⟨(y 0).val % 1024, Nat.mod_lt _ (by norm_num)⟩ (y 1))
/-- The decay's gradient along queries as written out: the query tiles side by side. -/
def outCq (s : Acc F) : Vec F S1x8x4096 .f32 := fun y =>
  k0_pay83 (heads ⟨(y 2).val / 1024, (Nat.div_lt_iff_lt_mul (by norm_num)).2 (y 2).isLt⟩ s.cq) (ValueIdx.ix3 (y 0) (y 1) ⟨(y 2).val % 1024, Nat.mod_lt _ (by norm_num)⟩)

end Cert.KernelIdeal.Grad
-- ==== Proof.Steps1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic
public import Idealize.ShloMosaic.Lib.WordCmp
public import proofs.«01_k».proof.Proof.State

@[expose] public section

set_option maxRecDepth 16384

noncomputable section

namespace Cert.KernelIdeal.Grad

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow

set_option maxHeartbeats 400000 in
theorem stepFull_wp (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole) (h3 : k0_cond3 i = 1#1)
    (x : Ins F) (s : Acc F) (E : Set ℕ) (K : PUnit → sProp 𝕄) (k : Unit → Prog (TpuEff nD τ sig (Elt F) Λ₀ .tc) PUnit) :
    iprop(owns (c : Thread nD τ) arg3 fullShare x.q ∗ owns (c : Thread nD τ) arg4 fullShare x.k ∗ owns (c : Thread nD τ) arg5 fullShare x.kt ∗ owns (c : Thread nD τ) arg6 fullShare x.v ∗ owns (c : Thread nD τ) arg7 fullShare x.g ∗ owns (c : Thread nD τ) arg8 fullShare x.lse ∗ owns (c : Thread nD τ) arg9 fullShare x.row ∗ owns (c : Thread nD τ) arg10 fullShare x.cumT ∗ owns (c : Thread nD τ) arg11 fullShare x.cum ∗ owns (c : Thread nD τ) arg17 fullShare s.dq ∗ owns (c : Thread nD τ) arg18 fullShare s.dk ∗ owns (c : Thread nD τ) arg19 fullShare s.dv ∗ owns (c : Thread nD τ) arg20 fullShare s.cq ∗ owns (c : Thread nD τ) arg21 fullShare s.ck
      ∗ (iprop(owns (c : Thread nD τ) arg3 fullShare x.q ∗ owns (c : Thread nD τ) arg4 fullShare x.k ∗ owns (c : Thread nD τ) arg5 fullShare x.kt ∗ owns (c : Thread nD τ) arg6 fullShare x.v ∗ owns (c : Thread nD τ) arg7 fullShare x.g ∗ owns (c : Thread nD τ) arg8 fullShare x.lse ∗ owns (c : Thread nD τ) arg9 fullShare x.row ∗ owns (c : Thread nD τ) arg10 fullShare x.cumT ∗ owns (c : Thread nD τ) arg11 fullShare x.cum ∗ owns (c : Thread nD τ) arg17 fullShare (fullNext i x s).dq ∗ owns (c : Thread nD τ) arg18 fullShare (fullNext i x s).dk ∗ owns (c : Thread nD τ) arg19 fullShare (fullNext i x s).dv ∗ owns (c : Thread nD τ) arg20 fullShare (fullNext i x s).cq ∗ owns (c : Thread nD τ) arg21 fullShare (fullNext i x s).ck) -∗ wp frame (wpE (defs₀ (F := F)) Variants.none c none) E (k ⟨⟩) K))
    ⊢ wp frame (wpE (defs₀ (F := F)) Variants.none c none) E (stepFull (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k) K := by
  obtain ⟨xq, xk, xkt, xv, xg, xlse, xrow, xcumT, xcum⟩ := x
  obtain ⟨sdq, sdk, sdv, scq, sck⟩ := s
  unfold stepFull owns
  simp only [k0_part1_eq_skeleton, k0_part2_eq_skeleton, k0_part3_eq_skeleton, k0_part4_eq_skeleton, k0_part5_eq_skeleton]
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f17, %e17, H17⟩, ⟨%f18, %e18, H18⟩, ⟨%f19, %e19, H19⟩, ⟨%f20, %e20, H20⟩, ⟨%f21, %e21, H21⟩, Hk⟩
  subst e3 e4 e5 e6 e7 e8 e9 e10 e11 e17 e18 e19 e20 e21
  sl_exec (disch := first | sl_exact h3)
  iapply Hk
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    rfl
  isplitl [H10]
  · iexists _; isplitr; swap; · iexact H10
    ipureintro
    rfl
  isplitl [H11]
  · iexists _; isplitr; swap; · iexact H11
    ipureintro
    rfl
  isplitl [H17]
  · iexists _; isplitr; swap; · iexact H17
    ipureintro
    refine (View.read_writes_cons_put _ _ _ _ _ (k0_off1_eq i)).trans ?_
    delta stepFull_wp.sl.H17_1
    rw [View.read_writes_cons_put _ _ _ _ _ (k0_off1_eq i), put_put_same]
    try delta stepFull_wp.sl.r stepFull_wp.sl.r_1 stepFull_wp.sl.r_2 stepFull_wp.sl.r_3 stepFull_wp.sl.r_4 stepFull_wp.sl.r_5 stepFull_wp.sl.r_6 stepFull_wp.sl.r_7 stepFull_wp.sl.r_8 stepFull_wp.sl.r_9 stepFull_wp.sl.r_10 stepFull_wp.sl.r_11 stepFull_wp.sl.r_12 stepFull_wp.sl.r_13 stepFull_wp.sl.r_14 stepFull_wp.sl.r_15 stepFull_wp.sl.v171 stepFull_wp.sl.v177 stepFull_wp.sl.v184 stepFull_wp.sl.v199 stepFull_wp.sl.v208 stepFull_wp.sl.v38 stepFull_wp.sl.cst_71 stepFull_wp.sl.H17_1 stepFull_wp.sl.H18_1 stepFull_wp.sl.H19_1 stepFull_wp.sl.H21_1
    simp only [readAt_tile, readAt_tileT, readCov_tile,
      readAt_stat _ _ 0 _ rfl, readAt_stat _ _ 1 _ rfl, readAt_lane _ _ 0 _ rfl, readAt_lane _ _ 1 _ rfl, readAt_slab _ _ (i 2) _ (k0_off1_eq i),
      readAt_head _ _ (i 2) 0 _ (k0_off2_eq i), readAt_head _ _ (i 2) 1 _ (k0_off3_eq i), readCov_slab _ _ _ _ _ rfl]; rfl
  isplitl [H18]
  · iexists _; isplitr; swap; · iexact H18
    ipureintro
    refine (View.read_writes_full _ _ _ _ _).trans ?_
    try delta stepFull_wp.sl.r stepFull_wp.sl.r_1 stepFull_wp.sl.r_2 stepFull_wp.sl.r_3 stepFull_wp.sl.r_4 stepFull_wp.sl.r_5 stepFull_wp.sl.r_6 stepFull_wp.sl.r_7 stepFull_wp.sl.r_8 stepFull_wp.sl.r_9 stepFull_wp.sl.r_10 stepFull_wp.sl.r_11 stepFull_wp.sl.r_12 stepFull_wp.sl.r_13 stepFull_wp.sl.r_14 stepFull_wp.sl.r_15 stepFull_wp.sl.v171 stepFull_wp.sl.v177 stepFull_wp.sl.v184 stepFull_wp.sl.v199 stepFull_wp.sl.v208 stepFull_wp.sl.v38 stepFull_wp.sl.cst_71 stepFull_wp.sl.H17_1 stepFull_wp.sl.H18_1 stepFull_wp.sl.H19_1 stepFull_wp.sl.H21_1
    simp only [readAt_tile, readAt_tileT, readCov_tile,
      readAt_stat _ _ 0 _ rfl, readAt_stat _ _ 1 _ rfl, readAt_lane _ _ 0 _ rfl, readAt_lane _ _ 1 _ rfl, readAt_slab _ _ (i 2) _ (k0_off1_eq i),
      readAt_head _ _ (i 2) 0 _ (k0_off2_eq i), readAt_head _ _ (i 2) 1 _ (k0_off3_eq i), readCov_slab _ _ _ _ _ rfl]; rfl
  isplitl [H19]
  · iexists _; isplitr; swap; · iexact H19
    ipureintro
    refine (View.read_writes_full _ _ _ _ _).trans ?_
    try delta stepFull_wp.sl.r stepFull_wp.sl.r_1 stepFull_wp.sl.r_2 stepFull_wp.sl.r_3 stepFull_wp.sl.r_4 stepFull_wp.sl.r_5 stepFull_wp.sl.r_6 stepFull_wp.sl.r_7 stepFull_wp.sl.r_8 stepFull_wp.sl.r_9 stepFull_wp.sl.r_10 stepFull_wp.sl.r_11 stepFull_wp.sl.r_12 stepFull_wp.sl.r_13 stepFull_wp.sl.r_14 stepFull_wp.sl.r_15 stepFull_wp.sl.v171 stepFull_wp.sl.v177 stepFull_wp.sl.v184 stepFull_wp.sl.v199 stepFull_wp.sl.v208 stepFull_wp.sl.v38 stepFull_wp.sl.cst_71 stepFull_wp.sl.H17_1 stepFull_wp.sl.H18_1 stepFull_wp.sl.H19_1 stepFull_wp.sl.H21_1
    simp only [readAt_tile, readAt_tileT, readCov_tile,
      readAt_stat _ _ 0 _ rfl, readAt_stat _ _ 1 _ rfl, readAt_lane _ _ 0 _ rfl, readAt_lane _ _ 1 _ rfl, readAt_slab _ _ (i 2) _ (k0_off1_eq i),
      readAt_head _ _ (i 2) 0 _ (k0_off2_eq i), readAt_head _ _ (i 2) 1 _ (k0_off3_eq i), readCov_slab _ _ _ _ _ rfl]; rfl
  isplitl [H20]
  · iexists _; isplitr; swap; · iexact H20
    ipureintro
    refine (View.read_writes_cons_put _ _ _ _ _ (k0_off3_eq i)).trans ?_
    rw [View.read_writes_cons_put _ _ _ _ _ (k0_off2_eq i)]
    try delta stepFull_wp.sl.r stepFull_wp.sl.r_1 stepFull_wp.sl.r_2 stepFull_wp.sl.r_3 stepFull_wp.sl.r_4 stepFull_wp.sl.r_5 stepFull_wp.sl.r_6 stepFull_wp.sl.r_7 stepFull_wp.sl.r_8 stepFull_wp.sl.r_9 stepFull_wp.sl.r_10 stepFull_wp.sl.r_11 stepFull_wp.sl.r_12 stepFull_wp.sl.r_13 stepFull_wp.sl.r_14 stepFull_wp.sl.r_15 stepFull_wp.sl.v171 stepFull_wp.sl.v177 stepFull_wp.sl.v184 stepFull_wp.sl.v199 stepFull_wp.sl.v208 stepFull_wp.sl.v38 stepFull_wp.sl.cst_71 stepFull_wp.sl.H17_1 stepFull_wp.sl.H18_1 stepFull_wp.sl.H19_1 stepFull_wp.sl.H21_1
    simp only [readAt_tile, readAt_tileT, readCov_tile,
      readAt_stat _ _ 0 _ rfl, readAt_stat _ _ 1 _ rfl, readAt_lane _ _ 0 _ rfl, readAt_lane _ _ 1 _ rfl, readAt_slab _ _ (i 2) _ (k0_off1_eq i),
      readAt_head _ _ (i 2) 0 _ (k0_off2_eq i), readAt_head _ _ (i 2) 1 _ (k0_off3_eq i), readCov_slab _ _ _ _ _ rfl]; rfl
  · iexists _; isplitr; swap; · iexact H21
    ipureintro
    refine (View.read_writes_full _ _ _ _ _).trans ?_
    try delta stepFull_wp.sl.r stepFull_wp.sl.r_1 stepFull_wp.sl.r_2 stepFull_wp.sl.r_3 stepFull_wp.sl.r_4 stepFull_wp.sl.r_5 stepFull_wp.sl.r_6 stepFull_wp.sl.r_7 stepFull_wp.sl.r_8 stepFull_wp.sl.r_9 stepFull_wp.sl.r_10 stepFull_wp.sl.r_11 stepFull_wp.sl.r_12 stepFull_wp.sl.r_13 stepFull_wp.sl.r_14 stepFull_wp.sl.r_15 stepFull_wp.sl.v171 stepFull_wp.sl.v177 stepFull_wp.sl.v184 stepFull_wp.sl.v199 stepFull_wp.sl.v208 stepFull_wp.sl.v38 stepFull_wp.sl.cst_71 stepFull_wp.sl.H17_1 stepFull_wp.sl.H18_1 stepFull_wp.sl.H19_1 stepFull_wp.sl.H21_1
    simp only [readAt_tile, readAt_tileT, readCov_tile,
      readAt_stat _ _ 0 _ rfl, readAt_stat _ _ 1 _ rfl, readAt_lane _ _ 0 _ rfl, readAt_lane _ _ 1 _ rfl, readAt_slab _ _ (i 2) _ (k0_off1_eq i),
      readAt_head _ _ (i 2) 0 _ (k0_off2_eq i), readAt_head _ _ (i 2) 1 _ (k0_off3_eq i), readCov_slab _ _ _ _ _ rfl]; rfl

end Cert.KernelIdeal.Grad
-- ==== Proof.Steps2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic
public import Idealize.ShloMosaic.Lib.WordCmp
public import proofs.«01_k».proof.Proof.State

@[expose] public section

set_option maxRecDepth 16384

noncomputable section

namespace Cert.KernelIdeal.Grad

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow

set_option maxHeartbeats 400000 in
/-- The step on the diagonal takes the accumulators to `diagNext`. -/
theorem stepDiag_wp (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole) (h4 : k0_cond4 i = 1#1)
    (x : Ins F) (s : Acc F) (E : Set ℕ) (K : PUnit → sProp 𝕄) (k : Unit → Prog (TpuEff nD τ sig (Elt F) Λ₀ .tc) PUnit) :
    iprop(owns (c : Thread nD τ) arg3 fullShare x.q ∗ owns (c : Thread nD τ) arg4 fullShare x.k ∗ owns (c : Thread nD τ) arg5 fullShare x.kt ∗ owns (c : Thread nD τ) arg6 fullShare x.v ∗ owns (c : Thread nD τ) arg7 fullShare x.g ∗ owns (c : Thread nD τ) arg8 fullShare x.lse ∗ owns (c : Thread nD τ) arg9 fullShare x.row ∗ owns (c : Thread nD τ) arg10 fullShare x.cumT ∗ owns (c : Thread nD τ) arg11 fullShare x.cum ∗ owns (c : Thread nD τ) arg17 fullShare s.dq ∗ owns (c : Thread nD τ) arg18 fullShare s.dk ∗ owns (c : Thread nD τ) arg19 fullShare s.dv ∗ owns (c : Thread nD τ) arg20 fullShare s.cq ∗ owns (c : Thread nD τ) arg21 fullShare s.ck
      ∗ (iprop(owns (c : Thread nD τ) arg3 fullShare x.q ∗ owns (c : Thread nD τ) arg4 fullShare x.k ∗ owns (c : Thread nD τ) arg5 fullShare x.kt ∗ owns (c : Thread nD τ) arg6 fullShare x.v ∗ owns (c : Thread nD τ) arg7 fullShare x.g ∗ owns (c : Thread nD τ) arg8 fullShare x.lse ∗ owns (c : Thread nD τ) arg9 fullShare x.row ∗ owns (c : Thread nD τ) arg10 fullShare x.cumT ∗ owns (c : Thread nD τ) arg11 fullShare x.cum ∗ owns (c : Thread nD τ) arg17 fullShare (diagNext i x s).dq ∗ owns (c : Thread nD τ) arg18 fullShare (diagNext i x s).dk ∗ owns (c : Thread nD τ) arg19 fullShare (diagNext i x s).dv ∗ owns (c : Thread nD τ) arg20 fullShare (diagNext i x s).cq ∗ owns (c : Thread nD τ) arg21 fullShare (diagNext i x s).ck) -∗ wp frame (wpE (defs₀ (F := F)) Variants.none c none) E (k ⟨⟩) K))
    ⊢ wp frame (wpE (defs₀ (F := F)) Variants.none c none) E (stepDiag (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k) K := by
  obtain ⟨xq, xk, xkt, xv, xg, xlse, xrow, xcumT, xcum⟩ := x
  obtain ⟨sdq, sdk, sdv, scq, sck⟩ := s
  unfold stepDiag owns
  simp only [k0_part6_eq_skeleton, k0_part7_eq_skeleton, k0_part8_eq_skeleton, k0_part9_eq_skeleton, k0_part10_eq_skeleton]
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f17, %e17, H17⟩, ⟨%f18, %e18, H18⟩, ⟨%f19, %e19, H19⟩, ⟨%f20, %e20, H20⟩, ⟨%f21, %e21, H21⟩, Hk⟩
  subst e3 e4 e5 e6 e7 e8 e9 e10 e11 e17 e18 e19 e20 e21
  sl_exec (disch := first | sl_exact h4)
  iapply Hk
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  isplitl [H8]
  · iexists _; isplitr; swap; · iexact H8
    ipureintro
    rfl
  isplitl [H9]
  · iexists _; isplitr; swap; · iexact H9
    ipureintro
    rfl
  isplitl [H10]
  · iexists _; isplitr; swap; · iexact H10
    ipureintro
    rfl
  isplitl [H11]
  · iexists _; isplitr; swap; · iexact H11
    ipureintro
    rfl
  isplitl [H17]
  · iexists _; isplitr; swap; · iexact H17
    ipureintro
    refine (View.read_writes_cons_put _ _ _ _ _ (k0_off4_eq i)).trans ?_
    delta stepDiag_wp.sl.H17_1
    rw [View.read_writes_cons_put _ _ _ _ _ (k0_off4_eq i), put_put_same]
    delta stepDiag_wp.sl.r stepDiag_wp.sl.r_1 stepDiag_wp.sl.r_2 stepDiag_wp.sl.r_3 stepDiag_wp.sl.r_4 stepDiag_wp.sl.r_5 stepDiag_wp.sl.r_6 stepDiag_wp.sl.r_7 stepDiag_wp.sl.r_8 stepDiag_wp.sl.r_9 stepDiag_wp.sl.r_10 stepDiag_wp.sl.r_11 stepDiag_wp.sl.r_12 stepDiag_wp.sl.r_13 stepDiag_wp.sl.r_14 stepDiag_wp.sl.r_15 stepDiag_wp.sl.v178 stepDiag_wp.sl.v184 stepDiag_wp.sl.v191 stepDiag_wp.sl.v206 stepDiag_wp.sl.v215 stepDiag_wp.sl.v41 stepDiag_wp.sl.H17_1 stepDiag_wp.sl.H18_1 stepDiag_wp.sl.H19_1 stepDiag_wp.sl.H21_1
    simp only [readAt_tile, readAt_tileT, readCov_tile,
      readAt_stat _ _ 0 _ rfl, readAt_stat _ _ 1 _ rfl, readAt_lane _ _ 0 _ rfl, readAt_lane _ _ 1 _ rfl, readAt_slab _ _ (i 2) _ (k0_off4_eq i),
      readAt_head _ _ (i 2) 0 _ (k0_off5_eq i), readAt_head _ _ (i 2) 1 _ (k0_off6_eq i), readCov_slab _ _ _ _ _ rfl]; rfl
  isplitl [H18]
  · iexists _; isplitr; swap; · iexact H18
    ipureintro
    refine (View.read_writes_full _ _ _ _ _).trans ?_
    delta stepDiag_wp.sl.r stepDiag_wp.sl.r_1 stepDiag_wp.sl.r_2 stepDiag_wp.sl.r_3 stepDiag_wp.sl.r_4 stepDiag_wp.sl.r_5 stepDiag_wp.sl.r_6 stepDiag_wp.sl.r_7 stepDiag_wp.sl.r_8 stepDiag_wp.sl.r_9 stepDiag_wp.sl.r_10 stepDiag_wp.sl.r_11 stepDiag_wp.sl.r_12 stepDiag_wp.sl.r_13 stepDiag_wp.sl.r_14 stepDiag_wp.sl.r_15 stepDiag_wp.sl.v178 stepDiag_wp.sl.v184 stepDiag_wp.sl.v191 stepDiag_wp.sl.v206 stepDiag_wp.sl.v215 stepDiag_wp.sl.v41 stepDiag_wp.sl.H17_1 stepDiag_wp.sl.H18_1 stepDiag_wp.sl.H19_1 stepDiag_wp.sl.H21_1
    simp only [readAt_tile, readAt_tileT, readCov_tile,
      readAt_stat _ _ 0 _ rfl, readAt_stat _ _ 1 _ rfl, readAt_lane _ _ 0 _ rfl, readAt_lane _ _ 1 _ rfl, readAt_slab _ _ (i 2) _ (k0_off4_eq i),
      readAt_head _ _ (i 2) 0 _ (k0_off5_eq i), readAt_head _ _ (i 2) 1 _ (k0_off6_eq i), readCov_slab _ _ _ _ _ rfl]; rfl
  isplitl [H19]
  · iexists _; isplitr; swap; · iexact H19
    ipureintro
    refine (View.read_writes_full _ _ _ _ _).trans ?_
    delta stepDiag_wp.sl.r stepDiag_wp.sl.r_1 stepDiag_wp.sl.r_2 stepDiag_wp.sl.r_3 stepDiag_wp.sl.r_4 stepDiag_wp.sl.r_5 stepDiag_wp.sl.r_6 stepDiag_wp.sl.r_7 stepDiag_wp.sl.r_8 stepDiag_wp.sl.r_9 stepDiag_wp.sl.r_10 stepDiag_wp.sl.r_11 stepDiag_wp.sl.r_12 stepDiag_wp.sl.r_13 stepDiag_wp.sl.r_14 stepDiag_wp.sl.r_15 stepDiag_wp.sl.v178 stepDiag_wp.sl.v184 stepDiag_wp.sl.v191 stepDiag_wp.sl.v206 stepDiag_wp.sl.v215 stepDiag_wp.sl.v41 stepDiag_wp.sl.H17_1 stepDiag_wp.sl.H18_1 stepDiag_wp.sl.H19_1 stepDiag_wp.sl.H21_1
    simp only [readAt_tile, readAt_tileT, readCov_tile,
      readAt_stat _ _ 0 _ rfl, readAt_stat _ _ 1 _ rfl, readAt_lane _ _ 0 _ rfl, readAt_lane _ _ 1 _ rfl, readAt_slab _ _ (i 2) _ (k0_off4_eq i),
      readAt_head _ _ (i 2) 0 _ (k0_off5_eq i), readAt_head _ _ (i 2) 1 _ (k0_off6_eq i), readCov_slab _ _ _ _ _ rfl]; rfl
  isplitl [H20]
  · iexists _; isplitr; swap; · iexact H20
    ipureintro
    refine (View.read_writes_cons_put _ _ _ _ _ (k0_off6_eq i)).trans ?_
    rw [View.read_writes_cons_put _ _ _ _ _ (k0_off5_eq i)]
    delta stepDiag_wp.sl.r stepDiag_wp.sl.r_1 stepDiag_wp.sl.r_2 stepDiag_wp.sl.r_3 stepDiag_wp.sl.r_4 stepDiag_wp.sl.r_5 stepDiag_wp.sl.r_6 stepDiag_wp.sl.r_7 stepDiag_wp.sl.r_8 stepDiag_wp.sl.r_9 stepDiag_wp.sl.r_10 stepDiag_wp.sl.r_11 stepDiag_wp.sl.r_12 stepDiag_wp.sl.r_13 stepDiag_wp.sl.r_14 stepDiag_wp.sl.r_15 stepDiag_wp.sl.v178 stepDiag_wp.sl.v184 stepDiag_wp.sl.v191 stepDiag_wp.sl.v206 stepDiag_wp.sl.v215 stepDiag_wp.sl.v41 stepDiag_wp.sl.H17_1 stepDiag_wp.sl.H18_1 stepDiag_wp.sl.H19_1 stepDiag_wp.sl.H21_1
    simp only [readAt_tile, readAt_tileT, readCov_tile,
      readAt_stat _ _ 0 _ rfl, readAt_stat _ _ 1 _ rfl, readAt_lane _ _ 0 _ rfl, readAt_lane _ _ 1 _ rfl, readAt_slab _ _ (i 2) _ (k0_off4_eq i),
      readAt_head _ _ (i 2) 0 _ (k0_off5_eq i), readAt_head _ _ (i 2) 1 _ (k0_off6_eq i), readCov_slab _ _ _ _ _ rfl]; rfl
  · iexists _; isplitr; swap; · iexact H21
    ipureintro
    refine (View.read_writes_full _ _ _ _ _).trans ?_
    delta stepDiag_wp.sl.r stepDiag_wp.sl.r_1 stepDiag_wp.sl.r_2 stepDiag_wp.sl.r_3 stepDiag_wp.sl.r_4 stepDiag_wp.sl.r_5 stepDiag_wp.sl.r_6 stepDiag_wp.sl.r_7 stepDiag_wp.sl.r_8 stepDiag_wp.sl.r_9 stepDiag_wp.sl.r_10 stepDiag_wp.sl.r_11 stepDiag_wp.sl.r_12 stepDiag_wp.sl.r_13 stepDiag_wp.sl.r_14 stepDiag_wp.sl.r_15 stepDiag_wp.sl.v178 stepDiag_wp.sl.v184 stepDiag_wp.sl.v191 stepDiag_wp.sl.v206 stepDiag_wp.sl.v215 stepDiag_wp.sl.v41 stepDiag_wp.sl.H17_1 stepDiag_wp.sl.H18_1 stepDiag_wp.sl.H19_1 stepDiag_wp.sl.H21_1
    simp only [readAt_tile, readAt_tileT, readCov_tile,
      readAt_stat _ _ 0 _ rfl, readAt_stat _ _ 1 _ rfl, readAt_lane _ _ 0 _ rfl, readAt_lane _ _ 1 _ rfl, readAt_slab _ _ (i 2) _ (k0_off4_eq i),
      readAt_head _ _ (i 2) 0 _ (k0_off5_eq i), readAt_head _ _ (i 2) 1 _ (k0_off6_eq i), readCov_slab _ _ _ _ _ rfl]; rfl

end Cert.KernelIdeal.Grad
-- ==== Proof.Steps3.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic
public import Idealize.ShloMosaic.Lib.WordCmp
public import proofs.«01_k».proof.Proof.State

@[expose] public section

set_option maxRecDepth 16384

noncomputable section

namespace Cert.KernelIdeal.Grad

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow

theorem put_at {s : Shape} {α : Type} (x : s.Idx → α) (off size : Fin s.rank → ℕ) (w : ((a : Fin s.rank) → Fin (size a)) → α) (y : s.Idx)
    (z : (a : Fin s.rank) → Fin (size a)) (h : ∀ a, (y a).val = off a + (z a).val) : put x off size w y = w z := by
  have hin : ∀ a, off a ≤ (y a).val ∧ (y a).val < off a + size a := fun a => by have := h a; have := (z a).isLt; omega
  refine (dif_pos hin).trans (congrArg w (funext fun a => Fin.ext ?_))
  show (y a).val - off a = (z a).val
  have := h a; omega

theorem put_off {s : Shape} {α : Type} (x : s.Idx → α) (off size : Fin s.rank → ℕ) (w : ((a : Fin s.rank) → Fin (size a)) → α) (y : s.Idx)
    (a : Fin s.rank) (h : (y a).val < off a ∨ off a + size a ≤ (y a).val) : put x off size w y = x y :=
  dif_neg fun hall => by have := hall a; omega

theorem readAt_heads {κ : Kind} {sp : Space} (v : View sig κ sp S4x8x1024 .f32) (f : v.ty.Contents (Elt F)) (j : Fin 4) {off : Fin 3 → ℕ} (inb) (h : off = ![j.val, 0, 0]) :
    v.readAt (Elt F) (Rect.unit (s := S4x8x1024) off ![1, 8, 1024] inb).toLoadRect f = heads j (v.read (Elt F) f) := View.readAt_unit v f inb h _

/-- The four row tiles of the queries' gradient, one after the other, make up `outDq`. -/
theorem put_outDq (f : S4096x128.Idx → Elt F .bf16) (s : Acc F) :
    put (s := S4096x128) (put (s := S4096x128) (put (s := S4096x128) (put (s := S4096x128) f ![0, 0] S1024x128.size (k0_pay82 (slab 0 s.dq))) ![1024, 0] S1024x128.size (k0_pay84 (slab 1 s.dq)))
      ![2048, 0] S1024x128.size (k0_pay86 (slab 2 s.dq))) ![3072, 0] S1024x128.size (k0_pay14 (slab 3 s.dq)) = outDq s := by
  funext y
  have hy : (y 0).val < 4096 := (y 0).isLt
  have key : ∀ j : Fin 4, (y 0).val / 1024 = j.val → outDq s y = k0_pay82 (slab j s.dq) (ValueIdx.ix2 ⟨(y 0).val % 1024, Nat.mod_lt _ (by norm_num)⟩ (y 1)) := fun j hj => by
    unfold outDq; rw [show (⟨(y 0).val / 1024, (Nat.div_lt_iff_lt_mul (by norm_num)).2 (y 0).isLt⟩ : Fin 4) = j from Fin.ext hj]
  have at_ : ∀ n, (y 0).val = n + (y 0).val % 1024 → ∀ a : Fin 2, (y a).val = (![n, 0] : Fin 2 → ℕ) a + ((ValueIdx.ix2 (⟨(y 0).val % 1024, Nat.mod_lt _ (by norm_num)⟩ : Fin 1024) (y 1)) a).val := fun n h a => by
    match a with
    | 0 => exact h
    | 1 => exact (Nat.zero_add _).symm
  rcases (by omega : (y 0).val / 1024 = 0 ∨ (y 0).val / 1024 = 1 ∨ (y 0).val / 1024 = 2 ∨ (y 0).val / 1024 = 3) with h | h | h | h
  · exact (put_off _ _ _ _ y 0 (.inl (show _ < 3072 by omega))).trans <| (put_off _ _ _ _ y 0 (.inl (show _ < 2048 by omega))).trans <| (put_off _ _ _ _ y 0 (.inl (show _ < 1024 by omega))).trans <| (put_at _ _ _ _ y _ (at_ 0 (by omega))).trans (key 0 h).symm
  · exact (put_off _ _ _ _ y 0 (.inl (show _ < 3072 by omega))).trans <| (put_off _ _ _ _ y 0 (.inl (show _ < 2048 by omega))).trans <| (put_at _ _ _ _ y _ (at_ 1024 (by omega))).trans (key 1 h).symm
  · exact (put_off _ _ _ _ y 0 (.inl (show _ < 3072 by omega))).trans <| (put_at _ _ _ _ y _ (at_ 2048 (by omega))).trans (key 2 h).symm
  · exact (put_at _ _ _ _ y _ (at_ 3072 (by omega))).trans (key 3 h).symm

/-- The four tiles of the decay's gradient, side by side, make up `outCq`. -/
theorem put_outCq (f : S1x8x4096.Idx → Elt F .f32) (s : Acc F) :
    put (s := S1x8x4096) (put (s := S1x8x4096) (put (s := S1x8x4096) (put (s := S1x8x4096) f ![0, 0, 0] S1x8x1024.size (k0_pay83 (heads 0 s.cq))) ![0, 0, 1024] S1x8x1024.size (k0_pay85 (heads 1 s.cq)))
      ![0, 0, 2048] S1x8x1024.size (k0_pay13 (heads 2 s.cq))) ![0, 0, 3072] S1x8x1024.size (k0_pay15 (heads 3 s.cq)) = outCq s := by
  funext y
  have hy : (y 2).val < 4096 := (y 2).isLt
  have key : ∀ j : Fin 4, (y 2).val / 1024 = j.val → outCq s y = k0_pay83 (heads j s.cq) (ValueIdx.ix3 (y 0) (y 1) ⟨(y 2).val % 1024, Nat.mod_lt _ (by norm_num)⟩) := fun j hj => by
    unfold outCq; rw [show (⟨(y 2).val / 1024, (Nat.div_lt_iff_lt_mul (by norm_num)).2 (y 2).isLt⟩ : Fin 4) = j from Fin.ext hj]
  have at_ : ∀ n, (y 2).val = n + (y 2).val % 1024 → ∀ a : Fin 3, (y a).val = (![0, 0, n] : Fin 3 → ℕ) a + ((ValueIdx.ix3 (y 0) (y 1) (⟨(y 2).val % 1024, Nat.mod_lt _ (by norm_num)⟩ : Fin 1024)) a).val := fun n h a => by
    match a with
    | 0 => exact (Nat.zero_add _).symm
    | 1 => exact (Nat.zero_add _).symm
    | 2 => exact h
  rcases (by omega : (y 2).val / 1024 = 0 ∨ (y 2).val / 1024 = 1 ∨ (y 2).val / 1024 = 2 ∨ (y 2).val / 1024 = 3) with h | h | h | h
  · exact (put_off _ _ _ _ y 2 (.inl (show _ < 3072 by omega))).trans <| (put_off _ _ _ _ y 2 (.inl (show _ < 2048 by omega))).trans <| (put_off _ _ _ _ y 2 (.inl (show _ < 1024 by omega))).trans <| (put_at _ _ _ _ y _ (at_ 0 (by omega))).trans (key 0 h).symm
  · exact (put_off _ _ _ _ y 2 (.inl (show _ < 3072 by omega))).trans <| (put_off _ _ _ _ y 2 (.inl (show _ < 2048 by omega))).trans <| (put_at _ _ _ _ y _ (at_ 1024 (by omega))).trans (key 1 h).symm
  · exact (put_off _ _ _ _ y 2 (.inl (show _ < 3072 by omega))).trans <| (put_at _ _ _ _ y _ (at_ 2048 (by omega))).trans (key 2 h).symm
  · exact (put_at _ _ _ _ y _ (at_ 3072 (by omega))).trans (key 3 h).symm

theorem read_outDq {κ : Kind} {sp : Space} (v : View sig κ sp S4096x128 .bf16) (f : v.ty.Contents (Elt F)) (s : Acc F) (i0 i1 i2 i3)
    (w0 : (Rect.unit (s := S4096x128) ![0, 0] ![1024, 128] i0).shape.Idx → Elt F .bf16) (w1 : (Rect.unit (s := S4096x128) ![1024, 0] ![1024, 128] i1).shape.Idx → Elt F .bf16) (w2 : (Rect.unit (s := S4096x128) ![2048, 0] ![1024, 128] i2).shape.Idx → Elt F .bf16) (w3 : (Rect.unit (s := S4096x128) ![3072, 0] ![1024, 128] i3).shape.Idx → Elt F .bf16)
    (h0 : w0 = k0_pay82 (slab 0 s.dq)) (h1 : w1 = k0_pay84 (slab 1 s.dq)) (h2 : w2 = k0_pay86 (slab 2 s.dq)) (h3 : w3 = k0_pay14 (slab 3 s.dq)) :
    v.read (Elt F) (v.writes (Elt F) f [⟨Rect.unit (s := S4096x128) ![3072, 0] ![1024, 128] i3, w3⟩, ⟨Rect.unit (s := S4096x128) ![2048, 0] ![1024, 128] i2, w2⟩, ⟨Rect.unit (s := S4096x128) ![1024, 0] ![1024, 128] i1, w1⟩, ⟨Rect.unit (s := S4096x128) ![0, 0] ![1024, 128] i0, w0⟩]) = outDq s := by
  subst h0 h1 h2 h3
  rw [View.read_writes_cons_put v f i3 _ _ rfl, View.read_writes_cons_put v f i2 _ _ rfl, View.read_writes_cons_put v f i1 _ _ rfl, View.read_writes_cons_put v f i0 _ _ rfl]
  exact put_outDq _ s

theorem read_outCq {κ : Kind} {sp : Space} (v : View sig κ sp S1x8x4096 .f32) (f : v.ty.Contents (Elt F)) (s : Acc F) (i0 i1 i2 i3)
    (w0 : (Rect.unit (s := S1x8x4096) ![0, 0, 0] ![1, 8, 1024] i0).shape.Idx → Elt F .f32) (w1 : (Rect.unit (s := S1x8x4096) ![0, 0, 1024] ![1, 8, 1024] i1).shape.Idx → Elt F .f32) (w2 : (Rect.unit (s := S1x8x4096) ![0, 0, 2048] ![1, 8, 1024] i2).shape.Idx → Elt F .f32) (w3 : (Rect.unit (s := S1x8x4096) ![0, 0, 3072] ![1, 8, 1024] i3).shape.Idx → Elt F .f32)
    (h0 : w0 = k0_pay83 (heads 0 s.cq)) (h1 : w1 = k0_pay85 (heads 1 s.cq)) (h2 : w2 = k0_pay13 (heads 2 s.cq)) (h3 : w3 = k0_pay15 (heads 3 s.cq)) :
    v.read (Elt F) (v.writes (Elt F) f [⟨Rect.unit (s := S1x8x4096) ![0, 0, 3072] ![1, 8, 1024] i3, w3⟩, ⟨Rect.unit (s := S1x8x4096) ![0, 0, 2048] ![1, 8, 1024] i2, w2⟩, ⟨Rect.unit (s := S1x8x4096) ![0, 0, 1024] ![1, 8, 1024] i1, w1⟩, ⟨Rect.unit (s := S1x8x4096) ![0, 0, 0] ![1, 8, 1024] i0, w0⟩]) = outCq s := by
  subst h0 h1 h2 h3
  rw [View.read_writes_cons_put v f i3 _ _ rfl, View.read_writes_cons_put v f i2 _ _ rfl, View.read_writes_cons_put v f i1 _ _ rfl, View.read_writes_cons_put v f i0 _ _ rfl]
  exact put_outCq _ s

set_option maxHeartbeats 400000 in
theorem zeroAll_wp (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole) (s : Acc F) (E : Set ℕ) (K : PUnit → sProp 𝕄) (k : Unit → Prog (TpuEff nD τ sig (Elt F) Λ₀ .tc) PUnit) :
    iprop(owns (c : Thread nD τ) arg17 fullShare s.dq ∗ owns (c : Thread nD τ) arg18 fullShare s.dk ∗ owns (c : Thread nD τ) arg19 fullShare s.dv ∗ owns (c : Thread nD τ) arg20 fullShare s.cq ∗ owns (c : Thread nD τ) arg21 fullShare s.ck ∗ (iprop(owns (c : Thread nD τ) arg17 fullShare (zeroPair i s).dq ∗ owns (c : Thread nD τ) arg18 fullShare (zeroPair i s).dk ∗ owns (c : Thread nD τ) arg19 fullShare (zeroPair i s).dv ∗ owns (c : Thread nD τ) arg20 fullShare (zeroPair i s).cq ∗ owns (c : Thread nD τ) arg21 fullShare (zeroPair i s).ck) -∗ wp frame (wpE (defs₀ (F := F)) Variants.none c none) E (k ⟨⟩) K)) ⊢ wp frame (wpE (defs₀ (F := F)) Variants.none c none) E (zeroAll (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k) K := by
  by_cases h : condPair i
  · unfold zeroPair; simp only [if_pos h]
    obtain ⟨sdq, sdk, sdv, scq, sck⟩ := s
    unfold zeroAll owns
    iintro ⟨⟨%f17, %e17, H17⟩, ⟨%f18, %e18, H18⟩, ⟨%f19, %e19, H19⟩, ⟨%f20, %e20, H20⟩, ⟨%f21, %e21, H21⟩, Hk⟩
    subst e17 e18 e19 e20 e21
    sl_exec (disch := first | sl_exact h)
    iapply Hk
    isplitl [H17]
    · iexists _; isplitr; swap; · iexact H17
      ipureintro
      exact View.read_writes_full _ _ _ _ _
    isplitl [H18]
    · iexists _; isplitr; swap; · iexact H18
      ipureintro
      rfl
    isplitl [H19]
    · iexists _; isplitr; swap; · iexact H19
      ipureintro
      rfl
    isplitl [H20]
    · iexists _; isplitr; swap; · iexact H20
      ipureintro
      exact View.read_writes_full _ _ _ _ _
    · iexists _; isplitr; swap; · iexact H21
      ipureintro
      rfl
  · unfold zeroPair; simp only [if_neg h]
    unfold zeroAll
    iintro ⟨H17, H18, H19, H20, H21, Hk⟩
    sl_exec (disch := first | sl_exact h)
    iapply Hk
    iframe

set_option maxHeartbeats 400000 in
theorem zeroKeys_wp (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole) (s : Acc F) (E : Set ℕ) (K : PUnit → sProp 𝕄) (k : Unit → Prog (TpuEff nD τ sig (Elt F) Λ₀ .tc) PUnit) :
    iprop(owns (c : Thread nD τ) arg17 fullShare s.dq ∗ owns (c : Thread nD τ) arg18 fullShare s.dk ∗ owns (c : Thread nD τ) arg19 fullShare s.dv ∗ owns (c : Thread nD τ) arg20 fullShare s.cq ∗ owns (c : Thread nD τ) arg21 fullShare s.ck ∗ (iprop(owns (c : Thread nD τ) arg17 fullShare (zeroTile i s).dq ∗ owns (c : Thread nD τ) arg18 fullShare (zeroTile i s).dk ∗ owns (c : Thread nD τ) arg19 fullShare (zeroTile i s).dv ∗ owns (c : Thread nD τ) arg20 fullShare (zeroTile i s).cq ∗ owns (c : Thread nD τ) arg21 fullShare (zeroTile i s).ck) -∗ wp frame (wpE (defs₀ (F := F)) Variants.none c none) E (k ⟨⟩) K)) ⊢ wp frame (wpE (defs₀ (F := F)) Variants.none c none) E (zeroKeys (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k) K := by
  by_cases h : condTile i
  · unfold zeroTile; simp only [if_pos h]
    obtain ⟨sdq, sdk, sdv, scq, sck⟩ := s
    unfold zeroKeys owns
    iintro ⟨⟨%f17, %e17, H17⟩, ⟨%f18, %e18, H18⟩, ⟨%f19, %e19, H19⟩, ⟨%f20, %e20, H20⟩, ⟨%f21, %e21, H21⟩, Hk⟩
    subst e17 e18 e19 e20 e21
    sl_exec (disch := first | sl_exact h)
    iapply Hk
    isplitl [H17]
    · iexists _; isplitr; swap; · iexact H17
      ipureintro
      rfl
    isplitl [H18]
    · iexists _; isplitr; swap; · iexact H18
      ipureintro
      exact View.read_writes_full _ _ _ _ _
    isplitl [H19]
    · iexists _; isplitr; swap; · iexact H19
      ipureintro
      exact View.read_writes_full _ _ _ _ _
    isplitl [H20]
    · iexists _; isplitr; swap; · iexact H20
      ipureintro
      rfl
    · iexists _; isplitr; swap; · iexact H21
      ipureintro
      exact View.read_writes_full _ _ _ _ _
  · unfold zeroTile; simp only [if_neg h]
    unfold zeroKeys
    iintro ⟨H17, H18, H19, H20, H21, Hk⟩
    sl_exec (disch := first | sl_exact h)
    iapply Hk
    iframe

set_option maxHeartbeats 400000 in
theorem stepFull_skip (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole) (h : ¬ k0_cond3 i = 1#1) (E : Set ℕ) (K : PUnit → sProp 𝕄) (k : Unit → Prog (TpuEff nD τ sig (Elt F) Λ₀ .tc) PUnit) :
    iprop(wp frame (wpE (defs₀ (F := F)) Variants.none c none) E (k ⟨⟩) K) ⊢ wp frame (wpE (defs₀ (F := F)) Variants.none c none) E (stepFull (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k) K := by
  unfold stepFull
  iintro Hk
  sl_exec (disch := first | sl_exact h)
  iexact Hk

set_option maxHeartbeats 400000 in
theorem stepDiag_skip (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole) (h : ¬ k0_cond4 i = 1#1) (E : Set ℕ) (K : PUnit → sProp 𝕄) (k : Unit → Prog (TpuEff nD τ sig (Elt F) Λ₀ .tc) PUnit) :
    iprop(wp frame (wpE (defs₀ (F := F)) Variants.none c none) E (k ⟨⟩) K) ⊢ wp frame (wpE (defs₀ (F := F)) Variants.none c none) E (stepDiag (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k) K := by
  unfold stepDiag
  iintro Hk
  sl_exec (disch := first | sl_exact h)
  iexact Hk

set_option maxHeartbeats 400000 in
theorem storeKeys_skip (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole) (h : ¬ k0_cond5 i = 1#1) (E : Set ℕ) (K : PUnit → sProp 𝕄) (k : Unit → Prog (TpuEff nD τ sig (Elt F) Λ₀ .tc) PUnit) :
    iprop(wp frame (wpE (defs₀ (F := F)) Variants.none c none) E (k ⟨⟩) K) ⊢ wp frame (wpE (defs₀ (F := F)) Variants.none c none) E (storeKeys (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k) K := by
  unfold storeKeys
  iintro Hk
  sl_exec (disch := first | sl_exact h)
  iexact Hk

set_option maxHeartbeats 400000 in
theorem storeQueries_skip (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole) (h : ¬ k0_cond6 i = 1#1) (E : Set ℕ) (K : PUnit → sProp 𝕄) (k : Unit → Prog (TpuEff nD τ sig (Elt F) Λ₀ .tc) PUnit) :
    iprop(wp frame (wpE (defs₀ (F := F)) Variants.none c none) E (k ⟨⟩) K) ⊢ wp frame (wpE (defs₀ (F := F)) Variants.none c none) E (storeQueries (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k) K := by
  unfold storeQueries
  iintro Hk
  sl_exec (disch := first | sl_exact h)
  iexact Hk

set_option maxHeartbeats 400000 in
theorem storeKeys_wp (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole) (h : k0_cond5 i = 1#1) (s : Acc F) (E : Set ℕ) (K : PUnit → sProp 𝕄) (k : Unit → Prog (TpuEff nD τ sig (Elt F) Λ₀ .tc) PUnit) :
    iprop(owns (c : Thread nD τ) arg17 fullShare s.dq ∗ owns (c : Thread nD τ) arg18 fullShare s.dk ∗ owns (c : Thread nD τ) arg19 fullShare s.dv ∗ owns (c : Thread nD τ) arg20 fullShare s.cq ∗ owns (c : Thread nD τ) arg21 fullShare s.ck ∗ (∃ d, owns (c : Thread nD τ) arg13 fullShare d) ∗ (∃ d, owns (c : Thread nD τ) arg14 fullShare d) ∗ (∃ d, owns (c : Thread nD τ) arg16 fullShare d)
      ∗ (iprop(owns (c : Thread nD τ) arg17 fullShare s.dq ∗ owns (c : Thread nD τ) arg18 fullShare s.dk ∗ owns (c : Thread nD τ) arg19 fullShare s.dv ∗ owns (c : Thread nD τ) arg20 fullShare s.cq ∗ owns (c : Thread nD τ) arg21 fullShare s.ck ∗ owns (c : Thread nD τ) arg13 fullShare (k0_pay10 s.dk) ∗ owns (c : Thread nD τ) arg14 fullShare (k0_pay11 s.dv) ∗ owns (c : Thread nD τ) arg16 fullShare (k0_pay12 s.ck)) -∗ wp frame (wpE (defs₀ (F := F)) Variants.none c none) E (k ⟨⟩) K))
    ⊢ wp frame (wpE (defs₀ (F := F)) Variants.none c none) E (storeKeys (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k) K := by
  obtain ⟨sdq, sdk, sdv, scq, sck⟩ := s
  unfold storeKeys owns
  iintro ⟨⟨%f17, %e17, H17⟩, ⟨%f18, %e18, H18⟩, ⟨%f19, %e19, H19⟩, ⟨%f20, %e20, H20⟩, ⟨%f21, %e21, H21⟩, ⟨%d13, %f13, %e13, H13⟩, ⟨%d14, %f14, %e14, H14⟩, ⟨%d16, %f16, %e16, H16⟩, Hk⟩
  subst e17 e18 e19 e20 e21
  sl_exec (disch := first | sl_exact h)
  iapply Hk
  isplitl [H17]
  · iexists _; isplitr; swap; · iexact H17
    ipureintro
    rfl
  isplitl [H18]
  · iexists _; isplitr; swap; · iexact H18
    ipureintro
    rfl
  isplitl [H19]
  · iexists _; isplitr; swap; · iexact H19
    ipureintro
    rfl
  isplitl [H20]
  · iexists _; isplitr; swap; · iexact H20
    ipureintro
    rfl
  isplitl [H21]
  · iexists _; isplitr; swap; · iexact H21
    ipureintro
    rfl
  isplitl [H13]
  · iexists _; isplitr; swap; · iexact H13
    ipureintro
    exact (View.read_writes_full _ _ _ _ _).trans (by simp only [readAt_tile])
  isplitl [H14]
  · iexists _; isplitr; swap; · iexact H14
    ipureintro
    exact (View.read_writes_full _ _ _ _ _).trans (by simp only [readAt_tile])
  · iexists _; isplitr; swap; · iexact H16
    ipureintro
    exact (View.read_writes_full _ _ _ _ _).trans (by simp only [readAt_tile])

set_option maxHeartbeats 400000 in
theorem storeQueries_wp (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole) (h : k0_cond6 i = 1#1) (s : Acc F) (E : Set ℕ) (K : PUnit → sProp 𝕄) (k : Unit → Prog (TpuEff nD τ sig (Elt F) Λ₀ .tc) PUnit) :
    iprop(owns (c : Thread nD τ) arg17 fullShare s.dq ∗ owns (c : Thread nD τ) arg18 fullShare s.dk ∗ owns (c : Thread nD τ) arg19 fullShare s.dv ∗ owns (c : Thread nD τ) arg20 fullShare s.cq ∗ owns (c : Thread nD τ) arg21 fullShare s.ck ∗ (∃ d, owns (c : Thread nD τ) arg12 fullShare d) ∗ (∃ d, owns (c : Thread nD τ) arg15 fullShare d)
      ∗ (iprop(owns (c : Thread nD τ) arg17 fullShare s.dq ∗ owns (c : Thread nD τ) arg18 fullShare s.dk ∗ owns (c : Thread nD τ) arg19 fullShare s.dv ∗ owns (c : Thread nD τ) arg20 fullShare s.cq ∗ owns (c : Thread nD τ) arg21 fullShare s.ck ∗ owns (c : Thread nD τ) arg12 fullShare (outDq s) ∗ owns (c : Thread nD τ) arg15 fullShare (outCq s)) -∗ wp frame (wpE (defs₀ (F := F)) Variants.none c none) E (k ⟨⟩) K))
    ⊢ wp frame (wpE (defs₀ (F := F)) Variants.none c none) E (storeQueries (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k) K := by
  obtain ⟨sdq, sdk, sdv, scq, sck⟩ := s
  unfold storeQueries owns
  simp only [k0_part11_eq_skeleton]
  iintro ⟨⟨%f17, %e17, H17⟩, ⟨%f18, %e18, H18⟩, ⟨%f19, %e19, H19⟩, ⟨%f20, %e20, H20⟩, ⟨%f21, %e21, H21⟩, ⟨%d12, %f12, %e12, H12⟩, ⟨%d15, %f15, %e15, H15⟩, Hk⟩
  subst e17 e18 e19 e20 e21
  sl_exec (disch := first | sl_exact h)
  iapply Hk
  isplitl [H17]
  · iexists _; isplitr; swap; · iexact H17
    ipureintro
    rfl
  isplitl [H18]
  · iexists _; isplitr; swap; · iexact H18
    ipureintro
    rfl
  isplitl [H19]
  · iexists _; isplitr; swap; · iexact H19
    ipureintro
    rfl
  isplitl [H20]
  · iexists _; isplitr; swap; · iexact H20
    ipureintro
    rfl
  isplitl [H21]
  · iexists _; isplitr; swap; · iexact H21
    ipureintro
    rfl
  isplitl [H12]
  · iexists _; isplitr; swap; · iexact H12
    ipureintro
    exact read_outDq _ _ ⟨_, _, _, _, _⟩ _ _ _ _ _ _ _ _ (congrArg k0_pay82 (readAt_slab _ _ 0 _ rfl)) (congrArg k0_pay84 (readAt_slab _ _ 1 _ rfl)) (congrArg k0_pay86 (readAt_slab _ _ 2 _ rfl)) (congrArg k0_pay14 (readAt_slab _ _ 3 _ rfl))
  · iexists _; isplitr; swap; · iexact H15
    ipureintro
    exact read_outCq _ _ ⟨_, _, _, _, _⟩ _ _ _ _ _ _ _ _ (congrArg k0_pay83 (readAt_heads _ _ 0 _ rfl)) (congrArg k0_pay85 (readAt_heads _ _ 1 _ rfl)) (congrArg k0_pay13 (readAt_heads _ _ 2 _ rfl)) (congrArg k0_pay15 (readAt_heads _ _ 3 _ rfl))

end Cert.KernelIdeal.Grad
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic
public import Idealize.ShloMosaic.Lib.WordCmp
public import proofs.«01_k».proof.Proof.Steps1
public import proofs.«01_k».proof.Proof.Steps2
public import proofs.«01_k».proof.Proof.Steps3

@[expose] public section

set_option maxRecDepth 16384

noncomputable section

namespace Cert.KernelIdeal.Grad

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem addFull_wp (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole)
    (x : Ins F) (s : Acc F) (E : Set ℕ) (K : PUnit → sProp 𝕄) (k : Unit → Prog (TpuEff nD τ sig (Elt F) Λ₀ .tc) PUnit) :
    iprop(owns (c : Thread nD τ) arg3 fullShare x.q ∗ owns (c : Thread nD τ) arg4 fullShare x.k ∗ owns (c : Thread nD τ) arg5 fullShare x.kt ∗ owns (c : Thread nD τ) arg6 fullShare x.v ∗ owns (c : Thread nD τ) arg7 fullShare x.g ∗ owns (c : Thread nD τ) arg8 fullShare x.lse ∗ owns (c : Thread nD τ) arg9 fullShare x.row ∗ owns (c : Thread nD τ) arg10 fullShare x.cumT ∗ owns (c : Thread nD τ) arg11 fullShare x.cum ∗ owns (c : Thread nD τ) arg17 fullShare s.dq ∗ owns (c : Thread nD τ) arg18 fullShare s.dk ∗ owns (c : Thread nD τ) arg19 fullShare s.dv ∗ owns (c : Thread nD τ) arg20 fullShare s.cq ∗ owns (c : Thread nD τ) arg21 fullShare s.ck ∗ (iprop(owns (c : Thread nD τ) arg3 fullShare x.q ∗ owns (c : Thread nD τ) arg4 fullShare x.k ∗ owns (c : Thread nD τ) arg5 fullShare x.kt ∗ owns (c : Thread nD τ) arg6 fullShare x.v ∗ owns (c : Thread nD τ) arg7 fullShare x.g ∗ owns (c : Thread nD τ) arg8 fullShare x.lse ∗ owns (c : Thread nD τ) arg9 fullShare x.row ∗ owns (c : Thread nD τ) arg10 fullShare x.cumT ∗ owns (c : Thread nD τ) arg11 fullShare x.cum ∗ owns (c : Thread nD τ) arg17 fullShare (addFull i x s).dq ∗ owns (c : Thread nD τ) arg18 fullShare (addFull i x s).dk ∗ owns (c : Thread nD τ) arg19 fullShare (addFull i x s).dv ∗ owns (c : Thread nD τ) arg20 fullShare (addFull i x s).cq ∗ owns (c : Thread nD τ) arg21 fullShare (addFull i x s).ck) -∗ wp frame (wpE (defs₀ (F := F)) Variants.none c none) E (k ⟨⟩) K))
    ⊢ wp frame (wpE (defs₀ (F := F)) Variants.none c none) E (stepFull (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k) K := by
  unfold addFull
  by_cases h : k0_cond3 i = 1#1
  · simp only [if_pos h]; exact stepFull_wp c i _ _ _ _ _ _ _ _ _ _ _ _ _ _ _ _ _ _ _ _ _ _ _ _ _ _ _ _ _ _ _ _ _ _ _ _ _ _ h x s E K k
  · simp only [if_neg h]
    iintro ⟨H3, H4, H5, H6, H7, H8, H9, H10, H11, H17, H18, H19, H20, H21, Hk⟩
    iapply (stepFull_skip c i _ _ _ _ _ _ _ _ _ _ _ _ _ _ _ _ _ _ _ _ _ _ _ _ _ _ _ _ _ _ _ _ _ _ _ _ _ _ h E K k)
    iapply Hk
    iframe

theorem addDiag_wp (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole)
    (x : Ins F) (s : Acc F) (E : Set ℕ) (K : PUnit → sProp 𝕄) (k : Unit → Prog (TpuEff nD τ sig (Elt F) Λ₀ .tc) PUnit) :
    iprop(owns (c : Thread nD τ) arg3 fullShare x.q ∗ owns (c : Thread nD τ) arg4 fullShare x.k ∗ owns (c : Thread nD τ) arg5 fullShare x.kt ∗ owns (c : Thread nD τ) arg6 fullShare x.v ∗ owns (c : Thread nD τ) arg7 fullShare x.g ∗ owns (c : Thread nD τ) arg8 fullShare x.lse ∗ owns (c : Thread nD τ) arg9 fullShare x.row ∗ owns (c : Thread nD τ) arg10 fullShare x.cumT ∗ owns (c : Thread nD τ) arg11 fullShare x.cum ∗ owns (c : Thread nD τ) arg17 fullShare s.dq ∗ owns (c : Thread nD τ) arg18 fullShare s.dk ∗ owns (c : Thread nD τ) arg19 fullShare s.dv ∗ owns (c : Thread nD τ) arg20 fullShare s.cq ∗ owns (c : Thread nD τ) arg21 fullShare s.ck ∗ (iprop(owns (c : Thread nD τ) arg3 fullShare x.q ∗ owns (c : Thread nD τ) arg4 fullShare x.k ∗ owns (c : Thread nD τ) arg5 fullShare x.kt ∗ owns (c : Thread nD τ) arg6 fullShare x.v ∗ owns (c : Thread nD τ) arg7 fullShare x.g ∗ owns (c : Thread nD τ) arg8 fullShare x.lse ∗ owns (c : Thread nD τ) arg9 fullShare x.row ∗ owns (c : Thread nD τ) arg10 fullShare x.cumT ∗ owns (c : Thread nD τ) arg11 fullShare x.cum ∗ owns (c : Thread nD τ) arg17 fullShare (addDiag i x s).dq ∗ owns (c : Thread nD τ) arg18 fullShare (addDiag i x s).dk ∗ owns (c : Thread nD τ) arg19 fullShare (addDiag i x s).dv ∗ owns (c : Thread nD τ) arg20 fullShare (addDiag i x s).cq ∗ owns (c : Thread nD τ) arg21 fullShare (addDiag i x s).ck) -∗ wp frame (wpE (defs₀ (F := F)) Variants.none c none) E (k ⟨⟩) K))
    ⊢ wp frame (wpE (defs₀ (F := F)) Variants.none c none) E (stepDiag (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k) K := by
  unfold addDiag
  by_cases h : k0_cond4 i = 1#1
  · simp only [if_pos h]; exact stepDiag_wp c i _ _ _ _ _ _ _ _ _ _ _ _ _ _ _ _ _ _ _ _ _ _ _ _ _ _ _ _ _ _ _ _ _ _ _ _ _ _ h x s E K k
  · simp only [if_neg h]
    iintro ⟨H3, H4, H5, H6, H7, H8, H9, H10, H11, H17, H18, H19, H20, H21, Hk⟩
    iapply (stepDiag_skip c i _ _ _ _ _ _ _ _ _ _ _ _ _ _ _ _ _ _ _ _ _ _ _ _ _ _ _ _ _ _ _ _ _ _ _ _ _ _ h E K k)
    iapply Hk
    iframe

theorem storeKeys_all (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole) (s : Acc F) (d13 : Vec F S1024x128 .bf16) (d14 : Vec F S1024x128 .bf16) (d16 : Vec F S1x1024x128 .f32) (E : Set ℕ) (K : PUnit → sProp 𝕄) (k : Unit → Prog (TpuEff nD τ sig (Elt F) Λ₀ .tc) PUnit) :
    iprop(owns (c : Thread nD τ) arg17 fullShare s.dq ∗ owns (c : Thread nD τ) arg18 fullShare s.dk ∗ owns (c : Thread nD τ) arg19 fullShare s.dv ∗ owns (c : Thread nD τ) arg20 fullShare s.cq ∗ owns (c : Thread nD τ) arg21 fullShare s.ck ∗ owns (c : Thread nD τ) arg13 fullShare d13 ∗ owns (c : Thread nD τ) arg14 fullShare d14 ∗ owns (c : Thread nD τ) arg16 fullShare d16 ∗ (iprop(owns (c : Thread nD τ) arg17 fullShare s.dq ∗ owns (c : Thread nD τ) arg18 fullShare s.dk ∗ owns (c : Thread nD τ) arg19 fullShare s.dv ∗ owns (c : Thread nD τ) arg20 fullShare s.cq ∗ owns (c : Thread nD τ) arg21 fullShare s.ck ∗ owns (c : Thread nD τ) arg13 fullShare (if k0_cond5 i = 1#1 then (k0_pay10 s.dk) else d13) ∗ owns (c : Thread nD τ) arg14 fullShare (if k0_cond5 i = 1#1 then (k0_pay11 s.dv) else d14) ∗ owns (c : Thread nD τ) arg16 fullShare (if k0_cond5 i = 1#1 then (k0_pay12 s.ck) else d16)) -∗ wp frame (wpE (defs₀ (F := F)) Variants.none c none) E (k ⟨⟩) K))
    ⊢ wp frame (wpE (defs₀ (F := F)) Variants.none c none) E (storeKeys (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k) K := by
  by_cases h : k0_cond5 i = 1#1
  · simp only [if_pos h]
    iintro ⟨H17, H18, H19, H20, H21, H13, H14, H16, Hk⟩
    iapply (storeKeys_wp c i _ _ _ _ _ _ _ _ _ _ _ _ _ _ _ _ _ _ _ _ _ _ _ _ _ _ _ _ _ _ _ _ _ _ _ _ _ _ h s E K k)
    isplitl [H17]; · iexact H17
    isplitl [H18]; · iexact H18
    isplitl [H19]; · iexact H19
    isplitl [H20]; · iexact H20
    isplitl [H21]; · iexact H21
    isplitl [H13]; · iexists _; iexact H13
    isplitl [H14]; · iexists _; iexact H14
    isplitl [H16]; · iexists _; iexact H16
    iexact Hk
  · simp only [if_neg h]
    iintro ⟨H17, H18, H19, H20, H21, H13, H14, H16, Hk⟩
    iapply (storeKeys_skip c i _ _ _ _ _ _ _ _ _ _ _ _ _ _ _ _ _ _ _ _ _ _ _ _ _ _ _ _ _ _ _ _ _ _ _ _ _ _ h E K k)
    iapply Hk
    iframe

theorem storeQueries_all (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole) (s : Acc F) (d12 : Vec F S4096x128 .bf16) (d15 : Vec F S1x8x4096 .f32) (E : Set ℕ) (K : PUnit → sProp 𝕄) (k : Unit → Prog (TpuEff nD τ sig (Elt F) Λ₀ .tc) PUnit) :
    iprop(owns (c : Thread nD τ) arg17 fullShare s.dq ∗ owns (c : Thread nD τ) arg18 fullShare s.dk ∗ owns (c : Thread nD τ) arg19 fullShare s.dv ∗ owns (c : Thread nD τ) arg20 fullShare s.cq ∗ owns (c : Thread nD τ) arg21 fullShare s.ck ∗ owns (c : Thread nD τ) arg12 fullShare d12 ∗ owns (c : Thread nD τ) arg15 fullShare d15 ∗ (iprop(owns (c : Thread nD τ) arg17 fullShare s.dq ∗ owns (c : Thread nD τ) arg18 fullShare s.dk ∗ owns (c : Thread nD τ) arg19 fullShare s.dv ∗ owns (c : Thread nD τ) arg20 fullShare s.cq ∗ owns (c : Thread nD τ) arg21 fullShare s.ck ∗ owns (c : Thread nD τ) arg12 fullShare (if k0_cond6 i = 1#1 then (outDq s) else d12) ∗ owns (c : Thread nD τ) arg15 fullShare (if k0_cond6 i = 1#1 then (outCq s) else d15)) -∗ wp frame (wpE (defs₀ (F := F)) Variants.none c none) E (k ⟨⟩) K))
    ⊢ wp frame (wpE (defs₀ (F := F)) Variants.none c none) E (storeQueries (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k) K := by
  by_cases h : k0_cond6 i = 1#1
  · simp only [if_pos h]
    iintro ⟨H17, H18, H19, H20, H21, H12, H15, Hk⟩
    iapply (storeQueries_wp c i _ _ _ _ _ _ _ _ _ _ _ _ _ _ _ _ _ _ _ _ _ _ _ _ _ _ _ _ _ _ _ _ _ _ _ _ _ _ h s E K k)
    isplitl [H17]; · iexact H17
    isplitl [H18]; · iexact H18
    isplitl [H19]; · iexact H19
    isplitl [H20]; · iexact H20
    isplitl [H21]; · iexact H21
    isplitl [H12]; · iexists _; iexact H12
    isplitl [H15]; · iexists _; iexact H15
    iexact Hk
  · simp only [if_neg h]
    iintro ⟨H17, H18, H19, H20, H21, H12, H15, Hk⟩
    iapply (storeQueries_skip c i _ _ _ _ _ _ _ _ _ _ _ _ _ _ _ _ _ _ _ _ _ _ _ _ _ _ _ _ _ _ _ _ _ _ _ _ _ _ h E K k)
    iapply Hk
    iframe

/-- The whole body at a grid point: the accumulators move by `next`, and the outputs are written where their guards hold. -/
theorem body_wp (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S8x1024 .f32) (harg10 : arg10.IsWhole) (arg11 : Memref sig .tc .vmem S1024x128 .f32) (harg11 : arg11.IsWhole) (arg12 : Memref sig .tc .vmem S4096x128 .bf16) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S1x8x4096 .f32) (harg15 : arg15.IsWhole) (arg16 : Memref sig .tc .vmem S1x1024x128 .f32) (harg16 : arg16.IsWhole) (arg17 : Memref sig .tc .vmem S4x128x1024 .f32) (harg17 : arg17.IsWhole) (arg18 : Memref sig .tc .vmem S1024x128 .f32) (harg18 : arg18.IsWhole) (arg19 : Memref sig .tc .vmem S1024x128 .f32) (harg19 : arg19.IsWhole) (arg20 : Memref sig .tc .vmem S4x8x1024 .f32) (harg20 : arg20.IsWhole) (arg21 : Memref sig .tc .vmem S1024x128 .f32) (harg21 : arg21.IsWhole) (x : Ins F) (s : Acc F) (d12 : Vec F S4096x128 .bf16) (d13 : Vec F S1024x128 .bf16) (d14 : Vec F S1024x128 .bf16) (d15 : Vec F S1x8x4096 .f32) (d16 : Vec F S1x1024x128 .f32) (E : Set ℕ) (K : PUnit → sProp 𝕄) :
    iprop(owns (c : Thread nD τ) arg3 fullShare x.q ∗ owns (c : Thread nD τ) arg4 fullShare x.k ∗ owns (c : Thread nD τ) arg5 fullShare x.kt ∗ owns (c : Thread nD τ) arg6 fullShare x.v ∗ owns (c : Thread nD τ) arg7 fullShare x.g ∗ owns (c : Thread nD τ) arg8 fullShare x.lse ∗ owns (c : Thread nD τ) arg9 fullShare x.row ∗ owns (c : Thread nD τ) arg10 fullShare x.cumT ∗ owns (c : Thread nD τ) arg11 fullShare x.cum ∗ owns (c : Thread nD τ) arg17 fullShare s.dq ∗ owns (c : Thread nD τ) arg18 fullShare s.dk ∗ owns (c : Thread nD τ) arg19 fullShare s.dv ∗ owns (c : Thread nD τ) arg20 fullShare s.cq ∗ owns (c : Thread nD τ) arg21 fullShare s.ck ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16
      ∗ (iprop(owns (c : Thread nD τ) arg3 fullShare x.q ∗ owns (c : Thread nD τ) arg4 fullShare x.k ∗ owns (c : Thread nD τ) arg5 fullShare x.kt ∗ owns (c : Thread nD τ) arg6 fullShare x.v ∗ owns (c : Thread nD τ) arg7 fullShare x.g ∗ owns (c : Thread nD τ) arg8 fullShare x.lse ∗ owns (c : Thread nD τ) arg9 fullShare x.row ∗ owns (c : Thread nD τ) arg10 fullShare x.cumT ∗ owns (c : Thread nD τ) arg11 fullShare x.cum ∗ owns (c : Thread nD τ) arg17 fullShare (next i x s).dq ∗ owns (c : Thread nD τ) arg18 fullShare (next i x s).dk ∗ owns (c : Thread nD τ) arg19 fullShare (next i x s).dv ∗ owns (c : Thread nD τ) arg20 fullShare (next i x s).cq ∗ owns (c : Thread nD τ) arg21 fullShare (next i x s).ck ∗ owns (c : Thread nD τ) arg12 fullShare (if k0_cond6 i = 1#1 then (outDq (next i x s)) else d12) ∗ owns (c : Thread nD τ) arg13 fullShare (if k0_cond5 i = 1#1 then (k0_pay10 (next i x s).dk) else d13) ∗ owns (c : Thread nD τ) arg14 fullShare (if k0_cond5 i = 1#1 then (k0_pay11 (next i x s).dv) else d14) ∗ owns (c : Thread nD τ) arg15 fullShare (if k0_cond6 i = 1#1 then (outCq (next i x s)) else d15) ∗ owns (c : Thread nD τ) arg16 fullShare (if k0_cond5 i = 1#1 then (k0_pay12 (next i x s).ck) else d16)) -∗ K ⟨⟩))
    ⊢ wp frame (wpE (defs₀ (F := F)) Variants.none c none) E (cc0_fox_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  rw [body_eq]
  iintro ⟨H3, H4, H5, H6, H7, H8, H9, H10, H11, H17, H18, H19, H20, H21, H12, H13, H14, H15, H16, Hk⟩
  iapply (zeroAll_wp c i _ _ _ _ _ _ _ _ _ _ _ _ _ _ _ _ _ _ _ _ _ _ _ _ _ _ _ _ _ _ _ _ _ _ _ _ _ _ s E K _)
  isplitl [H17]; · iexact H17
  isplitl [H18]; · iexact H18
  isplitl [H19]; · iexact H19
  isplitl [H20]; · iexact H20
  isplitl [H21]; · iexact H21
  iintro ⟨H17, H18, H19, H20, H21⟩
  iapply (zeroKeys_wp c i _ _ _ _ _ _ _ _ _ _ _ _ _ _ _ _ _ _ _ _ _ _ _ _ _ _ _ _ _ _ _ _ _ _ _ _ _ _ (zeroPair i s) E K _)
  isplitl [H17]; · iexact H17
  isplitl [H18]; · iexact H18
  isplitl [H19]; · iexact H19
  isplitl [H20]; · iexact H20
  isplitl [H21]; · iexact H21
  iintro ⟨H17, H18, H19, H20, H21⟩
  iapply (addFull_wp c i _ _ _ _ _ _ _ _ _ _ _ _ _ _ _ _ _ _ _ _ _ _ _ _ _ _ _ _ _ _ _ _ _ _ _ _ _ _ x (zeroTile i (zeroPair i s)) E K _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H17]; · iexact H17
  isplitl [H18]; · iexact H18
  isplitl [H19]; · iexact H19
  isplitl [H20]; · iexact H20
  isplitl [H21]; · iexact H21
  iintro ⟨H3, H4, H5, H6, H7, H8, H9, H10, H11, H17, H18, H19, H20, H21⟩
  iapply (addDiag_wp c i _ _ _ _ _ _ _ _ _ _ _ _ _ _ _ _ _ _ _ _ _ _ _ _ _ _ _ _ _ _ _ _ _ _ _ _ _ _ x (addFull i x (zeroTile i (zeroPair i s))) E K _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H17]; · iexact H17
  isplitl [H18]; · iexact H18
  isplitl [H19]; · iexact H19
  isplitl [H20]; · iexact H20
  isplitl [H21]; · iexact H21
  iintro ⟨H3, H4, H5, H6, H7, H8, H9, H10, H11, H17, H18, H19, H20, H21⟩
  iapply (storeKeys_all c i _ _ _ _ _ _ _ _ _ _ _ _ _ _ _ _ _ _ _ _ _ _ _ _ _ _ _ _ _ _ _ _ _ _ _ _ _ _ (next i x s) _ _ _ E K _)
  isplitl [H17]; · iexact H17
  isplitl [H18]; · iexact H18
  isplitl [H19]; · iexact H19
  isplitl [H20]; · iexact H20
  isplitl [H21]; · iexact H21
  isplitl [H13]; · iexact H13
  isplitl [H14]; · iexact H14
  isplitl [H16]; · iexact H16
  iintro ⟨H17, H18, H19, H20, H21, H13, H14, H16⟩
  iapply (storeQueries_all c i _ _ _ _ _ _ _ _ _ _ _ _ _ _ _ _ _ _ _ _ _ _ _ _ _ _ _ _ _ _ _ _ _ _ _ _ _ _ (next i x s) _ _ E K _)
  isplitl [H17]; · iexact H17
  isplitl [H18]; · iexact H18
  isplitl [H19]; · iexact H19
  isplitl [H20]; · iexact H20
  isplitl [H21]; · iexact H21
  isplitl [H12]; · iexact H12
  isplitl [H15]; · iexact H15
  iintro ⟨H17, H18, H19, H20, H21, H12, H15⟩
  sl_exec
  rw [wp_ret]
  imodintro
  iapply Hk
  iframe

end Cert.KernelIdeal.Grad
-- ==== Proof.Run.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic
public import Idealize.ShloMosaic.Lib.WordCmp
public import proofs.«01_k».proof.Proof.Body
public import proofs.«01_k».proof.Proof.Gen.KernelIdeal.Frame
public import Idealize.ShloMosaic.Lib.Claim

@[expose] public section

set_option maxRecDepth 16384

noncomputable section

namespace Cert.KernelIdeal.Grad

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scM0_0 : Memref sig .tc .vmem S4x128x1024 .f32 := Memref.whole cc0_scratch0
abbrev scM0_1 : Memref sig .tc .vmem S1024x128 .f32 := Memref.whole cc0_scratch1
abbrev scM0_2 : Memref sig .tc .vmem S1024x128 .f32 := Memref.whole cc0_scratch2
abbrev scM0_3 : Memref sig .tc .vmem S4x8x1024 .f32 := Memref.whole cc0_scratch3
abbrev scM0_4 : Memref sig .tc .vmem S1024x128 .f32 := Memref.whole cc0_scratch4

/-- What the launch hands the region: the five accumulators at some contents, and the generator register. -/
theorem PhiA_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The tiles that grid point `t` reads. -/
def insAt (c : Dev nD) (t : Fin cfg0.N) : Ins F := ⟨iblk m c 0 t, iblk m c 1 t, iblk m c 2 t, iblk m c 3 t, iblk m c 4 t, iblk m c 5 t, iblk m c 6 t, iblk m c 7 t, iblk m c 8 t⟩

/-- The accumulators before the first point, which zeroes them all: any contents will do. -/
def blank : Acc F := ⟨k0_pay3, k0_pay5, k0_pay6, k0_pay4, k0_pay7⟩

/-- The accumulators after grid point `n`. -/
def accAt (c : Dev nD) : (n : ℕ) → n < cfg0.N → Acc F
  | 0, h => next (grid0.coords ⟨0, h⟩) (insAt m c ⟨0, h⟩) blank
  | n + 1, h => next (grid0.coords ⟨n + 1, h⟩) (insAt m c ⟨n + 1, h⟩) (accAt c n (Nat.lt_of_succ_lt h))

/-- Where both guards of the zeroing hold, the accumulators before the point do not matter. -/
theorem next_reset (i : grid0.Coords) (x : Ins F) (s s' : Acc F) (h1 : condPair i) (h2 : condTile i) : next i x s = next i x s' := by
  unfold next zeroPair zeroTile; simp only [if_pos h1, if_pos h2]

theorem conds_zero : ∀ t : Fin cfg0.N, t.val % 16 = 0 → condPair (grid0.coords t) ∧ condTile (grid0.coords t) := by decide +kernel

/-- The accumulators are owned at what the point before left; before the first point, at anything. -/
def PhiS (c : Dev nD) : (n : ℕ) → n ≤ cfg0.N → sProp 𝕄
  | 0, _ => Pipeline.ΦA spec0 c
  | n + 1, hn => iprop(iprop(owns (c : Thread nD τ) scM0_0 fullShare (accAt m c n hn).dq ∗ owns (c : Thread nD τ) scM0_1 fullShare (accAt m c n hn).dk ∗ owns (c : Thread nD τ) scM0_2 fullShare (accAt m c n hn).dv ∗ owns (c : Thread nD τ) scM0_3 fullShare (accAt m c n hn).cq ∗ owns (c : Thread nD τ) scM0_4 fullShare (accAt m c n hn).ck) ∗ (∃ r, prngReg c r))

theorem PhiS_zero (c : Dev nD) (n : ℕ) (h : n ≤ cfg0.N) (hz : n = 0) : PhiS m c n h = Pipeline.ΦA spec0 c := by subst hz; rfl

theorem PhiS_succ (c : Dev nD) (n : ℕ) (hn : n < cfg0.N) :
    PhiS m c (n + 1) hn = iprop(iprop(owns (c : Thread nD τ) scM0_0 fullShare (accAt m c n hn).dq ∗ owns (c : Thread nD τ) scM0_1 fullShare (accAt m c n hn).dk ∗ owns (c : Thread nD τ) scM0_2 fullShare (accAt m c n hn).dv ∗ owns (c : Thread nD τ) scM0_3 fullShare (accAt m c n hn).cq ∗ owns (c : Thread nD τ) scM0_4 fullShare (accAt m c n hn).ck) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega)).dq ∗ owns (c : Thread nD τ) scM0_1 fullShare (accAt m c (n - 1) (by omega)).dk ∗ owns (c : Thread nD τ) scM0_2 fullShare (accAt m c (n - 1) (by omega)).dv ∗ owns (c : Thread nD τ) scM0_3 fullShare (accAt m c (n - 1) (by omega)).cq ∗ owns (c : Thread nD τ) scM0_4 fullShare (accAt m c (n - 1) (by omega)).ck) ∗ (∃ r, prngReg c r)) := by
  cases n with
  | zero => exact absurd rfl hz
  | succ n => rfl

/-- What the run leaves: each input in place, each output at the accumulators' values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outDq (accAt m c t.val t.isLt)
    | ⟨10, _⟩ => k0_pay10 ((accAt m c t.val t.isLt)).dk
    | ⟨11, _⟩ => k0_pay11 ((accAt m c t.val t.isLt)).dv
    | ⟨12, _⟩ => outCq (accAt m c t.val t.isLt)
    | ⟨13, _⟩ => k0_pay12 ((accAt m c t.val t.isLt)).ck
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outDq (accAt m c t.val t.isLt) := by dsimp only [dats]
theorem after0_10 (c : Dev nD) (t : Fin cfg0.N) : (dats m 0 c).after 10 t = k0_pay10 ((accAt m c t.val t.isLt)).dk := by dsimp only [dats]
theorem after0_11 (c : Dev nD) (t : Fin cfg0.N) : (dats m 0 c).after 11 t = k0_pay11 ((accAt m c t.val t.isLt)).dv := by dsimp only [dats]
theorem after0_12 (c : Dev nD) (t : Fin cfg0.N) : (dats m 0 c).after 12 t = outCq (accAt m c t.val t.isLt) := by dsimp only [dats]
theorem after0_13 (c : Dev nD) (t : Fin cfg0.N) : (dats m 0 c).after 13 t = k0_pay12 ((accAt m c t.val t.isLt)).ck := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, k0_cond6 (grid0.coords t) = 1#1 → cfg0.idle 9 (grid0.coords t) = false := by decide +kernel
theorem idleAt0_9 : ∀ t : Fin cfg0.N, ¬ k0_cond6 (grid0.coords t) = 1#1 → cfg0.idle 9 (grid0.coords t) = true ∧ (cfg0.win 9).flush t = false := by decide +kernel
theorem liveAt0_10 : ∀ t : Fin cfg0.N, k0_cond5 (grid0.coords t) = 1#1 → cfg0.idle 10 (grid0.coords t) = false := by decide +kernel
theorem idleAt0_10 : ∀ t : Fin cfg0.N, ¬ k0_cond5 (grid0.coords t) = 1#1 → cfg0.idle 10 (grid0.coords t) = true ∧ (cfg0.win 10).flush t = false := by decide +kernel
theorem liveAt0_11 : ∀ t : Fin cfg0.N, k0_cond5 (grid0.coords t) = 1#1 → cfg0.idle 11 (grid0.coords t) = false := by decide +kernel
theorem idleAt0_11 : ∀ t : Fin cfg0.N, ¬ k0_cond5 (grid0.coords t) = 1#1 → cfg0.idle 11 (grid0.coords t) = true ∧ (cfg0.win 11).flush t = false := by decide +kernel
theorem liveAt0_12 : ∀ t : Fin cfg0.N, k0_cond6 (grid0.coords t) = 1#1 → cfg0.idle 12 (grid0.coords t) = false := by decide +kernel
theorem idleAt0_12 : ∀ t : Fin cfg0.N, ¬ k0_cond6 (grid0.coords t) = 1#1 → cfg0.idle 12 (grid0.coords t) = true ∧ (cfg0.win 12).flush t = false := by decide +kernel
theorem liveAt0_13 : ∀ t : Fin cfg0.N, k0_cond5 (grid0.coords t) = 1#1 → cfg0.idle 13 (grid0.coords t) = false := by decide +kernel
theorem idleAt0_13 : ∀ t : Fin cfg0.N, ¬ k0_cond5 (grid0.coords t) = 1#1 → cfg0.idle 13 (grid0.coords t) = true ∧ (cfg0.win 13).flush t = false := by decide +kernel

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)
abbrev ms0_12 (t : Fin cfg0.N) := win0_12.stage (cfg0.slots t 12)
abbrev ms0_13 (t : Fin cfg0.N) := win0_13.stage (cfg0.slots t 13)
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) (d) :
    owns (c : Thread nD τ) (ms0_9 t) fullShare (if k0_cond6 (grid0.coords t) = 1#1 then outDq (accAt m c t.val t.isLt) else (dats m 0 c).before 9 t d) ⊢ (dats m 0 c).leavesExact 9 t := by
  by_cases h : k0_cond6 (grid0.coords t) = 1#1
  · unfold Dat.leavesExact; rw [liveAt0_9 t h, if_pos h, after0_9]
  · rw [Dat.leavesExact_idle (dats m 0 c) 9 t (idleAt0_9 t h).1 (idleAt0_9 t h).2, if_neg h]
    iintro H
    iexists d; iexact H
theorem leaves0_10 (c : Dev nD) (t : Fin cfg0.N) (d) :
    owns (c : Thread nD τ) (ms0_10 t) fullShare (if k0_cond5 (grid0.coords t) = 1#1 then k0_pay10 ((accAt m c t.val t.isLt)).dk else (dats m 0 c).before 10 t d) ⊢ (dats m 0 c).leavesExact 10 t := by
  by_cases h : k0_cond5 (grid0.coords t) = 1#1
  · unfold Dat.leavesExact; rw [liveAt0_10 t h, if_pos h, after0_10]
  · rw [Dat.leavesExact_idle (dats m 0 c) 10 t (idleAt0_10 t h).1 (idleAt0_10 t h).2, if_neg h]
    iintro H
    iexists d; iexact H
theorem leaves0_11 (c : Dev nD) (t : Fin cfg0.N) (d) :
    owns (c : Thread nD τ) (ms0_11 t) fullShare (if k0_cond5 (grid0.coords t) = 1#1 then k0_pay11 ((accAt m c t.val t.isLt)).dv else (dats m 0 c).before 11 t d) ⊢ (dats m 0 c).leavesExact 11 t := by
  by_cases h : k0_cond5 (grid0.coords t) = 1#1
  · unfold Dat.leavesExact; rw [liveAt0_11 t h, if_pos h, after0_11]
  · rw [Dat.leavesExact_idle (dats m 0 c) 11 t (idleAt0_11 t h).1 (idleAt0_11 t h).2, if_neg h]
    iintro H
    iexists d; iexact H
theorem leaves0_12 (c : Dev nD) (t : Fin cfg0.N) (d) :
    owns (c : Thread nD τ) (ms0_12 t) fullShare (if k0_cond6 (grid0.coords t) = 1#1 then outCq (accAt m c t.val t.isLt) else (dats m 0 c).before 12 t d) ⊢ (dats m 0 c).leavesExact 12 t := by
  by_cases h : k0_cond6 (grid0.coords t) = 1#1
  · unfold Dat.leavesExact; rw [liveAt0_12 t h, if_pos h, after0_12]
  · rw [Dat.leavesExact_idle (dats m 0 c) 12 t (idleAt0_12 t h).1 (idleAt0_12 t h).2, if_neg h]
    iintro H
    iexists d; iexact H
theorem leaves0_13 (c : Dev nD) (t : Fin cfg0.N) (d) :
    owns (c : Thread nD τ) (ms0_13 t) fullShare (if k0_cond5 (grid0.coords t) = 1#1 then k0_pay12 ((accAt m c t.val t.isLt)).ck else (dats m 0 c).before 13 t d) ⊢ (dats m 0 c).leavesExact 13 t := by
  by_cases h : k0_cond5 (grid0.coords t) = 1#1
  · unfold Dat.leavesExact; rw [liveAt0_13 t h, if_pos h, after0_13]
  · rw [Dat.leavesExact_idle (dats m 0 c) 13 t (idleAt0_13 t h).1 (idleAt0_13 t h).2, if_neg h]
    iintro H
    iexists d; iexact H

/-- The accumulators after a point, from any contents that the point before may have left. -/
theorem accAt_pos (c : Dev nD) (t : Fin cfg0.N) (hz : t.val ≠ 0) :
    accAt m c t.val t.isLt = next (grid0.coords t) (insAt m c t) (accAt m c (t.val - 1) (by omega)) := by
  obtain ⟨n, hn⟩ := t
  cases n with
  | zero => exact absurd rfl hz
  | succ n => rfl

theorem accAt_zero (c : Dev nD) (t : Fin cfg0.N) (hz : t.val % 16 = 0) (s : Acc F) :
    accAt m c t.val t.isLt = next (grid0.coords t) (insAt m c t) s := by
  obtain ⟨n, hn⟩ := t
  cases n with
  | zero => exact next_reset _ _ _ _ (conds_zero _ hz).1 (conds_zero _ hz).2
  | succ n => exact next_reset _ _ _ _ (conds_zero _ hz).1 (conds_zero _ hz).2

def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)))

def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t)

set_option maxHeartbeats 1600000 in
/-- The body at any point, from what the point before left to what this one leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, leaves0_0, leaves0_1, leaves0_2, leaves0_3, leaves0_4, leaves0_5, leaves0_6, leaves0_7, leaves0_8]
  rw [show (dats m 0 c).owesAt () t.succ = (dats m 0 c).owesAt () t.castSucc from rfl]
  rw [show (dats m 0 c).Φ t.succ = PhiS m c (t.val + 1) t.isLt from rfl, PhiS_succ, PhiS_castSucc]
  by_cases hz : t.val = 0
  · rw [PhiS_zero m c _ _ hz, PhiA_eq]
    iintro ⟨⟨⟨⟨%s0, S0⟩, ⟨%s1, S1⟩, ⟨%s2, S2⟩, ⟨%s3, S3⟩, ⟨%s4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body_wp c (grid0.coords t) _ _ _ _ _ _ _ _ _ _ _ _ _ _ _ _ _ _ _ _ _ _ _ _ _ _ _ _ _ _ _ _ _ _ _ _ _ _ (insAt m c t) ⟨s0, s1, s2, s3, s4⟩ ((dats m 0 c).before 9 t d9) ((dats m 0 c).before 10 t d10) ((dats m 0 c).before 11 t d11) ((dats m 0 c).before 12 t d12) ((dats m 0 c).before 13 t d13) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [S4]; · iexact S4
    isplitl [H9]; · iexact H9
    isplitl [H10]; · iexact H10
    isplitl [H11]; · iexact H11
    isplitl [H12]; · iexact H12
    isplitl [H13]; · iexact H13
    iintro ⟨H0, H1, H2, H3, H4, H5, H6, H7, H8, S0, S1, S2, S3, S4, H9, H10, H11, H12, H13⟩
    rw [← accAt_zero m c t (by omega) ⟨s0, s1, s2, s3, s4⟩]
    isplitl [S0 S1 S2 S3 S4 Hg]
    · isplitl [S0 S1 S2 S3 S4]
      · iframe
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (leaves0_9 m c t d9); iexact H9
    isplitl [H10]; · iapply (leaves0_10 m c t d10); iexact H10
    isplitl [H11]; · iapply (leaves0_11 m c t d11); iexact H11
    isplitl [H12]; · iapply (leaves0_12 m c t d12); iexact H12
    iapply (leaves0_13 m c t d13); iexact H13

  · rw [PhiS_pos m c _ _ hz]
    iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body_wp c (grid0.coords t) _ _ _ _ _ _ _ _ _ _ _ _ _ _ _ _ _ _ _ _ _ _ _ _ _ _ _ _ _ _ _ _ _ _ _ _ _ _ (insAt m c t) (accAt m c (t.val - 1) (by omega)) ((dats m 0 c).before 9 t d9) ((dats m 0 c).before 10 t d10) ((dats m 0 c).before 11 t d11) ((dats m 0 c).before 12 t d12) ((dats m 0 c).before 13 t d13) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [S4]; · iexact S4
    isplitl [H9]; · iexact H9
    isplitl [H10]; · iexact H10
    isplitl [H11]; · iexact H11
    isplitl [H12]; · iexact H12
    isplitl [H13]; · iexact H13
    iintro ⟨H0, H1, H2, H3, H4, H5, H6, H7, H8, S0, S1, S2, S3, S4, H9, H10, H11, H12, H13⟩
    rw [← accAt_pos m c t hz]
    isplitl [S0 S1 S2 S3 S4 Hg]
    · isplitl [S0 S1 S2 S3 S4]
      · iframe
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (leaves0_9 m c t d9); iexact H9
    isplitl [H10]; · iapply (leaves0_10 m c t d10); iexact H10
    isplitl [H11]; · iapply (leaves0_11 m c t d11); iexact H11
    isplitl [H12]; · iapply (leaves0_12 m c t d12); iexact H12
    iapply (leaves0_13 m c t d13); iexact H13

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨S0, S1, S2, S3, S4⟩, Hg⟩
  isplitl [S0 S1 S2 S3 S4]
  · isplitl [S0]; · iexists _; iexact S0
    isplitl [S1]; · iexists _; iexact S1
    isplitl [S2]; · iexists _; iexact S2
    isplitl [S3]; · iexists _; iexact S3
    iexists _; iexact S4
  iexact Hg

theorem hout (c : Dev nD) : (dats m 0 c).Φ (Fin.last cfg0.N) ⊢ Pipeline.ΦA spec0 c :=
  Phi_out m c _ (by rw [Fin.val_last]; have : cfg0.N = 48 := N_0; omega)

set_option backward.isDefEq.respectTransparency.types false in
/-- Every run ends with each output array at what the grid points wrote back, and with every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they began and every semaphore counts zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Grad
-- ==== Proof.Same.lean ====
/- The kernel at its formats and the kernel over the extended reals are the same text, printed twice under two
   names: at any one arithmetic their programs are equal. -/
module
public import proofs.«01_k».proof.Defs
public import proofs.«01_k».proof.Proof.Gen.Kernel
public import proofs.«01_k».proof.Proof.Gen.KernelIdeal
@[expose] public section
set_option maxHeartbeats 4000000
noncomputable section
open Idealize.ShloMosaic Idealize.SL.Sem
namespace Cert.Same

/-- The kernel bodies agree. -/
theorem body_eq [Cert.Kernel.Facts] [Cert.KernelIdeal.Facts] :
    @Cert.KernelIdeal.cc0_fox_attn_bwd Bits _ _ = @Cert.Kernel.cc0_fox_attn_bwd Bits _ _ := rfl

/-- The tables of kernel bodies agree. -/
theorem defs₀_eq [Cert.Kernel.Facts] [Cert.KernelIdeal.Facts] :
    Cert.KernelIdeal.defs₀ (F := Bits) = Cert.Kernel.defs₀ := by
  unfold Cert.KernelIdeal.defs₀ Cert.Kernel.defs₀
  refine congrArg Defs.onTc (funext fun l => funext fun x => ?_)
  match l, x with
  | 0, (t, s) =>
    dsimp only
    rw [body_eq]
    rfl
  | ⟨_ + 1, h⟩, _ => exact absurd h (Nat.not_lt.2 (Nat.le_add_left _ _))

/-- The tables of labels, pipeline included, agree. -/
theorem defs_eq [Cert.Kernel.Facts] [Cert.KernelIdeal.Facts] :
    Cert.KernelIdeal.defs (F := Bits) = Cert.Kernel.defs := by
  unfold Cert.KernelIdeal.defs Cert.Kernel.defs
  exact congrArg (Pipeline.defs Cert.KernelIdeal.pcfgs) defs₀_eq

/-- The host programs agree. -/
theorem main_eq [Cert.Kernel.Facts] [Cert.KernelIdeal.Facts] :
    Cert.KernelIdeal.main (F := Bits) = Cert.Kernel.main := rfl

end Cert.Same
end
-- ==== Proof.Stages.lean ====
/- The reference program read as stages: each stage an array of the stages before, and each result the composition of the stages. -/
module

public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The projections by part and head. -/
def rX (A0 : FVec F S4096x1152 .f32) : FVec F S3x6x4096x64 .f32 :=
  transpose S3x6x4096x64 [1, 2, 0, 3] (shapeCast _ A0 shapeCasts_S4096x1152_S4096x3x6x64) transposes_S4096x3x6x64_S3x6x4096x64_1_2_0_3

/-- Queries by head. -/
def rQ (A0 : FVec F S4096x1152 .f32) : FVec F S6x4096x64 .f32 :=
  shapeCast _ (extractStridedSlice S1x6x4096x64 ![0, 0, 0, 0] (rX A0) slices_S3x6x4096x64_S1x6x4096x64_0_0_0_0) shapeCasts_S1x6x4096x64_S6x4096x64

/-- Keys by head. -/
def rK (A0 : FVec F S4096x1152 .f32) : FVec F S6x4096x64 .f32 :=
  shapeCast _ (extractStridedSlice S1x6x4096x64 ![1, 0, 0, 0] (rX A0) slices_S3x6x4096x64_S1x6x4096x64_1_0_0_0) shapeCasts_S1x6x4096x64_S6x4096x64

/-- Values by head. -/
def rV (A0 : FVec F S4096x1152 .f32) : FVec F S6x4096x64 .f32 :=
  shapeCast _ (extractStridedSlice S1x6x4096x64 ![2, 0, 0, 0] (rX A0) slices_S3x6x4096x64_S1x6x4096x64_2_0_0_0) shapeCasts_S1x6x4096x64_S6x4096x64

/-- Output gradients by head. -/
def rG (A2 : FVec F S4096x384 .f32) : FVec F S6x4096x64 .f32 :=
  transpose S6x4096x64 [1, 0, 2] (shapeCast _ A2 shapeCasts_S4096x384_S4096x6x64) transposes_S4096x6x64_S6x4096x64_1_0_2

/-- Where a key is not after the query. -/
def rMask  : IVec S6x4096x4096 1 :=
  broadcastInDim S6x4096x4096 ![1, 2] bcast_S4096x4096_S6x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- Scores, minus infinity where the key is after the query. -/
def rS (A0 : FVec F S4096x1152 .f32) (A1 : FVec F S6x4096 .f32) : FVec F S6x4096x4096 .f32 :=
  select rMask (subf (addf (mulf (Host.dotGeneral dot_S6x4096x64_S6x4096x64_S6x4096x4096_2_2_1_1_0_0 none (rQ A0) (rK A0)) (broadcastInDim S6x4096x4096 ![] bcast_S_S6x4096x4096 (constant S_ .f32 0x3E000000#32))) (broadcastInDim S6x4096x4096 ![0, 1, 2] bcast_S6x4096x1_S6x4096x4096_0_1_2 (broadcastInDim S6x4096x1 ![0, 1] bcast_S6x4096_S6x4096x1_0_1 A1))) (broadcastInDim S6x4096x4096 ![0, 1, 2] bcast_S6x1x4096_S6x4096x4096_0_1_2 (broadcastInDim S6x1x4096 ![0, 2] bcast_S6x4096_S6x1x4096_0_2 A1))) (broadcastInDim S6x4096x4096 ![] bcast_S_S6x4096x4096 (id (constant S_ .f32 0xFF800000#32)))

/-- The largest score of a row. -/
def rMax0 (A0 : FVec F S4096x1152 .f32) (A1 : FVec F S6x4096 .f32) : FVec F S6x4096 .f32 :=
  Host.reduce FloatOps.maximumf (rS A0 A1) (constant S_ .f32 0xFF800000#32) reducesTo_S6x4096x4096_S6x4096_d2 h_S_

/-- The same, at least minus infinity. -/
def rMax (A0 : FVec F S4096x1152 .f32) (A1 : FVec F S6x4096 .f32) : FVec F S6x4096 .f32 :=
  maximumf (broadcastInDim S6x4096 ![] bcast_S_S6x4096 (constant S_ .f32 0xFF800000#32)) (rMax0 A0 A1)

/-- Exponentials of the scores `s` less `M`. -/
def rE (s : FVec F S6x4096x4096 .f32) (M : FVec F S6x4096 .f32) : FVec F S6x4096x4096 .f32 :=
  Host.exp (subf s (broadcastInDim S6x4096x4096 ![0, 1, 2] bcast_S6x4096x1_S6x4096x4096_0_1_2 (broadcastInDim S6x4096x1 ![0, 1] bcast_S6x4096_S6x4096x1_0_1 M)))

/-- Their sum along a row. -/
def rL (e : FVec F S6x4096x4096 .f32) : FVec F S6x4096x1 .f32 :=
  broadcastInDim S6x4096x1 ![0, 1] bcast_S6x4096_S6x4096x1_0_1 (Host.reduceAdd e (constant S_ .f32 0x00000000#32) reducesTo_S6x4096x4096_S6x4096_d2 h_S_)

/-- Probabilities. -/
def rP (e : FVec F S6x4096x4096 .f32) : FVec F S6x4096x4096 .f32 :=
  Host.divf e (broadcastInDim S6x4096x4096 ![0, 1, 2] bcast_S6x4096x1_S6x4096x4096_0_1_2 (rL e))

/-- Gradient of the probabilities. -/
def rdP (g v : FVec F S6x4096x64 .f32) : FVec F S6x4096x4096 .f32 :=
  Host.dotGeneral dot_S6x4096x64_S6x4096x64_S6x4096x4096_2_2_1_1_0_0 none g v

/-- What the normalisation takes back. -/
def rRow (e : FVec F S6x4096x4096 .f32) (u : FVec F S6x4096x4096 .f32) : FVec F S6x4096 .f32 :=
  Host.reduceAdd (Host.negf (shapeCast _ (Host.reduceAdd (mulf (mulf u (broadcastInDim S6x4096x4096 ![0, 1, 2] bcast_S6x4096x1_S6x4096x4096_0_1_2 (Host.divf (broadcastInDim S6x4096x1 ![] bcast_S_S6x4096x1 (constant S_ .f32 0x3F800000#32)) (mulf (rL e) (rL e))))) e) (constant S_ .f32 0x00000000#32) reducesTo_S6x4096x4096_S6x4096_d2 h_S_) shapeCasts_S6x4096_S6x4096x1)) (constant S_ .f32 0x00000000#32) reducesTo_S6x4096x1_S6x4096_d2 h_S_

/-- Gradient of the scores. -/
def rDS (e : FVec F S6x4096x4096 .f32) (u : FVec F S6x4096x4096 .f32) : FVec F S6x4096x4096 .f32 :=
  select rMask (mulf (addf (Host.divf u (broadcastInDim S6x4096x4096 ![0, 1, 2] bcast_S6x4096x1_S6x4096x4096_0_1_2 (rL e))) (broadcastInDim S6x4096x4096 ![0, 1] bcast_S6x4096_S6x4096x4096_0_1 (rRow e u))) e) (broadcastInDim S6x4096x4096 ![] bcast_S_S6x4096x4096 (constant S_ .f32 0x00000000#32))

/-- Its sum along a row, heads by pairs. -/
def rCq (z : FVec F S6x4096x4096 .f32) : FVec F S3x2x4096 .f32 :=
  shapeCast _ (Host.reduceAdd (shapeCast _ (Host.reduceAdd z (constant S_ .f32 0x00000000#32) reducesTo_S6x4096x4096_S6x4096_d2 h_S_) shapeCasts_S6x4096_S6x4096x1) (constant S_ .f32 0x00000000#32) reducesTo_S6x4096x1_S6x4096_d2 h_S_) shapeCasts_S6x4096_S3x2x4096

/-- Its negated sum down a column, heads by pairs. -/
def rCk (z : FVec F S6x4096x4096 .f32) : FVec F S3x2x4096 .f32 :=
  shapeCast _ (Host.reduceAdd (shapeCast _ (Host.reduceAdd (Host.negf z) (constant S_ .f32 0x00000000#32) reducesTo_S6x4096x4096_S6x4096_d1 h_S_) shapeCasts_S6x4096_S6x1x4096) (constant S_ .f32 0x00000000#32) reducesTo_S6x1x4096_S6x4096_d1 h_S_) shapeCasts_S6x4096_S3x2x4096

/-- Gradient of the queries. -/
def oDq (z : FVec F S6x4096x4096 .f32) (k : FVec F S6x4096x64 .f32) : FVec F S4096x384 .bf16 :=
  truncf .bf16 (shapeCast _ (transpose S4096x6x64 [1, 0, 2] (Host.dotGeneral dot_S6x4096x4096_S6x4096x64_S6x4096x64_2_1_1_2_0_0 none (mulf z (broadcastInDim S6x4096x4096 ![] bcast_S_S6x4096x4096 (constant S_ .f32 0x3E000000#32))) k) transposes_S6x4096x64_S4096x6x64_1_0_2) shapeCasts_S4096x6x64_S4096x384) bitsLt_bf16_f32

/-- Gradient of the keys. -/
def oDk (z : FVec F S6x4096x4096 .f32) (q : FVec F S6x4096x64 .f32) : FVec F S4096x384 .bf16 :=
  truncf .bf16 (shapeCast _ (transpose S4096x6x64 [1, 0, 2] (Host.dotGeneral dot_S6x4096x4096_S6x4096x64_S6x4096x64_1_1_2_2_0_0 none (mulf z (broadcastInDim S6x4096x4096 ![] bcast_S_S6x4096x4096 (constant S_ .f32 0x3E000000#32))) q) transposes_S6x4096x64_S4096x6x64_1_0_2) shapeCasts_S4096x6x64_S4096x384) bitsLt_bf16_f32

/-- Gradient of the values. -/
def oDv (p : FVec F S6x4096x4096 .f32) (g : FVec F S6x4096x64 .f32) : FVec F S4096x384 .bf16 :=
  truncf .bf16 (shapeCast _ (transpose S4096x6x64 [1, 0, 2] (transpose S6x4096x64 [0, 2, 1] (Host.dotGeneral dot_S6x4096x64_S6x4096x4096_S6x64x4096_1_1_2_2_0_0 none g p) transposes_S6x64x4096_S6x4096x64_0_2_1) transposes_S6x4096x64_S4096x6x64_1_0_2) shapeCasts_S4096x6x64_S4096x384) bitsLt_bf16_f32

/-- Gradient of the decay by queries. -/
def oCq (w : FVec F S3x2x4096 .f32) : FVec F S3x8x4096 .f32 :=
  (concatenate S3x8x4096 1 [⟨S3x1x4096, ((broadcastInDim S3x1x4096 ![0, 2] bcast_S3x4096_S3x1x4096_0_2 (shapeCast _ (extractStridedSlice S3x1x4096 ![0, 0, 0] w slices_S3x2x4096_S3x1x4096_0_0_0) shapeCasts_S3x1x4096_S3x4096)) : (⟨S3x1x4096, .f32⟩ : BufTy).Contents (Elt F))⟩, ⟨S3x1x4096, ((broadcastInDim S3x1x4096 ![0, 2] bcast_S3x4096_S3x1x4096_0_2 (shapeCast _ (extractStridedSlice S3x1x4096 ![0, 1, 0] w slices_S3x2x4096_S3x1x4096_0_1_0) shapeCasts_S3x1x4096_S3x4096)) : (⟨S3x1x4096, .f32⟩ : BufTy).Contents (Elt F))⟩, ⟨S3x1x4096, ((broadcastInDim S3x1x4096 ![0, 2] bcast_S3x4096_S3x1x4096_0_2 (broadcastInDim S3x4096 ![] bcast_S_S3x4096 (constant S_ .f32 0x00000000#32))) : (⟨S3x1x4096, .f32⟩ : BufTy).Contents (Elt F))⟩, ⟨S3x1x4096, ((broadcastInDim S3x1x4096 ![0, 2] bcast_S3x4096_S3x1x4096_0_2 (broadcastInDim S3x4096 ![] bcast_S_S3x4096 (constant S_ .f32 0x00000000#32))) : (⟨S3x1x4096, .f32⟩ : BufTy).Contents (Elt F))⟩, ⟨S3x1x4096, ((broadcastInDim S3x1x4096 ![0, 2] bcast_S3x4096_S3x1x4096_0_2 (broadcastInDim S3x4096 ![] bcast_S_S3x4096 (constant S_ .f32 0x00000000#32))) : (⟨S3x1x4096, .f32⟩ : BufTy).Contents (Elt F))⟩, ⟨S3x1x4096, ((broadcastInDim S3x1x4096 ![0, 2] bcast_S3x4096_S3x1x4096_0_2 (broadcastInDim S3x4096 ![] bcast_S_S3x4096 (constant S_ .f32 0x00000000#32))) : (⟨S3x1x4096, .f32⟩ : BufTy).Contents (Elt F))⟩, ⟨S3x1x4096, ((broadcastInDim S3x1x4096 ![0, 2] bcast_S3x4096_S3x1x4096_0_2 (broadcastInDim S3x4096 ![] bcast_S_S3x4096 (constant S_ .f32 0x00000000#32))) : (⟨S3x1x4096, .f32⟩ : BufTy).Contents (Elt F))⟩, ⟨S3x1x4096, ((broadcastInDim S3x1x4096 ![0, 2] bcast_S3x4096_S3x1x4096_0_2 (broadcastInDim S3x4096 ![] bcast_S_S3x4096 (constant S_ .f32 0x00000000#32))) : (⟨S3x1x4096, .f32⟩ : BufTy).Contents (Elt F))⟩] concatenates_S3x1x4096_S3x1x4096_S3x1x4096_S3x1x4096_S3x1x4096_S3x1x4096_S3x1x4096_S3x1x4096_S3x8x4096_d1 : (⟨S3x8x4096, .f32⟩ : BufTy).Contents (Elt F))

/-- Gradient of the decay by keys. -/
def oCk (w : FVec F S3x2x4096 .f32) : FVec F S3x4096x128 .f32 :=
  select (cmpi .eq (iotaInDim S3x4096x128 32 2) (muli (broadcastInDim S3x4096x128 ![] bcast_S_S3x4096x128 (constantI S_ 32 8#32)) (iotaInDim S3x4096x128 32 0))) (broadcastInDim S3x4096x128 ![0, 1, 2] bcast_S3x4096x1_S3x4096x128_0_1_2 (broadcastInDim S3x4096x1 ![0, 1] bcast_S3x4096_S3x4096x1_0_1 (shapeCast _ (extractStridedSlice S3x1x4096 ![0, 0, 0] w slices_S3x2x4096_S3x1x4096_0_0_0) shapeCasts_S3x1x4096_S3x4096))) (select (cmpi .eq (iotaInDim S3x4096x128 32 2) (addi (muli (broadcastInDim S3x4096x128 ![] bcast_S_S3x4096x128 (constantI S_ 32 8#32)) (iotaInDim S3x4096x128 32 0)) (broadcastInDim S3x4096x128 ![] bcast_S_S3x4096x128 (constantI S_ 32 1#32)))) (broadcastInDim S3x4096x128 ![0, 1, 2] bcast_S3x4096x1_S3x4096x128_0_1_2 (broadcastInDim S3x4096x1 ![0, 1] bcast_S3x4096_S3x4096x1_0_1 (shapeCast _ (extractStridedSlice S3x1x4096 ![0, 1, 0] w slices_S3x2x4096_S3x1x4096_0_1_0) shapeCasts_S3x1x4096_S3x4096))) (broadcastInDim S3x4096x128 ![] bcast_S_S3x4096x128 (id (constant S_ .f32 0x00000000#32))))

/-- The exponentials, and the scores' gradient, of the arguments. -/
def eOf (A0 : FVec F S4096x1152 .f32) (A1 : FVec F S6x4096 .f32) : FVec F S6x4096x4096 .f32 := rE (rS A0 A1) (rMax A0 A1)
def dsOf (A0 : FVec F S4096x1152 .f32) (A1 : FVec F S6x4096 .f32) (A2 : FVec F S4096x384 .f32) : FVec F S6x4096x4096 .f32 := rDS (eOf A0 A1) (rdP (rG A2) (rV A0))

variable (m : (ℓ : Loc nD τ sig) → Buf (Elt F) ℓ) (c : Dev nD)

theorem out0_eq : res_out0 m c = oDq (dsOf (m ((c.tc : Thread nD τ).loc main_arg0)) (m ((c.tc : Thread nD τ).loc main_arg1)) (m ((c.tc : Thread nD τ).loc main_arg2))) (rK (m ((c.tc : Thread nD τ).loc main_arg0))) := rfl

theorem out1_eq : res_out1 m c = oDk (dsOf (m ((c.tc : Thread nD τ).loc main_arg0)) (m ((c.tc : Thread nD τ).loc main_arg1)) (m ((c.tc : Thread nD τ).loc main_arg2))) (rQ (m ((c.tc : Thread nD τ).loc main_arg0))) := rfl

theorem out2_eq : res_out2 m c = oDv (rP (eOf (m ((c.tc : Thread nD τ).loc main_arg0)) (m ((c.tc : Thread nD τ).loc main_arg1)))) (rG (m ((c.tc : Thread nD τ).loc main_arg2))) := rfl

theorem out3_eq : res_out3 m c = oCq (rCq (dsOf (m ((c.tc : Thread nD τ).loc main_arg0)) (m ((c.tc : Thread nD τ).loc main_arg1)) (m ((c.tc : Thread nD τ).loc main_arg2)))) := rfl

theorem out4_eq : res_out4 m c = oCk (rCk (dsOf (m ((c.tc : Thread nD τ).loc main_arg0)) (m ((c.tc : Thread nD τ).loc main_arg1)) (m ((c.tc : Thread nD τ).loc main_arg2)))) := rfl

end Cert.ReferenceIdeal.Value
-- ==== Proof.Maths.lean ====
/- Small facts on the extended reals, on the constants the programs use, and on the words that tell lanes apart. -/
module

public import Idealize.ShloMosaic.Lib.Pointwise
public import Idealize.ShloMosaic.Lib.IdealHost
public import Idealize.ShloMosaic.Lib.VecWindow
public import Idealize.ShloMosaic.Lib.WordCmp

@[expose] public section

set_option maxRecDepth 16384

noncomputable section

namespace Cert.Grad

open Idealize.ShloMosaic

/-! ## The extended reals -/

theorem coe_ite (c : Prop) [Decidable c] (a b : ℝ) : ((if c then a else b : ℝ) : EReal) = if c then (a : EReal) else b := apply_ite _ _ _ _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_coe (r : ℝ) : Ideal.exp (r : EReal) = (Real.exp r : EReal) := rfl

theorem eighth_bf16 : Ideal.ofBits .bf16 0x3E00#16 = (((1 : ℝ) / 8 : ℝ) : EReal) := by
  simp [Ideal.ofBits, Ideal.ieee]; rw [← EReal.coe_mul]; norm_num
theorem eighth_bf16' : Ideal.ofBits .bf16 15872#16 = (((1 : ℝ) / 8 : ℝ) : EReal) := eighth_bf16
theorem eighth_f32 : Ideal.ofBits .f32 0x3E000000#32 = (((1 : ℝ) / 8 : ℝ) : EReal) := by
  simp [Ideal.ofBits, Ideal.ieee]; rw [← EReal.coe_mul]; norm_num
theorem eighth_f32' : Ideal.ofBits .f32 1040187392#32 = (((1 : ℝ) / 8 : ℝ) : EReal) := eighth_f32
theorem bot_f32 : Ideal.ofBits .f32 0xFF800000#32 = ⊥ := by
  simp [Ideal.ofBits, Ideal.ieee]

/-- The quotient of a real by a real that is not zero. -/
theorem div_coe {a b : ℝ} (hb : b ≠ 0) : Ideal.div (a : EReal) (b : EReal) = ((a / b : ℝ) : EReal) := by
  rw [Ideal.div_coe hb, ← EReal.coe_mul, mul_one_div]

/-- The largest of entries that are real or minus infinity, one of them real. -/
theorem fold_max_real {n : ℕ} (f : Fin n → EReal) (hf : ∀ x, f x < ⊤) (x₀ : Fin n) (h₀ : ⊥ < f x₀) :
    ∃ μ : ℝ, Finset.fold max ⊥ f Finset.univ = (μ : EReal) := by
  have h1 : Finset.fold max ⊥ f Finset.univ < ⊤ := (Finset.fold_max_lt _).2 ⟨bot_lt_top, fun x _ => hf x⟩
  have h2 : ⊥ < Finset.fold max ⊥ f Finset.univ := (Finset.lt_fold_max _).2 (Or.inr ⟨x₀, Finset.mem_univ _, h₀⟩)
  exact ⟨_, (EReal.coe_toReal h1.ne h2.ne').symm⟩

/-! ## Words -/

theorem select_ite {α : Type} (c : BitVec 1) (p : Prop) [Decidable p] (h : c = 1#1 ↔ p) (a b : α) : Scalar.select c a b = if p then a else b := by
  unfold Scalar.select
  by_cases hp : p
  · rw [if_pos (show c = 1 from h.2 hp), if_pos hp]
  · rw [if_neg (show ¬ c = 1 from fun hc => hp (h.1 hc)), if_neg hp]

/-- The lower half of the lanes. -/
theorem select_low {α : Type} (l : Fin 128) (a b : α) :
    Scalar.select (IntOp.cmpi .slt (BitVec.ofNat 32 l.val) 64#32) a b = if l.val < 64 then a else b :=
  select_ite _ _ ((by decide +kernel : ∀ l : Fin 128, IntOp.cmpi .slt (BitVec.ofNat 32 l.val) 64#32 = 1#1 ↔ l.val < 64) l) a b

/-- The upper half of the lanes. -/
theorem select_high {α : Type} (l : Fin 128) (a b : α) :
    Scalar.select (IntOp.xori (IntOp.cmpi .slt (BitVec.ofNat 32 l.val) 64#32) 1#1) a b = if l.val < 64 then b else a := by
  rw [select_ite _ _ ((by decide +kernel : ∀ l : Fin 128, IntOp.xori (IntOp.cmpi .slt (BitVec.ofNat 32 l.val) 64#32) 1#1 = 1#1 ↔ ¬ l.val < 64) l) a b, ite_not]

/-- One lane picked by its number. -/
theorem select_lane0 {α : Type} (l : Fin 128) (h : Fin 3) (a b : α) :
    Scalar.select (IntOp.cmpi .eq (BitVec.ofNat 32 l.val) (Scalar.addi (Scalar.muli 8#32 (BitVec.ofNat 32 h.val)) 0#32)) a b = if l.val = 8 * h.val then a else b :=
  select_ite _ _ ((by decide +kernel : ∀ h : Fin 3, ∀ l : Fin 128, IntOp.cmpi .eq (BitVec.ofNat 32 l.val) (Scalar.addi (Scalar.muli 8#32 (BitVec.ofNat 32 h.val)) 0#32) = 1#1 ↔ l.val = 8 * h.val) h l) a b

theorem select_lane1 {α : Type} (l : Fin 128) (h : Fin 3) (a b : α) :
    Scalar.select (IntOp.cmpi .eq (BitVec.ofNat 32 l.val) (Scalar.addi (Scalar.muli 8#32 (BitVec.ofNat 32 h.val)) 1#32)) a b = if l.val = 8 * h.val + 1 then a else b :=
  select_ite _ _ ((by decide +kernel : ∀ h : Fin 3, ∀ l : Fin 128, IntOp.cmpi .eq (BitVec.ofNat 32 l.val) (Scalar.addi (Scalar.muli 8#32 (BitVec.ofNat 32 h.val)) 1#32) = 1#1 ↔ l.val = 8 * h.val + 1) h l) a b

/-- Keys not after the query. -/
theorem select_le {α : Type} (n : ℕ) (hn : n ≤ 4096) (j p : Fin n) (a b : α) :
    Scalar.select (IntOp.cmpi .sle (BitVec.ofNat 32 j.val) (BitVec.ofNat 32 p.val)) a b = if j.val ≤ p.val then a else b := by
  refine select_ite _ _ ?_ a b
  have := j.isLt; have := p.isLt
  word_cmp

/-! ## Sums over lanes -/

/-- The lane of head `r` of a pair at `d`. -/
def laneOf (r : Fin 2) (d : Fin 64) : Fin 128 := ⟨64 * r.val + d.val, by omega⟩

/-- Which head of a pair a lane belongs to. -/
def half (l : Fin 128) : Fin 2 := if l.val < 64 then 0 else 1

theorem sum_lanes {M : Type} [AddCommMonoid M] (f : Fin 128 → M) : ∑ l, f l = ∑ d, f (laneOf 0 d) + ∑ d, f (laneOf 1 d) := by
  rw [Fin.sum_univ_add (a := 64) (b := 64) f]
  exact congrArg₂ _ (Finset.sum_congr rfl fun d _ => congrArg f (Fin.ext (by simp [laneOf])))
    (Finset.sum_congr rfl fun d _ => congrArg f (Fin.ext (by simp [laneOf, Nat.add_comm])))

theorem sum_low (f : Fin 128 → ℝ) : (∑ l : Fin 128, if l.val < 64 then f l else 0) = ∑ d, f (laneOf 0 d) := by
  rw [sum_lanes, Finset.sum_congr rfl (fun d _ => if_pos (show (laneOf 0 d).val < 64 by simp [laneOf])),
    Finset.sum_congr rfl (fun d _ => if_neg (show ¬ (laneOf 1 d).val < 64 by simp [laneOf]))]
  simp

theorem sum_high (f : Fin 128 → ℝ) : (∑ l : Fin 128, if l.val < 64 then 0 else f l) = ∑ d, f (laneOf 1 d) := by
  rw [sum_lanes, Finset.sum_congr rfl (fun d _ => if_pos (show (laneOf 0 d).val < 64 by simp [laneOf])),
    Finset.sum_congr rfl (fun d _ => if_neg (show ¬ (laneOf 1 d).val < 64 by simp [laneOf]))]
  simp

/-- A sum that keeps one lane. -/
theorem sum_pick (f : Fin 128 → EReal) (n : ℕ) (hn : n < 128) : (∑ l : Fin 128, if l.val = n then f l else 0) = f ⟨n, hn⟩ := by
  rw [Finset.sum_eq_single ⟨n, hn⟩]
  · simp
  · intro l _ h; exact if_neg fun e => h (Fin.ext e)
  · simp

end Cert.Grad
-- ==== Proof.Attend.lean ====
/- The gradient of causal attention with a decay, over the real numbers: scores, probabilities and their gradient, rows and columns named by natural numbers. -/
module

public import proofs.«01_k».proof.Proof.Maths

@[expose] public section

noncomputable section

namespace Cert.Grad

/-- The real arrays: `x` the queries, keys and values side by side, `c` the decay sums by head, `y` the gradient of the output. -/
structure Data where
  x : ℕ → ℕ → ℝ
  c : ℕ → ℕ → ℝ
  y : ℕ → ℕ → ℝ

namespace Data

variable (D : Data)

/-- The score of query `i` at key `j`. -/
def sc (h i j : ℕ) : ℝ := (∑ d : Fin 64, D.x i (64 * h + d.val) * D.x j (384 + 64 * h + d.val)) * (1 / 8) + (D.c h i - D.c h j)
/-- The sum of the exponentials over the keys not after the query. -/
def Z (h i : ℕ) : ℝ := ∑ j : Fin 4096, if j.val ≤ i then Real.exp (D.sc h i j.val) else 0
/-- The probability of key `j` at query `i`. -/
def P (h i j : ℕ) : ℝ := if j ≤ i then Real.exp (D.sc h i j) / D.Z h i else 0
/-- The gradient of the probability. -/
def dP (h i j : ℕ) : ℝ := ∑ d : Fin 64, D.y i (64 * h + d.val) * D.x j (768 + 64 * h + d.val)
/-- The part of it the normalisation takes back. -/
def R (h i : ℕ) : ℝ := ∑ j : Fin 4096, D.P h i j.val * D.dP h i j.val
/-- The gradient of the score. -/
def B (h i j : ℕ) : ℝ := D.P h i j * (D.dP h i j - D.R h i)

theorem Z_pos (h i : ℕ) : 0 < D.Z h i := by
  refine Finset.sum_pos' (fun j _ => ?_) ⟨0, Finset.mem_univ _, ?_⟩
  · split_ifs
    · exact (Real.exp_pos _).le
    · exact le_rfl
  · rw [if_pos (show (0 : Fin 4096).val ≤ i from Nat.zero_le _)]; exact Real.exp_pos _

theorem P_zero {h i j : ℕ} (hj : i < j) : D.P h i j = 0 := if_neg (by omega)
theorem B_zero {h i j : ℕ} (hj : i < j) : D.B h i j = 0 := by rw [B, P_zero D hj, zero_mul]

theorem sum_P (h i : ℕ) : ∑ j : Fin 4096, D.P h i j.val = 1 := by
  have e : ∀ j : Fin 4096, D.P h i j.val = (if j.val ≤ i then Real.exp (D.sc h i j.val) else 0) / D.Z h i := by
    intro j; unfold P; split_ifs <;> simp
  rw [Finset.sum_congr rfl fun j _ => e j, ← Finset.sum_div]
  exact div_self (D.Z_pos h i).ne'

/-- An exponential of a score less `μ` is the probability times the sum of such exponentials. -/
theorem exp_sub_eq (h i j : ℕ) (μ : ℝ) :
    (if j ≤ i then Real.exp (D.sc h i j - μ) else 0) = D.P h i j * (D.Z h i * Real.exp (-μ)) := by
  unfold P
  split_ifs
  · rw [sub_eq_add_neg, Real.exp_add]
    have := (D.Z_pos h i).ne'
    field_simp
  · simp

theorem log_eq (h i : ℕ) (μ : ℝ) : μ + Real.log (D.Z h i * Real.exp (-μ)) = Real.log (D.Z h i) := by
  rw [Real.log_mul (D.Z_pos h i).ne' (Real.exp_pos _).ne', Real.log_exp]; ring

/-- The results. -/
def dq (h i d : ℕ) : ℝ := ∑ j : Fin 4096, D.B h i j.val * (1 / 8) * D.x j.val (384 + 64 * h + d)
def dk (h j d : ℕ) : ℝ := ∑ i : Fin 4096, D.B h i.val j * (1 / 8) * D.x i.val (64 * h + d)
def dv (h j d : ℕ) : ℝ := ∑ i : Fin 4096, D.P h i.val j * D.y i.val (64 * h + d)
def dcq (h i : ℕ) : ℝ := ∑ j : Fin 4096, D.B h i j.val
def dck (h j : ℕ) : ℝ := -∑ i : Fin 4096, D.B h i.val j

end Data

/-- A sum over 4096 by four tiles of 1024. -/
theorem sum_tiles (f : ℕ → ℝ) : ∑ i : Fin 4096, f i.val = ∑ a ∈ Finset.range 4, ∑ p : Fin 1024, f (1024 * a + p.val) := by
  have key : ∀ n : ℕ, ∑ i ∈ Finset.range (1024 * n), f i = ∑ a ∈ Finset.range n, ∑ p ∈ Finset.range 1024, f (1024 * a + p) := by
    intro n
    induction n with
    | zero => simp
    | succ n ih => rw [Nat.mul_succ, Finset.sum_range_add, ih, Finset.sum_range_succ (fun a => ∑ p ∈ Finset.range 1024, f (1024 * a + p)) n]
  have h4 := key 4
  rw [Fin.sum_univ_eq_sum_range (fun i => f i) 4096]
  refine h4.trans (Finset.sum_congr rfl fun a _ => ?_)
  exact (Fin.sum_univ_eq_sum_range (fun p => f (1024 * a + p)) 1024).symm

end Cert.Grad
-- ==== Proof.RefVal.lean ====
/- The reference's stages read at an index, over real arguments. -/
module

public import proofs.«01_k».proof.Proof.Stages
public import proofs.«01_k».proof.Proof.Attend

@[expose] public section

set_option maxRecDepth 16384

noncomputable section

namespace Cert.ReferenceIdeal.Value

open Cert.ReferenceIdeal Cert.ReferenceIdeal.Gen Cert.Grad
open Idealize.ShloMosaic Idealize.ShloMosaic.TcCoe Idealize.SL.Sem

/-- The arguments are these reals. -/
structure Args (D : Data) (A0 : FVec Ideal S4096x1152 .f32) (A1 : FVec Ideal S6x4096 .f32) (A2 : FVec Ideal S4096x384 .f32) : Prop where
  x : ∀ i l, A0 (ix2 i l) = (D.x i.val l.val : EReal)
  c : ∀ h i, A1 (ix2 h i) = (D.c h.val i.val : EReal)
  y : ∀ i l, A2 (ix2 i l) = (D.y i.val l.val : EReal)

variable {D : Data} {A0 : FVec Ideal S4096x1152 .f32} {A1 : FVec Ideal S6x4096 .f32} {A2 : FVec Ideal S4096x384 .f32}

/-! ## The arguments by head -/

theorem rQ_at (hA : Args D A0 A1 A2) (h : Fin 6) (i : Fin 4096) (d : Fin 64) :
    rQ A0 (ix3 h i d) = (D.x i.val (64 * h.val + d.val) : EReal) := by
  pointwise [rQ, rX]
  refine (hA.x _ _).trans (congrArg (fun n => ((D.x i.val n : ℝ) : EReal)) ?_)
  show _ = _
  simp only []; omega

theorem rK_at (hA : Args D A0 A1 A2) (h : Fin 6) (i : Fin 4096) (d : Fin 64) :
    rK A0 (ix3 h i d) = (D.x i.val (384 + 64 * h.val + d.val) : EReal) := by
  pointwise [rK, rX]
  refine (hA.x _ _).trans (congrArg (fun n => ((D.x i.val n : ℝ) : EReal)) ?_)
  show _ = _
  simp only []; omega

theorem rV_at (hA : Args D A0 A1 A2) (h : Fin 6) (i : Fin 4096) (d : Fin 64) :
    rV A0 (ix3 h i d) = (D.x i.val (768 + 64 * h.val + d.val) : EReal) := by
  pointwise [rV, rX]
  refine (hA.x _ _).trans (congrArg (fun n => ((D.x i.val n : ℝ) : EReal)) ?_)
  show _ = _
  simp only []; omega

theorem rG_at (hA : Args D A0 A1 A2) (h : Fin 6) (i : Fin 4096) (d : Fin 64) :
    rG A2 (ix3 h i d) = (D.y i.val (64 * h.val + d.val) : EReal) := by
  pointwise [rG]
  refine (hA.y _ _).trans (congrArg (fun n => ((D.y i.val n : ℝ) : EReal)) ?_)
  show _ = _
  simp only []; omega

/-! ## Scores and probabilities -/

theorem rS_at (hA : Args D A0 A1 A2) (h : Fin 6) (i j : Fin 4096) :
    rS A0 A1 (ix3 h i j) = if j.val ≤ i.val then (D.sc h.val i.val j.val : EReal) else ⊥ := by
  pointwise [rS, rMask]
  rw [select_le 4096 le_rfl]
  have hb : (id (constant S_ FTy.f32 4286578688#32) ix0 : Ideal .f32) = (⊥ : EReal) := bot_f32
  rw [hb]
  simp only [rQ_at hA, rK_at hA, hA.c, Data.sc, EReal.coe_add, EReal.coe_sub, coe_sum, EReal.coe_mul, ← eighth_f32']
  split_ifs
  · rw [sub_eq_add_neg, sub_eq_add_neg, add_assoc]
  · rfl

theorem max0_at (s : FVec Ideal S6x4096x4096 .f32) (h : Fin 6) (i : Fin 4096) :
    Host.reduce FloatOps.maximumf s (constant S_ .f32 0xFF800000#32) reducesTo_S6x4096x4096_S6x4096_d2 h_S_ (ix2 h i)
      = Finset.fold max ⊥ (fun x => s (ix3 h i x)) Finset.univ := by
  rw [← bot_f32]
  pointwise

theorem rMax0_at (hA : Args D A0 A1 A2) (h : Fin 6) (i : Fin 4096) : ∃ μ : ℝ, rMax0 A0 A1 (ix2 h i) = (μ : EReal) := by
  obtain ⟨μ, e⟩ := fold_max_real (fun x => rS A0 A1 (ix3 h i x)) (fun x => by
      simp only [rS_at hA]; split_ifs
      · exact EReal.coe_lt_top _
      · exact bot_lt_top) 0 (by
      simp only [rS_at hA]; rw [if_pos (show (0 : Fin 4096).val ≤ i.val from Nat.zero_le _)]; exact EReal.bot_lt_coe _)
  exact ⟨μ, (max0_at _ h i).trans e⟩

theorem maxb_at (s : FVec Ideal S6x4096 .f32) (h : Fin 6) (i : Fin 4096) :
    maximumf (broadcastInDim S6x4096 ![] bcast_S_S6x4096 (constant S_ .f32 0xFF800000#32)) s (ix2 h i) = s (ix2 h i) := by
  pointwise
  rw [bot_f32, max_eq_right bot_le]

theorem rMax_at (hA : Args D A0 A1 A2) (h : Fin 6) (i : Fin 4096) : rMax A0 A1 (ix2 h i) = rMax0 A0 A1 (ix2 h i) :=
  maxb_at (rMax0 A0 A1) h i

/-- Exponentials `e` are the probabilities times the row's sum `l`. -/
structure Exps (D : Data) (e : FVec Ideal S6x4096x4096 .f32) (l : Fin 6 → Fin 4096 → ℝ) : Prop where
  pos : ∀ h i, 0 < l h i
  e : ∀ h i j, e (ix3 h i j) = (D.P h.val i.val j.val * l h i : ℝ)

theorem rE_at (hA : Args D A0 A1 A2) (M : FVec Ideal S6x4096 .f32) (μ : Fin 6 → Fin 4096 → ℝ) (hM : ∀ h i, M (ix2 h i) = (μ h i : EReal)) :
    Exps D (rE (rS A0 A1) M) (fun h i => D.Z h.val i.val * Real.exp (-μ h i)) where
  pos h i := mul_pos (D.Z_pos _ _) (Real.exp_pos _)
  e h i j := by
    rw [← D.exp_sub_eq]
    have : rE (rS A0 A1) M (ix3 h i j) = Ideal.exp (rS A0 A1 (ix3 h i j) - M (ix2 h i)) := by
      generalize rS A0 A1 = s
      pointwise [rE]
    rw [this, rS_at hA, hM]
    split_ifs
    · rw [← EReal.coe_sub, exp_coe]
    · rw [EReal.bot_sub]; rfl

section
variable {e : FVec Ideal S6x4096x4096 .f32} {l : Fin 6 → Fin 4096 → ℝ} (hE : Exps D e l)
include hE

theorem sum_at (h : Fin 6) (i : Fin 4096) : ∑ x, e (ix3 h i x) = (l h i : EReal) := by
  simp only [hE.e, ← coe_sum, ← Finset.sum_mul, D.sum_P, one_mul]

theorem rL_at (h : Fin 6) (i : Fin 4096) : rL e (ix3 h i 0) = (l h i : EReal) := by
  rw [← sum_at hE]
  pointwise [rL]

theorem rP_at (h : Fin 6) (i j : Fin 4096) : rP e (ix3 h i j) = (D.P h.val i.val j.val : EReal) := by
  pointwise [rP, rL]
  rw [sum_at hE, hE.e, div_coe (hE.pos h i).ne', mul_div_cancel_right₀ _ (hE.pos h i).ne']

/-! ## Gradients -/

variable {u : FVec Ideal S6x4096x4096 .f32} (hu : ∀ h i j, u (ix3 h i j) = (D.dP h.val i.val j.val : EReal))
include hu

theorem rRow_at (h : Fin 6) (i : Fin 4096) : rRow e u (ix2 h i) = (-(D.R h.val i.val / l h i) : ℝ) := by
  pointwise [rRow, rL]
  rw [Finset.sum_const, Finset.card_univ, Fintype.card_fin, one_smul, sum_at hE]
  have h1 : (1 : EReal) = ((1 : ℝ) : EReal) := rfl
  have hl := (hE.pos h i).ne'
  rw [h1, ← EReal.coe_mul, div_coe (mul_ne_zero hl hl)]
  simp only [hE.e, hu, ← EReal.coe_mul, ← coe_sum, ← EReal.coe_neg]
  congr 2
  rw [Data.R, Finset.sum_div]
  refine Finset.sum_congr rfl fun j _ => ?_
  field_simp

theorem rDS_at (h : Fin 6) (i j : Fin 4096) : rDS e u (ix3 h i j) = (D.B h.val i.val j.val : EReal) := by
  pointwise [rDS, rL, rMask]
  have hl := (hE.pos h i).ne'
  have hr := rRow_at hE hu h i
  rw [select_le 4096 le_rfl, sum_at hE, hu]
  refine (congrArg (fun r => if j.val ≤ i.val then (Ideal.div ((D.dP h.val i.val j.val : ℝ) : EReal) ((l h i : ℝ) : EReal) + r) * e (ix3 h i j) else 0) hr).trans ?_
  simp only [hE.e, div_coe hl, ← EReal.coe_add, ← EReal.coe_mul]
  split_ifs with hj
  · congr 1
    rw [Data.B]; field_simp; ring
  · rw [D.B_zero (by omega)]; rfl

end

theorem rdP_at (hA : Args D A0 A1 A2) (h : Fin 6) (i j : Fin 4096) : rdP (rG A2) (rV A0) (ix3 h i j) = (D.dP h.val i.val j.val : EReal) := by
  have : rdP (rG A2) (rV A0) (ix3 h i j) = ∑ d, rG A2 (ix3 h i d) * rV A0 (ix3 h j d) := by
    generalize rG A2 = g
    generalize rV A0 = v
    pointwise [rdP]
  rw [this]
  simp only [rG_at hA, rV_at hA, ← EReal.coe_mul, ← coe_sum, Data.dP]

theorem eOf_at (hA : Args D A0 A1 A2) : ∃ l, Exps D (eOf A0 A1) l := by
  choose μ hμ using fun h i => rMax0_at hA h i
  exact ⟨_, rE_at hA _ μ fun h i => (rMax_at hA h i).trans (hμ h i)⟩

theorem dsOf_at (hA : Args D A0 A1 A2) (h : Fin 6) (i j : Fin 4096) : dsOf A0 A1 A2 (ix3 h i j) = (D.B h.val i.val j.val : EReal) := by
  obtain ⟨l, hE⟩ := eOf_at hA
  exact rDS_at hE (rdP_at hA) h i j

/-! ## Results -/

section
variable {z : FVec Ideal S6x4096x4096 .f32} (hz : ∀ h i j, z (ix3 h i j) = (D.B h.val i.val j.val : EReal))
include hz

theorem rCq_at (a : Fin 3) (r : Fin 2) (i : Fin 4096) : rCq z (ix3 a r i) = (D.dcq (2 * a.val + r.val) i.val : EReal) := by
  pointwise [rCq]
  rw [Finset.sum_const, Finset.card_univ, Fintype.card_fin, one_smul]
  simp only [hz, ← coe_sum, Data.dcq, Nat.mul_comm]

theorem rCk_at (a : Fin 3) (r : Fin 2) (i : Fin 4096) : rCk z (ix3 a r i) = (D.dck (2 * a.val + r.val) i.val : EReal) := by
  pointwise [rCk]
  rw [Finset.sum_const, Finset.card_univ, Fintype.card_fin, one_smul]
  simp only [hz, ← EReal.coe_neg, ← coe_sum, Data.dck, Nat.mul_comm, Finset.sum_neg_distrib]

theorem oDq_at (hA : Args D A0 A1 A2) (i : Fin 4096) (l : Fin 384) : oDq z (rK A0) (ix2 i l) = (D.dq (l.val / 64) i.val (l.val % 64) : EReal) := by
  have := rK_at hA
  generalize rK A0 = k at this
  pointwise [oDq]
  simp only [hz, this, eighth_f32', ← EReal.coe_mul, ← coe_sum, Data.dq]

theorem oDk_at (hA : Args D A0 A1 A2) (i : Fin 4096) (l : Fin 384) : oDk z (rQ A0) (ix2 i l) = (D.dk (l.val / 64) i.val (l.val % 64) : EReal) := by
  have := rQ_at hA
  generalize rQ A0 = k at this
  pointwise [oDk]
  simp only [hz, this, eighth_f32', ← EReal.coe_mul, ← coe_sum, Data.dk]
end

theorem oDv_at (hA : Args D A0 A1 A2) {p : FVec Ideal S6x4096x4096 .f32} (hp : ∀ h i j, p (ix3 h i j) = (D.P h.val i.val j.val : EReal))
    (i : Fin 4096) (l : Fin 384) : oDv p (rG A2) (ix2 i l) = (D.dv (l.val / 64) i.val (l.val % 64) : EReal) := by
  have := rG_at hA
  generalize rG A2 = k at this
  pointwise [oDv]
  simp only [hp, this, ← EReal.coe_mul, ← coe_sum, Data.dv, mul_comm]

section
variable {w : FVec Ideal S3x2x4096 .f32}

theorem oCq_at (hw : ∀ a r i, w (ix3 a r i) = (D.dcq (2 * a.val + r.val) i.val : EReal)) (a : Fin 3) (r : Fin 8) (i : Fin 4096) :
    oCq w (ix3 a r i) = ((if r.val < 2 then D.dcq (2 * a.val + r.val) i.val else 0 : ℝ) : EReal) := by
  pointwise [oCq]
  simp only [hw]
  fin_cases r <;> simp

theorem oCk_at (hw : ∀ a r i, w (ix3 a r i) = (D.dck (2 * a.val + r.val) i.val : EReal)) (a : Fin 3) (i : Fin 4096) (l : Fin 128) :
    oCk w (ix3 a i l) = ((if l.val = 8 * a.val then D.dck (2 * a.val) i.val else if l.val = 8 * a.val + 1 then D.dck (2 * a.val + 1) i.val else 0 : ℝ) : EReal) := by
  pointwise [oCk]
  have h0 : (id (constant S_ FTy.f32 0#32) ix0 : Ideal .f32) = (0 : EReal) := Ideal.ofBits_zero_f32
  rw [h0, hw, hw]
  rw [select_ite _ _ ((by decide +kernel : ∀ h : Fin 3, ∀ l : Fin 128, IntOp.cmpi .eq (BitVec.ofNat 32 l.val) (IntOp.muli 8#32 (BitVec.ofNat 32 h.val)) = 1#1 ↔ l.val = 8 * h.val) a l),
    select_ite _ _ ((by decide +kernel : ∀ h : Fin 3, ∀ l : Fin 128, IntOp.cmpi .eq (BitVec.ofNat 32 l.val) (IntOp.addi (IntOp.muli 8#32 (BitVec.ofNat 32 h.val)) 1#32) = 1#1 ↔ l.val = 8 * h.val + 1) a l)]
  simp only [coe_ite]
  rfl
end

end Cert.ReferenceIdeal.Value
-- ==== Proof.HostVal.lean ====
/- The arrays the kernel reads, as stages of the reference: projections, output gradients, log-sums, row products and decay sums. -/
module

public import proofs.«01_k».proof.Proof.Run
public import proofs.«01_k».proof.Proof.RefVal
public import Idealize.ShloMosaic.Lib.Pipeline.ValueKit

@[expose] public section

set_option maxRecDepth 16384

noncomputable section

namespace Cert.KernelIdeal.Grad

open Cert.KernelIdeal.Gen Cert.Grad
open Idealize.ShloMosaic Idealize.ShloMosaic.TcCoe Idealize.SL.Sem
open Cert.ReferenceIdeal.Value (rS rMax0 rE rL rP rQ rK rV rG rMask)

variable {F : FTy → Type} [FloatOps F]

/-- The heads by pairs, padded to eight rows. -/
def hPad (x : FVec F S6x4096 .f32) : FVec F S3x8x4096 .f32 :=
  pad S3x8x4096 ![0, 0, 0] ![0, 6, 0] ![0, 0, 0] (shapeCast S3x2x4096 x shapeCasts_S6x4096_S3x2x4096) (sitofp .f32 (constantI S_ 32 0#32)) pads_S3x2x4096_S3x8x4096_000_060_000 h_S_

/-- The decay sums, a row for each. -/
def hCumT (A1 : FVec F S6x4096 .f32) : FVec F S24x4096 .f32 := shapeCast S24x4096 (hPad A1) shapeCasts_S3x8x4096_S24x4096

/-- The decay sums, a lane for each. -/
def hCum (A1 : FVec F S6x4096 .f32) : FVec F S4096x128 .f32 :=
  pad S4096x128 ![0, 0] ![0, 104] ![0, 0] (transpose S4096x24 [1, 0] (hCumT A1) transposes_S24x4096_S4096x24_1_0) (sitofp .f32 (constantI S_ 32 0#32)) pads_S4096x24_S4096x128_000_01040 h_S_

/-- The exponentials less the row's largest score. -/
def hE (A0 : FVec F S4096x1152 .f32) (A1 : FVec F S6x4096 .f32) : FVec F S6x4096x4096 .f32 := rE (rS A0 A1) (rMax0 A0 A1)

/-- The log-sums, of the largest score and the exponentials. -/
def hLse (M : FVec F S6x4096 .f32) (e : FVec F S6x4096x4096 .f32) : FVec F S6x4096 .f32 :=
  shapeCast S6x4096 (addf (broadcastInDim S6x4096x1 ![0, 1] bcast_S6x4096_S6x4096x1_0_1 M) (Host.log (rL e))) shapeCasts_S6x4096x1_S6x4096

/-- The products of the output and its gradient, a sum for each row. -/
def hRow (p : FVec F S6x4096x4096 .f32) (g v : FVec F S6x4096x64 .f32) : FVec F S6x4096 .f32 :=
  Host.reduceAdd (mulf g (Host.dotGeneral dot_S6x4096x4096_S6x4096x64_S6x4096x64_2_1_1_2_0_0 none p v)) (constant S_ .f32 0x00000000#32) reducesTo_S6x4096x64_S6x4096_d2 h_S_

variable (m : (ℓ : Loc nD τ sig) → Buf (Elt F) ℓ) (c : Dev nD)

/-- The arguments. -/
abbrev a0 : FVec F S4096x1152 .f32 := m ((c.tc : Thread nD τ).loc main_arg0)
abbrev a1 : FVec F S6x4096 .f32 := m ((c.tc : Thread nD τ).loc main_arg1)
abbrev a2 : FVec F S4096x384 .f32 := m ((c.tc : Thread nD τ).loc main_arg2)

theorem V_v0 : V m c main_v0 = truncf .bf16 (a0 m c) bitsLt_bf16_f32 := by entry_read; rfl
theorem V_v3 : V m c main_v3 = truncf .bf16 (transpose S768x4096 [1, 0] (extractStridedSlice S4096x768 ![0, 384] (a0 m c) slices_S4096x1152_S4096x768_0_384) transposes_S4096x768_S768x4096_1_0) bitsLt_bf16_f32 := by entry_read; rfl
theorem V_v50 : V m c main_v50 = truncf .bf16 (a2 m c) bitsLt_bf16_f32 := by entry_read; rfl
theorem V_v47 : V m c main_v47 = hCumT (a1 m c) := by entry_read; rfl
theorem V_v49 : V m c main_v49 = hCum (a1 m c) := by entry_read; rfl
set_option maxHeartbeats 4000000 in
theorem V_v52 : V m c main_v52 = hPad (hLse (rMax0 (a0 m c) (a1 m c)) (hE (a0 m c) (a1 m c))) := by
  unfold V
  simp only [hostOps0, hostOps0_1, hostOps0_2, hostOps0_3, hostOps0_4, hostOps0_5, hostOps0_6, hostOps0_7, hostOps0_8, hostOps0_9, List.flatten_cons, List.flatten_nil, List.cons_append, List.nil_append, StableHlo.TRef.nullary, StableHlo.TRef.ternary, StableHlo.TRef.unary, StableHlo.TRef.binary, StableHlo.TRef.toBuf, StableHlo.TRef.ofBuf, cast_eq]
  after_results_simp
  rfl

set_option maxHeartbeats 4000000 in
theorem V_v54 : V m c main_v54 = hPad (hRow (rP (hE (a0 m c) (a1 m c))) (rG (a2 m c)) (rV (a0 m c))) := by
  unfold V
  simp only [hostOps0, hostOps0_1, hostOps0_2, hostOps0_3, hostOps0_4, hostOps0_5, hostOps0_6, hostOps0_7, hostOps0_8, hostOps0_9, List.flatten_cons, List.flatten_nil, List.cons_append, List.nil_append, StableHlo.TRef.nullary, StableHlo.TRef.ternary, StableHlo.TRef.unary, StableHlo.TRef.binary, StableHlo.TRef.toBuf, StableHlo.TRef.ofBuf, cast_eq]
  after_results_simp
  rfl

/-! ## At an index -/

section
variable {D : Data} {A0 : FVec Ideal S4096x1152 .f32} {A1 : FVec Ideal S6x4096 .f32} {A2 : FVec Ideal S4096x384 .f32}

/-- The keys and values with their lanes first. -/
theorem keysT_at (x : FVec Ideal S4096x1152 .f32) (l : Fin 768) (j : Fin 4096) :
    truncf .bf16 (transpose S768x4096 [1, 0] (extractStridedSlice S4096x768 ![0, 384] x slices_S4096x1152_S4096x768_0_384) transposes_S4096x768_S768x4096_1_0) bitsLt_bf16_f32 (ix2 l j)
      = x (ix2 j ⟨384 + l.val, by omega⟩) := by
  pointwise

theorem hPad_at (x : FVec Ideal S6x4096 .f32) (a : Fin 3) (r : Fin 8) (i : Fin 4096) (hr : r.val < 2) :
    hPad x (ix3 a r i) = x (ix2 ⟨2 * a.val + r.val, by omega⟩ i) := by
  pointwise [hPad]
  rw [dif_pos hr]
  exact congrArg (fun n => x (ix2 n i)) (Fin.ext (by simp only []; omega))

theorem hCumT_at (n : Fin 24) (i : Fin 4096) : hCumT A1 (ix2 n i) = hPad A1 (ix3 ⟨n.val / 8, by omega⟩ ⟨n.val % 8, by omega⟩ i) := by
  pointwise [hCumT]

theorem hCum_at (i : Fin 4096) (l : Fin 128) (hl : l.val < 24) : hCum A1 (ix2 i l) = hCumT A1 (ix2 ⟨l.val, hl⟩ i) := by
  pointwise [hCum]
  rw [dif_pos hl]

theorem hLse_at (M : FVec Ideal S6x4096 .f32) (e : FVec Ideal S6x4096x4096 .f32) (h : Fin 6) (i : Fin 4096) :
    hLse M e (ix2 h i) = M (ix2 h i) + Ideal.log (rL e (ix3 h i 0)) := by
  pointwise [hLse]

theorem hRow_at (p : FVec Ideal S6x4096x4096 .f32) (g v : FVec Ideal S6x4096x64 .f32) (h : Fin 6) (i : Fin 4096) :
    hRow p g v (ix2 h i) = ∑ d, g (ix3 h i d) * ∑ j, p (ix3 h i j) * v (ix3 h j d) := by
  pointwise [hRow]

open Cert.ReferenceIdeal.Value (Args Exps rMax0_at rE_at rL_at rP_at rG_at rV_at)

theorem hE_at (hA : Args D A0 A1 A2) : ∃ μ : Fin 6 → Fin 4096 → ℝ, (∀ h i, rMax0 A0 A1 (ix2 h i) = (μ h i : EReal))
    ∧ Exps D (hE A0 A1) (fun h i => D.Z h.val i.val * Real.exp (-μ h i)) := by
  choose μ hμ using fun h i => rMax0_at hA h i
  exact ⟨μ, hμ, rE_at hA _ μ hμ⟩

theorem log_coe {r : ℝ} (hr : 0 < r) : Ideal.log (r : EReal) = (Real.log r : EReal) := if_neg (not_le.2 hr)

theorem lse_at (hA : Args D A0 A1 A2) (h : Fin 6) (i : Fin 4096) : hLse (rMax0 A0 A1) (hE A0 A1) (ix2 h i) = (Real.log (D.Z h.val i.val) : EReal) := by
  obtain ⟨μ, hμ, hE⟩ := hE_at hA
  rw [hLse_at, rL_at hE, hμ, log_coe (hE.pos h i), ← EReal.coe_add, D.log_eq]

theorem row_at (hA : Args D A0 A1 A2) (h : Fin 6) (i : Fin 4096) : hRow (rP (hE A0 A1)) (rG A2) (rV A0) (ix2 h i) = (D.R h.val i.val : EReal) := by
  obtain ⟨μ, hμ, hE⟩ := hE_at hA
  rw [hRow_at]
  simp only [rP_at hE, rG_at hA, rV_at hA, ← EReal.coe_mul, ← coe_sum]
  congr 1
  simp only [Data.R, Data.dP, Finset.mul_sum]
  rw [Finset.sum_comm]
  exact Finset.sum_congr rfl fun j _ => Finset.sum_congr rfl fun d _ => by ring

end

end Cert.KernelIdeal.Grad
-- ==== Proof.Tile.lean ====
/- One tile of the gradient kernel over the reals: the probabilities and the scores' gradient it forms, and what it adds to each accumulator. -/
module

public import proofs.«01_k».proof.Proof.State
public import proofs.«01_k».proof.Proof.Maths

@[expose] public section

set_option maxRecDepth 16384

noncomputable section

namespace Cert.KernelIdeal.Grad

open Cert.KernelIdeal.Gen Cert.Grad
open Idealize.ShloMosaic Idealize.ShloMosaic.TcCoe Idealize.SL.Sem

/-- The tiles of a grid point as real numbers: queries, keys, values and output gradients by row and lane; log-sums, row products and decay by head of the pair. -/
structure Reals where
  q : Fin 1024 → Fin 128 → ℝ
  k : Fin 1024 → Fin 128 → ℝ
  v : Fin 1024 → Fin 128 → ℝ
  g : Fin 1024 → Fin 128 → ℝ
  lse : Fin 2 → Fin 1024 → ℝ
  row : Fin 2 → Fin 1024 → ℝ
  cq : Fin 2 → Fin 1024 → ℝ
  ck : Fin 2 → Fin 1024 → ℝ

/-- The tiles read at grid point `i` are these reals. -/
structure Reads (i : grid0.Coords) (x : Ins Ideal) (T : Reals) : Prop where
  q : ∀ p l, x.q (ix2 p l) = (T.q p l : EReal)
  k : ∀ j l, x.k (ix2 j l) = (T.k j l : EReal)
  kt : ∀ l j, x.kt (ix2 l j) = (T.k j l : EReal)
  v : ∀ j l, x.v (ix2 j l) = (T.v j l : EReal)
  g : ∀ p l, x.g (ix2 p l) = (T.g p l : EReal)
  lse : ∀ r p, stat r x.lse (ix3 0 0 p) = (T.lse r p : EReal)
  row : ∀ r p, stat r x.row (ix3 0 0 p) = (T.row r p : EReal)
  cq : ∀ r p, lane r x.cumT (ix2 0 p) = (T.cq r p : EReal)
  ck : ∀ (r : Fin 2) j (l : Fin 128), l.val = 8 * (i 0).val + r.val → x.cum (ix2 j l) = (T.ck r j : EReal)

namespace Reals

variable (T : Reals)

/-- Scores, keys by queries. -/
def S (r : Fin 2) (j p : Fin 1024) : ℝ := (∑ d, T.k j (laneOf r d) * (T.q p (laneOf r d) * (1 / 8))) + (T.cq r p - T.ck r j)
/-- Probabilities. -/
def W (r : Fin 2) (j p : Fin 1024) : ℝ := Real.exp (T.S r j p - T.lse r p)
/-- The scores' gradient. -/
def B (r : Fin 2) (j p : Fin 1024) : ℝ := T.W r j p * ((∑ d, T.v j (laneOf r d) * T.g p (laneOf r d)) - T.row r p)
/-- Probabilities on the diagonal: none where the key is after the query. -/
def Wm (r : Fin 2) (j p : Fin 1024) : ℝ := if j.val ≤ p.val then T.W r j p else 0
/-- The scores' gradient on the diagonal. -/
def Bm (r : Fin 2) (j p : Fin 1024) : ℝ := T.Wm r j p * ((∑ d, T.v j (laneOf r d) * T.g p (laneOf r d)) - T.row r p)

end Reals

variable {i : grid0.Coords} {x : Ins Ideal} {T : Reals}

theorem Reads.ck0 (h : Reads i x T) (j : Fin 1024) : (∑ l : Fin 128, if l.val = 8 * (i 0).val then x.cum (ix2 j l) else 0) = (T.ck 0 j : EReal) := by
  have h3 : (i 0).val < 3 := (i 0).isLt
  rw [sum_pick _ _ (by omega)]; exact h.ck 0 j _ rfl
theorem Reads.ck1 (h : Reads i x T) (j : Fin 1024) : (∑ l : Fin 128, if l.val = 8 * (i 0).val + 1 then x.cum (ix2 j l) else 0) = (T.ck 1 j : EReal) := by
  have h3 : (i 0).val < 3 := (i 0).isLt
  rw [sum_pick _ _ (by omega)]; exact h.ck 1 j _ rfl

/-- Where the lanes are picked by the pair's number. -/
theorem pick0 {α : Type} (l : Fin 128) (a b : α) :
    Scalar.select (IntOp.cmpi .eq (BitVec.ofNat 32 l.val) (Scalar.addi (Scalar.muli 8#32 (pairWord i)) 0#32)) a b = if l.val = 8 * (i 0).val then a else b := select_lane0 l (i 0) a b
theorem pick1 {α : Type} (l : Fin 128) (a b : α) :
    Scalar.select (IntOp.cmpi .eq (BitVec.ofNat 32 l.val) (Scalar.addi (Scalar.muli 8#32 (pairWord i)) 1#32)) a b = if l.val = 8 * (i 0).val + 1 then a else b := select_lane1 l (i 0) a b

theorem fullS_at (h : Reads i x T) (j p : Fin 1024) : fullS i x (ix2 j p) = (T.S 0 j p : EReal) := by
  pointwise [fullS, k0_pay23, k0_pay22, k0_pay21, k0_pay17, k0_pay16, k0_pay1]
  simp only [select_low, pick0, h.ck0, h.q, h.k, h.cq, eighth_bf16', Reals.S, ← sum_low (fun l => T.k j l * (T.q p l * (1/8))), EReal.coe_add, EReal.coe_sub, coe_sum, EReal.coe_mul, coe_ite, EReal.coe_zero]

theorem fullW0_at (h : Reads i x T) (j p : Fin 1024) : k0_pay25 (fullS i x) (k0_pay24 (stat 0 x.lse)) (ix2 j p) = (T.W 0 j p : EReal) := by
  pointwise [k0_pay25, k0_pay24]
  simp only [fullS_at h, h.lse, ← EReal.coe_sub, exp_coe, Reals.W]

theorem fullD0_at (h : Reads i x T) (j p : Fin 1024) : fullD0 i x (ix2 j p) = (T.B 0 j p : EReal) := by
  pointwise [fullD0, k0_pay27, k0_pay26, k0_pay19, k0_pay20, k0_pay1]
  simp only [fullW0_at h, select_low, h.row, h.v, h.g, Reals.B, ← sum_low (fun l => T.v j l * T.g p l), EReal.coe_add, EReal.coe_sub, coe_sum, EReal.coe_mul, coe_ite, EReal.coe_zero]

theorem fullW1_at (h : Reads i x T) (j p : Fin 1024) :
    k0_pay38 (pairWord i) (k0_pay17 x.k) lanes (k0_pay21 x.cum) (k0_pay37 k0_pay1 (k0_pay16 x.q)) zeros (lane 1 x.cumT) (stat 1 x.lse) (ix2 j p) = (T.W 1 j p : EReal) := by
  pointwise [k0_pay38, k0_pay37, k0_pay35, k0_pay21, k0_pay17, k0_pay16, k0_pay1]
  simp only [select_high, pick1, h.ck1, h.q, h.k, h.cq, h.lse, eighth_bf16', Reals.W, Reals.S, ← exp_coe, ← sum_high (fun l => T.k j l * (T.q p l * (1/8))), EReal.coe_add, EReal.coe_sub, coe_sum, EReal.coe_mul, coe_ite, EReal.coe_zero]

theorem fullD1_at (h : Reads i x T) (j p : Fin 1024) : fullD1 i x (ix2 j p) = (T.B 1 j p : EReal) := by
  pointwise [fullD1, k0_pay40, k0_pay39, k0_pay35, k0_pay19, k0_pay20, k0_pay1]
  simp only [fullW1_at h, select_high, h.row, h.v, h.g, Reals.B, ← sum_high (fun l => T.v j l * T.g p l), EReal.coe_add, EReal.coe_sub, coe_sum, EReal.coe_mul, coe_ite, EReal.coe_zero]
  exact congrArg (· * _) (fullW1_at h j p)

theorem fullB1_at (h : Reads i x T) (j p : Fin 1024) : fullB1 i x (ix2 j p) = (T.B 1 j p : EReal) := fullD1_at h j p

theorem fullB0_at (h : Reads i x T) (j p : Fin 1024) :
    k0_pay27 k0_pay1 (k0_pay19 x.v) (k0_pay20 x.g) (fullS i x) (k0_pay24 (stat 0 x.lse)) (stat 0 x.row) (ix2 j p) = (T.B 0 j p : EReal) := fullD0_at h j p

/-! ### What a full tile adds -/

theorem fullDv_at (h : Reads i x T) (d) (j : Fin 1024) (l : Fin 128) : fullDv1 i x (fullDv0 i x d) (ix2 j l) = d (ix2 j l) + ((∑ p, T.W (half l) j p * T.g p l : ℝ) : EReal) := by
  pointwise [fullDv1, fullDv0, k0_pay42, k0_pay39, k0_pay35, k0_pay29, k0_pay26, k0_pay20, k0_pay1]
  simp only [fullW1_at h, fullW0_at h, select_high, select_low, h.g]
  by_cases hl : l.val < 64 <;> simp [hl, half, coe_sum]
  exact congrArg _ (Finset.sum_congr rfl fun p _ => congrArg (· * _) (fullW1_at h j p))

theorem fullDk_at (h : Reads i x T) (d) (j : Fin 1024) (l : Fin 128) : fullDk1 i x (fullDk0 i x d) (ix2 j l) = d (ix2 j l) + ((∑ p, T.B (half l) j p * (T.q p l * (1 / 8)) : ℝ) : EReal) := by
  pointwise [fullDk1, fullDk0, k0_pay43, k0_pay37, k0_pay35, k0_pay30, k0_pay28, k0_pay22, k0_pay16, k0_pay1]
  simp only [fullB1_at h, fullB0_at h, select_high, select_low, h.q, eighth_bf16']
  by_cases hl : l.val < 64 <;> simp [hl, half, coe_sum]
  exact congrArg _ (Finset.sum_congr rfl fun p _ => congrArg (· * _) (fullD0_at h j p))

theorem fullDq_at (h : Reads i x T) (d) (l : Fin 128) (p : Fin 1024) : fullDq1 i x (fullDq0 i x d) (ix3 0 l p) = d (ix3 0 l p) + (((∑ j, T.k j l * T.B (half l) j p) * (1 / 8) : ℝ) : EReal) := by
  pointwise [fullDq1, fullDq0, k0_pay44, k0_pay36, k0_pay32, k0_pay31, k0_pay28, k0_pay18, k0_pay2]
  simp only [fullB1_at h, fullB0_at h, select_high, select_low, h.kt, eighth_f32']
  by_cases hl : l.val < 64 <;> simp [hl, half, coe_sum]

theorem fullCk_at (h : Reads i x T) (d) (j : Fin 1024) (l : Fin 128) : fullCk1 i x (fullCk0 i x d) (ix2 j l)
    = d (ix2 j l) + ((-(if l.val = 8 * (i 0).val then ∑ p, T.B 0 j p else if l.val = 8 * (i 0).val + 1 then ∑ p, T.B 1 j p else 0) : ℝ) : EReal) := by
  pointwise [fullCk1, fullCk0, k0_pay8, k0_pay46, k0_pay47, k0_pay34]
  simp only [fullD1_at h, fullD0_at h, pick1, pick0]
  by_cases h0 : l.val = 8 * (i 0).val
  · simp [h0, coe_sum, sub_eq_add_neg]
  · by_cases h1 : l.val = 8 * (i 0).val + 1 <;> simp [h0, h1, coe_sum, sub_eq_add_neg]

theorem fullCq0_at (h : Reads i x T) (d) (p : Fin 1024) : k0_pay33 (fullD0 i x) d (ix3 0 0 p) = d (ix3 0 0 p) + ((∑ j, T.B 0 j p : ℝ) : EReal) := by
  pointwise [k0_pay33]
  simp only [fullD0_at h, coe_sum]

theorem fullCq1_at (h : Reads i x T) (d) (p : Fin 1024) : k0_pay45 (fullD1 i x) d (ix3 0 0 p) = d (ix3 0 0 p) + ((∑ j, T.B 1 j p : ℝ) : EReal) := by
  pointwise [k0_pay45]
  simp only [fullD1_at h, coe_sum]

/-! ### A tile on the diagonal -/

theorem diagS_at (h : Reads i x T) (j p : Fin 1024) : diagS i x (ix2 j p) = (T.S 0 j p : EReal) := by
  pointwise [diagS, k0_pay56, k0_pay55, k0_pay54, k0_pay49, k0_pay48, k0_pay1]
  simp only [select_low, pick0, h.ck0, h.q, h.k, h.cq, eighth_bf16', Reals.S, ← sum_low (fun l => T.k j l * (T.q p l * (1/8))), EReal.coe_add, EReal.coe_sub, coe_sum, EReal.coe_mul, coe_ite, EReal.coe_zero]

theorem diagW0_at (h : Reads i x T) (j p : Fin 1024) : k0_pay57 k0_pay53 (diagS i x) (stat 0 x.lse) (ix2 j p) = (T.Wm 0 j p : EReal) := by
  pointwise [k0_pay57, k0_pay53]
  simp only [select_le 1024 (by norm_num), diagS_at h, h.lse, ← EReal.coe_sub, exp_coe, Reals.Wm, Reals.W, coe_ite, EReal.coe_zero]

theorem diagD0_at (h : Reads i x T) (j p : Fin 1024) : diagD0 i x (ix2 j p) = (T.Bm 0 j p : EReal) := by
  pointwise [diagD0, k0_pay59, k0_pay58, k0_pay51, k0_pay52, k0_pay1]
  simp only [diagW0_at h, select_low, h.row, h.v, h.g, Reals.Bm, ← sum_low (fun l => T.v j l * T.g p l), EReal.coe_add, EReal.coe_sub, coe_sum, EReal.coe_mul, coe_ite, EReal.coe_zero]

theorem diagW1_at (h : Reads i x T) (j p : Fin 1024) :
    k0_pay73 (pairWord i) (k0_pay48 x.q) (k0_pay49 x.k) k0_pay53 lanes (k0_pay54 x.cum) (k0_pay70 (F := Ideal)) (k0_pay71 k0_pay1) (lane 1 x.cumT) (stat 1 x.lse) (ix2 j p) = (T.Wm 1 j p : EReal) := by
  pointwise [k0_pay73, k0_pay72, k0_pay71, k0_pay70, k0_pay68, k0_pay54, k0_pay53, k0_pay49, k0_pay48, k0_pay1]
  simp only [select_le 1024 (by norm_num), select_high, pick1, h.ck1, h.q, h.k, h.cq, h.lse, eighth_bf16', Reals.Wm, Reals.W, Reals.S, ← exp_coe, ← sum_high (fun l => T.k j l * (T.q p l * (1/8))), EReal.coe_add, EReal.coe_sub, coe_sum, EReal.coe_mul, coe_ite, EReal.coe_zero]

theorem diagD1_at (h : Reads i x T) (j p : Fin 1024) : diagD1 i x (ix2 j p) = (T.Bm 1 j p : EReal) := by
  pointwise [diagD1, k0_pay75, k0_pay74, k0_pay68, k0_pay51, k0_pay52, k0_pay1]
  simp only [diagW1_at h, select_high, h.row, h.v, h.g, Reals.Bm, ← sum_high (fun l => T.v j l * T.g p l), EReal.coe_add, EReal.coe_sub, coe_sum, EReal.coe_mul, coe_ite, EReal.coe_zero]
  exact congrArg (· * _) (diagW1_at h j p)

theorem diagB1_at (h : Reads i x T) (j p : Fin 1024) : diagB1 i x (ix2 j p) = (T.Bm 1 j p : EReal) := diagD1_at h j p
theorem diagB0_at (h : Reads i x T) (j p : Fin 1024) : diagB0 i x (ix2 j p) = (T.Bm 0 j p : EReal) := diagD0_at h j p

/-! ### What a tile on the diagonal adds -/

theorem diagDv_at (h : Reads i x T) (d) (j : Fin 1024) (l : Fin 128) : diagDv1 i x (diagDv0 i x d) (ix2 j l) = d (ix2 j l) + ((∑ p, T.Wm (half l) j p * T.g p l : ℝ) : EReal) := by
  pointwise [diagDv1, diagDv0, k0_pay78, k0_pay77, k0_pay74, k0_pay68, k0_pay61, k0_pay58, k0_pay52, k0_pay1]
  simp only [diagW1_at h, diagW0_at h, select_high, select_low, h.g]
  by_cases hl : l.val < 64 <;> simp [hl, half, coe_sum]
  exact congrArg _ (Finset.sum_congr rfl fun p _ => congrArg (· * _) (diagW1_at h j p))

theorem diagDk_at (h : Reads i x T) (d) (j : Fin 1024) (l : Fin 128) : diagDk1 i x (diagDk0 i x d) (ix2 j l) = d (ix2 j l) + ((∑ p, T.Bm (half l) j p * (T.q p l * (1 / 8)) : ℝ) : EReal) := by
  pointwise [diagDk1, diagDk0, k0_pay79, k0_pay72, k0_pay71, k0_pay70, k0_pay68, k0_pay62, k0_pay55, k0_pay48, k0_pay1]
  simp only [diagB1_at h, diagB0_at h, select_high, select_low, h.q, eighth_bf16']
  by_cases hl : l.val < 64 <;> simp [hl, half, coe_sum]
  exact congrArg _ (Finset.sum_congr rfl fun p _ => congrArg (· * _) (diagB0_at h j p))

theorem diagDq_at (h : Reads i x T) (d) (l : Fin 128) (p : Fin 1024) : diagDq1 i x (diagDq0 i x d) (ix3 0 l p) = d (ix3 0 l p) + (((∑ j, T.k j l * T.Bm (half l) j p) * (1 / 8) : ℝ) : EReal) := by
  pointwise [diagDq1, diagDq0, k0_pay80, k0_pay69, k0_pay65, k0_pay64, k0_pay63, k0_pay50, k0_pay2]
  simp only [diagB1_at h, diagB0_at h, select_high, select_low, h.kt, eighth_f32']
  by_cases hl : l.val < 64 <;> simp [hl, half, coe_sum]

theorem diagCk_at (h : Reads i x T) (d) (j : Fin 1024) (l : Fin 128) : diagCk1 i x (diagCk0 i x d) (ix2 j l)
    = d (ix2 j l) + ((-(if l.val = 8 * (i 0).val then ∑ p, T.Bm 0 j p else if l.val = 8 * (i 0).val + 1 then ∑ p, T.Bm 1 j p else 0) : ℝ) : EReal) := by
  pointwise [diagCk1, diagCk0, k0_pay9, k0_pay67]
  simp only [diagD1_at h, diagD0_at h, pick1, pick0]
  by_cases h0 : l.val = 8 * (i 0).val
  · simp [h0, coe_sum, sub_eq_add_neg]
  · by_cases h1 : l.val = 8 * (i 0).val + 1 <;> simp [h0, h1, coe_sum, sub_eq_add_neg]

theorem diagCq0_at (h : Reads i x T) (d) (p : Fin 1024) : k0_pay66 (diagD0 i x) d (ix3 0 0 p) = d (ix3 0 0 p) + ((∑ j, T.Bm 0 j p : ℝ) : EReal) := by
  pointwise [k0_pay66]
  simp only [diagD0_at h, coe_sum]

theorem diagCq1_at (h : Reads i x T) (d) (p : Fin 1024) : k0_pay81 (diagD1 i x) d (ix3 0 0 p) = d (ix3 0 0 p) + ((∑ j, T.Bm 1 j p : ℝ) : EReal) := by
  pointwise [k0_pay81]
  simp only [diagD1_at h, coe_sum]

end Cert.KernelIdeal.Grad
-- ==== Proof.Next.lean ====
/- What one grid point adds to each accumulator, in terms of the gradient of the attention over the reals. -/
module

public import proofs.«01_k».proof.Proof.Tile
public import proofs.«01_k».proof.Proof.Attend

@[expose] public section

set_option maxRecDepth 16384

noncomputable section

namespace Cert.KernelIdeal.Grad

open Cert.KernelIdeal.Gen Cert.Grad
open Idealize.ShloMosaic Idealize.ShloMosaic.TcCoe Idealize.SL.Sem

/-- The tiles of head pair `a`, key tile `b`, query tile `u`. -/
def tile (D : Data) (a b u : ℕ) : Reals where
  q p l := D.x (1024 * u + p.val) (128 * a + l.val)
  k j l := D.x (1024 * b + j.val) (384 + 128 * a + l.val)
  v j l := D.x (1024 * b + j.val) (768 + 128 * a + l.val)
  g p l := D.y (1024 * u + p.val) (128 * a + l.val)
  lse r p := Real.log (D.Z (2 * a + r.val) (1024 * u + p.val))
  row r p := D.R (2 * a + r.val) (1024 * u + p.val)
  cq r p := D.c (2 * a + r.val) (1024 * u + p.val)
  ck r j := D.c (2 * a + r.val) (1024 * b + j.val)

variable (D : Data) (a b u : ℕ)

theorem tile_S (r : Fin 2) (j p : Fin 1024) : (tile D a b u).S r j p = D.sc (2 * a + r.val) (1024 * u + p.val) (1024 * b + j.val) := by
  unfold Reals.S Data.sc tile
  dsimp only
  rw [Finset.sum_mul]
  refine congrArg (· + _) (Finset.sum_congr rfl fun d _ => ?_)
  rw [show 384 + 128 * a + (laneOf r d).val = 384 + 64 * (2 * a + r.val) + d.val by simp only [laneOf]; ring,
    show 128 * a + (laneOf r d).val = 64 * (2 * a + r.val) + d.val by simp only [laneOf]; ring]
  ring

theorem tile_W (r : Fin 2) (j p : Fin 1024) (h : 1024 * b + j.val ≤ 1024 * u + p.val) :
    (tile D a b u).W r j p = D.P (2 * a + r.val) (1024 * u + p.val) (1024 * b + j.val) := by
  unfold Reals.W; rw [tile_S]
  unfold Data.P; rw [if_pos h, show (tile D a b u).lse r p = Real.log (D.Z (2 * a + r.val) (1024 * u + p.val)) from rfl, Real.exp_sub, Real.exp_log (D.Z_pos _ _)]

theorem tile_dP (r : Fin 2) (j p : Fin 1024) :
    (∑ d, (tile D a b u).v j (laneOf r d) * (tile D a b u).g p (laneOf r d)) = D.dP (2 * a + r.val) (1024 * u + p.val) (1024 * b + j.val) := by
  unfold Data.dP tile
  dsimp only
  refine Finset.sum_congr rfl fun d _ => ?_
  rw [show 768 + 128 * a + (laneOf r d).val = 768 + 64 * (2 * a + r.val) + d.val by simp only [laneOf]; ring,
    show 128 * a + (laneOf r d).val = 64 * (2 * a + r.val) + d.val by simp only [laneOf]; ring]
  ring

theorem tile_B (r : Fin 2) (j p : Fin 1024) (h : 1024 * b + j.val ≤ 1024 * u + p.val) :
    (tile D a b u).B r j p = D.B (2 * a + r.val) (1024 * u + p.val) (1024 * b + j.val) := by
  unfold Reals.B; rw [tile_W D a b u r j p h, tile_dP]; rfl

theorem tile_W_lt (hlt : b < u) (r : Fin 2) (j p : Fin 1024) : (tile D a b u).W r j p = D.P (2 * a + r.val) (1024 * u + p.val) (1024 * b + j.val) :=
  tile_W D a b u r j p (by omega)
theorem tile_B_lt (hlt : b < u) (r : Fin 2) (j p : Fin 1024) : (tile D a b u).B r j p = D.B (2 * a + r.val) (1024 * u + p.val) (1024 * b + j.val) :=
  tile_B D a b u r j p (by omega)

theorem tile_Wm (r : Fin 2) (j p : Fin 1024) : (tile D a u u).Wm r j p = D.P (2 * a + r.val) (1024 * u + p.val) (1024 * u + j.val) := by
  unfold Reals.Wm
  by_cases h : j.val ≤ p.val
  · rw [if_pos h, tile_W D a u u r j p (by omega)]
  · rw [if_neg h, D.P_zero (by omega)]

theorem tile_Bm (r : Fin 2) (j p : Fin 1024) : (tile D a u u).Bm r j p = D.B (2 * a + r.val) (1024 * u + p.val) (1024 * u + j.val) := by
  unfold Reals.Bm; rw [tile_Wm, tile_dP]; rfl

/-! ## What the tile adds, wherever it lies -/

def incDv (j : ℕ) (l : Fin 128) : ℝ := ∑ p : Fin 1024, D.P (2 * a + (half l).val) (1024 * u + p.val) (1024 * b + j) * D.y (1024 * u + p.val) (128 * a + l.val)
def incDk (j : ℕ) (l : Fin 128) : ℝ := ∑ p : Fin 1024, D.B (2 * a + (half l).val) (1024 * u + p.val) (1024 * b + j) * (D.x (1024 * u + p.val) (128 * a + l.val) * (1 / 8))
def incDq (l : Fin 128) (p : ℕ) : ℝ := (∑ j : Fin 1024, D.x (1024 * b + j.val) (384 + 128 * a + l.val) * D.B (2 * a + (half l).val) (1024 * u + p) (1024 * b + j.val)) * (1 / 8)
def incCk (j : ℕ) (l : Fin 128) : ℝ := -(if l.val = 8 * a then ∑ p : Fin 1024, D.B (2 * a) (1024 * u + p.val) (1024 * b + j) else if l.val = 8 * a + 1 then ∑ p : Fin 1024, D.B (2 * a + 1) (1024 * u + p.val) (1024 * b + j) else 0)
def incCq (r : ℕ) (p : ℕ) : ℝ := if r < 2 then ∑ j : Fin 1024, D.B (2 * a + r) (1024 * u + p) (1024 * b + j.val) else 0

variable {D} {a b u}

theorem incDv_zero (h : u < b) (j : Fin 1024) (l : Fin 128) : incDv D a b u j.val l = 0 :=
  Finset.sum_eq_zero fun p _ => by rw [D.P_zero (by omega), zero_mul]
theorem incDk_zero (h : u < b) (j : Fin 1024) (l : Fin 128) : incDk D a b u j.val l = 0 :=
  Finset.sum_eq_zero fun p _ => by rw [D.B_zero (by omega), zero_mul]
theorem incDq_zero (h : u < b) (l : Fin 128) (p : Fin 1024) : incDq D a b u l p.val = 0 := by
  unfold incDq; rw [Finset.sum_eq_zero fun j _ => by rw [D.B_zero (by omega), mul_zero], zero_mul]
theorem incCk_zero (h : u < b) (j : Fin 1024) (l : Fin 128) : incCk D a b u j.val l = 0 := by
  unfold incCk; rw [Finset.sum_eq_zero fun p _ => D.B_zero (by omega), Finset.sum_eq_zero fun p _ => D.B_zero (by omega)]; simp
theorem incCq_zero (h : u < b) (r : ℕ) (p : Fin 1024) : incCq D a b u r p.val = 0 := by
  unfold incCq; rw [Finset.sum_eq_zero fun j _ => D.B_zero (by omega)]; simp

/-! ## The windows of the accumulators -/

theorem slab_at {F : FTy → Type} (n : Fin 4) (s : Vec F S4x128x1024 .f32) (l : Fin 128) (p : Fin 1024) : slab n s (ix3 0 l p) = s (ix3 n l p) := by
  unfold slab VecWindow.window
  refine congrArg s (funext fun k => ?_)
  fin_cases k <;> exact Fin.ext (by simp [Rect.unit, Rect.emb])

theorem head_at {F : FTy → Type} (n : Fin 4) (r : Fin 2) (s : Vec F S4x8x1024 .f32) (p : Fin 1024) : head n r s (ix3 0 0 p) = s (ix3 n ⟨r.val, by omega⟩ p) := by
  unfold head VecWindow.window
  refine congrArg s (funext fun k => ?_)
  fin_cases k <;> exact Fin.ext (by simp [Rect.unit, Rect.emb])

theorem heads_at {F : FTy → Type} (n : Fin 4) (s : Vec F S4x8x1024 .f32) (r : Fin 8) (p : Fin 1024) : heads n s (ix3 0 r p) = s (ix3 n r p) := by
  unfold heads VecWindow.window
  refine congrArg s (funext fun k => ?_)
  fin_cases k <;> exact Fin.ext (by simp [Rect.unit, Rect.emb])

theorem put_slab {F : FTy → Type} (n : Fin 4) (s : Vec F S4x128x1024 .f32) (w : Vec F S1x128x1024 .f32) (e : Fin 4) (l : Fin 128) (p : Fin 1024) :
    VecWindow.put s ![n.val, 0, 0] S1x128x1024.size w (ix3 e l p) = if e = n then w (ix3 0 l p) else s (ix3 e l p) := by
  unfold VecWindow.put
  by_cases he : e = n
  · subst he
    rw [dif_pos, if_pos rfl]
    · refine congrArg w (funext fun k => ?_)
      fin_cases k <;> exact Fin.ext (by simp [Rect.unitLocal])
    · intro k
      fin_cases k <;> simp [S1x128x1024]
  · rw [dif_neg, if_neg he]
    intro h
    have h0 := h 0
    simp [S1x128x1024] at h0
    exact he (Fin.ext (by omega))

theorem put_head {F : FTy → Type} (n : Fin 4) (r : ℕ) (s : Vec F S4x8x1024 .f32) (w : Vec F S1x1x1024 .f32) (e : Fin 4) (r' : Fin 8) (p : Fin 1024) :
    VecWindow.put s ![n.val, r, 0] S1x1x1024.size w (ix3 e r' p) = if e = n ∧ r'.val = r then w (ix3 0 0 p) else s (ix3 e r' p) := by
  unfold VecWindow.put
  by_cases he : e = n ∧ r'.val = r
  · obtain ⟨rfl, rfl⟩ := he
    rw [dif_pos, if_pos ⟨rfl, rfl⟩]
    · refine congrArg w (funext fun k => ?_)
      fin_cases k <;> exact Fin.ext (by simp [Rect.unitLocal])
    · intro k
      fin_cases k <;> simp [S1x1x1024]
  · rw [dif_neg, if_neg he]
    intro h
    have h0 := h 0
    have h1 := h 1
    simp [S1x1x1024] at h0 h1
    exact he ⟨Fin.ext (by omega), by omega⟩

/-! ## The guards -/

theorem conds_at : ∀ t : Fin grid0.N, (condPair (grid0.coords t) ↔ (grid0.coords t 1).val = 0 ∧ (grid0.coords t 2).val = 0) ∧ (condTile (grid0.coords t) ↔ (grid0.coords t 2).val = 0)
    ∧ (k0_cond3 (grid0.coords t) = 1#1 ↔ (grid0.coords t 1).val < (grid0.coords t 2).val) ∧ (k0_cond4 (grid0.coords t) = 1#1 ↔ (grid0.coords t 1).val = (grid0.coords t 2).val) := by decide +kernel

theorem coords_at : ∀ t : Fin grid0.N, (grid0.coords t 0).val = t.val / 16 ∧ (grid0.coords t 1).val = t.val / 4 % 4 ∧ (grid0.coords t 2).val = t.val % 4 := by decide +kernel

/-! ## One grid point -/

/-- The accumulators as they stand when the tile is taken up. -/
def start (i : grid0.Coords) (s : Acc Ideal) : Acc Ideal := zeroTile i (zeroPair i s)

variable (D) in
/-- Before the tile, the accumulators `s`; after it, `s'`, more by what the tile adds. -/
structure Added (i : grid0.Coords) (s s' : Acc Ideal) : Prop where
  dv : ∀ (j : Fin 1024) l, s'.dv (ix2 j l) = s.dv (ix2 j l) + (incDv D (i 0).val (i 1).val (i 2).val j.val l : EReal)
  dk : ∀ (j : Fin 1024) l, s'.dk (ix2 j l) = s.dk (ix2 j l) + (incDk D (i 0).val (i 1).val (i 2).val j.val l : EReal)
  ck : ∀ (j : Fin 1024) l, s'.ck (ix2 j l) = s.ck (ix2 j l) + (incCk D (i 0).val (i 1).val (i 2).val j.val l : EReal)
  dq : ∀ (e : Fin 4) l (p : Fin 1024), s'.dq (ix3 e l p) = s.dq (ix3 e l p) + ((if e.val = (i 2).val then incDq D (i 0).val (i 1).val (i 2).val l p.val else 0 : ℝ) : EReal)
  cq : ∀ (e : Fin 4) (r : Fin 8) (p : Fin 1024), s'.cq (ix3 e r p) = s.cq (ix3 e r p) + ((if e.val = (i 2).val then incCq D (i 0).val (i 1).val (i 2).val r.val p.val else 0 : ℝ) : EReal)

theorem added_full {i : grid0.Coords} {x : Ins Ideal} (s : Acc Ideal) (hlt : (i 1).val < (i 2).val) (h : Reads i x (tile D (i 0).val (i 1).val (i 2).val)) : Added D i s (fullNext i x s) where
  dv j l := by
    refine (fullDv_at h s.dv j l).trans ?_
    simp only [tile_W_lt D _ _ _ hlt]
    rfl
  dk j l := by
    refine (fullDk_at h s.dk j l).trans ?_
    simp only [tile_B_lt D _ _ _ hlt]
    rfl
  ck j l := by
    refine (fullCk_at h s.ck j l).trans ?_
    simp only [tile_B_lt D _ _ _ hlt]
    rfl
  dq e l p := by
    refine (put_slab (i 2) s.dq _ e l p).trans ?_
    by_cases he : e = i 2
    · rw [if_pos he, if_pos (congrArg Fin.val he), fullDq_at h, slab_at (F := Ideal) (i 2) s.dq l p, he]
      simp only [tile_B_lt D _ _ _ hlt]
      rfl
    · rw [if_neg he, if_neg (fun h => he (Fin.ext h)), EReal.coe_zero, add_zero]
  cq e r p := by
    refine (put_head (i 2) 1 _ _ e r p).trans ?_
    rw [put_head (i 2) 0 s.cq]
    by_cases he : e = i 2
    · rw [if_pos (congrArg Fin.val he), he]
      unfold incCq
      by_cases h1 : r.val = 1
      · rw [if_pos ⟨rfl, h1⟩, fullCq1_at h, head_at (F := Ideal) (i 2) 1 s.cq p, if_pos (by omega)]
        simp only [tile_B_lt D _ _ _ hlt]
        obtain rfl : r = 1 := Fin.ext h1
        rfl
      · rw [if_neg (fun h => h1 h.2)]
        by_cases h0 : r.val = 0
        · rw [if_pos ⟨rfl, h0⟩, fullCq0_at h, head_at (F := Ideal) (i 2) 0 s.cq p, if_pos (by omega)]
          simp only [tile_B_lt D _ _ _ hlt]
          obtain rfl : r = 0 := Fin.ext h0
          rfl
        · rw [if_neg (fun h => h0 h.2), if_neg (by omega), EReal.coe_zero, add_zero]
    · rw [if_neg (fun h => he h.1), if_neg (fun h => he h.1), if_neg (fun h => he (Fin.ext h)), EReal.coe_zero, add_zero]

theorem added_diag {i : grid0.Coords} {x : Ins Ideal} (s : Acc Ideal) (heq : (i 1).val = (i 2).val) (h : Reads i x (tile D (i 0).val (i 1).val (i 2).val)) : Added D i s (diagNext i x s) := by
  rw [heq] at h
  constructor
  · intro j l
    refine (diagDv_at h s.dv j l).trans ?_
    simp only [tile_Wm, heq]
    rfl
  · intro j l
    refine (diagDk_at h s.dk j l).trans ?_
    simp only [tile_Bm, heq]
    rfl
  · intro j l
    refine (diagCk_at h s.ck j l).trans ?_
    simp only [tile_Bm, heq]
    rfl
  · intro e l p
    refine (put_slab (i 2) s.dq _ e l p).trans ?_
    by_cases he : e = i 2
    · rw [if_pos he, if_pos (congrArg Fin.val he), diagDq_at h, slab_at (F := Ideal) (i 2) s.dq l p, he]
      simp only [tile_Bm, heq]
      rfl
    · rw [if_neg he, if_neg (fun h => he (Fin.ext h)), EReal.coe_zero, add_zero]
  · intro e r p
    refine (put_head (i 2) 1 _ _ e r p).trans ?_
    rw [put_head (i 2) 0 s.cq]
    by_cases he : e = i 2
    · rw [if_pos (congrArg Fin.val he), he]
      unfold incCq
      by_cases h1 : r.val = 1
      · rw [if_pos ⟨rfl, h1⟩, diagCq1_at h, head_at (F := Ideal) (i 2) 1 s.cq p, if_pos (by omega)]
        simp only [tile_Bm, heq]
        obtain rfl : r = 1 := Fin.ext h1
        rfl
      · rw [if_neg (fun h => h1 h.2)]
        by_cases h0 : r.val = 0
        · rw [if_pos ⟨rfl, h0⟩, diagCq0_at h, head_at (F := Ideal) (i 2) 0 s.cq p, if_pos (by omega)]
          simp only [tile_Bm, heq]
          obtain rfl : r = 0 := Fin.ext h0
          rfl
        · rw [if_neg (fun h => h0 h.2), if_neg (by omega), EReal.coe_zero, add_zero]
    · rw [if_neg (fun h => he h.1), if_neg (fun h => he h.1), if_neg (fun h => he (Fin.ext h)), EReal.coe_zero, add_zero]

theorem added_none {i : grid0.Coords} (s : Acc Ideal) (hlt : (i 2).val < (i 1).val) : Added D i s s where
  dv j l := by rw [incDv_zero hlt, EReal.coe_zero, add_zero]
  dk j l := by rw [incDk_zero hlt, EReal.coe_zero, add_zero]
  ck j l := by rw [incCk_zero hlt, EReal.coe_zero, add_zero]
  dq e l p := by rw [incDq_zero hlt, ite_self, EReal.coe_zero, add_zero]
  cq e r p := by rw [incCq_zero hlt, ite_self, EReal.coe_zero, add_zero]

theorem added_next (t : Fin grid0.N) {x : Ins Ideal} (s : Acc Ideal)
    (h : (grid0.coords t 1).val ≤ (grid0.coords t 2).val → Reads (grid0.coords t) x (tile D (grid0.coords t 0).val (grid0.coords t 1).val (grid0.coords t 2).val)) :
    Added D (grid0.coords t) (start (grid0.coords t) s) (next (grid0.coords t) x s) := by
  obtain ⟨-, -, c3, c4⟩ := conds_at t
  have e : next (grid0.coords t) x s = addDiag (grid0.coords t) x (addFull (grid0.coords t) x (start (grid0.coords t) s)) := rfl
  rw [e]; unfold addDiag addFull
  rcases lt_trichotomy (grid0.coords t 1).val (grid0.coords t 2).val with hl | he | hg
  · rw [if_neg (fun h => absurd (c4.1 h) (by omega)), if_pos (c3.2 hl)]; exact added_full _ hl (h hl.le)
  · rw [if_pos (c4.2 he), if_neg (fun h => absurd (c3.1 h) (by omega))]; exact added_diag _ he (h he.le)
  · rw [if_neg (fun h => absurd (c4.1 h) (by omega)), if_neg (fun h => absurd (c3.1 h) (by omega))]; exact added_none _ hg

theorem start_dv (t : Fin grid0.N) (s : Acc Ideal) (j : Fin 1024) (l : Fin 128) : (start (grid0.coords t) s).dv (ix2 j l) = if t.val % 4 = 0 then 0 else s.dv (ix2 j l) := by
  obtain ⟨c1, c2, -, -⟩ := conds_at t; obtain ⟨-, e1, e2⟩ := coords_at t; rw [e2] at c2
  unfold start zeroTile zeroPair
  by_cases h : t.val % 4 = 0
  · rw [if_pos (c2.2 h), if_pos h]; dsimp only; pointwise [k0_pay6]
  · rw [if_neg (fun k => h (c2.1 k)), if_neg h]; split_ifs <;> rfl
theorem start_dk (t : Fin grid0.N) (s : Acc Ideal) (j : Fin 1024) (l : Fin 128) : (start (grid0.coords t) s).dk (ix2 j l) = if t.val % 4 = 0 then 0 else s.dk (ix2 j l) := by
  obtain ⟨c1, c2, -, -⟩ := conds_at t; obtain ⟨-, e1, e2⟩ := coords_at t; rw [e2] at c2
  unfold start zeroTile zeroPair
  by_cases h : t.val % 4 = 0
  · rw [if_pos (c2.2 h), if_pos h]; dsimp only; pointwise [k0_pay5]
  · rw [if_neg (fun k => h (c2.1 k)), if_neg h]; split_ifs <;> rfl
theorem start_ck (t : Fin grid0.N) (s : Acc Ideal) (j : Fin 1024) (l : Fin 128) : (start (grid0.coords t) s).ck (ix2 j l) = if t.val % 4 = 0 then 0 else s.ck (ix2 j l) := by
  obtain ⟨c1, c2, -, -⟩ := conds_at t; obtain ⟨-, e1, e2⟩ := coords_at t; rw [e2] at c2
  unfold start zeroTile zeroPair
  by_cases h : t.val % 4 = 0
  · rw [if_pos (c2.2 h), if_pos h]; dsimp only; pointwise [k0_pay7]
  · rw [if_neg (fun k => h (c2.1 k)), if_neg h]; split_ifs <;> rfl
theorem start_dq (t : Fin grid0.N) (s : Acc Ideal) (e : Fin 4) (l : Fin 128) (p : Fin 1024) : (start (grid0.coords t) s).dq (ix3 e l p) = if t.val % 16 = 0 then 0 else s.dq (ix3 e l p) := by
  obtain ⟨c1, c2, -, -⟩ := conds_at t; obtain ⟨-, e1, e2⟩ := coords_at t; rw [e2, e1] at c1
  unfold start zeroTile zeroPair
  by_cases h : t.val % 16 = 0
  · rw [if_pos (c1.2 (by omega)), if_pos h]; split_ifs <;> (dsimp only; pointwise [k0_pay3])
  · have hp : ¬ condPair (grid0.coords t) := fun k => h (by have := c1.1 k; omega)
    rw [if_neg hp, if_neg h]; split_ifs <;> rfl
theorem start_cq (t : Fin grid0.N) (s : Acc Ideal) (e : Fin 4) (r : Fin 8) (p : Fin 1024) : (start (grid0.coords t) s).cq (ix3 e r p) = if t.val % 16 = 0 then 0 else s.cq (ix3 e r p) := by
  obtain ⟨c1, c2, -, -⟩ := conds_at t; obtain ⟨-, e1, e2⟩ := coords_at t; rw [e2, e1] at c1
  unfold start zeroTile zeroPair
  by_cases h : t.val % 16 = 0
  · rw [if_pos (c1.2 (by omega)), if_pos h]; split_ifs <;> (dsimp only; pointwise [k0_pay4])
  · have hp : ¬ condPair (grid0.coords t) := fun k => h (by have := c1.1 k; omega)
    rw [if_neg hp, if_neg h]; split_ifs <;> rfl

end Cert.KernelIdeal.Grad
-- ==== Proof.Unroll.lean ====
/- The accumulators after each grid point, as sums over the tiles gone by. -/
module

public import proofs.«01_k».proof.Proof.Next
public import proofs.«01_k».proof.Proof.Run

@[expose] public section

set_option maxRecDepth 16384

noncomputable section

namespace Cert.KernelIdeal.Grad

open Cert.KernelIdeal.Gen Cert.Grad
open Idealize.ShloMosaic Idealize.ShloMosaic.TcCoe Idealize.SL.Sem

variable (m : (ℓ : Loc nD τ sig) → Buf (Elt Ideal) ℓ) (c : Dev nD) (D : Data)

/-- Every tile that is used is read as the reals `D`. -/
def AllRead : Prop := ∀ t : Fin cfg0.N, (grid0.coords t 1).val ≤ (grid0.coords t 2).val →
  Reads (grid0.coords t) (insAt m c t) (tile D (grid0.coords t 0).val (grid0.coords t 1).val (grid0.coords t 2).val)

variable {m c D}

theorem added_at (hR : AllRead m c D) (t : Fin cfg0.N) (s : Acc Ideal) : Added D (grid0.coords t) (start (grid0.coords t) s) (next (grid0.coords t) (insAt m c t) s) :=
  added_next t s (hR t)

theorem dv_sum (hR : AllRead m c D) (n : ℕ) (hn : n < cfg0.N) (j : Fin 1024) (l : Fin 128) :
    (accAt m c n hn).dv (ix2 j l) = ((∑ u ∈ Finset.range (n % 4 + 1), incDv D (n / 16) (n / 4 % 4) u j.val l : ℝ) : EReal) := by
  induction n with
  | zero =>
    refine ((added_at hR ⟨0, hn⟩ _).dv j l).trans ?_
    obtain ⟨e0, e1, e2⟩ := coords_at ⟨0, hn⟩
    rw [start_dv, if_pos (show (⟨0, hn⟩ : Fin grid0.N).val % 4 = 0 from rfl), e0, e1, e2]; simp
  | succ n ih =>
    refine ((added_at hR ⟨n + 1, hn⟩ (accAt m c n (Nat.lt_of_succ_lt hn))).dv j l).trans ?_
    obtain ⟨e0, e1, e2⟩ := coords_at ⟨n + 1, hn⟩
    rw [start_dv, e0, e1, e2]
    dsimp only
    by_cases h : (n + 1) % 4 = 0
    · rw [if_pos h, h]; simp
    · rw [if_neg h, ih, ← EReal.coe_add, Finset.sum_range_succ _ ((n + 1) % 4), show n / 16 = (n + 1) / 16 by omega, show n / 4 % 4 = (n + 1) / 4 % 4 by omega, show n % 4 + 1 = (n + 1) % 4 by omega]

theorem dk_sum (hR : AllRead m c D) (n : ℕ) (hn : n < cfg0.N) (j : Fin 1024) (l : Fin 128) :
    (accAt m c n hn).dk (ix2 j l) = ((∑ u ∈ Finset.range (n % 4 + 1), incDk D (n / 16) (n / 4 % 4) u j.val l : ℝ) : EReal) := by
  induction n with
  | zero =>
    refine ((added_at hR ⟨0, hn⟩ _).dk j l).trans ?_
    obtain ⟨e0, e1, e2⟩ := coords_at ⟨0, hn⟩
    rw [start_dk, if_pos (show (⟨0, hn⟩ : Fin grid0.N).val % 4 = 0 from rfl), e0, e1, e2]; simp
  | succ n ih =>
    refine ((added_at hR ⟨n + 1, hn⟩ (accAt m c n (Nat.lt_of_succ_lt hn))).dk j l).trans ?_
    obtain ⟨e0, e1, e2⟩ := coords_at ⟨n + 1, hn⟩
    rw [start_dk, e0, e1, e2]
    dsimp only
    by_cases h : (n + 1) % 4 = 0
    · rw [if_pos h, h]; simp
    · rw [if_neg h, ih, ← EReal.coe_add, Finset.sum_range_succ _ ((n + 1) % 4), show n / 16 = (n + 1) / 16 by omega, show n / 4 % 4 = (n + 1) / 4 % 4 by omega, show n % 4 + 1 = (n + 1) % 4 by omega]

theorem ck_sum (hR : AllRead m c D) (n : ℕ) (hn : n < cfg0.N) (j : Fin 1024) (l : Fin 128) :
    (accAt m c n hn).ck (ix2 j l) = ((∑ u ∈ Finset.range (n % 4 + 1), incCk D (n / 16) (n / 4 % 4) u j.val l : ℝ) : EReal) := by
  induction n with
  | zero =>
    refine ((added_at hR ⟨0, hn⟩ _).ck j l).trans ?_
    obtain ⟨e0, e1, e2⟩ := coords_at ⟨0, hn⟩
    rw [start_ck, if_pos (show (⟨0, hn⟩ : Fin grid0.N).val % 4 = 0 from rfl), e0, e1, e2]; simp
  | succ n ih =>
    refine ((added_at hR ⟨n + 1, hn⟩ (accAt m c n (Nat.lt_of_succ_lt hn))).ck j l).trans ?_
    obtain ⟨e0, e1, e2⟩ := coords_at ⟨n + 1, hn⟩
    rw [start_ck, e0, e1, e2]
    dsimp only
    by_cases h : (n + 1) % 4 = 0
    · rw [if_pos h, h]; simp
    · rw [if_neg h, ih, ← EReal.coe_add, Finset.sum_range_succ _ ((n + 1) % 4), show n / 16 = (n + 1) / 16 by omega, show n / 4 % 4 = (n + 1) / 4 % 4 by omega, show n % 4 + 1 = (n + 1) % 4 by omega]

theorem dq_sum (hR : AllRead m c D) (n : ℕ) (hn : n < cfg0.N) (e : Fin 4) (l : Fin 128) (p : Fin 1024) :
    (accAt m c n hn).dq (ix3 e l p) = ((∑ u ∈ Finset.range (n % 16 + 1), (if e.val = u % 4 then incDq D (n / 16) (u / 4) (u % 4) l p.val else 0) : ℝ) : EReal) := by
  induction n with
  | zero =>
    refine ((added_at hR ⟨0, hn⟩ _).dq e l p).trans ?_
    obtain ⟨e0, e1, e2⟩ := coords_at ⟨0, hn⟩
    rw [start_dq, if_pos (show (⟨0, hn⟩ : Fin grid0.N).val % 16 = 0 from rfl), e0, e1, e2]; simp
  | succ n ih =>
    refine ((added_at hR ⟨n + 1, hn⟩ (accAt m c n (Nat.lt_of_succ_lt hn))).dq e l p).trans ?_
    obtain ⟨e0, e1, e2⟩ := coords_at ⟨n + 1, hn⟩
    rw [start_dq, e0, e1, e2]
    dsimp only
    by_cases h : (n + 1) % 16 = 0
    · rw [if_pos h, h, show (n + 1) / 4 % 4 = 0 by omega, show (n + 1) % 4 = 0 by omega]; simp
    · rw [if_neg h, ih, ← EReal.coe_add, Finset.sum_range_succ _ ((n + 1) % 16), show n / 16 = (n + 1) / 16 by omega, show n % 16 + 1 = (n + 1) % 16 by omega,
        show (n + 1) % 16 / 4 = (n + 1) / 4 % 4 by omega, show (n + 1) % 16 % 4 = (n + 1) % 4 by omega]

theorem cq_sum (hR : AllRead m c D) (n : ℕ) (hn : n < cfg0.N) (e : Fin 4) (r : Fin 8) (p : Fin 1024) :
    (accAt m c n hn).cq (ix3 e r p) = ((∑ u ∈ Finset.range (n % 16 + 1), (if e.val = u % 4 then incCq D (n / 16) (u / 4) (u % 4) r.val p.val else 0) : ℝ) : EReal) := by
  induction n with
  | zero =>
    refine ((added_at hR ⟨0, hn⟩ _).cq e r p).trans ?_
    obtain ⟨e0, e1, e2⟩ := coords_at ⟨0, hn⟩
    rw [start_cq, if_pos (show (⟨0, hn⟩ : Fin grid0.N).val % 16 = 0 from rfl), e0, e1, e2]; simp
  | succ n ih =>
    refine ((added_at hR ⟨n + 1, hn⟩ (accAt m c n (Nat.lt_of_succ_lt hn))).cq e r p).trans ?_
    obtain ⟨e0, e1, e2⟩ := coords_at ⟨n + 1, hn⟩
    rw [start_cq, e0, e1, e2]
    dsimp only
    by_cases h : (n + 1) % 16 = 0
    · rw [if_pos h, h, show (n + 1) / 4 % 4 = 0 by omega, show (n + 1) % 4 = 0 by omega]; simp
    · rw [if_neg h, ih, ← EReal.coe_add, Finset.sum_range_succ _ ((n + 1) % 16), show n / 16 = (n + 1) / 16 by omega, show n % 16 + 1 = (n + 1) % 16 by omega,
        show (n + 1) % 16 / 4 = (n + 1) / 4 % 4 by omega, show (n + 1) % 16 % 4 = (n + 1) % 4 by omega]

end Cert.KernelIdeal.Grad
-- ==== Proof.Reads.lean ====
/- What each grid point reads, as the tile of the real arrays. -/
module

public import proofs.«01_k».proof.Proof.HostVal
public import proofs.«01_k».proof.Proof.Unroll
public import Idealize.ShloMosaic.Lib.Pipeline.ValueKit

@[expose] public section

set_option maxRecDepth 16384

noncomputable section

namespace Cert.KernelIdeal.Grad

open Cert.KernelIdeal.Gen Cert.Grad
open Idealize.ShloMosaic Idealize.ShloMosaic.TcCoe Idealize.SL.Sem
open Cert.ReferenceIdeal.Value (Args)

variable (m : (ℓ : Loc nD τ sig) → Buf (Elt Ideal) ℓ) (c : Dev nD) (t : Fin cfg0.N)

theorem t_lt : t.val < 48 := t.isLt

theorem idx0 : ∀ t : Fin grid0.N, t.val / 4 % 4 ≤ t.val % 4 → win0_0.index t 0 = t.val % 4 ∧ win0_0.index t 1 = t.val / 16 := by decide +kernel

theorem w0_at (ht : t.val / 4 % 4 ≤ t.val % 4) (p : Fin 1024) (l : Fin 128) :
    (iblk m c 0 t : Vec Ideal S1024x128 .bf16) (ix2 p l) = (V m c main_v0 : Vec Ideal S4096x1152 .bf16) (have := t_lt t; ix2 ⟨1024 * (t.val % 4) + p.val, by omega⟩ ⟨128 * (t.val / 16) + l.val, by omega⟩) := by
  have h48 := t_lt t
  blk_ext [iblk, idx0 t ht]

theorem idx1 : ∀ t : Fin grid0.N, t.val / 4 % 4 ≤ t.val % 4 → win0_1.index t 0 = t.val / 4 % 4 ∧ win0_1.index t 1 = 3 + t.val / 16 := by decide +kernel

theorem w1_at (ht : t.val / 4 % 4 ≤ t.val % 4) (j : Fin 1024) (l : Fin 128) :
    (iblk m c 1 t : Vec Ideal S1024x128 .bf16) (ix2 j l) = (V m c main_v0 : Vec Ideal S4096x1152 .bf16) (have := t_lt t; ix2 ⟨1024 * (t.val / 4 % 4) + j.val, by omega⟩ ⟨384 + 128 * (t.val / 16) + l.val, by omega⟩) := by
  have h48 := t_lt t
  blk_ext [iblk, idx1 t ht]

theorem idx2 : ∀ t : Fin grid0.N, t.val / 4 % 4 ≤ t.val % 4 → win0_2.index t 0 = t.val / 16 ∧ win0_2.index t 1 = t.val / 4 % 4 := by decide +kernel

theorem w2_at (ht : t.val / 4 % 4 ≤ t.val % 4) (l : Fin 128) (j : Fin 1024) :
    (iblk m c 2 t : Vec Ideal S128x1024 .bf16) (ix2 l j) = (V m c main_v3 : Vec Ideal S768x4096 .bf16) (have := t_lt t; ix2 ⟨128 * (t.val / 16) + l.val, by omega⟩ ⟨1024 * (t.val / 4 % 4) + j.val, by omega⟩) := by
  have h48 := t_lt t
  blk_ext [iblk, idx2 t ht]

theorem idx3 : ∀ t : Fin grid0.N, t.val / 4 % 4 ≤ t.val % 4 → win0_3.index t 0 = t.val / 4 % 4 ∧ win0_3.index t 1 = 6 + t.val / 16 := by decide +kernel

theorem w3_at (ht : t.val / 4 % 4 ≤ t.val % 4) (j : Fin 1024) (l : Fin 128) :
    (iblk m c 3 t : Vec Ideal S1024x128 .bf16) (ix2 j l) = (V m c main_v0 : Vec Ideal S4096x1152 .bf16) (have := t_lt t; ix2 ⟨1024 * (t.val / 4 % 4) + j.val, by omega⟩ ⟨768 + 128 * (t.val / 16) + l.val, by omega⟩) := by
  have h48 := t_lt t
  blk_ext [iblk, idx3 t ht]

theorem idx4 : ∀ t : Fin grid0.N, t.val / 4 % 4 ≤ t.val % 4 → win0_4.index t 0 = t.val % 4 ∧ win0_4.index t 1 = t.val / 16 := by decide +kernel

theorem w4_at (ht : t.val / 4 % 4 ≤ t.val % 4) (p : Fin 1024) (l : Fin 128) :
    (iblk m c 4 t : Vec Ideal S1024x128 .bf16) (ix2 p l) = (V m c main_v50 : Vec Ideal S4096x384 .bf16) (have := t_lt t; ix2 ⟨1024 * (t.val % 4) + p.val, by omega⟩ ⟨128 * (t.val / 16) + l.val, by omega⟩) := by
  have h48 := t_lt t
  blk_ext [iblk, idx4 t ht]

theorem idx5 : ∀ t : Fin grid0.N, t.val / 4 % 4 ≤ t.val % 4 → win0_5.index t 0 = t.val / 16 ∧ win0_5.index t 1 = 0 ∧ win0_5.index t 2 = t.val % 4 := by decide +kernel

theorem w5_at (ht : t.val / 4 % 4 ≤ t.val % 4) (r : Fin 8) (p : Fin 1024) :
    (iblk m c 5 t : Vec Ideal S1x8x1024 .f32) (ix3 0 r p) = (V m c main_v52 : Vec Ideal S3x8x4096 .f32) (have := t_lt t; ix3 ⟨t.val / 16, by omega⟩ r ⟨1024 * (t.val % 4) + p.val, by omega⟩) := by
  have h48 := t_lt t
  blk_ext [iblk, idx5 t ht]

theorem idx6 : ∀ t : Fin grid0.N, t.val / 4 % 4 ≤ t.val % 4 → win0_6.index t 0 = t.val / 16 ∧ win0_6.index t 1 = 0 ∧ win0_6.index t 2 = t.val % 4 := by decide +kernel

theorem w6_at (ht : t.val / 4 % 4 ≤ t.val % 4) (r : Fin 8) (p : Fin 1024) :
    (iblk m c 6 t : Vec Ideal S1x8x1024 .f32) (ix3 0 r p) = (V m c main_v54 : Vec Ideal S3x8x4096 .f32) (have := t_lt t; ix3 ⟨t.val / 16, by omega⟩ r ⟨1024 * (t.val % 4) + p.val, by omega⟩) := by
  have h48 := t_lt t
  blk_ext [iblk, idx6 t ht]

theorem idx7 : ∀ t : Fin grid0.N, t.val / 4 % 4 ≤ t.val % 4 → win0_7.index t 0 = t.val / 16 ∧ win0_7.index t 1 = t.val % 4 := by decide +kernel

theorem w7_at (ht : t.val / 4 % 4 ≤ t.val % 4) (r : Fin 8) (p : Fin 1024) :
    (iblk m c 7 t : Vec Ideal S8x1024 .f32) (ix2 r p) = (V m c main_v47 : Vec Ideal S24x4096 .f32) (have := t_lt t; ix2 ⟨8 * (t.val / 16) + r.val, by omega⟩ ⟨1024 * (t.val % 4) + p.val, by omega⟩) := by
  have h48 := t_lt t
  blk_ext [iblk, idx7 t ht]

theorem idx8 : ∀ t : Fin grid0.N, t.val / 4 % 4 ≤ t.val % 4 → win0_8.index t 0 = t.val / 4 % 4 ∧ win0_8.index t 1 = 0 := by decide +kernel

theorem w8_at (ht : t.val / 4 % 4 ≤ t.val % 4) (j : Fin 1024) (l : Fin 128) :
    (iblk m c 8 t : Vec Ideal S1024x128 .f32) (ix2 j l) = (V m c main_v49 : Vec Ideal S4096x128 .f32) (have := t_lt t; ix2 ⟨1024 * (t.val / 4 % 4) + j.val, by omega⟩ l) := by
  have h48 := t_lt t
  blk_ext [iblk, idx8 t ht]

theorem stat_at (r : Fin 2) (x : Vec Ideal S1x8x1024 .f32) (p : Fin 1024) : stat r x (ix3 0 0 p) = x (ix3 0 ⟨r.val, by omega⟩ p) := by
  refine congrArg x (funext fun a => Fin.ext ?_)
  fin_cases a <;> simp [ix3]

theorem lane_at (r : Fin 2) (x : Vec Ideal S8x1024 .f32) (p : Fin 1024) : lane r x (ix2 0 p) = x (ix2 ⟨r.val, by omega⟩ p) := by
  refine congrArg x (funext fun a => Fin.ext ?_)
  fin_cases a <;> simp [ix2]

set_option maxHeartbeats 1000000 in
/-- What every point that works on its tile reads is the tile of the real arrays. -/
theorem all_read {D : Data} (hA : Args D (a0 m c) (a1 m c) (a2 m c)) : AllRead m c D := by
  intro t ht
  obtain ⟨e0, e1, e2⟩ := coords_at t
  rw [e1, e2] at ht
  have h48 := t_lt t
  rw [e0, e1, e2]
  have kd : ∀ (j : Fin 1024) (l : Fin 128), (V m c main_v0 : Vec Ideal S4096x1152 .bf16) (ix2 ⟨1024 * (t.val / 4 % 4) + j.val, by omega⟩ ⟨384 + 128 * (t.val / 16) + l.val, by omega⟩)
      = ((tile D (t.val / 16) (t.val / 4 % 4) (t.val % 4)).k j l : EReal) := fun j l => by
    rw [V_v0]; exact hA.x _ _
  have cd : ∀ (r : Fin 8) (hr : r.val < 2) (i : Fin 4096), hPad (a1 m c) (ix3 ⟨t.val / 16, by omega⟩ r i) = (D.c (2 * (t.val / 16) + r.val) i.val : EReal) := fun r hr i => by
    rw [hPad_at _ _ _ _ hr]; exact hA.c _ _
  refine ⟨fun p l => ?_, fun j l => (w1_at m c t ht j l).trans (kd j l), fun l j => ?_, fun j l => ?_, fun p l => ?_, fun r p => ?_, fun r p => ?_, fun r p => ?_, fun r j l hl => ?_⟩
  · refine (w0_at m c t ht p l).trans ?_
    rw [V_v0]; exact hA.x _ _
  · refine (w2_at m c t ht l j).trans ?_
    rw [V_v3]
    refine (keysT_at _ _ _).trans (Eq.trans ?_ (hA.x ⟨1024 * (t.val / 4 % 4) + j.val, by omega⟩ ⟨384 + 128 * (t.val / 16) + l.val, by omega⟩))
    exact congrArg (fun n => (a0 m c) (ix2 _ n)) (Fin.ext (Nat.add_assoc _ _ _).symm)
  · refine (w3_at m c t ht j l).trans ?_
    rw [V_v0]; exact hA.x _ _
  · refine (w4_at m c t ht p l).trans ?_
    rw [V_v50]; exact hA.y _ _
  · rw [stat_at]
    refine (w5_at m c t ht _ p).trans ?_
    rw [V_v52, hPad_at _ _ _ _ r.isLt]
    exact lse_at hA _ _
  · rw [stat_at]
    refine (w6_at m c t ht _ p).trans ?_
    rw [V_v54, hPad_at _ _ _ _ r.isLt]
    exact row_at hA _ _
  · rw [lane_at]
    refine (w7_at m c t ht _ p).trans ?_
    rw [V_v47, hCumT_at]
    refine Eq.trans ?_ (cd ⟨r.val, by omega⟩ r.isLt ⟨1024 * (t.val % 4) + p.val, by omega⟩)
    refine congrArg₂ (fun a b => hPad (a1 m c) (ix3 a b _)) (Fin.ext ?_) (Fin.ext ?_) <;> simp only [] <;> omega
  · refine (w8_at m c t ht j l).trans ?_
    rw [e0] at hl
    have hl' : l.val < 24 := by omega
    rw [V_v49, hCum_at _ _ hl', hCumT_at]
    refine Eq.trans ?_ (cd ⟨r.val, by omega⟩ r.isLt ⟨1024 * (t.val / 4 % 4) + j.val, by omega⟩)
    refine congrArg₂ (fun a b => hPad (a1 m c) (ix3 a b _)) (Fin.ext ?_) (Fin.ext ?_) <;> simp only [] <;> omega

end Cert.KernelIdeal.Grad
-- ==== Proof.Value.lean ====
/- The arrays the kernel leaves: the gradients over the reals. -/
module

public import proofs.«01_k».proof.Proof.Reads

@[expose] public section

set_option maxRecDepth 16384

noncomputable section

namespace Cert.KernelIdeal.Grad

open Cert.KernelIdeal.Gen Cert.Grad
open Idealize.ShloMosaic Idealize.ShloMosaic.TcCoe Idealize.SL.Sem
open Idealize.ShloMosaic.Pipeline (Dat)
open Cert.ReferenceIdeal.Value (Args)

/-! ## The tiles' sums are the gradients -/

section
variable (D : Data) (a b : ℕ)

theorem half_eq (l : Fin 128) : 2 * a + (half l).val = (128 * a + l.val) / 64 := by
  unfold half; split_ifs <;> simp <;> omega

theorem total_dv (j : ℕ) (l : Fin 128) :
    ∑ u ∈ Finset.range 4, incDv D a b u j l = D.dv ((128 * a + l.val) / 64) (1024 * b + j) ((128 * a + l.val) % 64) := by
  simp only [incDv, Data.dv, half_eq, Nat.div_add_mod]
  exact (sum_tiles fun i => D.P ((128 * a + l.val) / 64) i (1024 * b + j) * D.y i (128 * a + l.val)).symm

theorem total_dk (j : ℕ) (l : Fin 128) :
    ∑ u ∈ Finset.range 4, incDk D a b u j l = D.dk ((128 * a + l.val) / 64) (1024 * b + j) ((128 * a + l.val) % 64) := by
  simp only [incDk, Data.dk, half_eq, Nat.div_add_mod]
  refine Eq.trans ?_ (sum_tiles fun i => D.B ((128 * a + l.val) / 64) i (1024 * b + j) * (1 / 8) * D.x i (128 * a + l.val)).symm
  exact Finset.sum_congr rfl fun u _ => Finset.sum_congr rfl fun p _ => by ring

theorem total_ck (j : ℕ) (l : Fin 128) :
    ∑ u ∈ Finset.range 4, incCk D a b u j l
      = if l.val = 8 * a then D.dck (2 * a) (1024 * b + j) else if l.val = 8 * a + 1 then D.dck (2 * a + 1) (1024 * b + j) else 0 := by
  simp only [incCk, Data.dck]
  split_ifs
  · rw [Finset.sum_neg_distrib, sum_tiles fun i => D.B (2 * a) i (1024 * b + j)]
  · rw [Finset.sum_neg_distrib, sum_tiles fun i => D.B (2 * a + 1) i (1024 * b + j)]
  · simp

/-- Of sixteen tiles, those of query tile `e`. -/
theorem sum_sixteen (f : ℕ → ℕ → ℝ) (e : Fin 4) :
    (∑ u ∈ Finset.range 16, if e.val = u % 4 then f (u / 4) (u % 4) else 0) = ∑ b ∈ Finset.range 4, f b e.val := by
  fin_cases e <;> simp [Finset.sum_range_succ]

theorem total_dq (e : Fin 4) (l : Fin 128) (p : ℕ) :
    (∑ u ∈ Finset.range 16, if e.val = u % 4 then incDq D a (u / 4) (u % 4) l p else 0)
      = D.dq ((128 * a + l.val) / 64) (1024 * e.val + p) ((128 * a + l.val) % 64) := by
  rw [sum_sixteen fun b u => incDq D a b u l p]
  simp only [incDq, Data.dq, half_eq, Nat.add_assoc, Nat.div_add_mod]
  refine Eq.trans ?_ (sum_tiles fun j => D.B ((128 * a + l.val) / 64) (1024 * e.val + p) j * (1 / 8) * D.x j (384 + (128 * a + l.val))).symm
  refine Finset.sum_congr rfl fun u _ => ?_
  rw [Finset.sum_mul]
  exact Finset.sum_congr rfl fun p _ => by ring

theorem total_cq (e : Fin 4) (r p : ℕ) :
    (∑ u ∈ Finset.range 16, if e.val = u % 4 then incCq D a (u / 4) (u % 4) r p else 0)
      = if r < 2 then D.dcq (2 * a + r) (1024 * e.val + p) else 0 := by
  rw [sum_sixteen fun b u => incCq D a b u r p]
  simp only [incCq, Data.dcq]
  split_ifs
  · exact (sum_tiles fun j => D.B (2 * a + r) (1024 * e.val + p) j).symm
  · simp

/-! ## The arrays -/

def gDq : Vec Ideal S4096x384 .bf16 := fun y => ((D.dq ((y 1).val / 64) (y 0).val ((y 1).val % 64) : ℝ) : EReal)
def gDk : Vec Ideal S4096x384 .bf16 := fun y => ((D.dk ((y 1).val / 64) (y 0).val ((y 1).val % 64) : ℝ) : EReal)
def gDv : Vec Ideal S4096x384 .bf16 := fun y => ((D.dv ((y 1).val / 64) (y 0).val ((y 1).val % 64) : ℝ) : EReal)
def gCq : Vec Ideal S3x8x4096 .f32 := fun y => ((if (y 1).val < 2 then D.dcq (2 * (y 0).val + (y 1).val) (y 2).val else 0 : ℝ) : EReal)
def gCk : Vec Ideal S3x4096x128 .f32 := fun y =>
  ((if (y 2).val = 8 * (y 0).val then D.dck (2 * (y 0).val) (y 1).val else if (y 2).val = 8 * (y 0).val + 1 then D.dck (2 * (y 0).val + 1) (y 1).val else 0 : ℝ) : EReal)

end

variable (m : (ℓ : Loc nD τ sig) → Buf (Elt Ideal) ℓ) (c : Dev nD) {D : Data}

theorem out9 : ∀ t : Fin grid0.N, win0_9.index t 0 = 0 ∧ win0_9.index t 1 = t.val / 16 := by decide +kernel
theorem out10 : ∀ t : Fin grid0.N, win0_10.index t 0 = t.val / 4 % 4 ∧ win0_10.index t 1 = t.val / 16 := by decide +kernel
theorem out11 : ∀ t : Fin grid0.N, win0_11.index t 0 = t.val / 4 % 4 ∧ win0_11.index t 1 = t.val / 16 := by decide +kernel
theorem out12 : ∀ t : Fin grid0.N, win0_12.index t 0 = t.val / 16 ∧ win0_12.index t 1 = 0 ∧ win0_12.index t 2 = 0 := by decide +kernel
theorem out13 : ∀ t : Fin grid0.N, win0_13.index t 0 = t.val / 16 ∧ win0_13.index t 1 = t.val / 4 % 4 ∧ win0_13.index t 2 = 0 := by decide +kernel

theorem final_dk (hR : AllRead m c D) : (dats m 0 c).arrAt 10 (cfgs 0).N = gDk D := by
  refine (dats m 0 c).arrAt_eq_of_covers 10 _ (by decide +kernel) fun t hf y => ?_
  have ht := (flush0_10 t).1 hf
  have h48 := t_lt t
  rw [after0_10]
  blk_simp
  change S1024x128.Idx at y
  have hemb : (win0_10.blk t).view.emb y = ix2 ⟨1024 * (t.val / 4 % 4) + (y 0).val, by have := (y 0).isLt; simp at this; omega⟩ ⟨128 * (t.val / 16) + (y 1).val, by have := (y 1).isLt; simp at this; omega⟩ := by
    blk_ext [out10 t]
  refine Eq.trans ?_ (congrArg (gDk D) hemb).symm
  have e : y = ix2 (y 0) (y 1) := by funext a; fin_cases a <;> rfl
  have hp : ∀ (x : Vec Ideal S1024x128 .f32) (j : Fin 1024) (l : Fin 128), k0_pay10 x (ix2 j l) = x (ix2 j l) := fun x j l => by pointwise [k0_pay10]
  rw [e]
  refine (hp _ (y 0) (y 1)).trans ((dk_sum hR t.val t.isLt (y 0) (y 1)).trans (congrArg (fun r : ℝ => (r : EReal)) ?_))
  rw [show t.val % 4 + 1 = 4 by omega]
  exact total_dk D (t.val / 16) (t.val / 4 % 4) (y 0).val (y 1)

theorem final_dv (hR : AllRead m c D) : (dats m 0 c).arrAt 11 (cfgs 0).N = gDv D := by
  refine (dats m 0 c).arrAt_eq_of_covers 11 _ (by decide +kernel) fun t hf y => ?_
  have ht := (flush0_11 t).1 hf
  have h48 := t_lt t
  rw [after0_11]
  blk_simp
  change S1024x128.Idx at y
  have hemb : (win0_11.blk t).view.emb y = ix2 ⟨1024 * (t.val / 4 % 4) + (y 0).val, by have := (y 0).isLt; simp at this; omega⟩ ⟨128 * (t.val / 16) + (y 1).val, by have := (y 1).isLt; simp at this; omega⟩ := by
    blk_ext [out11 t]
  refine Eq.trans ?_ (congrArg (gDv D) hemb).symm
  have e : y = ix2 (y 0) (y 1) := by funext a; fin_cases a <;> rfl
  have hp : ∀ (x : Vec Ideal S1024x128 .f32) (j : Fin 1024) (l : Fin 128), k0_pay11 x (ix2 j l) = x (ix2 j l) := fun x j l => by pointwise [k0_pay11]
  rw [e]
  refine (hp _ (y 0) (y 1)).trans ((dv_sum hR t.val t.isLt (y 0) (y 1)).trans (congrArg (fun r : ℝ => (r : EReal)) ?_))
  rw [show t.val % 4 + 1 = 4 by omega]
  exact total_dv D (t.val / 16) (t.val / 4 % 4) (y 0).val (y 1)

theorem final_ck (hR : AllRead m c D) : (dats m 0 c).arrAt 13 (cfgs 0).N = gCk D := by
  refine (dats m 0 c).arrAt_eq_of_covers 13 _ (by decide +kernel) fun t hf y => ?_
  have ht := (flush0_13 t).1 hf
  have h48 := t_lt t
  rw [after0_13]
  blk_simp
  change S1x1024x128.Idx at y
  have hemb : (win0_13.blk t).view.emb y = ix3 ⟨t.val / 16, by omega⟩ ⟨1024 * (t.val / 4 % 4) + (y 1).val, by have := (y 1).isLt; simp at this; omega⟩ (y 2) := by
    blk_ext [out13 t]
  refine Eq.trans ?_ (congrArg (gCk D) hemb).symm
  have e : y = ix3 0 (y 1) (y 2) := by
    funext a; fin_cases a
    · exact Subsingleton.elim (α := Fin 1) _ _
    · rfl
    · rfl
  have hp : ∀ (x : Vec Ideal S1024x128 .f32) (j : Fin 1024) (l : Fin 128), k0_pay12 x (ix3 0 j l) = x (ix2 j l) := fun x j l => by pointwise [k0_pay12]
  rw [e]
  refine (hp _ (y 1) (y 2)).trans ((ck_sum hR t.val t.isLt (y 1) (y 2)).trans (congrArg (fun r : ℝ => (r : EReal)) ?_))
  rw [show t.val % 4 + 1 = 4 by omega]
  exact total_ck D (t.val / 16) (t.val / 4 % 4) (y 1).val (y 2)

theorem final_dq (hR : AllRead m c D) : (dats m 0 c).arrAt 9 (cfgs 0).N = gDq D := by
  refine (dats m 0 c).arrAt_eq_of_covers 9 _ (by decide +kernel) fun t hf y => ?_
  have ht := (flush0_9 t).1 hf
  have h48 := t_lt t
  rw [after0_9]
  blk_simp
  change S4096x128.Idx at y
  have hemb : (win0_9.blk t).view.emb y = (ix2 (y 0 : Fin 4096) (⟨128 * (t.val / 16) + (y 1).val, by have := (y 1).isLt; simp at this; omega⟩ : Fin 384) : S4096x384.Idx) := by
    blk_ext [out9 t]
  refine Eq.trans ?_ (congrArg (gDq D) hemb).symm
  have hp : ∀ (x : Vec Ideal S1x128x1024 .f32) (j : Fin 1024) (l : Fin 128), k0_pay82 x (ix2 j l) = x (ix3 0 l j) := fun x j l => by pointwise [k0_pay82]
  unfold outDq
  refine (hp _ _ (y 1)).trans ((slab_at (F := Ideal) _ _ (y 1) _).trans ((dq_sum hR t.val t.isLt _ (y 1) _).trans (congrArg (fun r : ℝ => (r : EReal)) ?_)))
  rw [show t.val % 16 + 1 = 16 by omega]
  have hd : 1024 * ((y 0).val / 1024) + (y 0).val % 1024 = (y 0).val := Nat.div_add_mod _ _
  have h := total_dq D (t.val / 16) ⟨(y 0).val / 1024, (Nat.div_lt_iff_lt_mul (by norm_num)).2 (y 0).isLt⟩ (y 1) ((y 0).val % 1024)
  exact h.trans (congrArg (fun n => D.dq ((128 * (t.val / 16) + (y 1).val) / 64) n ((128 * (t.val / 16) + (y 1).val) % 64)) hd)

theorem final_cq (hR : AllRead m c D) : (dats m 0 c).arrAt 12 (cfgs 0).N = gCq D := by
  refine (dats m 0 c).arrAt_eq_of_covers 12 _ (by decide +kernel) fun t hf y => ?_
  have ht := (flush0_12 t).1 hf
  have h48 := t_lt t
  rw [after0_12]
  blk_simp
  change S1x8x4096.Idx at y
  have hemb : (win0_12.blk t).view.emb y = ix3 ⟨t.val / 16, by omega⟩ (y 1) (y 2) := by
    blk_ext [out12 t]
  refine Eq.trans ?_ (congrArg (gCq D) hemb).symm
  have hp : ∀ (x : Vec Ideal S1x8x1024 .f32) (r : Fin 8) (j : Fin 1024), k0_pay83 x (ix3 0 r j) = x (ix3 0 r j) := fun x r j => by pointwise [k0_pay83]
  unfold outCq
  have h0 : (show Fin 1 from y 0) = (0 : Fin 1) := Subsingleton.elim (α := Fin 1) _ _
  refine (congrArg (fun n : Fin 1 => k0_pay83 (heads _ _) (ix3 n (y 1) _)) h0).trans ?_
  refine (hp _ (y 1) _).trans ((heads_at (F := Ideal) _ _ (y 1) _).trans ((cq_sum hR t.val t.isLt _ (y 1) _).trans (congrArg (fun r : ℝ => (r : EReal)) ?_)))
  rw [show t.val % 16 + 1 = 16 by omega, total_cq]
  dsimp only
  rw [Nat.div_add_mod]
  rfl

end Cert.KernelIdeal.Grad
-- ==== Proof.Finite.lean ====
/- What the precondition gives: every entry of the three arguments is a real number. -/
module

public import proofs.«01_k».proof.Proof.RefVal
public import proofs.«01_k».proof.Proof.Gen.Pre_finite
public import proofs.«01_k».proof.Defs
public import Idealize.ShloMosaic.Lib.ReduceAll

@[expose] public section

set_option maxRecDepth 16384

noncomputable section

namespace Cert.Grad

open Idealize.ShloMosaic hiding ix0 ix1 ix2 ix3
open Idealize.ShloMosaic.ValueIdx

instance : Cert.Pre_finite.Facts := Cert.Pre_finite.Gen.facts

/-- A value below plus infinity in size is a real number. -/
theorem real_of_lt (x : Ideal .f32) (h : FloatOps.cmpf .olt (FloatOps.hostAbsf x) (FloatOps.ofBits (F := Ideal) .f32 0x7F800000#32) = 1#1) :
    x = (((x : EReal).toReal : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    simp [Ideal.cmp, hn] at h'
  rw [max_lt_iff] at hlt
  refine (EReal.coe_toReal hlt.1.ne ?_).symm
  intro hb
  rw [show (x : EReal) = ⊥ from hb] at hlt
  simp at hlt

/-- The real parts of the arguments, read at natural numbers. -/
def dataOf (A0 : FVec Ideal Cert.ReferenceIdeal.S4096x1152 .f32) (A1 : FVec Ideal Cert.ReferenceIdeal.S6x4096 .f32) (A2 : FVec Ideal Cert.ReferenceIdeal.S4096x384 .f32) : Data where
  x i l := (A0 (ix2 (Fin.ofNat 4096 i) (Fin.ofNat 1152 l)) : EReal).toReal
  c h i := (A1 (ix2 (Fin.ofNat 6 h) (Fin.ofNat 4096 i)) : EReal).toReal
  y i l := (A2 (ix2 (Fin.ofNat 4096 i) (Fin.ofNat 384 l)) : EReal).toReal

theorem ofNat_val {n : ℕ} [NeZero n] (i : Fin n) : Fin.ofNat n i.val = i := Fin.ext (Nat.mod_eq_of_lt i.isLt)

theorem args_of_fn (A0 : FVec Ideal Cert.ReferenceIdeal.S4096x1152 .f32) (A1 : FVec Ideal Cert.ReferenceIdeal.S6x4096 .f32) (A2 : FVec Ideal Cert.ReferenceIdeal.S4096x384 .f32)
    (h : Cert.Pre_finite.fn (F := Ideal) A0 A1 A2 = fun _ => 1#1) : Cert.ReferenceIdeal.Value.Args (dataOf A0 A1 A2) A0 A1 A2 := by
  have h0 := congrFun h ix0
  dsimp only [Cert.Pre_finite.fn] at h0
  obtain ⟨h01, h2⟩ := IntOp.andi_eq_one.1 h0
  obtain ⟨h1, h1'⟩ := IntOp.andi_eq_one.1 h01
  refine ⟨fun i l => ?_, fun a i => ?_, fun i l => ?_⟩
  · refine (real_of_lt _ (Host.reduce_andi_all _ _ _ _ ix0 h1 (ix2 i l))).trans ?_
    dsimp only [dataOf]; rw [ofNat_val, ofNat_val]
  · refine (real_of_lt _ (Host.reduce_andi_all _ _ _ _ ix0 h1' (ix2 a i))).trans ?_
    dsimp only [dataOf]; rw [ofNat_val, ofNat_val]
  · refine (real_of_lt _ (Host.reduce_andi_all _ _ _ _ ix0 h2 (ix2 i l))).trans ?_
    dsimp only [dataOf]; rw [ofNat_val, ofNat_val]

end Cert.Grad
-- ==== Proof.Equal.lean ====
/- The two programs return the same arrays: each of the kernel's output arrays, and each result of the reference, is the same closed form. -/
module

public import proofs.«01_k».proof.Proof.Value
public import proofs.«01_k».proof.Proof.Reads
public import proofs.«01_k».proof.Proof.Finite
public import proofs.«01_k».proof.Proof.Gen.ReferenceIdeal

@[expose] public section

set_option maxRecDepth 16384

noncomputable section

namespace Cert.ReferenceIdeal.Value

open Idealize.ShloMosaic hiding ix0 ix1 ix2 ix3
open Idealize.ShloMosaic.ValueIdx Cert.Grad Cert.KernelIdeal.Grad

variable {A0 : FVec Ideal S4096x1152 .f32} {A1 : FVec Ideal S6x4096 .f32} {A2 : FVec Ideal S4096x384 .f32} {D : Data} (hA : Args D A0 A1 A2)
include hA

theorem ref_dq : oDq (dsOf A0 A1 A2) (rK A0) = gDq D := by
  funext y
  have e : y = ix2 (y 0) (y 1) := by funext a; fin_cases a <;> rfl
  rw [e]; exact oDq_at (dsOf_at hA) hA _ _

theorem ref_dk : oDk (dsOf A0 A1 A2) (rQ A0) = gDk D := by
  funext y
  have e : y = ix2 (y 0) (y 1) := by funext a; fin_cases a <;> rfl
  rw [e]; exact oDk_at (dsOf_at hA) hA _ _

theorem ref_dv : oDv (rP (eOf A0 A1)) (rG A2) = gDv D := by
  obtain ⟨l, hE⟩ := eOf_at hA
  funext y
  have e : y = ix2 (y 0) (y 1) := by funext a; fin_cases a <;> rfl
  rw [e]; exact oDv_at hA (rP_at hE) _ _

theorem ref_cq : oCq (rCq (dsOf A0 A1 A2)) = gCq D := by
  funext y
  have e : y = ix3 (y 0) (y 1) (y 2) := by funext a; fin_cases a <;> rfl
  rw [e]; exact oCq_at (rCq_at (dsOf_at hA)) _ _ _

theorem ref_ck : oCk (rCk (dsOf A0 A1 A2)) = gCk D := by
  funext y
  have e : y = ix3 (y 0) (y 1) (y 2) := by funext a; fin_cases a <;> rfl
  rw [e]; exact oCk_at (rCk_at (dsOf_at hA)) _ _ _

end Cert.ReferenceIdeal.Value

namespace Cert.KernelIdeal.Grad

open Idealize.ShloMosaic Idealize.SL.Sem Cert.Grad

variable (m : (ℓ : Loc nD τ sig) → Buf (Elt Ideal) ℓ) (ρ : Dev nD → PrngReg)

/-- The real arrays a device's arguments hold. -/
def dat (c : Dev nD) : Data := dataOf (a0 m c) (a1 m c) (a2 m c)

set_option maxHeartbeats 2000000 in
/-- The kernel's run from finite arguments: every output array is the closed form. -/
theorem value_run (hA : ∀ c : Dev nD, Cert.ReferenceIdeal.Value.Args (dat m c) (a0 m c) (a1 m c) (a2 m c)) :
    θ_run (defs (F := Ideal)) (onTc (τ := τ) (main (F := Ideal))) ⟨m, fun _ => 0, ρ⟩ (fun r => ∀ c : Dev nD,
      r.2.mem ((c.tc : Thread nD τ).loc main_v55_0) = gDq (dat m c)
      ∧ r.2.mem ((c.tc : Thread nD τ).loc main_v55_1) = gDk (dat m c)
      ∧ r.2.mem ((c.tc : Thread nD τ).loc main_v55_2) = gDv (dat m c)
      ∧ r.2.mem ((c.tc : Thread nD τ).loc main_v55_3) = gCq (dat m c)
      ∧ r.2.mem ((c.tc : Thread nD τ).loc main_v55_4) = gCk (dat m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (θ_run_and (run_main m ρ) (frame_run m ρ))
  have hR := all_read m c (hA c)
  refine ⟨?_, ?_, ?_, ?_, ?_, h.2.1 c⟩
  · exact ((h.1 c).1 9).trans (final_dq m c hR)
  · exact ((h.1 c).1 10).trans (final_dk m c hR)
  · exact ((h.1 c).1 11).trans (final_dv m c hR)
  · exact ((h.1 c).1 12).trans (final_cq m c hR)
  · exact ((h.1 c).1 13).trans (final_ck m c hR)

end Cert.KernelIdeal.Grad

namespace Cert.ReferenceIdeal.Value

open Idealize.ShloMosaic Idealize.SL.Sem Cert.Grad Cert.KernelIdeal.Grad

/-- The reference's run from finite arguments: every result is the same closed form. -/
theorem value_run (m : (ℓ : Loc nD τ sig) → Buf (Elt Ideal) ℓ) (ρ : Dev nD → PrngReg) (D : Dev nD → Data)
    (hA : ∀ c : Dev nD, Args (D c) (m ((c.tc : Thread nD τ).loc main_arg0)) (m ((c.tc : Thread nD τ).loc main_arg1)) (m ((c.tc : Thread nD τ).loc main_arg2))) :
    θ_run (defs (F := Ideal)) (onTc (τ := τ) (main (F := Ideal))) ⟨m, fun _ => 0, ρ⟩ (fun r => ∀ c : Dev nD,
      r.2.mem ((c.tc : Thread nD τ).loc main_v119) = gDq (D c)
      ∧ r.2.mem ((c.tc : Thread nD τ).loc main_v122) = gDk (D c)
      ∧ r.2.mem ((c.tc : Thread nD τ).loc main_v125) = gDv (D c)
      ∧ r.2.mem ((c.tc : Thread nD τ).loc main_v97) = gCq (D c)
      ∧ r.2.mem ((c.tc : Thread nD τ).loc main_v116) = gCk (D c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run m ρ)
  obtain ⟨h0, h1, h2, h3, h4, h5⟩ := h c
  exact ⟨h0.trans ((out0_eq m c).trans (ref_dq (hA c))), h1.trans ((out1_eq m c).trans (ref_dk (hA c))), h2.trans ((out2_eq m c).trans (ref_dv (hA c))),
    h3.trans ((out3_eq m c).trans (ref_cq (hA c))), h4.trans ((out4_eq m c).trans (ref_ck (hA c))), h5⟩

end Cert.ReferenceIdeal.Value
-- ==== Proof.DwUpValue.lean ====
/- The gradient of the feed-forward up projection: the array the kernel leaves is the whole product over the rows. -/
module

public import proofs.«01_k».proof.Proof.Gen.DwUpIdeal.Frame
public import proofs.«01_k».proof.Proof.Gen.DwUpRefIdeal
public import Idealize.ShloMosaic.Lib.Pipeline.ValueKit

@[expose] public section

set_option maxRecDepth 16384

noncomputable section

namespace Cert.DwUpIdeal.Grad

open Cert.DwUpIdeal.Gen
open Idealize.ShloMosaic Idealize.ShloMosaic.TcCoe Idealize.SL.Sem
open Idealize.ShloMosaic.Pipeline (Dat)

/-- What the reference returns for its two arguments. -/
abbrev REF (A : FVec Ideal S4096x5632 .bf16) (B : FVec Ideal S4096x1024 .bf16) : FVec Ideal S1x5632x1024 .bf16 :=
  broadcastInDim S1x5632x1024 ![1, 2] Cert.DwUpRefIdeal.Gen.bcast_S5632x1024_S1x5632x1024_1_2
    (truncf .bf16 (transpose Cert.DwUpRefIdeal.S5632x1024 [1, 0]
      (Host.dotGeneral Cert.DwUpRefIdeal.dot_S4096x1024_S4096x5632_S1024x5632_0_0_1_1_n_n none
        (extf .f32 B Cert.DwUpRefIdeal.Gen.bitsLt_bf16_f32) (extf .f32 A Cert.DwUpRefIdeal.Gen.bitsLt_bf16_f32))
      Cert.DwUpRefIdeal.Gen.transposes_S1024x5632_S5632x1024_1_0) Cert.DwUpRefIdeal.Gen.bitsLt_bf16_f32)

theorem ref_at (A : FVec Ideal S4096x5632 .bf16) (B : FVec Ideal S4096x1024 .bf16) (i : S1x5632x1024.Idx) :
    REF A B i = ∑ k : Fin 4096, A (ix2 k (i 1 : Fin 5632)) * B (ix2 k (i 2 : Fin 1024)) := by
  pointwise [REF]
  exact Finset.sum_congr rfl fun k _ => mul_comm _ _

theorem zero_at (j : S1408x1024.Idx) : k0_pay1 (F := Ideal) j = 0 := by pointwise [k0_pay1]

theorem step_at (acc : Vec Ideal S1408x1024 .f32) (a : Vec Ideal S1x2048x1408 .bf16) (b : Vec Ideal S1x2048x1024 .bf16)
    (j : S1408x1024.Idx) :
    k0_pay2 acc a b j = acc j + ∑ k : Fin 2048, a (ix3 (0 : Fin 1) k (j 0 : Fin 1408)) * b (ix3 (0 : Fin 1) k (j 1 : Fin 1024)) := by
  pointwise [k0_pay2]

theorem out_at (acc : Vec Ideal S1408x1024 .f32) (y : S1x1408x1024.Idx) :
    k0_pay3 acc y = acc (ix2 (y 1 : Fin 1408) (y 2 : Fin 1024)) := by
  pointwise [k0_pay3]

theorem idx : ∀ t : Fin cfg0.N, win0_0.index t = ![0, t.val % 2, t.val / 2] ∧ win0_1.index t = ![0, t.val % 2, 0]
    ∧ win0_2.index t = ![0, t.val / 2, 0] := (by decide +kernel : ∀ t : Fin grid0.N, _)

variable (m : (ℓ : Loc nD τ sig) → Buf (Elt Ideal) ℓ)

/-- At the point that writes a block back, the accumulator and the block's last half product make the whole product. -/
theorem sum_at (c : Dev nD) (t : Fin cfg0.N) (hf : t.val % 2 = 1) (j : S1408x1024.Idx) :
    (outsAt0 m c t.val t.isLt).2 j = ∑ s : Fin 2, ∑ k : Fin 2048,
      (show FVec Ideal S1x2048x1408 .bf16 from iblk m c 0 ⟨2 * (t.val / 2) + s.val, Pipeline.run_point_lt_of_flush t hf s⟩) (ix3 (0 : Fin 1) k (j 0 : Fin 1408))
        * (show FVec Ideal S1x2048x1024 .bf16 from iblk m c 1 ⟨2 * (t.val / 2) + s.val, Pipeline.run_point_lt_of_flush t hf s⟩) (ix3 (0 : Fin 1) k (j 1 : Fin 1024)) := by
  rw [Pipeline.eq_sum_fin_of_reset_step_apply_of_flush (fun n h => (outsAt0 m c n h).2) 2 (fun _ => 0) _
    (fun t h j => by rw [outsAt0_A m c t h (by omega)]; frame_out; rw [step_at, zero_at])
    (fun t h j => by rw [outsAt0_B m c t h (by omega)]; frame_out; rw [step_at, (Memref.isWhole_whole _).read_unread])
    t hf _, zero_add]

/-- The block written back is the accumulator. -/
theorem out_eq (c : Dev nD) (t : Fin cfg0.N) (h1 : t.val % 2 = 1) (y : S1x1408x1024.Idx) :
    (outsAt0 m c t.val t.isLt).1 y = (outsAt0 m c t.val t.isLt).2 (ix2 (y 1 : Fin 1408) (y 2 : Fin 1024)) := by
  rw [outsAt0_B m c t (by omega) h1]
  frame_out
  exact out_at _ y

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, out_eq m c t h1, sum_at m c t h1, ref_at]
  refine Fin.sum_mul_add_congr fun s k hl => ?_
  blk_point [iblk, V, idx t, idx ⟨_, Pipeline.run_point_lt_of_flush t h1 s⟩]

end Cert.DwUpIdeal.Grad
-- ==== Proof.DwDownValue.lean ====
/- The gradient of the feed-forward down projection: the array the kernel leaves is the whole product over the rows. -/
module

public import proofs.«01_k».proof.Proof.Gen.DwDownIdeal.Frame
public import proofs.«01_k».proof.Proof.Gen.DwDownRefIdeal
public import proofs.«01_k».proof.Proof.DwUpValue
public import Idealize.ShloMosaic.Lib.Pipeline.ValueKit

@[expose] public section

set_option maxRecDepth 16384

noncomputable section

namespace Cert.DwDownIdeal.Grad

open Cert.DwDownIdeal.Gen
open Idealize.ShloMosaic Idealize.ShloMosaic.TcCoe Idealize.SL.Sem
open Idealize.ShloMosaic.Pipeline (Dat)

/-- What the reference returns for its two arguments. -/
abbrev REF (A : FVec Ideal S4096x2816 .bf16) (B : FVec Ideal S4096x1024 .bf16) : FVec Ideal S1x2816x1024 .bf16 :=
  broadcastInDim S1x2816x1024 ![1, 2] Cert.DwDownRefIdeal.Gen.bcast_S2816x1024_S1x2816x1024_1_2
    (truncf .bf16 (transpose Cert.DwDownRefIdeal.S2816x1024 [1, 0]
      (Host.dotGeneral Cert.DwDownRefIdeal.dot_S4096x1024_S4096x2816_S1024x2816_0_0_1_1_n_n none
        (extf .f32 B Cert.DwDownRefIdeal.Gen.bitsLt_bf16_f32) (extf .f32 A Cert.DwDownRefIdeal.Gen.bitsLt_bf16_f32))
      Cert.DwDownRefIdeal.Gen.transposes_S1024x2816_S2816x1024_1_0) Cert.DwDownRefIdeal.Gen.bitsLt_bf16_f32)

theorem ref_at (A : FVec Ideal S4096x2816 .bf16) (B : FVec Ideal S4096x1024 .bf16) (i : S1x2816x1024.Idx) :
    REF A B i = ∑ k : Fin 4096, A (ix2 k (i 1 : Fin 2816)) * B (ix2 k (i 2 : Fin 1024)) := by
  pointwise [REF]
  exact Finset.sum_congr rfl fun k _ => mul_comm _ _

theorem zero_at (j : S1408x1024.Idx) : k0_pay1 (F := Ideal) j = 0 :=
  Cert.DwUpIdeal.Grad.zero_at j

theorem step_at (acc : Vec Ideal S1408x1024 .f32) (a : Vec Ideal S1x2048x1408 .bf16) (b : Vec Ideal S1x2048x1024 .bf16)
    (j : S1408x1024.Idx) :
    k0_pay2 acc a b j = acc j + ∑ k : Fin 2048, a (ix3 (0 : Fin 1) k (j 0 : Fin 1408)) * b (ix3 (0 : Fin 1) k (j 1 : Fin 1024)) :=
  Cert.DwUpIdeal.Grad.step_at acc a b j

theorem out_at (acc : Vec Ideal S1408x1024 .f32) (y : S1x1408x1024.Idx) :
    k0_pay3 acc y = acc (ix2 (y 1 : Fin 1408) (y 2 : Fin 1024)) :=
  Cert.DwUpIdeal.Grad.out_at acc y

theorem idx : ∀ t : Fin cfg0.N, win0_0.index t = ![0, t.val % 2, t.val / 2] ∧ win0_1.index t = ![0, t.val % 2, 0]
    ∧ win0_2.index t = ![0, t.val / 2, 0] := (by decide +kernel : ∀ t : Fin grid0.N, _)

variable (m : (ℓ : Loc nD τ sig) → Buf (Elt Ideal) ℓ)

/-- At the point that writes a block back, the accumulator and the block's last half product make the whole product. -/
theorem sum_at (c : Dev nD) (t : Fin cfg0.N) (hf : t.val % 2 = 1) (j : S1408x1024.Idx) :
    (outsAt0 m c t.val t.isLt).2 j = ∑ s : Fin 2, ∑ k : Fin 2048,
      (show FVec Ideal S1x2048x1408 .bf16 from iblk m c 0 ⟨2 * (t.val / 2) + s.val, Pipeline.run_point_lt_of_flush t hf s⟩) (ix3 (0 : Fin 1) k (j 0 : Fin 1408))
        * (show FVec Ideal S1x2048x1024 .bf16 from iblk m c 1 ⟨2 * (t.val / 2) + s.val, Pipeline.run_point_lt_of_flush t hf s⟩) (ix3 (0 : Fin 1) k (j 1 : Fin 1024)) := by
  rw [Pipeline.eq_sum_fin_of_reset_step_apply_of_flush (fun n h => (outsAt0 m c n h).2) 2 (fun _ => 0) _
    (fun t h j => by rw [outsAt0_A m c t h (by omega)]; frame_out; rw [step_at, zero_at])
    (fun t h j => by rw [outsAt0_B m c t h (by omega)]; frame_out; rw [step_at, (Memref.isWhole_whole _).read_unread])
    t hf _, zero_add]

/-- The block written back is the accumulator. -/
theorem out_eq (c : Dev nD) (t : Fin cfg0.N) (h1 : t.val % 2 = 1) (y : S1x1408x1024.Idx) :
    (outsAt0 m c t.val t.isLt).1 y = (outsAt0 m c t.val t.isLt).2 (ix2 (y 1 : Fin 1408) (y 2 : Fin 1024)) := by
  rw [outsAt0_B m c t (by omega) h1]
  frame_out
  exact out_at _ y

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, out_eq m c t h1, sum_at m c t h1, ref_at]
  refine Fin.sum_mul_add_congr fun s k hl => ?_
  blk_point [iblk, V, idx t, idx ⟨_, Pipeline.run_point_lt_of_flush t h1 s⟩]

end Cert.DwDownIdeal.Grad
-- ==== Proof.DwInValue.lean ====
/- The gradient of the input projection: the array the kernel leaves is the whole product over the rows. -/
module

public import proofs.«01_k».proof.Proof.Gen.DwInIdeal.Frame
public import proofs.«01_k».proof.Proof.Gen.DwInRefIdeal
public import Idealize.ShloMosaic.Lib.Pipeline.ValueKit

@[expose] public section

set_option maxRecDepth 16384

noncomputable section

namespace Cert.DwInIdeal.Grad

open Cert.DwInIdeal.Gen
open Idealize.ShloMosaic Idealize.ShloMosaic.TcCoe Idealize.SL.Sem
open Idealize.ShloMosaic.Pipeline (Dat)

/-- What the reference returns for its two arguments. -/
abbrev REF (A : FVec Ideal S4096x1024 .bf16) (B : FVec Ideal S4096x1920 .bf16) : FVec Ideal S1x1024x1920 .bf16 :=
  broadcastInDim S1x1024x1920 ![1, 2] Cert.DwInRefIdeal.Gen.bcast_S1024x1920_S1x1024x1920_1_2
    (truncf .bf16 (transpose Cert.DwInRefIdeal.S1024x1920 [1, 0]
      (Host.dotGeneral Cert.DwInRefIdeal.dot_S4096x1920_S4096x1024_S1920x1024_0_0_1_1_n_n none
        (extf .f32 B Cert.DwInRefIdeal.Gen.bitsLt_bf16_f32) (extf .f32 A Cert.DwInRefIdeal.Gen.bitsLt_bf16_f32))
      Cert.DwInRefIdeal.Gen.transposes_S1920x1024_S1024x1920_1_0) Cert.DwInRefIdeal.Gen.bitsLt_bf16_f32)

theorem ref_at (A : FVec Ideal S4096x1024 .bf16) (B : FVec Ideal S4096x1920 .bf16) (i : S1x1024x1920.Idx) :
    REF A B i = ∑ k : Fin 4096, A (ix2 k (i 1 : Fin 1024)) * B (ix2 k (i 2 : Fin 1920)) := by
  pointwise [REF]
  exact Finset.sum_congr rfl fun k _ => mul_comm _ _

/-- One grid point holds all the rows: it clears the accumulator, adds the block's product, and writes that back. -/
theorem block_at (a : Vec Ideal S1x4096x1024 .bf16) (b : Vec Ideal S1x4096x640 .bf16) (y : S1x1024x640.Idx) :
    k0_pay3 (k0_pay2 k0_pay1 a b) y = ∑ k : Fin 4096, a (ix3 (0 : Fin 1) k (y 1 : Fin 1024)) * b (ix3 (0 : Fin 1) k (y 2 : Fin 640)) := by
  pointwise [k0_pay3, k0_pay2, k0_pay1]

theorem idx : ∀ t : Fin cfg0.N, win0_0.index t = ![0, 0, 0] ∧ win0_1.index t = ![0, 0, t.val]
    ∧ win0_2.index t = ![0, 0, t.val] := (by decide +kernel : ∀ t : Fin grid0.N, _)

variable (m : (ℓ : Loc nD τ sig) → Buf (Elt Ideal) ℓ)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [block_at, ref_at]
  blk_point [iblk, V, idx t]

end Cert.DwInIdeal.Grad
-- ==== Proof.DwOutValue.lean ====
/- The gradient of the output projection: the array the kernel leaves is the whole product over the rows. -/
module

public import proofs.«01_k».proof.Proof.Gen.DwOutIdeal.Frame
public import proofs.«01_k».proof.Proof.Gen.DwOutRefIdeal
public import Idealize.ShloMosaic.Lib.Pipeline.ValueKit

@[expose] public section

set_option maxRecDepth 16384

noncomputable section

namespace Cert.DwOutIdeal.Grad

open Cert.DwOutIdeal.Gen
open Idealize.ShloMosaic Idealize.ShloMosaic.TcCoe Idealize.SL.Sem
open Idealize.ShloMosaic.Pipeline (Dat)

/-- What the reference returns for its two arguments. -/
abbrev REF (A : FVec Ideal S4096x1024 .bf16) (B : FVec Ideal S4096x1024 .f32) : FVec Ideal S1x1024x1024 .bf16 :=
  broadcastInDim S1x1024x1024 ![1, 2] Cert.DwOutRefIdeal.Gen.bcast_S1024x1024_S1x1024x1024_1_2
    (truncf .bf16 (transpose Cert.DwOutRefIdeal.S1024x1024 [1, 0]
      (Host.dotGeneral Cert.DwOutRefIdeal.dot_S4096x1024_S4096x1024_S1024x1024_0_0_1_1_n_n none
        B (extf .f32 A Cert.DwOutRefIdeal.Gen.bitsLt_bf16_f32))
      Cert.DwOutRefIdeal.Gen.transposes_S1024x1024_S1024x1024_1_0) Cert.DwOutRefIdeal.Gen.bitsLt_bf16_f32)

theorem ref_at (A : FVec Ideal S4096x1024 .bf16) (B : FVec Ideal S4096x1024 .f32) (i : S1x1024x1024.Idx) :
    REF A B i = ∑ k : Fin 4096, A (ix2 k (i 1 : Fin 1024)) * B (ix2 k (i 2 : Fin 1024)) := by
  pointwise [REF]
  exact Finset.sum_congr rfl fun k _ => mul_comm _ _

theorem zero_at (j : S1024x1024.Idx) : k0_pay1 (F := Ideal) j = 0 := by pointwise [k0_pay1]

theorem step_at (acc : Vec Ideal S1024x1024 .f32) (a : Vec Ideal S1x1024x1024 .bf16) (b : Vec Ideal S1x1024x1024 .f32)
    (j : S1024x1024.Idx) :
    k0_pay2 acc a b j = acc j + ∑ k : Fin 1024, a (ix3 (0 : Fin 1) k (j 0 : Fin 1024)) * b (ix3 (0 : Fin 1) k (j 1 : Fin 1024)) := by
  pointwise [k0_pay2]

theorem out_at (acc : Vec Ideal S1024x1024 .f32) (y : S1x1024x1024.Idx) :
    k0_pay3 acc y = acc (ix2 (y 1 : Fin 1024) (y 2 : Fin 1024)) := by
  pointwise [k0_pay3]

theorem idx : ∀ t : Fin cfg0.N, win0_0.index t = ![0, t.val % 4, 0] ∧ win0_1.index t = ![0, t.val % 4, 0]
    ∧ win0_2.index t = ![0, 0, 0] := (by decide +kernel : ∀ t : Fin grid0.N, _)

variable (m : (ℓ : Loc nD τ sig) → Buf (Elt Ideal) ℓ)

/-- A point after the first adds its rows' product to the accumulator: the middle points and the last do the same there. -/
theorem more_at (c : Dev nD) (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j
      + ∑ k : Fin 1024, (show FVec Ideal S1x1024x1024 .bf16 from iblk m c 0 t) (ix3 (0 : Fin 1) k (j 0 : Fin 1024))
        * (show FVec Ideal S1x1024x1024 .f32 from iblk m c 1 t) (ix3 (0 : Fin 1) k (j 1 : Fin 1024)) := by
  by_cases h3 : t.val % 4 = 3
  · rw [outsAt0_C m c t h h3]; frame_out; rw [step_at, (Memref.isWhole_whole _).read_unread]
  · rw [outsAt0_B m c t h h3]; frame_out; rw [step_at, (Memref.isWhole_whole _).read_unread]

/-- At the last point the accumulator holds the four blocks' products. -/
theorem sum_at (c : Dev nD) (t : Fin cfg0.N) (hf : t.val % 4 = 3) (j : S1024x1024.Idx) :
    (outsAt0 m c t.val t.isLt).2 j = ∑ s : Fin 4, ∑ k : Fin 1024,
      (show FVec Ideal S1x1024x1024 .bf16 from iblk m c 0 ⟨4 * (t.val / 4) + s.val, Pipeline.run_point_lt_of_flush t hf s⟩) (ix3 (0 : Fin 1) k (j 0 : Fin 1024))
        * (show FVec Ideal S1x1024x1024 .f32 from iblk m c 1 ⟨4 * (t.val / 4) + s.val, Pipeline.run_point_lt_of_flush t hf s⟩) (ix3 (0 : Fin 1) k (j 1 : Fin 1024)) := by
  rw [Pipeline.eq_sum_fin_of_reset_step_apply_of_flush (fun n h => (outsAt0 m c n h).2) 4 (fun _ => 0) _
    (fun t h j => by rw [outsAt0_A m c t h (by omega)]; frame_out; rw [step_at, zero_at])
    (fun t h j => by rw [more_at m c t h])
    t hf _, zero_add]

/-- The block written back is the accumulator. -/
theorem out_eq (c : Dev nD) (t : Fin cfg0.N) (h1 : t.val % 4 = 3) (y : S1x1024x1024.Idx) :
    (outsAt0 m c t.val t.isLt).1 y = (outsAt0 m c t.val t.isLt).2 (ix2 (y 1 : Fin 1024) (y 2 : Fin 1024)) := by
  rw [outsAt0_C m c t (by omega) h1]
  frame_out
  exact out_at _ y

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have h1 := (flush0_2 t).mp hf
  rw [after0_2, out_eq m c t h1, sum_at m c t h1, ref_at]
  refine Fin.sum_mul_add_congr fun s k hl => ?_
  blk_point [iblk, V, idx t, idx ⟨_, Pipeline.run_point_lt_of_flush t h1 s⟩]

end Cert.DwOutIdeal.Grad
-- ==== Proof.FfnMath.lean ====
/- The feed-forward block of one token, over the extended reals: its normalised row, the up projection, the gated product, the down projection. -/
module

public import Idealize.ShloMosaic.PureOps.Ideal
public import Mathlib.Algebra.BigOperators.Fin

@[expose] public section

noncomputable section

namespace Cert.Ffn

open Idealize.ShloMosaic

/-- The normalised row: each entry over the root of the row's mean square, times its gain. -/
def hv (x g : Fin 1024 → EReal) (k : Fin 1024) : EReal :=
  x k * Ideal.rsqrt (Ideal.div (∑ j, x j * x j) (Ideal.ofBits FTy.f32 1149239296#32) + Ideal.ofBits FTy.f32 897988541#32) * g k

/-- The up projection of a row. -/
def guv (h : Fin 1024 → EReal) (w : Fin 1024 → Fin 5632 → EReal) (n : Fin 5632) : EReal := ∑ k, h k * w k n

/-- A column of the gate, and the column of the other half that goes with it. -/
abbrev lo (j : Fin 2816) : Fin 5632 := ⟨j.val, by omega⟩
abbrev hi (j : Fin 2816) : Fin 5632 := ⟨2816 + j.val, by omega⟩

/-- The gated product. -/
def act (z : Fin 5632 → EReal) (j : Fin 2816) : EReal := z (lo j) * Ideal.logistic (z (lo j)) * z (hi j)

/-- The block's output row: the input plus half the down projection. -/
def outv (x : Fin 1024 → EReal) (z : Fin 5632 → EReal) (w : Fin 2816 → Fin 1024 → EReal) (q : Fin 1024) : EReal :=
  x q + Ideal.ofBits FTy.f32 1056964608#32 * ∑ j, act z j * w j q

/-- A sum over the 2816 columns, taken in the two pieces the kernel takes it in. -/
theorem sum_split (f : Fin 2816 → EReal) :
    ∑ k : Fin 1536, f ⟨k.val, by omega⟩ + ∑ k : Fin 1280, f ⟨1536 + k.val, by omega⟩ = ∑ j, f j := by
  have h := Fin.sum_univ_add (a := 1536) (b := 1280) (fun i => f i)
  exact h.symm

end Cert.Ffn
-- ==== Proof.FfnFwdValue.lean ====
/- The feed-forward block forwards: the rows the kernel leaves, and the rows the reference returns. -/
module

public import proofs.«01_k».proof.Proof.Gen.FfnFwdIdeal.Frame
public import proofs.«01_k».proof.Proof.Gen.FfnFwdRefIdeal
public import proofs.«01_k».proof.Proof.FfnMath
public import Idealize.ShloMosaic.Lib.Pipeline.ValueKit

@[expose] public section

set_option maxRecDepth 16384

noncomputable section

namespace Cert.FfnFwdIdeal.Grad

open Cert.FfnFwdIdeal.Gen Cert.Ffn
open Idealize.ShloMosaic Idealize.ShloMosaic.TcCoe Idealize.SL.Sem
open Idealize.ShloMosaic.Pipeline (Dat)

/-! ## The kernel's blocks -/

section
variable (x : Vec Ideal S512x1024 .f32) (g : Vec Ideal S1x1024 .f32) (w : Vec Ideal S5632x1024 .bf16) (d : Vec Ideal S2816x1024 .bf16)

/-- A token's row of a block of inputs, the gains, and the two weights, as functions. -/
abbrev xr (p : Fin 512) : Fin 1024 → EReal := fun k => x (ix2 p k)
abbrev gr : Fin 1024 → EReal := fun k => g (ix2 (0 : Fin 1) k)
abbrev wr : Fin 1024 → Fin 5632 → EReal := fun k n => w (ix2 n k)
abbrev dr : Fin 2816 → Fin 1024 → EReal := fun j q => d (ix2 j q)

theorem h_at (y : S512x1024.Idx) : k0_pay6 x g y = hv (xr x (y 0)) (gr g) (y 1) := by
  pointwise [k0_pay6]
  unfold hv
  dsimp only [xr, gr]
  blk_point []

/-- The normalised rows of a block, as the payload leaves them. -/
theorem h_row (p : Fin 512) : (fun k : Fin 1024 => k0_pay6 x g (ix2 p k)) = hv (xr x p) (gr g) := funext fun k => h_at x g (ix2 p k)

theorem xo_at (y : S512x1024.Idx) :
    k0_pay5 (k0_pay6 x g)
      (k0_pay11 x g (View.ld w (Rect.unit ![0, 0] ![1536, 1024] inb_S5632x1024_S1536x1024_0_0))
        (View.ld w (Rect.unit ![2816, 0] ![1536, 1024] inb_S5632x1024_S1536x1024_2816_0))
        (View.ld d (Rect.unit ![0, 0] ![1536, 1024] inb_S2816x1024_S1536x1024_0_0)))
      (View.ld w (Rect.unit ![1536, 0] ![1280, 1024] inb_S5632x1024_S1280x1024_1536_0))
      (View.ld w (Rect.unit ![4352, 0] ![1280, 1024] inb_S5632x1024_S1280x1024_4352_0))
      (View.ld d (Rect.unit ![1536, 0] ![1280, 1024] inb_S2816x1024_S1280x1024_1536_0)) x y
    = outv (xr x (y 0)) (guv (hv (xr x (y 0)) (gr g)) (wr w)) (dr d) (y 1) := by
  have e := h_row x g (y 0)
  rw [← e]
  pointwise [k0_pay5, k0_pay11, k0_pay1, k0_pay2, k0_pay7, k0_pay8]
  unfold outv
  rw [← sum_split]
  unfold act guv
  dsimp only [xr, gr, wr, dr, lo, hi]
  blk_point []

theorem gu_at (y : S512x5632.Idx) :
    View.canon (Val := Elt Ideal) (e := .bf16)
      [⟨Rect.unit ![0, 4352] ![512, 1280] inb_S512x5632_S512x1280_0_4352,
          k0_pay4 (k0_pay6 x g) (View.ld w (Rect.unit ![4352, 0] ![1280, 1024] inb_S5632x1024_S1280x1024_4352_0))⟩,
        ⟨Rect.unit ![0, 1536] ![512, 1280] inb_S512x5632_S512x1280_0_1536,
          k0_pay3 (k0_pay6 x g) (View.ld w (Rect.unit ![1536, 0] ![1280, 1024] inb_S5632x1024_S1280x1024_1536_0))⟩,
        ⟨Rect.unit ![0, 2816] ![512, 1536] inb_S512x5632_S512x1536_0_2816,
          k0_pay10 x g (View.ld w (Rect.unit ![2816, 0] ![1536, 1024] inb_S5632x1024_S1536x1024_2816_0))⟩,
        ⟨Rect.unit ![0, 0] ![512, 1536] inb_S512x5632_S512x1536_0_0,
          k0_pay9 x g (View.ld w (Rect.unit ![0, 0] ![1536, 1024] inb_S5632x1024_S1536x1024_0_0))⟩]
      y = guv (hv (xr x (y 0)) (gr g)) (wr w) (y 1) := by
  have e := h_row x g (y 0)
  rw [← e]
  unfold guv
  canon_tiles z h using View.cover_of_tiledBy _ ![512, 256] (by sl_kernel_rfl) y
  all_goals (open_payloads; pointwise; dsimp only [wr]; blk_point [])

end

/-! ## The reference's arrays -/

section
open Cert.FfnFwdRefIdeal.Gen
variable (x : FVec Ideal S4096x1024 .f32) (g : FVec Ideal S1024 .f32) (w : FVec Ideal S1024x5632 .f32) (d : FVec Ideal S2816x1024 .f32)

/-- A token's row of the whole input, the gains, and the two weights, as functions. -/
abbrev xR (p : Fin 4096) : Fin 1024 → EReal := fun k => x (ix2 p k)
abbrev gR : Fin 1024 → EReal := fun k => g (ix1 k)
abbrev wR : Fin 1024 → Fin 5632 → EReal := fun k n => w (ix2 k n)
abbrev dR : Fin 2816 → Fin 1024 → EReal := fun j q => d (ix2 j q)

/-- The reference's normalised input. -/
abbrev rH : FVec Ideal S4096x1024 .f32 :=
  mulf (mulf x (broadcastInDim Cert.FfnFwdRefIdeal.S4096x1024 ![0, 1] bcast_S4096x1_S4096x1024_0_1
      (Host.rsqrt (addf (Host.divf (broadcastInDim Cert.FfnFwdRefIdeal.S4096x1 ![0] bcast_S4096_S4096x1_0
          (Host.reduceAdd (mulf x x) (constant Cert.FfnFwdRefIdeal.S_ .f32 0x00000000#32) reducesTo_S4096x1024_S4096_d1 h_S_))
        (broadcastInDim Cert.FfnFwdRefIdeal.S4096x1 ![] bcast_S_S4096x1 (constant Cert.FfnFwdRefIdeal.S_ .f32 0x44800000#32)))
        (broadcastInDim Cert.FfnFwdRefIdeal.S4096x1 ![] bcast_S_S4096x1 (constant Cert.FfnFwdRefIdeal.S_ .f32 0x358637BD#32))))))
    (broadcastInDim Cert.FfnFwdRefIdeal.S4096x1024 ![0, 1] bcast_S1x1024_S4096x1024_0_1
      (broadcastInDim Cert.FfnFwdRefIdeal.S1x1024 ![1] Cert.FfnFwdRefIdeal.Gen.bcast_S1024_S1x1024_1 g))

/-- The reference's up projection. -/
abbrev rZ : FVec Ideal Cert.FfnFwdRefIdeal.S4096x5632 .f32 :=
  Host.dotGeneral Cert.FfnFwdRefIdeal.dot_S4096x1024_S1024x5632_S4096x5632_1_0_0_1_n_n none (rH x g) w

/-- The reference's output from the up projection `z`. -/
abbrev rO (z : FVec Ideal Cert.FfnFwdRefIdeal.S4096x5632 .f32) : FVec Ideal S4096x1024 .f32 :=
  addf x (mulf (broadcastInDim Cert.FfnFwdRefIdeal.S4096x1024 ![] bcast_S_S4096x1024 (constant Cert.FfnFwdRefIdeal.S_ .f32 0x3F000000#32))
    (Host.dotGeneral Cert.FfnFwdRefIdeal.dot_S4096x2816_S2816x1024_S4096x1024_1_0_0_1_n_n none
      (mulf (mulf (extractStridedSlice Cert.FfnFwdRefIdeal.S4096x2816 ![0, 0] z slices_S4096x5632_S4096x2816_0_0)
          (Host.divf (broadcastInDim Cert.FfnFwdRefIdeal.S4096x2816 ![] bcast_S_S4096x2816 (constant Cert.FfnFwdRefIdeal.S_ .f32 0x3F800000#32))
            (addf (broadcastInDim Cert.FfnFwdRefIdeal.S4096x2816 ![] bcast_S_S4096x2816 (constant Cert.FfnFwdRefIdeal.S_ .f32 0x3F800000#32))
              (Host.exp (Host.negf (extractStridedSlice Cert.FfnFwdRefIdeal.S4096x2816 ![0, 0] z slices_S4096x5632_S4096x2816_0_0))))))
        (extractStridedSlice Cert.FfnFwdRefIdeal.S4096x2816 ![0, 2816] z slices_S4096x5632_S4096x2816_0_2816)) d))

theorem rH_at (p : Fin 4096) (q : Fin 1024) : rH x g (ix2 p q) = hv (xR x p) (gR g) q := by
  pointwise [rH]
  unfold hv
  dsimp only [xR, gR]

theorem rZ_at (p : Fin 4096) (n : Fin 5632) : rZ x g w (ix2 p n) = guv (hv (xR x p) (gR g)) (wR w) n := by
  pointwise [rZ]
  unfold guv hv
  dsimp only [xR, gR, wR]

theorem rO_at (z : FVec Ideal Cert.FfnFwdRefIdeal.S4096x5632 .f32) (p : Fin 4096) (q : Fin 1024) :
    rO x d z (ix2 p q) = outv (xR x p) (fun n => z (ix2 p n)) (dR d) q := by
  pointwise [rO]
  unfold outv act Ideal.logistic
  dsimp only [xR, dR]

end

/-! ## The windows -/

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] := (by decide +kernel : ∀ t : Fin grid0.N, _)

variable (m : (ℓ : Loc nD τ sig) → Buf (Elt Ideal) ℓ)

/-- The arguments' arrays on a device. -/
abbrev a0 (c : Dev nD) : FVec Ideal S4096x1024 .f32 := m ((c : Thread nD τ).loc main_arg0)
abbrev a1 (c : Dev nD) : FVec Ideal S1024 .f32 := m ((c : Thread nD τ).loc main_arg1)
abbrev a2 (c : Dev nD) : FVec Ideal S1024x5632 .f32 := m ((c : Thread nD τ).loc main_arg2)
abbrev a3 (c : Dev nD) : FVec Ideal S2816x1024 .f32 := m ((c : Thread nD τ).loc main_arg3)

theorem xr_eq (c : Dev nD) (t : Fin cfg0.N) (p : Fin 512) (P : Fin 4096) (hP : P.val = 512 * t.val + p.val) :
    xr (iblk m c 0 t) p = xR (a0 m c) P := by
  funext k
  dsimp only [xr, xR, a0]
  blk_ext [iblk, V, idx t]

theorem gr_eq (c : Dev nD) (t : Fin cfg0.N) : gr (iblk m c 1 t) = gR (a1 m c) := by
  funext k
  dsimp only [gr, gR, a1]
  blk_point [iblk, V, idx t]

theorem wr_eq (c : Dev nD) (t : Fin cfg0.N) : wr (iblk m c 2 t) = wR (a2 m c) := by
  funext k n
  dsimp only [wr, wR, a2]
  blk_point [iblk, V, idx t]

theorem dr_eq (c : Dev nD) (t : Fin cfg0.N) : dr (iblk m c 3 t) = dR (a3 m c) := by
  funext k n
  dsimp only [dr, dR, a3]
  blk_point [iblk, V, idx t]

/-- Row `p` of the block at point `t` is token `512 t + p`. -/
abbrev tok (t : Fin cfg0.N) (p : Fin 512) : Fin 4096 := ⟨512 * t.val + p.val, by have := t.isLt; have : cfg0.N = 8 := rfl; omega⟩

theorem h_blk (c : Dev nD) (t : Fin cfg0.N) (p : Fin 512) (q : Fin 1024) :
    hv (xr (iblk m c 0 t) p) (gr (iblk m c 1 t)) q = rH (a0 m c) (a1 m c) (ix2 (tok t p) q) := by
  rw [rH_at, ← xr_eq m c t p _ rfl, ← gr_eq m c t]

theorem z_blk (c : Dev nD) (t : Fin cfg0.N) (p : Fin 512) : guv (hv (xr (iblk m c 0 t) p) (gr (iblk m c 1 t))) (wr (iblk m c 2 t))
    = fun n => rZ (a0 m c) (a1 m c) (a2 m c) (ix2 (tok t p) n) := by
  funext n
  rw [rZ_at, ← xr_eq m c t p _ rfl, ← gr_eq m c t, ← wr_eq m c t]

theorem o_blk (c : Dev nD) (t : Fin cfg0.N) (p : Fin 512) (q : Fin 1024) :
    outv (xr (iblk m c 0 t) p) (guv (hv (xr (iblk m c 0 t) p) (gr (iblk m c 1 t))) (wr (iblk m c 2 t))) (dr (iblk m c 3 t)) q
      = rO (a0 m c) (a3 m c) (rZ (a0 m c) (a1 m c) (a2 m c)) (ix2 (tok t p) q) := by
  rw [rO_at, z_blk, ← xr_eq m c t p _ rfl, ← dr_eq m c t]

theorem final4 (c : Dev nD) : (dats m 0 c).arrAt 4 (cfgs 0).N
    = (rO (a0 m c) (a3 m c) (rZ (a0 m c) (a1 m c) (a2 m c)) : FVec Ideal S4096x1024 .f32) := by
  refine (dats m 0 c).arrAt_eq_of_covers 4 _ (by decide +kernel) fun t hf y => ?_
  rw [after0_4]
  unfold outsAt0
  blk_simp
  frame_out
  change S512x1024.Idx at y
  have hemb : (win0_4.blk t).view.emb y = ix2 (tok t (y 0)) (y 1 : Fin 1024) := by
    blk_ext [tok, idx t]
  exact ((xo_at _ _ _ _ y).trans (o_blk m c t (y 0) (y 1))).trans (congrArg _ hemb).symm

theorem final5 (c : Dev nD) : (dats m 0 c).arrAt 5 (cfgs 0).N
    = (rH (a0 m c) (a1 m c) : FVec Ideal S4096x1024 .f32) := by
  refine (dats m 0 c).arrAt_eq_of_covers 5 _ (by decide +kernel) fun t hf y => ?_
  rw [after0_5]
  unfold outsAt0
  blk_simp
  frame_out
  change S512x1024.Idx at y
  have hemb : (win0_5.blk t).view.emb y = ix2 (tok t (y 0)) (y 1 : Fin 1024) := by
    blk_ext [tok, idx t]
  exact ((h_at _ _ y).trans (h_blk m c t (y 0) (y 1))).trans (congrArg _ hemb).symm

theorem final6 (c : Dev nD) : (dats m 0 c).arrAt 6 (cfgs 0).N
    = (rZ (a0 m c) (a1 m c) (a2 m c) : FVec Ideal S4096x5632 .f32) := by
  refine (dats m 0 c).arrAt_eq_of_covers 6 _ (by decide +kernel) fun t hf y => ?_
  rw [after0_6]
  unfold outsAt0
  blk_simp
  frame_out
  change S512x5632.Idx at y
  have hemb : (win0_6.blk t).view.emb y = ix2 (tok t (y 0)) (y 1 : Fin 5632) := by
    blk_ext [tok, idx t]
  exact ((gu_at _ _ _ y).trans (congrFun (z_blk m c t (y 0)) (y 1))).trans (congrArg _ hemb).symm

end Cert.FfnFwdIdeal.Grad
-- ==== Proof.FfnBwdMath.lean ====
/- The feed-forward block of one token backwards, over the extended reals: the kernel's row, the chain rule's row, and that they agree on real entries. -/
module

public import proofs.«01_k».proof.Proof.FfnMath
public import proofs.«01_k».proof.Proof.Maths

@[expose] public section

noncomputable section

namespace Cert.Ffn

open Idealize.ShloMosaic
open Cert.Grad (coe_sum exp_coe div_coe)

/-! ## The rows -/

/-- The cotangent of the down projection's output: half the block's. -/
def dyv (ct : Fin 1024 → EReal) (q : Fin 1024) : EReal := Ideal.ofBits FTy.f32 1056964608#32 * ct q

/-- The cotangent of the gated product. -/
def dav (dy : Fin 1024 → EReal) (d : Fin 2816 → Fin 1024 → EReal) (j : Fin 2816) : EReal := ∑ q, dy q * d j q

/-- The gate's cotangent, in the kernel's form. -/
def gateK (a u z : EReal) : EReal := a * u * (Ideal.logistic z * (1 + z * (1 - Ideal.logistic z)))

/-- The gate's cotangent by the product rule. -/
def gateR (a u z : EReal) : EReal := a * u * Ideal.logistic z + z * (a * u) * (Ideal.logistic z * (1 - Ideal.logistic z))

/-- The cotangent of the up projection from that of the gated product: `gate` for its lower half. -/
def dzv (gate : EReal → EReal → EReal → EReal) (a : Fin 2816 → EReal) (z : Fin 5632 → EReal) (n : Fin 5632) : EReal :=
  if h : n.val < 2816 then gate (a ⟨n.val, h⟩) (z (hi ⟨n.val, h⟩)) (z n)
  else a ⟨n.val - 2816, by omega⟩ * (z ⟨n.val - 2816, by omega⟩ * Ideal.logistic (z ⟨n.val - 2816, by omega⟩))

theorem dzv_lo (gate a z) (j : Fin 2816) : dzv gate a z (lo j) = gate (a j) (z (hi j)) (z (lo j)) := dif_pos j.isLt

theorem dzv_hi (gate a z) (j : Fin 2816) : dzv gate a z (hi j) = a j * (z (lo j) * Ideal.logistic (z (lo j))) := by
  have e : (⟨2816 + j.val - 2816, by omega⟩ : Fin 2816) = j := Fin.ext (by simp)
  have e' : (⟨2816 + j.val - 2816, by omega⟩ : Fin 5632) = lo j := Fin.ext (by simp)
  unfold dzv hi
  rw [dif_neg (by simp), e, e']

/-- The cotangent of the normalised row. -/
def dhv (e : Fin 5632 → EReal) (w : Fin 1024 → Fin 5632 → EReal) (k : Fin 1024) : EReal := ∑ n, e n * w k n

/-- The mean square of a row, with the small constant. -/
def msv (x : Fin 1024 → EReal) : EReal :=
  Ideal.div (∑ j, x j * x j) (Ideal.ofBits FTy.f32 1149239296#32) + Ideal.ofBits FTy.f32 897988541#32

/-- The row before its gains. -/
def xnv (x : Fin 1024 → EReal) (k : Fin 1024) : EReal := x k * Ideal.rsqrt (msv x)

/-- The norm's input cotangent from that of its output, in the kernel's form. -/
def normK (x g dh : Fin 1024 → EReal) (k : Fin 1024) : EReal :=
  Ideal.rsqrt (msv x) * (dh k * g k - xnv x k * Ideal.div (∑ j, dh j * g j * xnv x j) (Ideal.ofBits FTy.f32 1149239296#32))

/-- The part of the norm's input cotangent that comes through the mean square, for one entry of size one. -/
def thruv (x g dh : Fin 1024 → EReal) : EReal :=
  Ideal.div ((∑ j, x j * (dh j * g j)) * (Ideal.ofBits FTy.f32 0xBF000000#32 * Ideal.div (Ideal.rsqrt (msv x)) (msv x))) (Ideal.ofBits FTy.f32 1149239296#32)

/-- The norm's input cotangent by the chain rule. -/
def normR (x g dh : Fin 1024 → EReal) (k : Fin 1024) : EReal :=
  dh k * g k * Ideal.rsqrt (msv x) + x k * thruv x g dh + thruv x g dh * x k

/-! ## Sums in pieces -/

theorem sum_halves (f : Fin 5632 → EReal) : ∑ j, f (lo j) + ∑ j, f (hi j) = ∑ n, f n :=
  (Fin.sum_univ_add (a := 2816) (b := 2816) (fun i => f i)).symm

/-- A sum over the 5632 columns, in the four pieces and the order the kernel takes them in. -/
theorem sum_quarters (f : Fin 5632 → EReal) :
    (∑ k : Fin 1536, f ⟨k.val, by omega⟩ + ∑ k : Fin 1536, f ⟨2816 + k.val, by omega⟩)
      + (∑ k : Fin 1280, f ⟨1536 + k.val, by omega⟩ + ∑ k : Fin 1280, f ⟨4352 + k.val, by omega⟩) = ∑ n, f n := by
  rw [← sum_halves, ← sum_split, ← sum_split, add_add_add_comm]
  have e (k : Fin 1280) : (⟨4352 + k.val, by omega⟩ : Fin 5632) = hi ⟨1536 + k.val, by omega⟩ := Fin.ext (by simp; omega)
  simp only [e]

/-- The normalised row's cotangent, in the four pieces the kernel takes it in. -/
theorem dh_pieces (gate) (a : Fin 2816 → EReal) (z : Fin 5632 → EReal) (w : Fin 1024 → Fin 5632 → EReal) (k : Fin 1024) :
    dhv (dzv gate a z) w k
      = (∑ i : Fin 1536, gate (a ⟨i.val, by omega⟩) (z ⟨2816 + i.val, by omega⟩) (z ⟨i.val, by omega⟩) * w k ⟨i.val, by omega⟩
          + ∑ i : Fin 1536, a ⟨i.val, by omega⟩ * (z ⟨i.val, by omega⟩ * Ideal.logistic (z ⟨i.val, by omega⟩)) * w k ⟨2816 + i.val, by omega⟩)
        + (∑ i : Fin 1280, gate (a ⟨1536 + i.val, by omega⟩) (z ⟨4352 + i.val, by omega⟩) (z ⟨1536 + i.val, by omega⟩) * w k ⟨1536 + i.val, by omega⟩
          + ∑ i : Fin 1280, a ⟨1536 + i.val, by omega⟩ * (z ⟨1536 + i.val, by omega⟩ * Ideal.logistic (z ⟨1536 + i.val, by omega⟩)) * w k ⟨4352 + i.val, by omega⟩) := by
  have e (i : Fin 1280) : (⟨4352 + i.val, by omega⟩ : Fin 5632) = hi ⟨1536 + i.val, by omega⟩ := Fin.ext (by simp; omega)
  unfold dhv
  rw [← sum_quarters]
  simp only [e]
  refine congrArg₂ _ (congrArg₂ _ ?_ ?_) (congrArg₂ _ ?_ ?_) <;> refine Finset.sum_congr rfl fun i _ => congrArg (· * _) ?_
  · exact dzv_lo gate a z ⟨i.val, by omega⟩
  · exact dzv_hi gate a z ⟨i.val, by omega⟩
  · exact dzv_lo gate a z ⟨1536 + i.val, by omega⟩
  · exact dzv_hi gate a z ⟨1536 + i.val, by omega⟩

/-! ## Real entries -/

/-- A real number. -/
def Re (v : EReal) : Prop := ∃ r : ℝ, v = (r : EReal)

theorem Re.add {a b : EReal} : Re a → Re b → Re (a + b) := fun ⟨r, h⟩ ⟨s, k⟩ => ⟨r + s, by rw [h, k, EReal.coe_add]⟩
theorem Re.mul {a b : EReal} : Re a → Re b → Re (a * b) := fun ⟨r, h⟩ ⟨s, k⟩ => ⟨r * s, by rw [h, k, EReal.coe_mul]⟩
theorem Re.sub {a b : EReal} : Re a → Re b → Re (a - b) := fun ⟨r, h⟩ ⟨s, k⟩ => ⟨r - s, by rw [h, k, EReal.coe_sub]⟩

theorem Re.sum {n : ℕ} {f : Fin n → EReal} (h : ∀ i, Re (f i)) : Re (∑ i, f i) := by
  choose r hr using h
  exact ⟨∑ i, r i, by simp only [hr, coe_sum]⟩

theorem logistic_coe (r : ℝ) : Ideal.logistic (r : EReal) = ((1 / (1 + Real.exp (-r)) : ℝ) : EReal) := by
  have h : (1 : ℝ) + Real.exp (-r) ≠ 0 := by positivity
  unfold Ideal.logistic
  rw [← EReal.coe_neg, exp_coe, ← EReal.coe_one, ← EReal.coe_add, div_coe h]

theorem Re.logistic {a : EReal} : Re a → Re (Ideal.logistic a) := fun ⟨r, h⟩ => ⟨_, by rw [h, logistic_coe]⟩

theorem half_eq : Ideal.ofBits FTy.f32 1056964608#32 = ((1 / 2 : ℝ) : EReal) := by
  simp [Ideal.ofBits, Ideal.ieee]; rw [← EReal.coe_mul]; norm_num
theorem neg_half_eq : Ideal.ofBits FTy.f32 0xBF000000#32 = ((-(1 / 2) : ℝ) : EReal) := by
  simp [Ideal.ofBits, Ideal.ieee]; rw [← EReal.coe_mul]; norm_num
theorem width_eq : Ideal.ofBits FTy.f32 1149239296#32 = ((1024 : ℝ) : EReal) := by
  simp [Ideal.ofBits, Ideal.ieee]; rw [← EReal.coe_mul]; norm_num
theorem eps_eq : ∃ e : ℝ, 0 < e ∧ Ideal.ofBits FTy.f32 897988541#32 = (e : EReal) := by
  simp [Ideal.ofBits, Ideal.ieee]; exact ⟨_, by positivity, (EReal.coe_mul _ _).symm⟩

/-- The mean square of a real row is real and positive. -/
theorem ms_real (x : Fin 1024 → ℝ) : ∃ s : ℝ, 0 < s ∧ msv (fun k => (x k : EReal)) = (s : EReal) := by
  obtain ⟨e, he, h⟩ := eps_eq
  refine ⟨(∑ j, x j * x j) / 1024 + e, add_pos_of_nonneg_of_pos (div_nonneg (Finset.sum_nonneg fun j _ => mul_self_nonneg _) (by norm_num)) he, ?_⟩
  unfold msv
  simp only [← EReal.coe_mul]
  rw [← coe_sum, width_eq, div_coe (by norm_num), h, ← EReal.coe_add]

theorem rsqrt_coe {s : ℝ} (h : 0 < s) : Ideal.rsqrt (s : EReal) = ((Real.sqrt s)⁻¹ : ℝ) := by
  show (if s < 0 then (⊥ : EReal) else if s = 0 then ⊤ else ((Real.sqrt s)⁻¹ : ℝ)) = _
  rw [if_neg (not_lt.2 h.le), if_neg h.ne']

/-- A function with real entries, as a function to the reals. -/
theorem real_fn {n : ℕ} {f : Fin n → EReal} (h : ∀ i, Re (f i)) : ∃ r : Fin n → ℝ, f = fun i => (r i : EReal) := by
  choose r hr using h
  exact ⟨r, funext hr⟩

theorem gate_eq {a u z : EReal} (ha : Re a) (hu : Re u) (hz : Re z) : gateR a u z = gateK a u z := by
  obtain ⟨a, rfl⟩ := ha
  obtain ⟨u, rfl⟩ := hu
  obtain ⟨z, rfl⟩ := hz
  unfold gateR gateK
  rw [logistic_coe, ← EReal.coe_one]
  simp only [← EReal.coe_mul, ← EReal.coe_add, ← EReal.coe_sub]
  congr 1
  ring

/-- The chain rule's cotangent of the norm's input is the kernel's. -/
theorem norm_eq {x g dh : Fin 1024 → EReal} (hx : ∀ k, Re (x k)) (hg : ∀ k, Re (g k)) (hd : ∀ k, Re (dh k)) (k : Fin 1024) :
    normR x g dh k = normK x g dh k := by
  obtain ⟨x, rfl⟩ := real_fn hx
  obtain ⟨g, rfl⟩ := real_fn hg
  obtain ⟨dh, rfl⟩ := real_fn hd
  obtain ⟨s, hs, e⟩ := ms_real x
  unfold normR normK thruv xnv
  rw [e, rsqrt_coe hs, width_eq, neg_half_eq, div_coe hs.ne']
  simp only [← EReal.coe_mul, ← coe_sum]
  rw [div_coe (by norm_num), div_coe (by norm_num)]
  simp only [← EReal.coe_mul, ← EReal.coe_add, ← EReal.coe_sub]
  congr 1
  have hr : (Real.sqrt s)⁻¹ * (Real.sqrt s)⁻¹ = 1 / s := by
    rw [← mul_inv, Real.mul_self_sqrt hs.le, one_div]
  have hS : ∑ j, dh j * g j * (x j * (Real.sqrt s)⁻¹) = (∑ j, x j * (dh j * g j)) * (Real.sqrt s)⁻¹ := by
    rw [Finset.sum_mul]; exact Finset.sum_congr rfl fun j _ => by ring
  rw [hS]
  generalize (Real.sqrt s)⁻¹ = r at hr ⊢
  generalize ∑ j, x j * (dh j * g j) = S
  have hd : r / s = r * (r * r) := by rw [hr, mul_one_div]
  rw [hd]
  ring

/-! ## The whole row -/

theorem re_h {x g : Fin 1024 → EReal} (hx : ∀ k, Re (x k)) (hg : ∀ k, Re (g k)) (k : Fin 1024) : Re (hv x g k) := by
  obtain ⟨x, rfl⟩ := real_fn hx
  obtain ⟨s, hs, e⟩ := ms_real x
  refine ((hx k).mul ?_).mul (hg k)
  exact ⟨_, (congrArg Ideal.rsqrt e).trans (rsqrt_coe hs)⟩

theorem re_z {h : Fin 1024 → EReal} {w : Fin 1024 → Fin 5632 → EReal} (hh : ∀ k, Re (h k)) (hw : ∀ k n, Re (w k n)) (n : Fin 5632) : Re (guv h w n) :=
  Re.sum fun k => (hh k).mul (hw k n)

theorem re_a {ct : Fin 1024 → EReal} {d : Fin 2816 → Fin 1024 → EReal} (hc : ∀ k, Re (ct k)) (hd : ∀ j q, Re (d j q)) (j : Fin 2816) : Re (dav (dyv ct) d j) :=
  Re.sum fun q => (Re.mul ⟨_, half_eq⟩ (hc q)).mul (hd j q)

theorem dz_eq {a : Fin 2816 → EReal} {z : Fin 5632 → EReal} (ha : ∀ j, Re (a j)) (hz : ∀ n, Re (z n)) : dzv gateR a z = dzv gateK a z := by
  funext n
  unfold dzv
  split_ifs with h
  · exact gate_eq (ha _) (hz _) (hz _)
  · rfl

theorem re_dz {a : Fin 2816 → EReal} {z : Fin 5632 → EReal} (ha : ∀ j, Re (a j)) (hz : ∀ n, Re (z n)) (n : Fin 5632) : Re (dzv gateR a z n) := by
  unfold dzv
  split_ifs with h
  · have hl := (hz n).logistic
    exact (((ha _).mul (hz _)).mul hl).add (((hz _).mul ((ha _).mul (hz _))).mul (hl.mul (Re.sub ⟨1, EReal.coe_one.symm⟩ hl)))
  · exact (ha _).mul ((hz _).mul (hz _).logistic)

theorem re_dh {e : Fin 5632 → EReal} {w : Fin 1024 → Fin 5632 → EReal} (he : ∀ n, Re (e n)) (hw : ∀ k n, Re (w k n)) (k : Fin 1024) : Re (dhv e w k) :=
  Re.sum fun n => (he n).mul (hw k n)

end Cert.Ffn
-- ==== Proof.FfnBwdRef.lean ====
/- The feed-forward block backwards: the reference's arrays, from named stages, and their entries. -/
module

public import proofs.«01_k».proof.Proof.Gen.FfnBwdRefIdeal
public import proofs.«01_k».proof.Proof.FfnBwdMath
public import Idealize.ShloMosaic.Lib.Pipeline.ValueKit

@[expose] public section

set_option maxRecDepth 16384

noncomputable section

namespace Cert.FfnBwdRefIdeal.Grad

open Cert.FfnBwdRefIdeal.Gen Cert.Ffn
open Idealize.ShloMosaic Idealize.ShloMosaic.TcCoe Idealize.SL.Sem

variable (ct x : FVec Ideal S4096x1024 .f32) (g : FVec Ideal S1024 .f32) (w : FVec Ideal S1024x5632 .f32) (d : FVec Ideal S2816x1024 .f32)
variable (z : FVec Ideal S4096x5632 .f32) (a : FVec Ideal S4096x2816 .f32) (e : FVec Ideal S4096x5632 .f32) (dh : FVec Ideal S4096x1024 .f32)

/-- A token's row of the whole input, the gains, and the two weights, as functions. -/
abbrev xR (p : Fin 4096) : Fin 1024 → EReal := fun k => x (ix2 p k)
abbrev gR : Fin 1024 → EReal := fun k => g (ix1 k)
abbrev wR : Fin 1024 → Fin 5632 → EReal := fun k n => w (ix2 k n)
abbrev dR : Fin 2816 → Fin 1024 → EReal := fun j q => d (ix2 j q)

/-- The mean squares, the rows before their gains, the up projection, its two halves, and the sigmoid of the gate. -/
abbrev rMs : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
      (broadcastInDim S4096x1 ![] bcast_S_S4096x1 (constant S_ .f32 0x44800000#32)))
    (broadcastInDim S4096x1 ![] bcast_S_S4096x1 (constant S_ .f32 0x358637BD#32))
abbrev rXn : FVec Ideal S4096x1024 .f32 := mulf x (broadcastInDim S4096x1024 ![0, 1] bcast_S4096x1_S4096x1024_0_1 (Host.rsqrt (rMs x)))
abbrev rG : FVec Ideal S4096x1024 .f32 := broadcastInDim S4096x1024 ![0, 1] bcast_S1x1024_S4096x1024_0_1 (broadcastInDim S1x1024 ![1] bcast_S1024_S1x1024_1 g)
abbrev rZ : FVec Ideal S4096x5632 .f32 := Host.dotGeneral dot_S4096x1024_S1024x5632_S4096x5632_1_0_0_1_n_n none (mulf (rXn x) (rG g)) w
abbrev rLo : FVec Ideal S4096x2816 .f32 := extractStridedSlice S4096x2816 ![0, 0] z slices_S4096x5632_S4096x2816_0_0
abbrev rHi : FVec Ideal S4096x2816 .f32 := extractStridedSlice S4096x2816 ![0, 2816] z slices_S4096x5632_S4096x2816_0_2816
abbrev rOne : FVec Ideal S4096x2816 .f32 := broadcastInDim S4096x2816 ![] bcast_S_S4096x2816 (constant S_ .f32 0x3F800000#32)
abbrev rSig : FVec Ideal S4096x2816 .f32 := Host.divf rOne (addf rOne (Host.exp (Host.negf (rLo z))))

/-- The gated product, and half the block's cotangent. -/
abbrev rA : FVec Ideal S4096x2816 .bf16 := truncf .bf16 (mulf (mulf (rLo z) (rSig z)) (rHi z)) bitsLt_bf16_f32
abbrev rDy : FVec Ideal S4096x1024 .f32 :=
  mulf (broadcastInDim S4096x1024 ![] bcast_S_S4096x1024 (constant S_ .f32 0x3F000000#32)) (shapeCast S4096x1024 ct shapeCasts_S4096x1024_S4096x1024)

/-- The cotangents of the gated product, of the up projection, and of the normalised rows. -/
abbrev rDa : FVec Ideal S4096x2816 .f32 := Host.dotGeneral dot_S4096x1024_S2816x1024_S4096x2816_1_1_0_0_n_n none (rDy ct) d
abbrev rDz : FVec Ideal S4096x5632 .f32 :=
  addf (pad S4096x5632 ![0, 2816] ![0, 0] ![0, 0] (mulf (mulf (rLo z) (rSig z)) a) (constant S_ .f32 0x00000000#32) pads_S4096x2816_S4096x5632_000_281600 h_S_)
    (pad S4096x5632 ![0, 0] ![0, 2816] ![0, 0]
      (addf (mulf (mulf a (rHi z)) (rSig z)) (mulf (mulf (rLo z) (mulf a (rHi z))) (mulf (rSig z) (subf rOne (rSig z)))))
      (constant S_ .f32 0x00000000#32) pads_S4096x2816_S4096x5632_000_028160 h_S_)
abbrev rDh : FVec Ideal S4096x1024 .f32 := Host.dotGeneral dot_S4096x5632_S1024x5632_S4096x1024_1_1_0_0_n_n none e w

/-- The gains' cotangent, and the input's, from that of the normalised rows. -/
abbrev rDg : FVec Ideal S1x1024 .f32 :=
  broadcastInDim S1x1024 ![1] bcast_S1024_S1x1024_1
    (Host.reduceAdd (shapeCast S1x1024 (Host.reduceAdd (mulf (rXn x) dh) (constant S_ .f32 0x00000000#32) reducesTo_S4096x1024_S1024_d0 h_S_) shapeCasts_S1024_S1x1024)
      (constant S_ .f32 0x00000000#32) reducesTo_S1x1024_S1024_d0 h_S_)
abbrev rThru : FVec Ideal S4096x1024 .f32 :=
  broadcastInDim S4096x1024 ![0] bcast_S4096_S4096x1024_0
    (Host.reduceAdd
      (Host.divf
        (mulf (shapeCast S4096x1 (Host.reduceAdd (mulf x (mulf dh (rG g))) (constant S_ .f32 0x00000000#32) reducesTo_S4096x1024_S4096_d1 h_S_) shapeCasts_S4096_S4096x1)
          (mulf (broadcastInDim S4096x1 ![] bcast_S_S4096x1 (constant S_ .f32 0xBF000000#32)) (Host.divf (Host.rsqrt (rMs x)) (rMs x))))
        (broadcastInDim S4096x1 ![] bcast_S_S4096x1 (constant S_ .f32 0x44800000#32)))
      (constant S_ .f32 0x00000000#32) reducesTo_S4096x1_S4096_d1 h_S_)
abbrev rDx : FVec Ideal S4096x1024 .f32 :=
  addf ct (addf (addf (mulf (mulf dh (rG g)) (broadcastInDim S4096x1024 ![0, 1] bcast_S4096x1_S4096x1024_0_1 (Host.rsqrt (rMs x)))) (mulf x (rThru x g dh))) (mulf (rThru x g dh) x))

theorem rZ_at (p : Fin 4096) (n : Fin 5632) : rZ x g w (ix2 p n) = guv (hv (xR x p) (gR g)) (wR w) n := by
  pointwise [rZ]
  unfold guv hv
  dsimp only [xR, gR, wR]

theorem rA_at (p : Fin 4096) (j : Fin 2816) : rA z (ix2 p j) = act (fun n => z (ix2 p n)) j := by
  pointwise [rA]
  unfold act Ideal.logistic
  dsimp only []

theorem rDy_at (p : Fin 4096) (q : Fin 1024) : rDy ct (ix2 p q) = dyv (xR ct p) q := by
  pointwise [rDy]
  unfold dyv
  dsimp only [xR]

theorem rDa_at (p : Fin 4096) (j : Fin 2816) : rDa ct d (ix2 p j) = dav (dyv (xR ct p)) (dR d) j := by
  pointwise [rDa]
  unfold dav dyv
  dsimp only [xR, dR]

theorem rDz_at (p : Fin 4096) (n : Fin 5632) : rDz z a (ix2 p n) = dzv gateR (fun j => a (ix2 p j)) (fun n => z (ix2 p n)) n := by
  pointwise [rDz]
  unfold dzv gateR Ideal.logistic
  by_cases h : n.val < 2816
  · rw [dif_neg (by omega), dif_pos h, dif_pos h, zero_add]
  · rw [dif_pos (by omega), dif_neg h, dif_neg h, add_zero]
    exact mul_comm _ _

theorem rDh_at (p : Fin 4096) (k : Fin 1024) : rDh w e (ix2 p k) = dhv (fun n => e (ix2 p n)) (wR w) k := by
  pointwise [rDh]
  unfold dhv
  dsimp only [wR]

theorem rDg_at (i : Fin 1) (k : Fin 1024) : rDg x dh (ix2 i k) = ∑ p : Fin 4096, xnv (xR x p) k * dh (ix2 p k) := by
  pointwise [rDg]
  unfold xnv msv
  dsimp only [xR]
  exact Fin.sum_univ_one _

theorem rDx_at (p : Fin 4096) (k : Fin 1024) : rDx ct x g dh (ix2 p k) = xR ct p k + normR (xR x p) (gR g) (fun k => dh (ix2 p k)) k := by
  pointwise [rDx]
  unfold normR thruv msv
  dsimp only [xR, gR]
  simp only [Fin.sum_univ_one]

end Cert.FfnBwdRefIdeal.Grad
-- ==== Proof.FfnBwdValue.lean ====
/- The feed-forward block backwards: the rows the kernel leaves, and the rows the reference returns. -/
module

public import proofs.«01_k».proof.Proof.Gen.FfnBwdIdeal.Frame
public import proofs.«01_k».proof.Proof.FfnBwdRef
public import Idealize.ShloMosaic.Lib.Pipeline.ValueKit

@[expose] public section

set_option maxRecDepth 16384

noncomputable section

namespace Cert.FfnBwdIdeal.Grad

open Cert.FfnBwdIdeal.Gen Cert.Ffn
open Cert.FfnBwdRefIdeal.Grad
open Idealize.ShloMosaic Idealize.ShloMosaic.TcCoe Idealize.SL.Sem
open Idealize.ShloMosaic.Pipeline (Dat)

/-! ## The kernel's blocks -/

section
variable (ct x : Vec Ideal S256x1024 .f32) (g : Vec Ideal S1x1024 .f32) (z : Vec Ideal S256x5632 .bf16) (w : Vec Ideal S5632x1024 .bf16) (d : Vec Ideal S2816x1024 .bf16)

/-- A token's row of a block of cotangents or inputs, of saved up projections, the gains, and the two weights, as functions. -/
abbrev xr (p : Fin 256) : Fin 1024 → EReal := fun k => x (ix2 p k)
abbrev zr (p : Fin 256) : Fin 5632 → EReal := fun n => z (ix2 p n)
abbrev gr : Fin 1024 → EReal := fun k => g (ix2 (0 : Fin 1) k)
abbrev wr : Fin 1024 → Fin 5632 → EReal := fun k n => w (ix2 n k)
abbrev dr : Fin 2816 → Fin 1024 → EReal := fun j q => d (ix2 j q)

/-- The cotangent of the gated product, and of the up projection, of a token of the block. -/
abbrev ar (p : Fin 256) : Fin 2816 → EReal := dav (dyv (xr ct p)) (dr d)
abbrev er (p : Fin 256) : Fin 5632 → EReal := dzv gateK (ar ct d p) (zr z p)

/-- The cotangent of the block's normalised rows, as the payloads leave it. -/
abbrev kDh : FVec Ideal S256x1024 .f32 :=
  k0_pay21
    (k0_pay11
      (k0_pay8 ct (View.ld d (Rect.unit ![0, 0] ![1536, 1024] inb_S2816x1024_S1536x1024_0_0))
        (View.ld z (Rect.unit ![0, 0] ![256, 1536] inb_S256x5632_S256x1536_0_0))
        (View.ld z (Rect.unit ![0, 2816] ![256, 1536] inb_S256x5632_S256x1536_0_2816)))
      (k0_pay9 ct (View.ld d (Rect.unit ![0, 0] ![1536, 1024] inb_S2816x1024_S1536x1024_0_0))
        (View.ld z (Rect.unit ![0, 0] ![256, 1536] inb_S256x5632_S256x1536_0_0)))
      (View.ld w (Rect.unit ![0, 0] ![1536, 1024] inb_S5632x1024_S1536x1024_0_0))
      (View.ld w (Rect.unit ![2816, 0] ![1536, 1024] inb_S5632x1024_S1536x1024_2816_0)))
    (k0_pay17 (k0_pay2 ct) (View.ld d (Rect.unit ![1536, 0] ![1280, 1024] inb_S2816x1024_S1280x1024_1536_0))
      (View.ld z (Rect.unit ![0, 1536] ![256, 1280] inb_S256x5632_S256x1280_0_1536))
      (View.ld z (Rect.unit ![0, 4352] ![256, 1280] inb_S256x5632_S256x1280_0_4352)))
    (k0_pay18 (k0_pay2 ct) (View.ld d (Rect.unit ![1536, 0] ![1280, 1024] inb_S2816x1024_S1280x1024_1536_0))
      (View.ld z (Rect.unit ![0, 1536] ![256, 1280] inb_S256x5632_S256x1280_0_1536)))
    (k0_pay20 (View.ld w (Rect.unit ![1536, 0] ![1280, 1024] inb_S5632x1024_S1280x1024_1536_0)))
    (constant S256x1024 FTy.f32 0#32)
    (View.ld w (Rect.unit ![4352, 0] ![1280, 1024] inb_S5632x1024_S1280x1024_4352_0))

theorem dh_at (p : Fin 256) (q : Fin 1024) : kDh ct z w d (ix2 p q) = dhv (er ct z d p) (wr w) q := by
  rw [dh_pieces]
  pointwise [k0_pay21, k0_pay11, k0_pay8, k0_pay9, k0_pay17, k0_pay18, k0_pay20, k0_pay2, k0_pay3, k0_pay4, k0_pay5, k0_pay6, k0_pay7, k0_pay12, k0_pay13, k0_pay14, k0_pay15, k0_pay16]
  unfold gateK ar dav dyv
  dsimp only [xr, zr, wr, dr]

theorem dh_row (p : Fin 256) : (fun k : Fin 1024 => kDh ct z w d (ix2 p k)) = dhv (er ct z d p) (wr w) := funext fun k => dh_at ct z w d p k

/-- The payload of the input's cotangent, from any normalised rows' cotangent `h`. -/
theorem dx_form (a b c e f y') (y : S256x1024.Idx) :
    k0_pay25 a b c e f y' x g ct y
      = xr ct (y 0) (y 1) + normK (xr x (y 0)) (gr g) (fun k => k0_pay21 a b c e f y' (ix2 (y 0 : Fin 256) k)) (y 1) := by
  pointwise [k0_pay25, k0_pay23, k0_pay22]
  unfold normK xnv msv
  dsimp only [xr, gr]
  blk_point []

theorem dg_first (a b c e f y') (y : S1x1024.Idx) :
    k0_pay24 a b c e f y' x y = ∑ p : Fin 256, k0_pay21 a b c e f y' (ix2 p (y 1 : Fin 1024)) * xnv (xr x p) (y 1) := by
  pointwise [k0_pay24, k0_pay23, k0_pay22]
  unfold xnv msv
  dsimp only [xr]

theorem dg_form (a b c e f y') (acc : Vec Ideal S1x1024 .f32) (y : S1x1024.Idx) :
    k0_pay1 (k0_pay24 a b c e f y' x) acc y
      = acc y + ∑ p : Fin 256, k0_pay21 a b c e f y' (ix2 p (y 1 : Fin 1024)) * xnv (xr x p) (y 1) := by
  pointwise [k0_pay1, k0_pay24, k0_pay23, k0_pay22]
  unfold xnv msv
  dsimp only [xr]

theorem dz_at (y : S256x5632.Idx) :
    View.canon (Val := Elt Ideal) (e := .bf16)
      [⟨Rect.unit ![0, 4352] ![256, 1280] inb_S256x5632_S256x1280_0_4352,
          k0_pay18 (k0_pay2 ct) (View.ld d (Rect.unit ![1536, 0] ![1280, 1024] inb_S2816x1024_S1280x1024_1536_0))
            (View.ld z (Rect.unit ![0, 1536] ![256, 1280] inb_S256x5632_S256x1280_0_1536))⟩,
        ⟨Rect.unit ![0, 1536] ![256, 1280] inb_S256x5632_S256x1280_0_1536,
          k0_pay17 (k0_pay2 ct) (View.ld d (Rect.unit ![1536, 0] ![1280, 1024] inb_S2816x1024_S1280x1024_1536_0))
            (View.ld z (Rect.unit ![0, 1536] ![256, 1280] inb_S256x5632_S256x1280_0_1536))
            (View.ld z (Rect.unit ![0, 4352] ![256, 1280] inb_S256x5632_S256x1280_0_4352))⟩,
        ⟨Rect.unit ![0, 2816] ![256, 1536] inb_S256x5632_S256x1536_0_2816,
          k0_pay9 ct (View.ld d (Rect.unit ![0, 0] ![1536, 1024] inb_S2816x1024_S1536x1024_0_0))
            (View.ld z (Rect.unit ![0, 0] ![256, 1536] inb_S256x5632_S256x1536_0_0))⟩,
        ⟨Rect.unit ![0, 0] ![256, 1536] inb_S256x5632_S256x1536_0_0,
          k0_pay8 ct (View.ld d (Rect.unit ![0, 0] ![1536, 1024] inb_S2816x1024_S1536x1024_0_0))
            (View.ld z (Rect.unit ![0, 0] ![256, 1536] inb_S256x5632_S256x1536_0_0))
            (View.ld z (Rect.unit ![0, 2816] ![256, 1536] inb_S256x5632_S256x1536_0_2816))⟩]
      y = er ct z d (y 0) (y 1) := by
  canon_tiles z' h using View.cover_of_tiledBy _ ![256, 256] (by sl_kernel_rfl) y
  · refine Eq.trans ?_ ((dzv_hi gateK (ar ct d (y 0)) (zr z (y 0)) ⟨1536 + (z' 1).val, by omega⟩).symm.trans
      (congrArg (er ct z d (y 0)) (Fin.ext (by rw [h1]; simp; omega))))
    open_payloads; pointwise; unfold ar dav dyv; dsimp only [zr, xr, dr, lo]; blk_point []
  · refine Eq.trans ?_ ((dzv_lo gateK (ar ct d (y 0)) (zr z (y 0)) ⟨1536 + (z' 1).val, by omega⟩).symm.trans
      (congrArg (er ct z d (y 0)) (Fin.ext h1.symm)))
    open_payloads; pointwise; unfold gateK ar dav dyv; dsimp only [zr, xr, dr, lo, hi]; blk_point []
  · refine Eq.trans ?_ ((dzv_hi gateK (ar ct d (y 0)) (zr z (y 0)) ⟨(z' 1).val, by omega⟩).symm.trans
      (congrArg (er ct z d (y 0)) (Fin.ext h1.symm)))
    open_payloads; pointwise; unfold ar dav dyv; dsimp only [zr, xr, dr, lo]; blk_point []
  · refine Eq.trans ?_ ((dzv_lo gateK (ar ct d (y 0)) (zr z (y 0)) ⟨(z' 1).val, by omega⟩).symm.trans
      (congrArg (er ct z d (y 0)) (Fin.ext h1.symm)))
    open_payloads; pointwise; unfold gateK ar dav dyv; dsimp only [zr, xr, dr, lo, hi]; blk_point []

theorem a_at (y : S256x2816.Idx) :
    View.canon (Val := Elt Ideal) (e := .bf16)
      [⟨Rect.unit ![0, 1536] ![256, 1280] inb_S256x2816_S256x1280_0_1536,
          k0_pay19 (View.ld z (Rect.unit ![0, 1536] ![256, 1280] inb_S256x5632_S256x1280_0_1536))
            (View.ld z (Rect.unit ![0, 4352] ![256, 1280] inb_S256x5632_S256x1280_0_4352))⟩,
        ⟨Rect.unit ![0, 0] ![256, 1536] inb_S256x2816_S256x1536_0_0,
          k0_pay10 (View.ld z (Rect.unit ![0, 0] ![256, 1536] inb_S256x5632_S256x1536_0_0))
            (View.ld z (Rect.unit ![0, 2816] ![256, 1536] inb_S256x5632_S256x1536_0_2816))⟩]
      y = act (zr z (y 0)) (y 1) := by
  canon_tiles z' h using View.cover_of_tiledBy _ ![256, 256] (by sl_kernel_rfl) y
  all_goals (open_payloads; pointwise; unfold act; dsimp only [zr, lo, hi]; blk_point [])

theorem dy_at (y : S256x1024.Idx) : k0_pay2 ct y = dyv (xr ct (y 0)) (y 1) := by
  pointwise [k0_pay2]
  unfold dyv
  dsimp only [xr]
  blk_point []

end

/-! ## The windows -/

theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![0, 0] ∧ win0_6.index t = ![t.val, 0] ∧ win0_7.index t = ![0, 0] ∧ win0_8.index t = ![t.val, 0]
    ∧ win0_9.index t = ![t.val, 0] ∧ win0_10.index t = ![t.val, 0] := (by decide +kernel : ∀ t : Fin grid0.N, _)

variable (m : (ℓ : Loc nD τ sig) → Buf (Elt Ideal) ℓ)

/-- The arguments' arrays on a device. -/
abbrev a0 (c : Dev nD) : FVec Ideal S4096x1024 .f32 := m ((c : Thread nD τ).loc main_arg0)
abbrev a1 (c : Dev nD) : FVec Ideal S1024 .f32 := m ((c : Thread nD τ).loc main_arg1)
abbrev a2 (c : Dev nD) : FVec Ideal S1024x5632 .f32 := m ((c : Thread nD τ).loc main_arg2)
abbrev a3 (c : Dev nD) : FVec Ideal S2816x1024 .f32 := m ((c : Thread nD τ).loc main_arg3)
abbrev a4 (c : Dev nD) : FVec Ideal S4096x1024 .f32 := m ((c : Thread nD τ).loc main_arg4)

/-- Row `p` of the block at point `t` is token `256 t + p`. -/
abbrev tok (t : Fin cfg0.N) (p : Fin 256) : Fin 4096 := ⟨256 * t.val + p.val, by have := t.isLt; have : cfg0.N = 16 := rfl; omega⟩

theorem cr_eq (c : Dev nD) (t : Fin cfg0.N) (p : Fin 256) : xr (iblk m c 0 t) p = xR (a4 m c) (tok t p) := by
  funext k
  dsimp only [xr, xR, a4]
  blk_ext [iblk, V, idx t, tok]

theorem xr_eq (c : Dev nD) (t : Fin cfg0.N) (p : Fin 256) : xr (iblk m c 1 t) p = xR (a0 m c) (tok t p) := by
  funext k
  dsimp only [xr, xR, a0]
  blk_ext [iblk, V, idx t, tok]

theorem gr_eq (c : Dev nD) (t : Fin cfg0.N) : gr (iblk m c 2 t) = gR (a1 m c) := by
  funext k
  dsimp only [gr, gR, a1]
  blk_point [iblk, V, idx t]

theorem wr_eq (c : Dev nD) (t : Fin cfg0.N) : wr (iblk m c 4 t) = wR (a2 m c) := by
  funext k n
  dsimp only [wr, wR, a2]
  blk_point [iblk, V, idx t]

theorem dr_eq (c : Dev nD) (t : Fin cfg0.N) : dr (iblk m c 5 t) = dR (a3 m c) := by
  funext k n
  dsimp only [dr, dR, a3]
  blk_point [iblk, V, idx t]

theorem zr_eq (c : Dev nD) (t : Fin cfg0.N) (p : Fin 256) : zr (iblk m c 3 t) p = guv (hv (xR (a0 m c) (tok t p)) (gR (a1 m c))) (wR (a2 m c)) := by
  funext n
  have hemb : (win0_3.blk t).view.emb (ix2 p n) = ix2 (tok t p) n := by
    blk_ext [tok, idx t]
  have h : zr (iblk m c 3 t) p n = guv (hv (xR (a0 m c) ((win0_3.blk t).view.emb (ix2 p n) 0)) (gR (a1 m c))) (wR (a2 m c)) ((win0_3.blk t).view.emb (ix2 p n) 1) := by
    unfold guv hv
    dsimp only [zr, xR, gR, wR, a0, a1, a2]
    blk_point [iblk, V]
  rw [hemb] at h
  exact h

/-! ## The arguments are real -/

/-- Every entry of the five arguments is a real number. -/
structure Real (c : Dev nD) : Prop where
  x : ∀ p k, Re (xR (a0 m c) p k)
  g : ∀ k, Re (gR (a1 m c) k)
  w : ∀ k n, Re (wR (a2 m c) k n)
  d : ∀ j q, Re (dR (a3 m c) j q)
  ct : ∀ p q, Re (xR (a4 m c) p q)

/-- The reference's up projection, and the cotangents of the up projection and of the normalised input. -/
abbrev fZ (c : Dev nD) : FVec Ideal S4096x5632 .f32 := rZ (a0 m c) (a1 m c) (a2 m c)
abbrev fE (c : Dev nD) : FVec Ideal S4096x5632 .f32 := rDz (fZ m c) (rDa (a4 m c) (a3 m c))
abbrev fH (c : Dev nD) : FVec Ideal S4096x1024 .f32 := rDh (a2 m c) (fE m c)

variable {m}

theorem Real.z {c : Dev nD} (h : Real m c) (p : Fin 4096) (n : Fin 5632) : Re (fZ m c (ix2 p n)) := by
  rw [fZ, rZ_at]
  exact re_z (re_h (h.x p) h.g) h.w n

theorem Real.a {c : Dev nD} (h : Real m c) (p : Fin 4096) (j : Fin 2816) : Re (rDa (a4 m c) (a3 m c) (ix2 p j)) := by
  rw [rDa_at]
  exact re_a (h.ct p) h.d j

theorem Real.dh {c : Dev nD} (h : Real m c) (p : Fin 4096) (k : Fin 1024) : Re (fH m c (ix2 p k)) := by
  rw [fH, rDh_at]
  refine re_dh (fun n => ?_) h.w k
  rw [fE, rDz_at]
  exact re_dz (h.a p) (h.z p) n

theorem e_blk {c : Dev nD} (h : Real m c) (t : Fin cfg0.N) (p : Fin 256) :
    er (iblk m c 0 t) (iblk m c 3 t) (iblk m c 5 t) p = fun n => fE m c (ix2 (tok t p) n) := by
  have ez : (fun n => fZ m c (ix2 (tok t p) n)) = zr (iblk m c 3 t) p := (funext fun n => rZ_at _ _ _ _ n).trans (zr_eq m c t p).symm
  have ea : (fun j => rDa (a4 m c) (a3 m c) (ix2 (tok t p) j)) = ar (iblk m c 0 t) (iblk m c 5 t) p := by
    rw [ar, cr_eq, dr_eq]
    exact funext fun j => rDa_at _ _ _ j
  refine Eq.trans ?_ (funext fun n => rDz_at _ _ _ n).symm
  rw [dz_eq (h.a _) (h.z _), ez, ea]

theorem dh_blk {c : Dev nD} (h : Real m c) (t : Fin cfg0.N) (p : Fin 256) :
    (fun k : Fin 1024 => kDh (iblk m c 0 t) (iblk m c 3 t) (iblk m c 4 t) (iblk m c 5 t) (ix2 p k)) = fun k => fH m c (ix2 (tok t p) k) := by
  rw [dh_row, e_blk h, wr_eq]
  exact (funext fun k => rDh_at _ _ _ k).symm

theorem dx_blk {c : Dev nD} (h : Real m c) (t : Fin cfg0.N) (p : Fin 256) (q : Fin 1024) :
    xr (iblk m c 0 t) p q + normK (xr (iblk m c 1 t) p) (gr (iblk m c 2 t))
        (fun k => kDh (iblk m c 0 t) (iblk m c 3 t) (iblk m c 4 t) (iblk m c 5 t) (ix2 p k)) q
      = rDx (a4 m c) (a0 m c) (a1 m c) (fH m c) (ix2 (tok t p) q) := by
  rw [dh_blk h, rDx_at, cr_eq, xr_eq, gr_eq, norm_eq (h.x _) h.g (h.dh _)]

/-! ## The arrays after the run -/

theorem first {t : Fin cfg0.N} (h0 : t.val % 16 = 0) : ¬1 ≤ t.val := by
  have h : t.val < 16 := t.isLt
  omega

theorem final6 {c : Dev nD} (h : Real m c) : (dats m 0 c).arrAt 6 (cfgs 0).N
    = (rDx (a4 m c) (a0 m c) (a1 m c) (fH m c) : FVec Ideal S4096x1024 .f32) := by
  refine (dats m 0 c).arrAt_eq_of_covers 6 _ (by decide +kernel) fun t hf y => ?_
  rw [after0_6]
  blk_simp
  change S256x1024.Idx at y
  have hemb : (win0_6.blk t).view.emb y = ix2 (tok t (y 0)) (y 1 : Fin 1024) := by
    blk_ext [tok, idx t]
  refine Eq.trans ?_ ((dx_blk h t (y 0) (y 1)).trans (congrArg _ hemb).symm)
  by_cases h0 : t.val % 16 = 0
  · rw [outsAt0_A m c t h0 (first h0)]
    frame_out
    exact dx_form _ _ _ _ _ _ _ _ _ y
  · rw [outsAt0_B m c t h0 (by omega)]
    frame_out
    exact dx_form _ _ _ _ _ _ _ _ _ y

theorem final8 {c : Dev nD} (h : Real m c) : (dats m 0 c).arrAt 8 (cfgs 0).N
    = (truncf .bf16 (fE m c) Cert.FfnBwdRefIdeal.Gen.bitsLt_bf16_f32 : FVec Ideal S4096x5632 .bf16) := by
  refine (dats m 0 c).arrAt_eq_of_covers 8 _ (by decide +kernel) fun t hf y => ?_
  rw [after0_8]
  blk_simp
  change S256x5632.Idx at y
  have hemb : (win0_8.blk t).view.emb y = ix2 (tok t (y 0)) (y 1 : Fin 5632) := by
    blk_ext [tok, idx t]
  refine Eq.trans ?_ ((congrFun (e_blk h t (y 0)) (y 1)).trans (congrArg (fE m c) hemb).symm)
  by_cases h0 : t.val % 16 = 0
  · rw [outsAt0_A m c t h0 (first h0)]
    frame_out
    exact dz_at _ _ _ y
  · rw [outsAt0_B m c t h0 (by omega)]
    frame_out
    exact dz_at _ _ _ y

theorem a_blk (c : Dev nD) (t : Fin cfg0.N) (p : Fin 256) (j : Fin 2816) : act (zr (iblk m c 3 t) p) j = rA (fZ m c) (ix2 (tok t p) j) := by
  rw [rA_at, zr_eq]
  exact congrArg (act · j) (funext fun n => (rZ_at _ _ _ _ n).symm)

theorem final9 (c : Dev nD) : (dats m 0 c).arrAt 9 (cfgs 0).N = (rA (fZ m c) : FVec Ideal S4096x2816 .bf16) := by
  refine (dats m 0 c).arrAt_eq_of_covers 9 _ (by decide +kernel) fun t hf y => ?_
  rw [after0_9]
  blk_simp
  change S256x2816.Idx at y
  have hemb : (win0_9.blk t).view.emb y = ix2 (tok t (y 0)) (y 1 : Fin 2816) := by
    blk_ext [tok, idx t]
  refine Eq.trans ?_ ((a_blk c t (y 0) (y 1)).trans (congrArg _ hemb).symm)
  by_cases h0 : t.val % 16 = 0
  · rw [outsAt0_A m c t h0 (first h0)]
    frame_out
    exact a_at _ y
  · rw [outsAt0_B m c t h0 (by omega)]
    frame_out
    exact a_at _ y

theorem dy_blk (c : Dev nD) (t : Fin cfg0.N) (p : Fin 256) (q : Fin 1024) : dyv (xr (iblk m c 0 t) p) q = rDy (a4 m c) (ix2 (tok t p) q) := by
  rw [rDy_at, cr_eq]

theorem final10 (c : Dev nD) : (dats m 0 c).arrAt 10 (cfgs 0).N
    = (truncf .bf16 (rDy (a4 m c)) Cert.FfnBwdRefIdeal.Gen.bitsLt_bf16_f32 : FVec Ideal S4096x1024 .bf16) := by
  refine (dats m 0 c).arrAt_eq_of_covers 10 _ (by decide +kernel) fun t hf y => ?_
  rw [after0_10]
  blk_simp
  change S256x1024.Idx at y
  have hemb : (win0_10.blk t).view.emb y = ix2 (tok t (y 0)) (y 1 : Fin 1024) := by
    blk_ext [tok, idx t]
  refine Eq.trans ?_ ((dy_blk c t (y 0) (y 1)).trans (congrArg (rDy (a4 m c)) hemb).symm)
  by_cases h0 : t.val % 16 = 0
  · rw [outsAt0_A m c t h0 (first h0)]
    frame_out
    exact dy_at _ y
  · rw [outsAt0_B m c t h0 (by omega)]
    frame_out
    exact dy_at _ y

/-- What one point adds to the gains' cotangent. -/
abbrev dgT (c : Dev nD) (t : Fin cfg0.N) (y : S1x1024.Idx) : EReal :=
  ∑ p : Fin 256, kDh (iblk m c 0 t) (iblk m c 3 t) (iblk m c 4 t) (iblk m c 5 t) (ix2 p (y 1 : Fin 1024)) * xnv (xr (iblk m c 1 t) p) (y 1)

theorem dg_sum (c : Dev nD) (y : S1x1024.Idx) : (outsAt0 m c t0_15.val t0_15.isLt).2.1 y = 0 + ∑ t, dgT (m := m) c t y := by
  refine Pipeline.eq_sum_fin_of_reset_step_apply_last (fun n h => (outsAt0 m c n h).2.1) 16 (fun _ => (0 : EReal)) (dgT c) (fun t h j => ?_) (fun t h j => ?_) (by decide) t0_15 rfl y
  · rw [outsAt0_A m c t h (first h)]
    frame_out
    rw [zero_add]
    exact dg_first _ _ _ _ _ _ _ j
  · rw [outsAt0_B m c t h (by omega)]
    frame_out
    exact dg_form _ _ _ _ _ _ _ _ j

theorem final7 {c : Dev nD} (h : Real m c) : (dats m 0 c).arrAt 7 (cfgs 0).N = (rDg (a0 m c) (fH m c) : FVec Ideal S1x1024 .f32) := by
  refine (dats m 0 c).arrAt_eq_of_after_last 7 t0_15 (by decide +kernel) _ fun j => ?_
  rw [after0_7]
  blk_simp
  change S1x1024.Idx at j
  have hj : j = ix2 (j 0 : Fin 1) (j 1 : Fin 1024) := by blk_ext []
  refine ((dg_sum c j).trans (zero_add _)).trans (Eq.trans ?_ ((rDg_at _ _ (j 0) (j 1)).symm.trans (congrArg _ hj.symm)))
  refine Fin.sum_mul_add_congr fun t p hl => ?_
  have ht : (⟨t.val * 256 + p.val, hl⟩ : Fin 4096) = tok t p := Fin.ext (by simp; omega)
  rw [ht, ← xr_eq]
  exact (mul_comm _ _).trans (congrArg _ (congrFun (dh_blk h t p) (j 1)))

end Cert.FfnBwdIdeal.Grad
-- ==== Proof.FfnBwdReal.lean ====
/- What the precondition of the feed-forward block's backward gives: every entry of the five arguments is a real number. -/
module

public import proofs.«01_k».proof.Proof.FfnBwdValue
public import proofs.«01_k».proof.Proof.Finite
public import proofs.«01_k».proof.Proof.Gen.Pre_finite_bwd

@[expose] public section

set_option maxRecDepth 16384

noncomputable section

namespace Cert.FfnBwdIdeal.Grad

open Idealize.ShloMosaic Idealize.ShloMosaic.TcCoe Idealize.SL.Sem
open Cert.FfnBwdIdeal.Gen Cert.Ffn Cert.FfnBwdRefIdeal.Grad
open Cert.Grad (real_of_lt)

instance : Cert.Pre_finite_bwd.Facts := Cert.Pre_finite_bwd.Gen.facts

theorem real_of_pre (m : (ℓ : Loc nD τ sig) → Buf (Elt Ideal) ℓ) (h : Cert.Pre_FfnBwdIdeal_finite_bwd m) (c : Dev nD) : Real m c := by
  have h0 := congrFun (h c) ix0
  dsimp only [Cert.Pre_finite_bwd.fn, Cert.Pre_finite_bwd.fn_part1] at h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun p k => ⟨_, real_of_lt _ (Host.reduce_andi_all _ _ _ _ ix0 h0 (ix2 p k))⟩,
    fun k => ⟨_, real_of_lt _ (Host.reduce_andi_all _ _ _ _ ix0 h1 (ix1 k))⟩,
    fun k n => ⟨_, real_of_lt _ (Host.reduce_andi_all _ _ _ _ ix0 h2 (ix2 k n))⟩,
    fun j q => ⟨_, real_of_lt _ (Host.reduce_andi_all _ _ _ _ ix0 h3 (ix2 j q))⟩,
    fun p q => ⟨_, real_of_lt _ (Host.reduce_andi_all _ _ _ _ ix0 h4 (ix2 p q))⟩⟩

end Cert.FfnBwdIdeal.Grad
-- ==== Proof.FfnActRef.lean ====
/- The first of the two calls of a split half step backwards: the reference's half of the cotangent, and its gated product's cotangent. -/
module

public import proofs.«01_k».proof.Proof.FfnBwdRef

@[expose] public section

noncomputable section

namespace Cert.FfnActRefIdeal.Grad

open Cert.FfnBwdRefIdeal Cert.FfnBwdRefIdeal.Gen Cert.FfnBwdRefIdeal.Grad
open Idealize.ShloMosaic Idealize.ShloMosaic.TcCoe Idealize.SL.Sem

variable (ct : FVec Ideal S4096x1024 .f32) (d : FVec Ideal S2816x1024 .f32)

/-- Half the block's cotangent, and the cotangent of the gated product. -/
abbrev sDy : FVec Ideal S4096x1024 .f32 := mulf (broadcastInDim S4096x1024 ![] bcast_S_S4096x1024 (constant S_ .f32 0x3F000000#32)) ct
abbrev sDa : FVec Ideal S4096x2816 .f32 := Host.dotGeneral dot_S4096x1024_S2816x1024_S4096x2816_1_1_0_0_n_n none (sDy ct) d

theorem sDy_eq : rDy ct = sDy ct := congrArg _ (shapeCast_self _ _)

theorem sDa_eq : rDa ct d = sDa ct d := congrArg (fun y => Host.dotGeneral dot_S4096x1024_S2816x1024_S4096x2816_1_1_0_0_n_n none y d) (sDy_eq ct)

end Cert.FfnActRefIdeal.Grad
-- ==== Proof.FfnActValue.lean ====
/- The first of the two calls of a split half step backwards: the gradient of the up projection, the gated product, and half the cotangent. -/
module

public import proofs.«01_k».proof.Proof.Gen.FfnActIdeal.Frame
public import proofs.«01_k».proof.Proof.FfnActRef
public import proofs.«01_k».proof.Proof.FfnBwdReal

@[expose] public section

set_option maxRecDepth 16384

noncomputable section

namespace Cert.FfnActIdeal.Grad

open Cert.FfnActIdeal.Gen Cert.Ffn
open Cert.FfnBwdRefIdeal.Grad Cert.FfnActRefIdeal.Grad
open Cert.FfnBwdIdeal.Grad (xr zr dr ar er)
open Cert.Grad (real_of_lt)
open Idealize.ShloMosaic Idealize.ShloMosaic.TcCoe Idealize.SL.Sem
open Idealize.ShloMosaic.Pipeline (Dat)

/-! ## The kernel's blocks -/

section
variable (ct : Vec Ideal S256x1024 .f32) (z : Vec Ideal S256x5632 .bf16) (d : Vec Ideal S2816x1024 .bf16)

theorem dz_at (y : S256x5632.Idx) :
    View.canon (Val := Elt Ideal) (e := .bf16)
      [⟨Rect.unit ![0, 4352] ![256, 1280] inb_S256x5632_S256x1280_0_4352,
          k0_pay7 (k0_pay9 ct) (View.ld d (Rect.unit ![1536, 0] ![1280, 1024] inb_S2816x1024_S1280x1024_1536_0))
            (View.ld z (Rect.unit ![0, 1536] ![256, 1280] inb_S256x5632_S256x1280_0_1536))⟩,
        ⟨Rect.unit ![0, 1536] ![256, 1280] inb_S256x5632_S256x1280_0_1536,
          k0_pay6 (k0_pay9 ct) (View.ld d (Rect.unit ![1536, 0] ![1280, 1024] inb_S2816x1024_S1280x1024_1536_0))
            (View.ld z (Rect.unit ![0, 1536] ![256, 1280] inb_S256x5632_S256x1280_0_1536))
            (View.ld z (Rect.unit ![0, 4352] ![256, 1280] inb_S256x5632_S256x1280_0_4352))⟩,
        ⟨Rect.unit ![0, 2816] ![256, 1536] inb_S256x5632_S256x1536_0_2816,
          k0_pay16 ct (View.ld d (Rect.unit ![0, 0] ![1536, 1024] inb_S2816x1024_S1536x1024_0_0))
            (View.ld z (Rect.unit ![0, 0] ![256, 1536] inb_S256x5632_S256x1536_0_0))⟩,
        ⟨Rect.unit ![0, 0] ![256, 1536] inb_S256x5632_S256x1536_0_0,
          k0_pay15 ct (View.ld d (Rect.unit ![0, 0] ![1536, 1024] inb_S2816x1024_S1536x1024_0_0))
            (View.ld z (Rect.unit ![0, 0] ![256, 1536] inb_S256x5632_S256x1536_0_0))
            (View.ld z (Rect.unit ![0, 2816] ![256, 1536] inb_S256x5632_S256x1536_0_2816))⟩]
      y = er ct z d (y 0) (y 1) := by
  canon_tiles z' h using View.cover_of_tiledBy _ ![256, 256] (by sl_kernel_rfl) y
  · refine Eq.trans ?_ ((dzv_hi gateK (ar ct d (y 0)) (zr z (y 0)) ⟨1536 + (z' 1).val, by omega⟩).symm.trans
      (congrArg (er ct z d (y 0)) (Fin.ext (by rw [h1]; simp; omega))))
    open_payloads; pointwise; unfold ar dav dyv; dsimp only [zr, xr, dr, lo]; blk_point []
  · refine Eq.trans ?_ ((dzv_lo gateK (ar ct d (y 0)) (zr z (y 0)) ⟨1536 + (z' 1).val, by omega⟩).symm.trans
      (congrArg (er ct z d (y 0)) (Fin.ext h1.symm)))
    open_payloads; pointwise; unfold gateK ar dav dyv; dsimp only [zr, xr, dr, lo, hi]; blk_point []
  · refine Eq.trans ?_ ((dzv_hi gateK (ar ct d (y 0)) (zr z (y 0)) ⟨(z' 1).val, by omega⟩).symm.trans
      (congrArg (er ct z d (y 0)) (Fin.ext h1.symm)))
    open_payloads; pointwise; unfold ar dav dyv; dsimp only [zr, xr, dr, lo]; blk_point []
  · refine Eq.trans ?_ ((dzv_lo gateK (ar ct d (y 0)) (zr z (y 0)) ⟨(z' 1).val, by omega⟩).symm.trans
      (congrArg (er ct z d (y 0)) (Fin.ext h1.symm)))
    open_payloads; pointwise; unfold gateK ar dav dyv; dsimp only [zr, xr, dr, lo, hi]; blk_point []

theorem a_at (y : S256x2816.Idx) :
    View.canon (Val := Elt Ideal) (e := .bf16)
      [⟨Rect.unit ![0, 1536] ![256, 1280] inb_S256x2816_S256x1280_0_1536,
          k0_pay8 (View.ld z (Rect.unit ![0, 1536] ![256, 1280] inb_S256x5632_S256x1280_0_1536))
            (View.ld z (Rect.unit ![0, 4352] ![256, 1280] inb_S256x5632_S256x1280_0_4352))⟩,
        ⟨Rect.unit ![0, 0] ![256, 1536] inb_S256x2816_S256x1536_0_0,
          k0_pay17 (View.ld z (Rect.unit ![0, 0] ![256, 1536] inb_S256x5632_S256x1536_0_0))
            (View.ld z (Rect.unit ![0, 2816] ![256, 1536] inb_S256x5632_S256x1536_0_2816))⟩]
      y = act (zr z (y 0)) (y 1) := by
  canon_tiles z' h using View.cover_of_tiledBy _ ![256, 256] (by sl_kernel_rfl) y
  all_goals (open_payloads; pointwise; unfold act; dsimp only [zr, lo, hi]; blk_point [])

theorem dy_at (y : S256x1024.Idx) : k0_pay9 ct y = dyv (xr ct (y 0)) (y 1) := by
  pointwise [k0_pay9]
  unfold dyv
  dsimp only [xr]
  blk_point []

end

/-! ## The windows -/

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] := (by decide +kernel : ∀ t : Fin grid0.N, _)

variable (m : (ℓ : Loc nD τ sig) → Buf (Elt Ideal) ℓ)

/-- The arguments' arrays on a device. -/
abbrev a0 (c : Dev nD) : FVec Ideal S4096x1024 .f32 := m ((c : Thread nD τ).loc main_arg0)
abbrev a1 (c : Dev nD) : FVec Ideal S1024 .f32 := m ((c : Thread nD τ).loc main_arg1)
abbrev a2 (c : Dev nD) : FVec Ideal S1024x5632 .f32 := m ((c : Thread nD τ).loc main_arg2)
abbrev a3 (c : Dev nD) : FVec Ideal S2816x1024 .f32 := m ((c : Thread nD τ).loc main_arg3)
abbrev a4 (c : Dev nD) : FVec Ideal S4096x1024 .f32 := m ((c : Thread nD τ).loc main_arg4)

/-- Row `p` of the block at point `t` is token `256 t + p`. -/
abbrev tok (t : Fin cfg0.N) (p : Fin 256) : Fin 4096 := ⟨256 * t.val + p.val, by have := t.isLt; have : cfg0.N = 16 := rfl; omega⟩

theorem cr_eq (c : Dev nD) (t : Fin cfg0.N) (p : Fin 256) : xr (iblk m c 0 t) p = xR (a4 m c) (tok t p) := by
  funext k
  dsimp only [xr, xR, a4]
  blk_ext [iblk, V, idx t, tok]

theorem dr_eq (c : Dev nD) (t : Fin cfg0.N) : dr (iblk m c 2 t) = dR (a3 m c) := by
  funext k n
  dsimp only [dr, dR, a3]
  blk_point [iblk, V, idx t]

theorem zr_eq (c : Dev nD) (t : Fin cfg0.N) (p : Fin 256) : zr (iblk m c 1 t) p = guv (hv (xR (a0 m c) (tok t p)) (gR (a1 m c))) (wR (a2 m c)) := by
  funext n
  have hemb : (win0_1.blk t).view.emb (ix2 p n) = ix2 (tok t p) n := by
    blk_ext [tok, idx t]
  have h : zr (iblk m c 1 t) p n = guv (hv (xR (a0 m c) ((win0_1.blk t).view.emb (ix2 p n) 0)) (gR (a1 m c))) (wR (a2 m c)) ((win0_1.blk t).view.emb (ix2 p n) 1) := by
    unfold guv hv
    dsimp only [zr, xR, gR, wR, a0, a1, a2]
    blk_point [iblk, V]
  rw [hemb] at h
  exact h

/-! ## The arguments are real -/

/-- Every entry of the five arguments is a real number. -/
structure Real (c : Dev nD) : Prop where
  x : ∀ p k, Re (xR (a0 m c) p k)
  g : ∀ k, Re (gR (a1 m c) k)
  w : ∀ k n, Re (wR (a2 m c) k n)
  d : ∀ j q, Re (dR (a3 m c) j q)
  ct : ∀ p q, Re (xR (a4 m c) p q)

theorem real_of_pre (h : Cert.Pre_FfnActIdeal_finite_bwd m) (c : Dev nD) : Real m c := by
  have h0 := congrFun (h c) ix0
  dsimp only [Cert.Pre_finite_bwd.fn, Cert.Pre_finite_bwd.fn_part1] at h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun p k => ⟨_, real_of_lt _ (Host.reduce_andi_all _ _ _ _ ix0 h0 (ix2 p k))⟩,
    fun k => ⟨_, real_of_lt _ (Host.reduce_andi_all _ _ _ _ ix0 h1 (ix1 k))⟩,
    fun k n => ⟨_, real_of_lt _ (Host.reduce_andi_all _ _ _ _ ix0 h2 (ix2 k n))⟩,
    fun j q => ⟨_, real_of_lt _ (Host.reduce_andi_all _ _ _ _ ix0 h3 (ix2 j q))⟩,
    fun p q => ⟨_, real_of_lt _ (Host.reduce_andi_all _ _ _ _ ix0 h4 (ix2 p q))⟩⟩

/-- The reference's up projection, and its cotangent. -/
abbrev fZ (c : Dev nD) : FVec Ideal S4096x5632 .f32 := rZ (a0 m c) (a1 m c) (a2 m c)
abbrev fE (c : Dev nD) : FVec Ideal S4096x5632 .f32 := rDz (fZ m c) (sDa (a4 m c) (a3 m c))

variable {m}

theorem Real.z {c : Dev nD} (h : Real m c) (p : Fin 4096) (n : Fin 5632) : Re (fZ m c (ix2 p n)) := by
  rw [fZ, rZ_at]
  exact re_z (re_h (h.x p) h.g) h.w n

theorem da_at (c : Dev nD) (p : Fin 4096) (j : Fin 2816) : sDa (a4 m c) (a3 m c) (ix2 p j) = dav (dyv (xR (a4 m c) p)) (dR (a3 m c)) j := by
  rw [← sDa_eq]
  exact rDa_at _ _ _ j

theorem Real.a {c : Dev nD} (h : Real m c) (p : Fin 4096) (j : Fin 2816) : Re (sDa (a4 m c) (a3 m c) (ix2 p j)) := by
  rw [da_at]
  exact re_a (h.ct p) h.d j

theorem e_blk {c : Dev nD} (h : Real m c) (t : Fin cfg0.N) (p : Fin 256) :
    er (iblk m c 0 t) (iblk m c 1 t) (iblk m c 2 t) p = fun n => fE m c (ix2 (tok t p) n) := by
  have ez : (fun n => fZ m c (ix2 (tok t p) n)) = zr (iblk m c 1 t) p := (funext fun n => rZ_at _ _ _ _ n).trans (zr_eq m c t p).symm
  have ea : (fun j => sDa (a4 m c) (a3 m c) (ix2 (tok t p) j)) = ar (iblk m c 0 t) (iblk m c 2 t) p := by
    rw [ar, cr_eq, dr_eq]
    exact funext fun j => da_at c _ j
  refine Eq.trans ?_ (funext fun n => rDz_at _ _ _ n).symm
  rw [dz_eq (h.a _) (h.z _), ez, ea]

theorem a_blk (c : Dev nD) (t : Fin cfg0.N) (p : Fin 256) (j : Fin 2816) : act (zr (iblk m c 1 t) p) j = rA (fZ m c) (ix2 (tok t p) j) := by
  rw [rA_at, zr_eq]
  exact congrArg (act · j) (funext fun n => (rZ_at _ _ _ _ n).symm)

theorem dy_blk (c : Dev nD) (t : Fin cfg0.N) (p : Fin 256) (q : Fin 1024) : dyv (xr (iblk m c 0 t) p) q = sDy (a4 m c) (ix2 (tok t p) q) := by
  rw [← sDy_eq, rDy_at, cr_eq]

/-! ## The arrays after the run -/

theorem final3 {c : Dev nD} (h : Real m c) : (dats m 0 c).arrAt 3 (cfgs 0).N
    = (truncf .bf16 (fE m c) Cert.FfnBwdRefIdeal.Gen.bitsLt_bf16_f32 : FVec Ideal S4096x5632 .bf16) := by
  refine (dats m 0 c).arrAt_eq_of_covers 3 _ (by decide +kernel) fun t hf y => ?_
  rw [after0_3]
  blk_simp
  change S256x5632.Idx at y
  have hemb : (win0_3.blk t).view.emb y = ix2 (tok t (y 0)) (y 1 : Fin 5632) := by
    blk_ext [tok, idx t]
  refine Eq.trans ?_ ((congrFun (e_blk h t (y 0)) (y 1)).trans (congrArg (fE m c) hemb).symm)
  rw [outsAt0]
  frame_out
  exact dz_at _ _ _ y

theorem final4 (c : Dev nD) : (dats m 0 c).arrAt 4 (cfgs 0).N = (rA (fZ m c) : FVec Ideal S4096x2816 .bf16) := by
  refine (dats m 0 c).arrAt_eq_of_covers 4 _ (by decide +kernel) fun t hf y => ?_
  rw [after0_4]
  blk_simp
  change S256x2816.Idx at y
  have hemb : (win0_4.blk t).view.emb y = ix2 (tok t (y 0)) (y 1 : Fin 2816) := by
    blk_ext [tok, idx t]
  refine Eq.trans ?_ ((a_blk c t (y 0) (y 1)).trans (congrArg _ hemb).symm)
  rw [outsAt0]
  frame_out
  exact a_at _ y

theorem final5 (c : Dev nD) : (dats m 0 c).arrAt 5 (cfgs 0).N
    = (truncf .bf16 (sDy (a4 m c)) Cert.FfnBwdRefIdeal.Gen.bitsLt_bf16_f32 : FVec Ideal S4096x1024 .bf16) := by
  refine (dats m 0 c).arrAt_eq_of_covers 5 _ (by decide +kernel) fun t hf y => ?_
  rw [after0_5]
  blk_simp
  change S256x1024.Idx at y
  have hemb : (win0_5.blk t).view.emb y = ix2 (tok t (y 0)) (y 1 : Fin 1024) := by
    blk_ext [tok, idx t]
  refine Eq.trans ?_ ((dy_blk c t (y 0) (y 1)).trans (congrArg (sDy (a4 m c)) hemb).symm)
  rw [outsAt0]
  frame_out
  exact dy_at _ y

end Cert.FfnActIdeal.Grad
-- ==== Proof.FfnInValue.lean ====
/- The second of the two calls of a split half step backwards: the gradients of its input and of its gains from that of the up projection. -/
module

public import proofs.«01_k».proof.Proof.Gen.FfnInIdeal.Frame
public import proofs.«01_k».proof.Proof.FfnBwdValue
public import proofs.«01_k».proof.Proof.Finite
public import proofs.«01_k».proof.Proof.Gen.Pre_finite_in

@[expose] public section

set_option maxRecDepth 16384

noncomputable section

namespace Cert.FfnInIdeal.Grad

open Cert.FfnInIdeal.Gen Cert.Ffn
open Cert.FfnBwdRefIdeal.Grad
open Cert.FfnBwdIdeal.Grad (xr zr gr wr)
open Cert.Grad (real_of_lt)
open Idealize.ShloMosaic Idealize.ShloMosaic.TcCoe Idealize.SL.Sem
open Idealize.ShloMosaic.Pipeline (Dat)

/-! ## The kernel's blocks -/

section
variable (ct x : Vec Ideal S256x1024 .f32) (g : Vec Ideal S1x1024 .f32) (z : Vec Ideal S256x5632 .bf16) (w : Vec Ideal S5632x1024 .bf16)
variable (h : FVec Ideal S256x1024 .f32)

/-- The cotangent of the block's normalised rows, as the payload leaves it. -/
abbrev kDh : FVec Ideal S256x1024 .f32 :=
  k0_pay4
    (View.ld z (Rect.unit ![0, 0] ![256, 1536] inb_S256x5632_S256x1536_0_0))
    (View.ld z (Rect.unit ![0, 2816] ![256, 1536] inb_S256x5632_S256x1536_0_2816))
    (View.ld w (Rect.unit ![0, 0] ![1536, 1024] inb_S5632x1024_S1536x1024_0_0))
    (View.ld w (Rect.unit ![2816, 0] ![1536, 1024] inb_S5632x1024_S1536x1024_2816_0))
    (View.ld z (Rect.unit ![0, 1536] ![256, 1280] inb_S256x5632_S256x1280_0_1536))
    (View.ld z (Rect.unit ![0, 4352] ![256, 1280] inb_S256x5632_S256x1280_0_4352))
    (View.ld w (Rect.unit ![1536, 0] ![1280, 1024] inb_S5632x1024_S1280x1024_1536_0))
    (View.ld w (Rect.unit ![4352, 0] ![1280, 1024] inb_S5632x1024_S1280x1024_4352_0))

theorem dh_at (p : Fin 256) (q : Fin 1024) : kDh z w (ix2 p q) = dhv (zr z p) (wr w) q := by
  unfold dhv
  rw [← sum_quarters]
  pointwise [k0_pay4]

theorem dh_row (p : Fin 256) : (fun k : Fin 1024 => kDh z w (ix2 p k)) = dhv (zr z p) (wr w) := funext fun k => dh_at z w p k

/-- The payload of the input's cotangent, from any normalised rows' cotangent `h`. -/
theorem dx_form (y : S256x1024.Idx) :
    k0_pay2 h (k0_pay5 g) (k0_pay6 x) (k0_pay7 x) ct y
      = xr ct (y 0) (y 1) + normK (xr x (y 0)) (gr g) (fun k => h (ix2 (y 0 : Fin 256) k)) (y 1) := by
  pointwise [k0_pay2, k0_pay5, k0_pay6, k0_pay7]
  unfold normK xnv msv
  dsimp only [xr, gr]
  blk_point []

theorem dg_first (y : S1x1024.Idx) :
    k0_pay1 h (k0_pay7 x) y = ∑ p : Fin 256, h (ix2 p (y 1 : Fin 1024)) * xnv (xr x p) (y 1) := by
  pointwise [k0_pay1, k0_pay6, k0_pay7]
  unfold xnv msv
  dsimp only [xr]

theorem dg_form (acc : Vec Ideal S1x1024 .f32) (y : S1x1024.Idx) :
    k0_pay3 h (k0_pay7 x) acc y = acc y + ∑ p : Fin 256, h (ix2 p (y 1 : Fin 1024)) * xnv (xr x p) (y 1) := by
  pointwise [k0_pay3, k0_pay1, k0_pay6, k0_pay7]
  unfold xnv msv
  dsimp only [xr]

end

/-! ## The windows -/

theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![t.val, 0] ∧ win0_6.index t = ![0, 0] := (by decide +kernel : ∀ t : Fin grid0.N, _)

variable (m : (ℓ : Loc nD τ sig) → Buf (Elt Ideal) ℓ)

/-- The arguments' arrays on a device. -/
abbrev a0 (c : Dev nD) : FVec Ideal S4096x1024 .f32 := m ((c : Thread nD τ).loc main_arg0)
abbrev a1 (c : Dev nD) : FVec Ideal S1024 .f32 := m ((c : Thread nD τ).loc main_arg1)
abbrev a2 (c : Dev nD) : FVec Ideal S1024x5632 .f32 := m ((c : Thread nD τ).loc main_arg2)
abbrev a3 (c : Dev nD) : FVec Ideal S4096x5632 .bf16 := m ((c : Thread nD τ).loc main_arg3)
abbrev a4 (c : Dev nD) : FVec Ideal S4096x1024 .f32 := m ((c : Thread nD τ).loc main_arg4)

/-- Row `p` of the block at point `t` is token `256 t + p`. -/
abbrev tok (t : Fin cfg0.N) (p : Fin 256) : Fin 4096 := ⟨256 * t.val + p.val, by have := t.isLt; have : cfg0.N = 16 := rfl; omega⟩

theorem cr_eq (c : Dev nD) (t : Fin cfg0.N) (p : Fin 256) : xr (iblk m c 0 t) p = xR (a4 m c) (tok t p) := by
  funext k
  dsimp only [xr, xR, a4]
  blk_ext [iblk, V, idx t, tok]

theorem xr_eq (c : Dev nD) (t : Fin cfg0.N) (p : Fin 256) : xr (iblk m c 1 t) p = xR (a0 m c) (tok t p) := by
  funext k
  dsimp only [xr, xR, a0]
  blk_ext [iblk, V, idx t, tok]

theorem gr_eq (c : Dev nD) (t : Fin cfg0.N) : gr (iblk m c 2 t) = gR (a1 m c) := by
  funext k
  dsimp only [gr, gR, a1]
  blk_point [iblk, V, idx t]

theorem wr_eq (c : Dev nD) (t : Fin cfg0.N) : wr (iblk m c 4 t) = wR (a2 m c) := by
  funext k n
  dsimp only [wr, wR, a2]
  blk_point [iblk, V, idx t]

theorem zr_eq (c : Dev nD) (t : Fin cfg0.N) (p : Fin 256) : zr (iblk m c 3 t) p = fun n => a3 m c (ix2 (tok t p) n) := by
  funext k
  dsimp only [zr, a3]
  blk_ext [iblk, V, idx t, tok]

/-! ## The arguments are real -/

/-- Every entry of the five arguments is a real number. -/
structure Real (c : Dev nD) : Prop where
  x : ∀ p k, Re (xR (a0 m c) p k)
  g : ∀ k, Re (gR (a1 m c) k)
  w : ∀ k n, Re (wR (a2 m c) k n)
  e : ∀ p n, Re (a3 m c (ix2 p n))

instance : Cert.Pre_finite_in.Facts := Cert.Pre_finite_in.Gen.facts

theorem real_of_pre (h : Cert.Pre_FfnInIdeal_finite_in m) (c : Dev nD) : Real m c := by
  have h0 := congrFun (h c) ix0
  dsimp only [Cert.Pre_finite_in.fn, Cert.Pre_finite_in.fn_part1] at h0
  obtain ⟨h0, -⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun p k => ⟨_, real_of_lt _ (Host.reduce_andi_all _ _ _ _ ix0 h0 (ix2 p k))⟩,
    fun k => ⟨_, real_of_lt _ (Host.reduce_andi_all _ _ _ _ ix0 h1 (ix1 k))⟩,
    fun k n => ⟨_, real_of_lt _ (Host.reduce_andi_all _ _ _ _ ix0 h2 (ix2 k n))⟩,
    fun p n => ⟨_, real_of_lt _ (Host.reduce_andi_all _ _ _ _ ix0 h3 (ix2 p n))⟩⟩

/-- The reference's cotangent of the normalised input. -/
abbrev fH (c : Dev nD) : FVec Ideal S4096x1024 .f32 := rDh (a2 m c) (extf .f32 (a3 m c) Cert.FfnBwdRefIdeal.Gen.bitsLt_bf16_f32)

theorem fH_at (c : Dev nD) (p : Fin 4096) (k : Fin 1024) : fH m c (ix2 p k) = dhv (fun n => a3 m c (ix2 p n)) (wR (a2 m c)) k := by
  rw [fH, rDh_at]
  pointwise

variable {m}

theorem Real.dh {c : Dev nD} (h : Real m c) (p : Fin 4096) (k : Fin 1024) : Re (fH m c (ix2 p k)) := by
  rw [fH_at]
  exact re_dh (h.e p) h.w k

theorem dh_blk (c : Dev nD) (t : Fin cfg0.N) (p : Fin 256) :
    (fun k : Fin 1024 => kDh (iblk m c 3 t) (iblk m c 4 t) (ix2 p k)) = fun k => fH m c (ix2 (tok t p) k) := by
  rw [dh_row, zr_eq, wr_eq]
  exact (funext fun k => fH_at m c _ k).symm

theorem dx_blk {c : Dev nD} (h : Real m c) (t : Fin cfg0.N) (p : Fin 256) (q : Fin 1024) :
    xr (iblk m c 0 t) p q + normK (xr (iblk m c 1 t) p) (gr (iblk m c 2 t))
        (fun k => kDh (iblk m c 3 t) (iblk m c 4 t) (ix2 p k)) q
      = rDx (a4 m c) (a0 m c) (a1 m c) (fH m c) (ix2 (tok t p) q) := by
  rw [dh_blk, rDx_at, cr_eq, xr_eq, gr_eq, norm_eq (h.x _) h.g (h.dh _)]

/-! ## The arrays after the run -/

theorem first {t : Fin cfg0.N} (h0 : t.val % 16 = 0) : ¬1 ≤ t.val := by
  have h : t.val < 16 := t.isLt
  omega

theorem final5 {c : Dev nD} (h : Real m c) : (dats m 0 c).arrAt 5 (cfgs 0).N
    = (rDx (a4 m c) (a0 m c) (a1 m c) (fH m c) : FVec Ideal S4096x1024 .f32) := by
  refine (dats m 0 c).arrAt_eq_of_covers 5 _ (by decide +kernel) fun t hf y => ?_
  rw [after0_5]
  blk_simp
  change S256x1024.Idx at y
  have hemb : (win0_5.blk t).view.emb y = ix2 (tok t (y 0)) (y 1 : Fin 1024) := by
    blk_ext [tok, idx t]
  refine Eq.trans ?_ ((dx_blk h t (y 0) (y 1)).trans (congrArg _ hemb).symm)
  by_cases h0 : t.val % 16 = 0
  · rw [outsAt0_A m c t h0 (first h0)]
    frame_out
    exact dx_form _ _ _ _ y
  · rw [outsAt0_B m c t h0 (by omega)]
    frame_out
    exact dx_form _ _ _ _ y

/-- What one point adds to the gains' cotangent. -/
abbrev dgT (c : Dev nD) (t : Fin cfg0.N) (y : S1x1024.Idx) : EReal :=
  ∑ p : Fin 256, kDh (iblk m c 3 t) (iblk m c 4 t) (ix2 p (y 1 : Fin 1024)) * xnv (xr (iblk m c 1 t) p) (y 1)

theorem dg_sum (c : Dev nD) (y : S1x1024.Idx) : (outsAt0 m c t0_15.val t0_15.isLt).2 y = 0 + ∑ t, dgT (m := m) c t y := by
  refine Pipeline.eq_sum_fin_of_reset_step_apply_last (fun n h => (outsAt0 m c n h).2) 16 (fun _ => (0 : EReal)) (dgT c) (fun t h j => ?_) (fun t h j => ?_) (by decide) t0_15 rfl y
  · rw [outsAt0_A m c t h (first h)]
    frame_out
    rw [zero_add]
    exact dg_first _ _ j
  · rw [outsAt0_B m c t h (by omega)]
    frame_out
    exact dg_form _ _ _ j

theorem final6 (c : Dev nD) : (dats m 0 c).arrAt 6 (cfgs 0).N = (rDg (a0 m c) (fH m c) : FVec Ideal S1x1024 .f32) := by
  refine (dats m 0 c).arrAt_eq_of_after_last 6 t0_15 (by decide +kernel) _ fun j => ?_
  rw [after0_6]
  blk_simp
  change S1x1024.Idx at j
  have hj : j = ix2 (j 0 : Fin 1) (j 1 : Fin 1024) := by blk_ext []
  refine ((dg_sum c j).trans (zero_add _)).trans (Eq.trans ?_ ((rDg_at _ _ (j 0) (j 1)).symm.trans (congrArg _ hj.symm)))
  refine Fin.sum_mul_add_congr fun t p hl => ?_
  have ht : (⟨t.val * 256 + p.val, hl⟩ : Fin 4096) = tok t p := Fin.ext (by simp; omega)
  rw [ht, ← xr_eq]
  exact (mul_comm _ _).trans (congrArg _ (congrFun (dh_blk c t p) (j 1)))

end Cert.FfnInIdeal.Grad
-- ==== Proof.MixOutRef.lean ====
/- The mixers' output projection: the reference's arrays and their entries. -/
module

public import proofs.«01_k».proof.Proof.Gen.MixOutRefIdeal
public import Idealize.ShloMosaic.Lib.Pipeline.ValueKit

@[expose] public section

set_option maxRecDepth 16384

noncomputable section

namespace Cert.MixOutRefIdeal.Grad

open Cert.MixOutRefIdeal.Gen
open Idealize.ShloMosaic Idealize.ShloMosaic.TcCoe Idealize.SL.Sem

/-- Three rows side by side. -/
def catv (a : Fin 384 → EReal) (b : Fin 256 → EReal) (c : Fin 384 → EReal) (k : Fin 1024) : EReal :=
  if h : k.val < 384 then a ⟨k.val, h⟩
  else if h' : k.val - 384 < 256 then b ⟨k.val - 384, h'⟩
  else c ⟨k.val - 384 - 256, by omega⟩

/-- The row of a product with the output projection. -/
def outv (y : Fin 1024 → EReal) (w : Fin 1024 → Fin 1024 → EReal) (q : Fin 1024) : EReal := ∑ k : Fin 1024, y k * w k q

variable (x : FVec Ideal S4096x1024 .f32) (a : FVec Ideal S4096x384 .bf16) (b : FVec Ideal S4096x256 .bf16) (c : FVec Ideal S4096x384 .bf16)
variable (w : FVec Ideal S1024x1024 .f32)

/-- The three mixers' outputs side by side, and the block's result. -/
abbrev rY : FVec Ideal S4096x1024 .bf16 :=
  (concatenate S4096x1024 1 [⟨S4096x384, (a : (⟨S4096x384, .bf16⟩ : BufTy).Contents (Elt Ideal))⟩, ⟨S4096x256, (b : (⟨S4096x256, .bf16⟩ : BufTy).Contents (Elt Ideal))⟩,
    ⟨S4096x384, (c : (⟨S4096x384, .bf16⟩ : BufTy).Contents (Elt Ideal))⟩] concatenates_S4096x384_S4096x256_S4096x384_S4096x1024_d1 : (⟨S4096x1024, .bf16⟩ : BufTy).Contents (Elt Ideal))
abbrev rO : FVec Ideal S4096x1024 .f32 :=
  addf x (Host.dotGeneral dot_S4096x1024_S1024x1024_S4096x1024_1_0_0_1_n_n none (extf .f32 (rY a b c) bitsLt_bf16_f32) w)

theorem rY_at (p : Fin 4096) (k : Fin 1024) : rY a b c (ix2 p k) = catv (fun j => a (ix2 p j)) (fun j => b (ix2 p j)) (fun j => c (ix2 p j)) k := by
  pointwise [rY]
  unfold catv
  rfl

theorem rO_at (p : Fin 4096) (q : Fin 1024) :
    rO x a b c w (ix2 p q) = x (ix2 p q) + outv (fun k => rY a b c (ix2 p k)) (fun k n => w (ix2 k n)) q := by
  unfold outv
  simp only [rY_at]
  pointwise [rO]
  unfold catv
  rfl

end Cert.MixOutRefIdeal.Grad
-- ==== Proof.MixOutValue.lean ====
/- The mixers' output projection: the arrays after the call are the reference's. -/
module

public import proofs.«01_k».proof.Proof.Gen.MixOutIdeal.Frame
public import proofs.«01_k».proof.Proof.MixOutRef

@[expose] public section

set_option maxRecDepth 16384

noncomputable section

namespace Cert.MixOutIdeal.Grad

open Cert.MixOutIdeal.Gen Cert.MixOutRefIdeal.Grad
open Idealize.ShloMosaic Idealize.ShloMosaic.TcCoe Idealize.SL.Sem
open Idealize.ShloMosaic.Pipeline (Dat)

/-! ## The kernel's blocks -/

section
variable (x : Vec Ideal S512x1024 .f32) (a : Vec Ideal S512x384 .bf16) (b : Vec Ideal S512x256 .bf16) (c : Vec Ideal S512x384 .bf16)
variable (w : Vec Ideal S1024x1024 .bf16)

theorem y_at (p : Fin 512) (k : Fin 1024) : k0_pay1 a b c (ix2 p k) = catv (fun j => a (ix2 p j)) (fun j => b (ix2 p j)) (fun j => c (ix2 p j)) k := by
  pointwise [k0_pay1]
  unfold catv
  rfl

theorem o_at (p : Fin 512) (q : Fin 1024) :
    k0_pay2 a b c x w (ix2 p q) = x (ix2 p q) + outv (fun k => k0_pay1 a b c (ix2 p k)) (fun k n => w (ix2 k n)) q := by
  unfold outv k0_pay2
  generalize k0_pay1 a b c = y
  pointwise

end

/-! ## The windows -/

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![t.val, 0] ∧ win0_6.index t = ![t.val, 0] := (by decide +kernel : ∀ t : Fin grid0.N, _)

variable (m : (ℓ : Loc nD τ sig) → Buf (Elt Ideal) ℓ)

/-- The arguments' arrays on a device. -/
abbrev a0 (c : Dev nD) : FVec Ideal S4096x1024 .f32 := m ((c : Thread nD τ).loc main_arg0)
abbrev a1 (c : Dev nD) : FVec Ideal S4096x384 .bf16 := m ((c : Thread nD τ).loc main_arg1)
abbrev a2 (c : Dev nD) : FVec Ideal S4096x256 .bf16 := m ((c : Thread nD τ).loc main_arg2)
abbrev a3 (c : Dev nD) : FVec Ideal S4096x384 .bf16 := m ((c : Thread nD τ).loc main_arg3)
abbrev a4 (c : Dev nD) : FVec Ideal S1024x1024 .f32 := m ((c : Thread nD τ).loc main_arg4)

/-- Row `p` of the block at point `t` is token `512 t + p`. -/
abbrev tok (t : Fin cfg0.N) (p : Fin 512) : Fin 4096 := ⟨512 * t.val + p.val, by have := t.isLt; have : cfg0.N = 8 := rfl; omega⟩

theorem x_eq (c : Dev nD) (t : Fin cfg0.N) (p : Fin 512) (q : Fin 1024) : iblk m c 0 t (ix2 p q) = a0 m c (ix2 (tok t p) q) := by
  dsimp only [a0]
  blk_ext [iblk, V, idx t, tok]

theorem a_eq (c : Dev nD) (t : Fin cfg0.N) (p : Fin 512) : (fun j : Fin 384 => iblk m c 1 t (ix2 p j)) = fun j => a1 m c (ix2 (tok t p) j) := by
  funext j
  dsimp only [a1]
  blk_ext [iblk, V, idx t, tok]

theorem b_eq (c : Dev nD) (t : Fin cfg0.N) (p : Fin 512) : (fun j : Fin 256 => iblk m c 2 t (ix2 p j)) = fun j => a2 m c (ix2 (tok t p) j) := by
  funext j
  dsimp only [a2]
  blk_ext [iblk, V, idx t, tok]

theorem c_eq (c : Dev nD) (t : Fin cfg0.N) (p : Fin 512) : (fun j : Fin 384 => iblk m c 3 t (ix2 p j)) = fun j => a3 m c (ix2 (tok t p) j) := by
  funext j
  dsimp only [a3]
  blk_ext [iblk, V, idx t, tok]

theorem w_eq (c : Dev nD) (t : Fin cfg0.N) : (fun k n : Fin 1024 => iblk m c 4 t (ix2 k n)) = fun k n => a4 m c (ix2 k n) := by
  funext k n
  dsimp only [a4]
  blk_point [iblk, V, idx t]

theorem y_blk (c : Dev nD) (t : Fin cfg0.N) (p : Fin 512) (k : Fin 1024) :
    k0_pay1 (iblk m c 1 t) (iblk m c 2 t) (iblk m c 3 t) (ix2 p k) = rY (a1 m c) (a2 m c) (a3 m c) (ix2 (tok t p) k) :=
  (y_at _ _ _ p k).trans ((congrArg (fun f => catv f _ _ k) (a_eq m c t p)).trans ((congrArg (fun f => catv _ f _ k) (b_eq m c t p)).trans
    ((congrArg (fun f => catv _ _ f k) (c_eq m c t p)).trans (rY_at _ _ _ _ k).symm)))

theorem o_blk (c : Dev nD) (t : Fin cfg0.N) (p : Fin 512) (q : Fin 1024) :
    k0_pay2 (iblk m c 1 t) (iblk m c 2 t) (iblk m c 3 t) (iblk m c 0 t) (iblk m c 4 t) (ix2 p q)
      = rO (a0 m c) (a1 m c) (a2 m c) (a3 m c) (a4 m c) (ix2 (tok t p) q) :=
  (o_at _ _ _ _ _ p q).trans ((Ideal.add_congr (x_eq m c t p q)
    ((congrArg (fun f => outv f _ q) (funext fun k => y_blk m c t p k)).trans (congrArg (fun f => outv _ f q) (w_eq m c t)))).trans (rO_at _ _ _ _ _ _ q).symm)

/-! ## The arrays after the run -/

theorem final5 (c : Dev nD) : (dats m 0 c).arrAt 5 (cfgs 0).N
    = (rO (a0 m c) (a1 m c) (a2 m c) (a3 m c) (a4 m c) : FVec Ideal S4096x1024 .f32) := by
  refine (dats m 0 c).arrAt_eq_of_covers 5 _ (by decide +kernel) fun t hf y => ?_
  rw [after0_5]
  unfold out0_5
  blk_simp
  frame_out
  change S512x1024.Idx at y
  have hy : y = ix2 (y 0 : Fin 512) (y 1 : Fin 1024) := by blk_ext []
  have hemb : (win0_5.blk t).view.emb y = ix2 (tok t (y 0)) (y 1 : Fin 1024) := by
    blk_ext [tok, idx t]
  exact (congrArg (k0_pay2 (iblk m c 1 t) (iblk m c 2 t) (iblk m c 3 t) (iblk m c 0 t) (iblk m c 4 t)) hy).trans
    ((o_blk m c t (y 0) (y 1)).trans (congrArg _ hemb).symm)

theorem final6 (c : Dev nD) : (dats m 0 c).arrAt 6 (cfgs 0).N
    = (rY (a1 m c) (a2 m c) (a3 m c) : FVec Ideal S4096x1024 .bf16) := by
  refine (dats m 0 c).arrAt_eq_of_covers 6 _ (by decide +kernel) fun t hf y => ?_
  rw [after0_6]
  unfold out0_6
  blk_simp
  frame_out
  change S512x1024.Idx at y
  have hy : y = ix2 (y 0 : Fin 512) (y 1 : Fin 1024) := by blk_ext []
  have hemb : (win0_6.blk t).view.emb y = ix2 (tok t (y 0)) (y 1 : Fin 1024) := by
    blk_ext [tok, idx t]
  exact (congrArg (k0_pay1 (iblk m c 1 t) (iblk m c 2 t) (iblk m c 3 t)) hy).trans
    ((y_blk m c t (y 0) (y 1)).trans (congrArg _ hemb).symm)

end Cert.MixOutIdeal.Grad
-- ==== Proof.MixOutBwdRef.lean ====
/- The mixers' output projection backwards: the reference's arrays and their entries. -/
module

public import proofs.«01_k».proof.Proof.Gen.MixOutBwdRefIdeal
public import Idealize.ShloMosaic.Lib.Pipeline.ValueKit

@[expose] public section

set_option maxRecDepth 16384

noncomputable section

namespace Cert.MixOutBwdRefIdeal.Grad

open Cert.MixOutBwdRefIdeal Cert.MixOutBwdRefIdeal.Gen
open Idealize.ShloMosaic Idealize.ShloMosaic.TcCoe Idealize.SL.Sem

/-- The row of a product with the transposed output projection. -/
def backv (d : Fin 1024 → EReal) (w : Fin 1024 → Fin 1024 → EReal) (k : Fin 1024) : EReal := ∑ q : Fin 1024, d q * w k q

/-- The sums over the two heads of a pair, then zeros. -/
def headv (f : Fin 128 → EReal) (r : Fin 8) : EReal := if h : r.val < 2 then ∑ j : Fin 64, f ⟨64 * r.val + j.val, by omega⟩ else 0

variable (a : FVec Ideal S4096x384 .bf16) (w : FVec Ideal S1024x1024 .f32) (ct : FVec Ideal S4096x1024 .f32)

/-- The gradient of the three mixers' outputs side by side, its three parts, and the heads' sums of the first and last. -/
abbrev rD : FVec Ideal S4096x1024 .f32 := Host.dotGeneral dot_S4096x1024_S1024x1024_S4096x1024_1_1_0_0_n_n none ct w
abbrev rDa : FVec Ideal S4096x384 .f32 := extractStridedSlice S4096x384 ![0, 0] (rD w ct) slices_S4096x1024_S4096x384_0_0
abbrev rDb : FVec Ideal S4096x256 .f32 := extractStridedSlice S4096x256 ![0, 384] (rD w ct) slices_S4096x1024_S4096x256_0_384
abbrev rDc : FVec Ideal S4096x384 .f32 := extractStridedSlice S4096x384 ![0, 640] (rD w ct) slices_S4096x1024_S4096x384_0_640
abbrev rRows (d : FVec Ideal S4096x384 .f32) : FVec Ideal S3x8x4096 .f32 :=
  transpose S3x8x4096 [1, 2, 0] (pad S4096x3x8 ![0, 0, 0] ![0, 0, 6] ![0, 0, 0]
    (Host.reduceAdd (shapeCast _ (mulf d (extf .f32 a bitsLt_bf16_f32)) shapeCasts_S4096x384_S4096x3x2x64) (constant S_ .f32 0x00000000#32) reducesTo_S4096x3x2x64_S4096x3x2_d3 h_S_)
    (sitofp .f32 (constantI S_ 32 0#32)) pads_S4096x3x2_S4096x3x8_000_000_060 h_S_) transposes_S4096x3x8_S3x8x4096_1_2_0

theorem rD_at (p : Fin 4096) (k : Fin 1024) : rD w ct (ix2 p k) = backv (fun q => ct (ix2 p q)) (fun k q => w (ix2 k q)) k := by
  pointwise [rD]
  unfold backv
  rfl

theorem rDa_at (p : Fin 4096) (k : Fin 384) : rDa w ct (ix2 p k) = backv (fun q => ct (ix2 p q)) (fun k q => w (ix2 k q)) ⟨k.val, by omega⟩ := by
  pointwise [rDa]
  unfold backv
  rfl

theorem rDb_at (p : Fin 4096) (k : Fin 256) : rDb w ct (ix2 p k) = backv (fun q => ct (ix2 p q)) (fun k q => w (ix2 k q)) ⟨384 + k.val, by omega⟩ := by
  pointwise [rDb]
  unfold backv
  rfl

theorem rDc_at (p : Fin 4096) (k : Fin 384) : rDc w ct (ix2 p k) = backv (fun q => ct (ix2 p q)) (fun k q => w (ix2 k q)) ⟨640 + k.val, by omega⟩ := by
  pointwise [rDc]
  unfold backv
  rfl

theorem rRows_at (d : FVec Ideal S4096x384 .f32) (h : Fin 3) (r : Fin 8) (p : Fin 4096) :
    rRows a d (ix3 h r p) = headv (fun x => d (ix2 p (⟨128 * h.val + x.val, by omega⟩ : Fin 384)) * a (ix2 p (⟨128 * h.val + x.val, by omega⟩ : Fin 384))) r := by
  pointwise [rRows]
  unfold headv
  by_cases hr : r.val < 2
  · rw [dif_pos (by omega), dif_pos hr]
    refine Finset.sum_congr rfl fun j _ => congrArg (fun k : Fin 384 => d (ix2 p k) * a (ix2 p k)) (Fin.ext ?_)
    simp
    omega
  · rw [dif_neg (by omega), dif_neg hr]
    exact (congrArg _ Int.cast_zero).trans EReal.coe_zero

/-- The heads' sums by masking, over a head pair's lanes. -/
def headK (f : Fin 128 → EReal) (r : Fin 8) : EReal :=
  Scalar.select (IntOp.cmpi CmpIPredicate.eq (BitVec.ofNat 32 r.val) 0#32)
    (∑ x : Fin 128, Scalar.select (IntOp.cmpi CmpIPredicate.slt (BitVec.ofNat 32 x.val) 64#32) (f x) 0)
    (Scalar.select (IntOp.cmpi CmpIPredicate.eq (BitVec.ofNat 32 r.val) 1#32)
      (∑ x : Fin 128, Scalar.select (IntOp.cmpi CmpIPredicate.sge (BitVec.ofNat 32 x.val) 64#32) (f x) 0) 0)

theorem lt_mask : ∀ x : Fin 128, IntOp.cmpi CmpIPredicate.slt (BitVec.ofNat 32 x.val) 64#32 = if x.val < 64 then 1#1 else 0#1 := by decide +kernel
theorem ge_mask : ∀ x : Fin 128, IntOp.cmpi CmpIPredicate.sge (BitVec.ofNat 32 x.val) 64#32 = if x.val < 64 then 0#1 else 1#1 := by decide +kernel
theorem eq0_mask : ∀ r : Fin 8, IntOp.cmpi CmpIPredicate.eq (BitVec.ofNat 32 r.val) 0#32 = if r.val = 0 then 1#1 else 0#1 := by decide +kernel
theorem eq1_mask : ∀ r : Fin 8, IntOp.cmpi CmpIPredicate.eq (BitVec.ofNat 32 r.val) 1#32 = if r.val = 1 then 1#1 else 0#1 := by decide +kernel

theorem select_of (b : Prop) [Decidable b] (x y : EReal) : Scalar.select (if b then 1#1 else 0#1) x y = if b then x else y := by
  by_cases h : b <;> simp [h, Scalar.select]

theorem select_of_not (b : Prop) [Decidable b] (x y : EReal) : Scalar.select (if b then 0#1 else 1#1) x y = if b then y else x := by
  by_cases h : b <;> simp [h, Scalar.select]

theorem headK_eq (f : Fin 128 → EReal) (r : Fin 8) : headK f r = headv f r := by
  unfold headK headv
  simp only [lt_mask, ge_mask, eq0_mask, eq1_mask, select_of, select_of_not]
  have hlo : (∑ x : Fin 128, if x.val < 64 then f x else 0) = ∑ j : Fin 64, f ⟨j.val, by omega⟩ := by
    refine (Fin.sum_univ_add (a := 64) (b := 64) _).trans ?_
    refine (congrArg₂ (· + ·) (Finset.sum_congr rfl fun j _ => ?_) (Finset.sum_eq_zero fun j _ => ?_)).trans (add_zero _)
    · exact if_pos j.isLt
    · exact if_neg (by simp)
  have hhi : (∑ x : Fin 128, if x.val < 64 then 0 else f x) = ∑ j : Fin 64, f ⟨64 + j.val, by omega⟩ := by
    refine (Fin.sum_univ_add (a := 64) (b := 64) _).trans ?_
    refine (congrArg₂ (· + ·) (Finset.sum_eq_zero fun j _ => ?_) (Finset.sum_congr rfl fun j _ => ?_)).trans (zero_add _)
    · exact if_pos j.isLt
    · exact if_neg (by simp)
  rw [hlo, hhi]
  by_cases h0 : r.val = 0
  · rw [if_pos h0, dif_pos (by omega)]
    refine Finset.sum_congr rfl fun j _ => congrArg f (Fin.ext ?_)
    simp [h0]
  · rw [if_neg h0]
    by_cases h1 : r.val = 1
    · rw [if_pos h1, dif_pos (by omega)]
      refine Finset.sum_congr rfl fun j _ => congrArg f (Fin.ext ?_)
      simp [h1]
    · rw [if_neg h1, dif_neg (by omega)]

end Cert.MixOutBwdRefIdeal.Grad
-- ==== Proof.MixOutBwdValue.lean ====
/- The mixers' output projection backwards: the arrays after the call are the reference's. -/
module

public import proofs.«01_k».proof.Proof.Gen.MixOutBwdIdeal.Frame
public import proofs.«01_k».proof.Proof.MixOutBwdRef

@[expose] public section

set_option maxRecDepth 16384

noncomputable section

namespace Cert.MixOutBwdIdeal.Grad

open Cert.MixOutBwdIdeal.Gen Cert.MixOutBwdRefIdeal.Grad
open Idealize.ShloMosaic Idealize.ShloMosaic.TcCoe Idealize.SL.Sem
open Idealize.ShloMosaic.Pipeline (Dat)

/-! ## The kernel's blocks -/

section
variable (ct : Vec Ideal S512x1024 .f32) (w : Vec Ideal S1024x1024 .bf16) (a b : Vec Ideal S512x384 .bf16)

/-- A row of the gradient of the mixers' outputs side by side. -/
abbrev dr (p : Fin 512) : Fin 1024 → EReal := backv (fun q => ct (ix2 p q)) (fun k q => w (ix2 k q))

theorem da_at (y : S512x384.Idx) : k0_pay3 ct w y = dr ct w (y 0) ⟨(y 1).val, by have : (y 1).val < 384 := (y 1).isLt; omega⟩ := by
  pointwise [k0_pay3, k0_pay2]
  unfold dr backv
  blk_point []

theorem db_at (y : S512x256.Idx) : k0_pay5 ct w y = dr ct w (y 0) ⟨384 + (y 1).val, by have : (y 1).val < 256 := (y 1).isLt; omega⟩ := by
  pointwise [k0_pay5, k0_pay2]
  unfold dr backv
  blk_point []

theorem dc_at (y : S512x384.Idx) : k0_pay4 ct w y = dr ct w (y 0) ⟨640 + (y 1).val, by have : (y 1).val < 384 := (y 1).isLt; omega⟩ := by
  pointwise [k0_pay4, k0_pay2]
  unfold dr backv
  blk_point []

/-- The masked sums over the 128 columns from `b`, of the gradient's columns from `o` and one attention's outputs. -/
def rowsN (o : ℕ) (ho : o ≤ 640) (b : ℕ) (hb : b + 128 ≤ 384) (r : Fin 8) (p : Fin 512) : EReal :=
  headK (fun x => dr ct w p ⟨o + (b + x.val), by omega⟩ * a (ix2 p (⟨b + x.val, by omega⟩ : Fin 384))) r

/-- The masked sums over head pair `h`. -/
abbrev rowsK (o : ℕ) (ho : o ≤ 640) (h : Fin 3) (r : Fin 8) (p : Fin 512) : EReal := rowsN ct w a o ho (128 * h.val) (by omega) r p

theorem rowsN_of (o : ℕ) (ho : o ≤ 640) (s s' : ℕ) (hs : s + 128 ≤ 384) (hs' : s' + 128 ≤ 384) {r r' : Fin 8} {p p' : Fin 512} (e0 : s = s') (e1 : r.val = r'.val)
    (e2 : p.val = p'.val) : rowsN ct w a o ho s hs r p = rowsN ct w a o ho s' hs' r' p' := by
  cases e0
  cases Fin.ext e1
  cases Fin.ext e2
  rfl

theorem va_at (y : S3x8x512.Idx) : out0_7 ct w a b y = rowsK ct w a 0 (by omega) (y 0) (y 1) (y 2) := by
  unfold out0_7 k0_pay26 k0_pay27
  canon_tiles z' h
  · refine Eq.trans ?_ (rowsN_of ct w a 0 (by omega) 256 (128 * (y 0).val) (by omega) (by omega) (r := z' 1) (r' := y 1) (p := z' 2) (p' := y 2) (by rw [h0]; omega) h1.symm h2.symm)
    open_payloads; pointwise; unfold rowsN headK dr backv; blk_point []
  · refine Eq.trans ?_ (rowsN_of ct w a 0 (by omega) 128 (128 * (y 0).val) (by omega) (by omega) (r := z' 1) (r' := y 1) (p := z' 2) (p' := y 2) (by rw [h0]; omega) h1.symm h2.symm)
    open_payloads; pointwise; unfold rowsN headK dr backv; blk_point []
  · refine Eq.trans ?_ (rowsN_of ct w a 0 (by omega) 0 (128 * (y 0).val) (by omega) (by omega) (r := z' 1) (r' := y 1) (p := z' 2) (p' := y 2) (by rw [h0]; omega) h1.symm h2.symm)
    open_payloads; pointwise; unfold rowsN headK dr backv; blk_point []

theorem vc_at (y : S3x8x512.Idx) : out0_8 ct w a b y = rowsK ct w b 640 (by omega) (y 0) (y 1) (y 2) := by
  unfold out0_8 k0_pay26 k0_pay28
  canon_tiles z' h
  · refine Eq.trans ?_ (rowsN_of ct w b 640 (by omega) 256 (128 * (y 0).val) (by omega) (by omega) (r := z' 1) (r' := y 1) (p := z' 2) (p' := y 2) (by rw [h0]; omega) h1.symm h2.symm)
    open_payloads; pointwise; unfold rowsN headK dr backv; blk_point []
  · refine Eq.trans ?_ (rowsN_of ct w b 640 (by omega) 128 (128 * (y 0).val) (by omega) (by omega) (r := z' 1) (r' := y 1) (p := z' 2) (p' := y 2) (by rw [h0]; omega) h1.symm h2.symm)
    open_payloads; pointwise; unfold rowsN headK dr backv; blk_point []
  · refine Eq.trans ?_ (rowsN_of ct w b 640 (by omega) 0 (128 * (y 0).val) (by omega) (by omega) (r := z' 1) (r' := y 1) (p := z' 2) (p' := y 2) (by rw [h0]; omega) h1.symm h2.symm)
    open_payloads; pointwise; unfold rowsN headK dr backv; blk_point []

end

/-! ## The windows -/

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![0, 0, t.val]
    ∧ win0_8.index t = ![0, 0, t.val] := (by decide +kernel : ∀ t : Fin grid0.N, _)

variable (m : (ℓ : Loc nD τ sig) → Buf (Elt Ideal) ℓ)

/-- The arguments' arrays on a device. -/
abbrev a0 (c : Dev nD) : FVec Ideal S4096x384 .bf16 := m ((c : Thread nD τ).loc main_arg0)
abbrev a1 (c : Dev nD) : FVec Ideal S4096x384 .bf16 := m ((c : Thread nD τ).loc main_arg1)
abbrev a2 (c : Dev nD) : FVec Ideal S1024x1024 .f32 := m ((c : Thread nD τ).loc main_arg2)
abbrev a3 (c : Dev nD) : FVec Ideal S4096x1024 .f32 := m ((c : Thread nD τ).loc main_arg3)

/-- Row `p` of the block at point `t` is token `512 t + p`. -/
abbrev tok (t : Fin cfg0.N) (p : Fin 512) : Fin 4096 := ⟨512 * t.val + p.val, by have := t.isLt; have : cfg0.N = 8 := rfl; omega⟩

/-- A token's row of the gradient of the mixers' outputs, in the reference's arrays. -/
abbrev fD (c : Dev nD) (p : Fin 4096) : Fin 1024 → EReal := backv (fun q => a3 m c (ix2 p q)) (fun k q => a2 m c (ix2 k q))

theorem c_eq (c : Dev nD) (t : Fin cfg0.N) (p : Fin 512) : (fun q : Fin 1024 => iblk m c 0 t (ix2 p q)) = fun q => a3 m c (ix2 (tok t p) q) := by
  funext q
  dsimp only [a3]
  blk_ext [iblk, V, idx t, tok]

theorem w_eq (c : Dev nD) (t : Fin cfg0.N) : (fun k q : Fin 1024 => iblk m c 1 t (ix2 k q)) = fun k q => a2 m c (ix2 k q) := by
  funext k q
  dsimp only [a2]
  blk_point [iblk, V, idx t]

theorem a_eq (c : Dev nD) (t : Fin cfg0.N) (p : Fin 512) (k : Fin 384) : iblk m c 2 t (ix2 p k) = a0 m c (ix2 (tok t p) k) := by
  dsimp only [a0]
  blk_ext [iblk, V, idx t, tok]

theorem b_eq (c : Dev nD) (t : Fin cfg0.N) (p : Fin 512) (k : Fin 384) : iblk m c 3 t (ix2 p k) = a1 m c (ix2 (tok t p) k) := by
  dsimp only [a1]
  blk_ext [iblk, V, idx t, tok]

theorem d_eq (c : Dev nD) (t : Fin cfg0.N) (p : Fin 512) : dr (iblk m c 0 t) (iblk m c 1 t) p = fD m c (tok t p) :=
  (congrArg (fun f => backv f _) (c_eq m c t p)).trans (congrArg (backv _) (w_eq m c t))

theorem va_blk (c : Dev nD) (t : Fin cfg0.N) (h : Fin 3) (r : Fin 8) (p : Fin 512) :
    rowsK (iblk m c 0 t) (iblk m c 1 t) (iblk m c 2 t) 0 (by omega) h r p = rRows (a0 m c) (rDa (a2 m c) (a3 m c)) (ix3 h r (tok t p)) := by
  refine ((headK_eq _ r).trans (congrArg (fun f => headv f r) (funext fun x => ?_))).trans (rRows_at _ _ h r _).symm
  refine Ideal.mul_congr ((congrFun (d_eq m c t p) _).trans (Eq.trans (congrArg _ (Fin.ext ?_)) (rDa_at _ _ _ _).symm)) (a_eq m c t p _)
  simp

theorem vc_blk (c : Dev nD) (t : Fin cfg0.N) (h : Fin 3) (r : Fin 8) (p : Fin 512) :
    rowsK (iblk m c 0 t) (iblk m c 1 t) (iblk m c 3 t) 640 (by omega) h r p = rRows (a1 m c) (rDc (a2 m c) (a3 m c)) (ix3 h r (tok t p)) := by
  refine ((headK_eq _ r).trans (congrArg (fun f => headv f r) (funext fun x => ?_))).trans (rRows_at _ _ h r _).symm
  refine Ideal.mul_congr ((congrFun (d_eq m c t p) _).trans (Eq.trans (congrArg _ (Fin.ext ?_)) (rDc_at _ _ _ _).symm)) (b_eq m c t p _)
  simp

/-! ## The arrays after the run -/

theorem final4 (c : Dev nD) : (dats m 0 c).arrAt 4 (cfgs 0).N
    = (truncf .bf16 (rDa (a2 m c) (a3 m c)) Cert.MixOutBwdRefIdeal.Gen.bitsLt_bf16_f32 : FVec Ideal S4096x384 .bf16) := by
  refine (dats m 0 c).arrAt_eq_of_covers 4 _ (by decide +kernel) fun t hf y => ?_
  rw [after0_4]
  unfold out0_4
  blk_simp
  frame_out
  change S512x384.Idx at y
  have hemb : (win0_4.blk t).view.emb y = ix2 (tok t (y 0)) (y 1 : Fin 384) := by
    blk_ext [tok, idx t]
  exact (da_at _ _ y).trans ((congrFun (d_eq m c t (y 0)) _).trans ((rDa_at _ _ _ _).symm.trans (congrArg (rDa (a2 m c) (a3 m c)) hemb).symm))

theorem final5 (c : Dev nD) : (dats m 0 c).arrAt 5 (cfgs 0).N = (rDb (a2 m c) (a3 m c) : FVec Ideal S4096x256 .f32) := by
  refine (dats m 0 c).arrAt_eq_of_covers 5 _ (by decide +kernel) fun t hf y => ?_
  rw [after0_5]
  unfold out0_5
  blk_simp
  frame_out
  change S512x256.Idx at y
  have hemb : (win0_5.blk t).view.emb y = ix2 (tok t (y 0)) (y 1 : Fin 256) := by
    blk_ext [tok, idx t]
  exact (db_at _ _ y).trans ((congrFun (d_eq m c t (y 0)) _).trans ((rDb_at _ _ _ _).symm.trans (congrArg (rDb (a2 m c) (a3 m c)) hemb).symm))

theorem final6 (c : Dev nD) : (dats m 0 c).arrAt 6 (cfgs 0).N
    = (truncf .bf16 (rDc (a2 m c) (a3 m c)) Cert.MixOutBwdRefIdeal.Gen.bitsLt_bf16_f32 : FVec Ideal S4096x384 .bf16) := by
  refine (dats m 0 c).arrAt_eq_of_covers 6 _ (by decide +kernel) fun t hf y => ?_
  rw [after0_6]
  unfold out0_6
  blk_simp
  frame_out
  change S512x384.Idx at y
  have hemb : (win0_6.blk t).view.emb y = ix2 (tok t (y 0)) (y 1 : Fin 384) := by
    blk_ext [tok, idx t]
  exact (dc_at _ _ y).trans ((congrFun (d_eq m c t (y 0)) _).trans ((rDc_at _ _ _ _).symm.trans (congrArg (rDc (a2 m c) (a3 m c)) hemb).symm))

theorem final7 (c : Dev nD) : (dats m 0 c).arrAt 7 (cfgs 0).N = (rRows (a0 m c) (rDa (a2 m c) (a3 m c)) : FVec Ideal S3x8x4096 .f32) := by
  refine (dats m 0 c).arrAt_eq_of_covers 7 _ (by decide +kernel) fun t hf y => ?_
  rw [after0_7]
  blk_simp
  change S3x8x512.Idx at y
  have hemb : (win0_7.blk t).view.emb y = ix3 (y 0 : Fin 3) (y 1 : Fin 8) (tok t (y 2)) := by
    blk_ext [tok, idx t]
  exact (va_at _ _ _ _ y).trans ((va_blk m c t (y 0) (y 1) (y 2)).trans (congrArg _ hemb).symm)

theorem final8 (c : Dev nD) : (dats m 0 c).arrAt 8 (cfgs 0).N = (rRows (a1 m c) (rDc (a2 m c) (a3 m c)) : FVec Ideal S3x8x4096 .f32) := by
  refine (dats m 0 c).arrAt_eq_of_covers 8 _ (by decide +kernel) fun t hf y => ?_
  rw [after0_8]
  blk_simp
  change S3x8x512.Idx at y
  have hemb : (win0_8.blk t).view.emb y = ix3 (y 0 : Fin 3) (y 1 : Fin 8) (tok t (y 2)) := by
    blk_ext [tok, idx t]
  exact (vc_at _ _ _ _ y).trans ((vc_blk m c t (y 0) (y 1) (y 2)).trans (congrArg _ hemb).symm)

end Cert.MixOutBwdIdeal.Grad
-- ==== Proof.Adam.lean ====
/- The optimiser's step: of one entry of a weight, of an array, and of a block of it as the calls compute it. -/
module

public import Idealize.ShloMosaic.Lib.Pipeline.ValueKit
public import Idealize.ShloMosaic.Lib.ValueLayout

@[expose] public section

noncomputable section

namespace Cert.Adam

open Idealize.ShloMosaic

/-! ## One entry -/

/-- The gradient of an entry: the sum of the devices' pieces of it. -/
def gradv (x : Fin 8 → EReal) : EReal := ∑ d : Fin 8, x d

/-- The first and the second moment after the step, from the ones before it and the gradient. -/
def momv (m g : EReal) : EReal := Ideal.ofBits FTy.f32 0x3F666666#32 * m + Ideal.ofBits FTy.f32 0x3DCCCCCD#32 * g
def varv (v g : EReal) : EReal := Ideal.ofBits FTy.f32 0x3F7FBE77#32 * v + Ideal.ofBits FTy.f32 0x3A83126F#32 * (g * g)

/-- The change of the weight, from the weight and the new moments. -/
def deltav (w m v : EReal) : EReal :=
  Ideal.ofBits FTy.f32 0xBA83126F#32
    * (Ideal.div (Ideal.div m (Ideal.ofBits FTy.f32 0x3F26BD02#32)) (Ideal.sqrt (Ideal.div v (Ideal.ofBits FTy.f32 0x3C231ACC#32)) + Ideal.ofBits FTy.f32 0x322BCC77#32)
      + Ideal.ofBits FTy.f32 0x3C23D70A#32 * w)

/-- Adding the pieces one after the other gives their sum. -/
theorem chain_eq (x : Fin 8 → EReal) : x 0 + x 1 + x 2 + x 3 + x 4 + x 5 + x 6 + x 7 = gradv x := (Fin.sum_univ_eight x).symm

theorem gradv_eq {x : Fin 8 → EReal} {b0 b1 b2 b3 b4 b5 b6 b7 : EReal} (h0 : b0 = x 0) (h1 : b1 = x 1) (h2 : b2 = x 2) (h3 : b3 = x 3) (h4 : b4 = x 4)
    (h5 : b5 = x 5) (h6 : b6 = x 6) (h7 : b7 = x 7) : gradv ![b0, b1, b2, b3, b4, b5, b6, b7] = gradv x := by
  rw [h0, h1, h2, h3, h4, h5, h6, h7, ← chain_eq, ← chain_eq]
  rfl

/-! ## An array, as the reference computes it -/

section
variable {S : Shape} (hb : (⟨0, ![]⟩ : Shape).BroadcastsInDim S (![] : Fin 0 → Fin S.rank)) (g w m v : FVec Ideal S .f32)

/-- A number everywhere. -/
abbrev cst (b : BitVec 32) : FVec Ideal S .f32 := broadcastInDim S ![] hb (constant (F := Ideal) (⟨0, ![]⟩ : Shape) .f32 b)

/-- The new moments and the change. -/
abbrev rM : FVec Ideal S .f32 := addf (mulf (cst hb 0x3F666666#32) m) (mulf (cst hb 0x3DCCCCCD#32) g)
abbrev rV : FVec Ideal S .f32 := addf (mulf (cst hb 0x3F7FBE77#32) v) (mulf (cst hb 0x3A83126F#32) (mulf g g))
abbrev rD : FVec Ideal S .f32 :=
  mulf (cst hb 0xBA83126F#32) (addf (Host.divf (Host.divf m (cst hb 0x3F26BD02#32)) (addf (Host.sqrt (Host.divf v (cst hb 0x3C231ACC#32))) (cst hb 0x322BCC77#32)))
    (mulf (cst hb 0x3C23D70A#32) w))

theorem rM_at (i : S.Idx) : rM hb g m i = momv (m i) (g i) := rfl
theorem rV_at (i : S.Idx) : rV hb g v i = varv (v i) (g i) := rfl
theorem rD_at (i : S.Idx) : rD hb w m v i = deltav (w i) (m i) (v i) := rfl

/-- The step of an array whose entries are another's at moved places is that array's step at these places. -/
theorem moved {T : Shape} (hb' : (⟨0, ![]⟩ : Shape).BroadcastsInDim T (![] : Fin 0 → Fin T.rank)) {g' w' m' v' : FVec Ideal T .f32} (e : T.Idx → S.Idx)
    (hg : (fun i => g (e i)) = g') (hw : (fun i => w (e i)) = w') (hm : (fun i => m (e i)) = m') (hv : (fun i => v (e i)) = v') :
    (fun i => rD hb w (rM hb g m) (rV hb g v) (e i)) = rD hb' w' (rM hb' g' m') (rV hb' g' v')
    ∧ (fun i => rM hb g m (e i)) = rM hb' g' m' ∧ (fun i => rV hb g v (e i)) = rV hb' g' v' := by
  subst hg hw hm hv
  exact ⟨rfl, rfl, rfl⟩

end

/-! ## The gradient of a weight of two layers, as the reference computes it -/

section
variable {R C : ℕ} (hr : (⟨3, ![8, R, C]⟩ : Shape).ReducesTo [0] ⟨2, ![R, C]⟩) (h0 : 0 < (⟨0, ![]⟩ : Shape).numel)
  (hx : (⟨2, ![R, C]⟩ : Shape).BroadcastsInDim ⟨3, ![1, R, C]⟩ (![1, 2] : Fin 2 → Fin 3))
  (hc : Shape.Concatenates [⟨3, ![1, R, C]⟩, ⟨3, ![1, R, C]⟩] ⟨3, ![2, R, C]⟩ 0)
  (h : FTy.bf16.bits < FTy.f32.bits) (r0 r1 : FVec Ideal ⟨3, ![8, R, C]⟩ .bf16)

/-- One layer's gradient: the sum of the devices' pieces. -/
abbrev part (r : FVec Ideal ⟨3, ![8, R, C]⟩ .bf16) : FVec Ideal ⟨2, ![R, C]⟩ .f32 :=
  Host.reduceAdd (extf .f32 r h) (constant (⟨0, ![]⟩ : Shape) .f32 0x00000000#32) hr h0

/-- The gradient: the two layers' one after the other. -/
abbrev rG : FVec Ideal ⟨3, ![2, R, C]⟩ .f32 :=
  concatenate (⟨3, ![2, R, C]⟩ : Shape) 0 [⟨⟨3, ![1, R, C]⟩, broadcastInDim (⟨3, ![1, R, C]⟩ : Shape) ![1, 2] hx (part hr h0 h r0)⟩,
    ⟨⟨3, ![1, R, C]⟩, broadcastInDim (⟨3, ![1, R, C]⟩ : Shape) ![1, 2] hx (part hr h0 h r1)⟩] hc

/-- Its entries; the weight has more than one row and more than one column. -/
theorem rG_at0 (hR : R ≠ 1) (hC : C ≠ 1) (p : Fin R) (q : Fin C) : rG hr h0 hx hc h r0 r1 (ix3 (0 : Fin 2) p q) = gradv fun d => r0 (ix3 d p q) := by
  unfold gradv
  pointwise [rG, part]
  refine Finset.sum_congr rfl fun x _ => congrArg r0 ?_
  have e : ∀ {a a' : Fin R} {b b' : Fin C}, (a : ℕ) = a' → (b : ℕ) = b' → ix3 x a b = ix3 x a' b' := fun h h' => by
    rw [Fin.ext h, Fin.ext h']
  refine e ?_ ?_
  · exact congrArg Fin.val (dif_neg hR)
  · exact congrArg Fin.val (dif_neg hC)

theorem rG_at1 (hR : R ≠ 1) (hC : C ≠ 1) (p : Fin R) (q : Fin C) : rG hr h0 hx hc h r0 r1 (ix3 (1 : Fin 2) p q) = gradv fun d => r1 (ix3 d p q) := by
  unfold gradv
  pointwise [rG, part]
  refine Finset.sum_congr rfl fun x _ => congrArg r1 ?_
  have e : ∀ {a a' : Fin R} {b b' : Fin C}, (a : ℕ) = a' → (b : ℕ) = b' → ix3 x a b = ix3 x a' b' := fun h h' => by
    rw [Fin.ext h, Fin.ext h']
  refine e ?_ ?_
  · exact congrArg Fin.val (dif_neg hR)
  · exact congrArg Fin.val (dif_neg hC)
end

/-! ## A block, as the calls compute it: loaded with an axis of one, computed without it, stored with it -/

section
variable {B K : Shape} (hK : B.ShapeCasts K) (hB : K.ShapeCasts B)

/-- A number all over the block. -/
abbrev kst (K : Shape) (b : BitVec 32) : FVec Ideal K .f32 := broadcast K (Scalar.ofBits (F := Ideal) .f32 b)

abbrev sumB (h : FTy.bf16.bits < FTy.f32.bits) (b0 b1 b2 b3 b4 b5 b6 b7 : FVec Ideal B .bf16) : FVec Ideal K .f32 :=
  addf (addf (addf (addf (addf (addf (addf (extf .f32 (shapeCast K b0 hK) h) (extf .f32 (shapeCast K b1 hK) h)) (extf .f32 (shapeCast K b2 hK) h))
    (extf .f32 (shapeCast K b3 hK) h)) (extf .f32 (shapeCast K b4 hK) h)) (extf .f32 (shapeCast K b5 hK) h)) (extf .f32 (shapeCast K b6 hK) h))
    (extf .f32 (shapeCast K b7 hK) h)

variable (g : FVec Ideal K .f32) (w m v : FVec Ideal B .f32)

abbrev momB : FVec Ideal K .f32 := addf (mulf (kst K 0x3F666666#32) (shapeCast K m hK)) (mulf (kst K 0x3DCCCCCD#32) g)
abbrev varB : FVec Ideal K .f32 := addf (mulf (kst K 0x3F7FBE77#32) (shapeCast K v hK)) (mulf (kst K 0x3A83126F#32) (mulf g g))
abbrev deltaB : FVec Ideal K .f32 :=
  mulf (kst K 0xBA83126F#32) (addf (divf (divf (momB hK g m) (kst K 0x3F26BD02#32)) (addf (sqrt (divf (varB hK g v) (kst K 0x3C231ACC#32))) (kst K 0x322BCC77#32)))
    (mulf (kst K 0x3C23D70A#32) (shapeCast K w hK)))

/-- Loaded and stored, an entry is what it was. -/
theorem back {φ : FTy} (x : FVec Ideal B φ) (y : B.Idx) : shapeCast B (shapeCast K x hK) hB y = x y :=
  congrFun (shapeCast_shapeCast x hK hB) y

theorem sumB_at (h : FTy.bf16.bits < FTy.f32.bits) (b0 b1 b2 b3 b4 b5 b6 b7 : FVec Ideal B .bf16) (y : B.Idx) :
    shapeCast B (sumB hK h b0 b1 b2 b3 b4 b5 b6 b7) hB y = gradv ![b0 y, b1 y, b2 y, b3 y, b4 y, b5 y, b6 y, b7 y] := by
  refine Eq.trans ?_ (chain_eq _)
  refine Ideal.add_congr (Ideal.add_congr (Ideal.add_congr (Ideal.add_congr (Ideal.add_congr (Ideal.add_congr (Ideal.add_congr ?_ ?_) ?_) ?_) ?_) ?_) ?_) ?_
  all_goals exact back hK hB _ y

/-- A device's piece of a block, loaded. -/
theorem ld_at {R C : ℕ} (X : FVec Ideal ⟨3, ![8, R, C]⟩ .bf16) (k : ℕ) (d : Fin 8) (hd : (d : ℕ) = k) (inb) (y : (⟨3, ![1, R, C]⟩ : Shape).Idx) :
    View.ld (Val := Elt Ideal) (e' := .bf16) X (Rect.unit (s := ⟨3, ![8, R, C]⟩) ![k, 0, 0] ![1, R, C] inb) y = X (ix3 d (y 1 : Fin R) (y 2 : Fin C)) := by
  refine View.ld_unit_apply_of (Val := Elt Ideal) (e := .bf16) X _ _ inb y _ fun a => ?_
  have h0 : (y 0 : ℕ) < 1 := (y 0).isLt
  fin_cases a
  · show (d : ℕ) = k + (y 0 : ℕ)
    omega
  · exact (Nat.zero_add _).symm
  · exact (Nat.zero_add _).symm

/-- The block of the gradient the calls add up from the devices' pieces. -/
theorem pieces_at {R C : ℕ} (hK : (⟨3, ![1, R, C]⟩ : Shape).ShapeCasts K) (hB : K.ShapeCasts ⟨3, ![1, R, C]⟩) (h : FTy.bf16.bits < FTy.f32.bits)
    (X : FVec Ideal ⟨3, ![8, R, C]⟩ .bf16) (i0 i1 i2 i3 i4 i5 i6 i7) (y : (⟨3, ![1, R, C]⟩ : Shape).Idx) :
    shapeCast (⟨3, ![1, R, C]⟩ : Shape) (sumB hK h
      (View.ld (Val := Elt Ideal) (e' := .bf16) X (Rect.unit (s := ⟨3, ![8, R, C]⟩) ![0, 0, 0] ![1, R, C] i0))
      (View.ld (Val := Elt Ideal) (e' := .bf16) X (Rect.unit (s := ⟨3, ![8, R, C]⟩) ![1, 0, 0] ![1, R, C] i1))
      (View.ld (Val := Elt Ideal) (e' := .bf16) X (Rect.unit (s := ⟨3, ![8, R, C]⟩) ![2, 0, 0] ![1, R, C] i2))
      (View.ld (Val := Elt Ideal) (e' := .bf16) X (Rect.unit (s := ⟨3, ![8, R, C]⟩) ![3, 0, 0] ![1, R, C] i3))
      (View.ld (Val := Elt Ideal) (e' := .bf16) X (Rect.unit (s := ⟨3, ![8, R, C]⟩) ![4, 0, 0] ![1, R, C] i4))
      (View.ld (Val := Elt Ideal) (e' := .bf16) X (Rect.unit (s := ⟨3, ![8, R, C]⟩) ![5, 0, 0] ![1, R, C] i5))
      (View.ld (Val := Elt Ideal) (e' := .bf16) X (Rect.unit (s := ⟨3, ![8, R, C]⟩) ![6, 0, 0] ![1, R, C] i6))
      (View.ld (Val := Elt Ideal) (e' := .bf16) X (Rect.unit (s := ⟨3, ![8, R, C]⟩) ![7, 0, 0] ![1, R, C] i7))) hB y
    = gradv fun d => X (ix3 d (y 1 : Fin R) (y 2 : Fin C)) :=
  (sumB_at hK hB h _ _ _ _ _ _ _ _ y).trans (gradv_eq (ld_at X 0 0 rfl i0 y) (ld_at X 1 1 rfl i1 y) (ld_at X 2 2 rfl i2 y) (ld_at X 3 3 rfl i3 y)
    (ld_at X 4 4 rfl i4 y) (ld_at X 5 5 rfl i5 y) (ld_at X 6 6 rfl i6 y) (ld_at X 7 7 rfl i7 y))

theorem momB_at (y : B.Idx) : shapeCast B (momB hK g m) hB y = momv (m y) (shapeCast B g hB y) :=
  congrArg (fun a => momv a _) (back hK hB m y)

theorem varB_at (y : B.Idx) : shapeCast B (varB hK g v) hB y = varv (v y) (shapeCast B g hB y) :=
  congrArg (fun a => varv a _) (back hK hB v y)

theorem deltaB_at (y : B.Idx) :
    shapeCast B (deltaB hK g w m v) hB y = deltav (w y) (momv (m y) (shapeCast B g hB y)) (varv (v y) (shapeCast B g hB y)) := by
  rw [← momB_at hK hB g m y, ← varB_at hK hB g v y]
  exact congrArg (fun a => deltav a _ _) (back hK hB w y)

/-- The block stored is the reference's, if what is loaded are the reference's gradient, the weight and the moments at the same places. -/
theorem stored {S : Shape} (hb : (⟨0, ![]⟩ : Shape).BroadcastsInDim S (![] : Fin 0 → Fin S.rank)) (f : B.Idx → S.Idx) (g' w' m' v' : FVec Ideal S .f32)
    (hg : ∀ y, shapeCast B g hB y = g' (f y)) (hw : ∀ y, w y = w' (f y)) (hm : ∀ y, m y = m' (f y)) (hv : ∀ y, v y = v' (f y)) (y : B.Idx) :
    shapeCast B g hB y = g' (f y)
    ∧ shapeCast B (deltaB hK g w m v) hB y = rD hb w' (rM hb g' m') (rV hb g' v') (f y)
    ∧ shapeCast B (momB hK g m) hB y = rM hb g' m' (f y)
    ∧ shapeCast B (varB hK g v) hB y = rV hb g' v' (f y) := by
  refine ⟨hg y, ?_, ?_, ?_⟩
  · rw [deltaB_at, rD_at, rM_at, rV_at, hg, hw, hm, hv]
  · rw [momB_at, rM_at, hg, hm]
  · rw [varB_at, rV_at, hg, hv]

end

/-- Matrices transposed twice are themselves. -/
theorem transpose_back {n a b : ℕ} {α : Type} (x : (⟨3, ![n, a, b]⟩ : Shape).Idx → α) (h : (⟨3, ![n, a, b]⟩ : Shape).Transposes [0, 2, 1] ⟨3, ![n, b, a]⟩)
    (h' : (⟨3, ![n, b, a]⟩ : Shape).Transposes [0, 2, 1] ⟨3, ![n, a, b]⟩) :
    transpose ⟨3, ![n, a, b]⟩ [0, 2, 1] (transpose ⟨3, ![n, b, a]⟩ [0, 2, 1] x h) h' = x := by
  funext i
  rw [ValueIdx.eq_ix3 i]
  exact (ValueIdx.transpose_ix3_021_apply _ h' _ _ _).trans (ValueIdx.transpose_ix3_021_apply x h _ _ _)

/-- An array of which the second call wrote the second layer's part, over an array of which the first wrote the first layer's, is whole. -/
theorem glue {ι α : Type} (n : ι → ℕ) (A C : ι → α) : (fun i => if 1 ≤ n i then A i else (if n i < 1 then A i else C i)) = A := by
  funext i
  split
  · rfl
  · rw [if_pos (by omega)]

end Cert.Adam
-- ==== Proof.AdamOutValue.lean ====
/- The optimiser on the mixers' output projection: the arrays after the two calls are the reference's. -/
module

public import proofs.«01_k».proof.Proof.Gen.AdamOutIdeal.Frame
public import proofs.«01_k».proof.Proof.Gen.AdamOutRefIdeal
public import proofs.«01_k».proof.Proof.Adam

@[expose] public section

set_option maxRecDepth 16384

noncomputable section

namespace Cert.AdamOutIdeal.Grad

open Cert.AdamOutIdeal.Gen Cert.Adam
open Idealize.ShloMosaic Idealize.ShloMosaic.TcCoe Idealize.SL.Sem
open Idealize.ShloMosaic.Pipeline (Dat)

/-! ## The windows -/

theorem idx0 : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] := (by decide +kernel : ∀ t : Fin grid0.N, _)

theorem idx1 : ∀ t : Fin cfg1.N, win1_0.index t = ![0, 0, 0] ∧ win1_1.index t = ![1, 0, 0] ∧ win1_2.index t = ![1, 0, 0] ∧ win1_3.index t = ![1, 0, 0]
    ∧ win1_4.index t = ![1, 0, 0] ∧ win1_5.index t = ![1, 0, 0] ∧ win1_6.index t = ![1, 0, 0] ∧ win1_7.index t = ![1, 0, 0] := (by decide +kernel : ∀ t : Fin grid1.N, _)

variable (V : (c : Dev nD) → (b : Ref sig .tc) → Buf (Elt Ideal) ((c : Thread nD τ).loc b))

/-- The arguments' arrays on a device. -/
abbrev a0 (c : Dev nD) : FVec Ideal S8x128x1024 .bf16 := V c main_arg0
abbrev a1 (c : Dev nD) : FVec Ideal S8x128x1024 .bf16 := V c main_arg1
abbrev a2 (c : Dev nD) : FVec Ideal S2x128x1024 .f32 := V c main_arg2
abbrev a3 (c : Dev nD) : FVec Ideal S2x128x1024 .f32 := V c main_arg3
abbrev a4 (c : Dev nD) : FVec Ideal S2x128x1024 .f32 := V c main_arg4

/-- The reference's arrays of them. -/
abbrev G (c : Dev nD) : FVec Ideal S2x128x1024 .f32 :=
  rG Cert.AdamOutRefIdeal.Gen.reducesTo_S8x128x1024_S128x1024_d0 Cert.AdamOutRefIdeal.Gen.h_S_ Cert.AdamOutRefIdeal.Gen.bcast_S128x1024_S1x128x1024_1_2
    Cert.AdamOutRefIdeal.Gen.concatenates_S1x128x1024_S1x128x1024_S2x128x1024_d0 bitsLt_bf16_f32 (a0 V c) (a1 V c)
abbrev M (c : Dev nD) : FVec Ideal S2x128x1024 .f32 := rM Cert.AdamOutRefIdeal.Gen.bcast_S_S2x128x1024 (G V c) (a3 V c)
abbrev Vn (c : Dev nD) : FVec Ideal S2x128x1024 .f32 := rV Cert.AdamOutRefIdeal.Gen.bcast_S_S2x128x1024 (G V c) (a4 V c)
abbrev D (c : Dev nD) : FVec Ideal S2x128x1024 .f32 := rD Cert.AdamOutRefIdeal.Gen.bcast_S_S2x128x1024 (a2 V c) (M V c) (Vn V c)

/-! ## What the calls store -/

/-- The gradient's block as a call adds it up. -/
abbrev sum (x : Vec Ideal S8x128x1024 .bf16) : FVec Ideal S128x1024 .f32 := sumB shapeCasts_S1x128x1024_S128x1024 bitsLt_bf16_f32
  (View.ld x r0_0) (View.ld x r0_1) (View.ld x r0_2) (View.ld x r0_3) (View.ld x r0_4) (View.ld x r0_5) (View.ld x r0_6) (View.ld x r0_7)

theorem sum0_at (c : Dev nD) (t : Fin cfg0.N) (y : S1x128x1024.Idx) :
    shapeCast S1x128x1024 (sum (iblk0 V c 0 t)) shapeCasts_S128x1024_S1x128x1024 y = G V c ((win0_4.blk t).view.emb y) := by
  have he : (win0_4.blk t).view.emb y = ix3 (0 : Fin 2) (y 1 : Fin 128) (y 2 : Fin 1024) := by blk_ext [idx0 t]
  refine (pieces_at _ _ _ (iblk0 V c 0 t) _ _ _ _ _ _ _ _ y).trans (Eq.trans (congrArg gradv (funext fun d => ?_))
    ((rG_at0 _ _ _ _ _ (a0 V c) (a1 V c) (by decide) (by decide) _ _).symm.trans (congrArg _ he.symm)))
  dsimp only [a0]
  blk_point [iblk0, idx0 t]

theorem sum1_at (c : Dev nD) (t : Fin cfg1.N) (y : S1x128x1024.Idx) :
    shapeCast S1x128x1024 (sum (iblk1 V c 0 t)) shapeCasts_S128x1024_S1x128x1024 y = G V c ((win1_4.blk t).view.emb y) := by
  have he : (win1_4.blk t).view.emb y = ix3 (1 : Fin 2) (y 1 : Fin 128) (y 2 : Fin 1024) := by blk_ext [idx1 t]
  refine (pieces_at _ _ _ (iblk1 V c 0 t) _ _ _ _ _ _ _ _ y).trans (Eq.trans (congrArg gradv (funext fun d => ?_))
    ((rG_at1 _ _ _ _ _ (a0 V c) (a1 V c) (by decide) (by decide) _ _).symm.trans (congrArg _ he.symm)))
  dsimp only [a1]
  blk_point [iblk1, idx1 t]

/-- What a call stores is the reference's on its layer, at the places it stores it. -/
abbrev stored0 (c : Dev nD) (t : Fin cfg0.N) := stored shapeCasts_S1x128x1024_S128x1024 shapeCasts_S128x1024_S1x128x1024 (sum (iblk0 V c 0 t))
  (iblk0 V c 1 t) (iblk0 V c 2 t) (iblk0 V c 3 t) Cert.AdamOutRefIdeal.Gen.bcast_S_S2x128x1024 (win0_4.blk t).view.emb (G V c) (a2 V c) (a3 V c) (a4 V c)
  (sum0_at V c t) (fun _ => rfl) (fun _ => rfl) (fun _ => rfl)
abbrev stored1 (c : Dev nD) (t : Fin cfg1.N) := stored shapeCasts_S1x128x1024_S128x1024 shapeCasts_S128x1024_S1x128x1024 (sum (iblk1 V c 0 t))
  (iblk1 V c 1 t) (iblk1 V c 2 t) (iblk1 V c 3 t) Cert.AdamOutRefIdeal.Gen.bcast_S_S2x128x1024 (win1_4.blk t).view.emb (G V c) (a2 V c) (a3 V c) (a4 V c)
  (sum1_at V c t) (fun _ => rfl) (fun _ => rfl) (fun _ => rfl)

/-! ## The arrays after each call: its own layer's part written, the rest kept -/

theorem first (c : Dev nD) :
    ((dat0 V c).arrAt 4 cfg0.N = fun i : S2x128x1024.Idx => if (i 0 : ℕ) < 1 then G V c i else V c main_v0_0 i)
    ∧ ((dat0 V c).arrAt 5 cfg0.N = fun i : S2x128x1024.Idx => if (i 0 : ℕ) < 1 then D V c i else V c main_v0_1 i)
    ∧ ((dat0 V c).arrAt 6 cfg0.N = fun i : S2x128x1024.Idx => if (i 0 : ℕ) < 1 then M V c i else V c main_v0_2 i)
    ∧ ((dat0 V c).arrAt 7 cfg0.N = fun i : S2x128x1024.Idx => if (i 0 : ℕ) < 1 then Vn V c i else V c main_v0_3 i) := by
  refine ⟨(dat0 V c).arrAt_eq_of_coversWhere 4 _ (fun β => β 0 < 1) (by decide +kernel) (fun t hf y => ?_) (fun j => ?_),
    (dat0 V c).arrAt_eq_of_coversWhere 5 _ (fun β => β 0 < 1) (by decide +kernel) (fun t hf y => ?_) (fun j => ?_),
    (dat0 V c).arrAt_eq_of_coversWhere 6 _ (fun β => β 0 < 1) (by decide +kernel) (fun t hf y => ?_) (fun j => ?_),
    (dat0 V c).arrAt_eq_of_coversWhere 7 _ (fun β => β 0 < 1) (by decide +kernel) (fun t hf y => ?_) (fun j => ?_)⟩
  · rw [after0_4]; unfold_out out0_4; blk_simp; frame_out
    exact (stored0 V c t y).1
  · blk_simp [Pipeline.Window.cell_apply]; try omega
  · rw [after0_5]; unfold_out out0_5; blk_simp; frame_out
    exact (stored0 V c t y).2.1
  · blk_simp [Pipeline.Window.cell_apply]; try omega
  · rw [after0_6]; unfold_out out0_6; blk_simp; frame_out
    exact (stored0 V c t y).2.2.1
  · blk_simp [Pipeline.Window.cell_apply]; try omega
  · rw [after0_7]; unfold_out out0_7; blk_simp; frame_out
    exact (stored0 V c t y).2.2.2
  · blk_simp [Pipeline.Window.cell_apply]; try omega

theorem last (c : Dev nD) :
    ((dat1 V c).arrAt 4 cfg1.N = fun i : S2x128x1024.Idx => if 1 ≤ (i 0 : ℕ) then G V c i else V c main_v1_0 i)
    ∧ ((dat1 V c).arrAt 5 cfg1.N = fun i : S2x128x1024.Idx => if 1 ≤ (i 0 : ℕ) then D V c i else V c main_v1_1 i)
    ∧ ((dat1 V c).arrAt 6 cfg1.N = fun i : S2x128x1024.Idx => if 1 ≤ (i 0 : ℕ) then M V c i else V c main_v1_2 i)
    ∧ ((dat1 V c).arrAt 7 cfg1.N = fun i : S2x128x1024.Idx => if 1 ≤ (i 0 : ℕ) then Vn V c i else V c main_v1_3 i) := by
  refine ⟨(dat1 V c).arrAt_eq_of_coversWhere 4 _ (fun β => 1 ≤ β 0) (by decide +kernel) (fun t hf y => ?_) (fun j => ?_),
    (dat1 V c).arrAt_eq_of_coversWhere 5 _ (fun β => 1 ≤ β 0) (by decide +kernel) (fun t hf y => ?_) (fun j => ?_),
    (dat1 V c).arrAt_eq_of_coversWhere 6 _ (fun β => 1 ≤ β 0) (by decide +kernel) (fun t hf y => ?_) (fun j => ?_),
    (dat1 V c).arrAt_eq_of_coversWhere 7 _ (fun β => 1 ≤ β 0) (by decide +kernel) (fun t hf y => ?_) (fun j => ?_)⟩
  · rw [after1_4, outsAt1]; blk_simp; frame_out
    exact (stored1 V c t y).1
  · blk_simp [Pipeline.Window.cell_apply]; try omega
  · rw [after1_5, outsAt1]; blk_simp; frame_out
    exact (stored1 V c t y).2.1
  · blk_simp [Pipeline.Window.cell_apply]; try omega
  · rw [after1_6, outsAt1]; blk_simp; frame_out
    exact (stored1 V c t y).2.2.1
  · blk_simp [Pipeline.Window.cell_apply]; try omega
  · rw [after1_7, outsAt1]; blk_simp; frame_out
    exact (stored1 V c t y).2.2.2
  · blk_simp [Pipeline.Window.cell_apply]; try omega

/-! ## The results after the run -/

variable (m : (ℓ : Loc nD τ sig) → Buf (Elt Ideal) ℓ) (ρ : Dev nD → PrngReg)

/-- The second call finds in its results what the first left in its own. -/
theorem kept (c : Dev nD) : V2 m ρ c main_v1_0 = V1 m ρ c main_v0_0 ∧ V2 m ρ c main_v1_1 = V1 m ρ c main_v0_1
    ∧ V2 m ρ c main_v1_2 = V1 m ρ c main_v0_2 ∧ V2 m ρ c main_v1_3 = V1 m ρ c main_v0_3 := by
  refine ⟨show StableHlo.after hostOps1 (W1 m ρ c) (Proc.devRef .tc main_v1_0) = W1 m ρ c (Proc.devRef .tc main_v0_0) from ?_,
    show StableHlo.after hostOps1 (W1 m ρ c) (Proc.devRef .tc main_v1_1) = W1 m ρ c (Proc.devRef .tc main_v0_1) from ?_,
    show StableHlo.after hostOps1 (W1 m ρ c) (Proc.devRef .tc main_v1_2) = W1 m ρ c (Proc.devRef .tc main_v0_2) from ?_,
    show StableHlo.after hostOps1 (W1 m ρ c) (Proc.devRef .tc main_v1_3) = W1 m ρ c (Proc.devRef .tc main_v0_3) from ?_⟩
  all_goals after_results
  all_goals rfl

theorem args (c : Dev nD) : ∀ a ∈ argRefs, V2 m ρ c a = V0 m ρ c a := fun a ha => (W2_args m ρ c a ha).trans (W0_args m ρ c a ha).symm

/-- The second call leaves the arguments as the first found them. -/
theorem same (c : Dev nD) : G (V2 m ρ) c = G (V0 m ρ) c ∧ D (V2 m ρ) c = D (V0 m ρ) c ∧ M (V2 m ρ) c = M (V0 m ρ) c ∧ Vn (V2 m ρ) c = Vn (V0 m ρ) c := by
  unfold D M Vn G a0 a1 a2 a3 a4
  rw [args m ρ c main_arg0 (by decide), args m ρ c main_arg1 (by decide), args m ρ c main_arg2 (by decide), args m ρ c main_arg3 (by decide),
    args m ρ c main_arg4 (by decide)]
  exact ⟨rfl, rfl, rfl, rfl⟩

theorem final (c : Dev nD) : W3 m ρ c (Proc.devRef .tc main_v1_0) = G (V0 m ρ) c ∧ W3 m ρ c (Proc.devRef .tc main_v1_1) = D (V0 m ρ) c
    ∧ W3 m ρ c (Proc.devRef .tc main_v1_2) = M (V0 m ρ) c ∧ W3 m ρ c (Proc.devRef .tc main_v1_3) = Vn (V0 m ρ) c := by
  refine ⟨(W3_arr m ρ c 4).trans ((last _ c).1.trans (Eq.trans ?_ (glue (fun i : S2x128x1024.Idx => (i 0 : ℕ)) (G (V0 m ρ) c) (V0 m ρ c main_v0_0)))),
    (W3_arr m ρ c 5).trans ((last _ c).2.1.trans (Eq.trans ?_ (glue (fun i : S2x128x1024.Idx => (i 0 : ℕ)) (D (V0 m ρ) c) (V0 m ρ c main_v0_1)))),
    (W3_arr m ρ c 6).trans ((last _ c).2.2.1.trans (Eq.trans ?_ (glue (fun i : S2x128x1024.Idx => (i 0 : ℕ)) (M (V0 m ρ) c) (V0 m ρ c main_v0_2)))),
    (W3_arr m ρ c 7).trans ((last _ c).2.2.2.trans (Eq.trans ?_ (glue (fun i : S2x128x1024.Idx => (i 0 : ℕ)) (Vn (V0 m ρ) c) (V0 m ρ c main_v0_3))))⟩
  · rw [(same m ρ c).1, (kept m ρ c).1, show V1 m ρ c main_v0_0 = _ from (W1_arr m ρ c 4).trans (first _ c).1]
  · rw [(same m ρ c).2.1, (kept m ρ c).2.1, show V1 m ρ c main_v0_1 = _ from (W1_arr m ρ c 5).trans (first _ c).2.1]
  · rw [(same m ρ c).2.2.1, (kept m ρ c).2.2.1, show V1 m ρ c main_v0_2 = _ from (W1_arr m ρ c 6).trans (first _ c).2.2.1]
  · rw [(same m ρ c).2.2.2, (kept m ρ c).2.2.2, show V1 m ρ c main_v0_3 = _ from (W1_arr m ρ c 7).trans (first _ c).2.2.2]

/-! ## The run -/

open Idealize.SL Idealize.SL.RA Idealize.SL.BI
open scoped Idealize.SL.BI
open Idealize.SL.BI.BIBase Idealize.SL.BI.Laws Idealize.SL.ProofMode
open Idealize.ShloMosaic.Rounds

local notation "𝕄" => MT nD τ sig Unit (Elt Ideal) ℕ (UR sig nD τ) ℕ

set_option backward.isDefEq.respectTransparency.types false in
/-- After the run each array outside the calls holds what the last call left. -/
theorem run_left : θ_run defs (onTc (τ := τ) (main (F := Ideal))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- After the run the results are the reference's arrays of the arguments. -/
theorem run : θ_run defs (onTc (τ := τ) (main (F := Ideal))) ⟨m, fun _ => 0, ρ⟩ (fun r => ∀ c : Dev nD,
      r.2.mem ((c.tc : Thread nD τ).loc main_v1_0) = G (V0 m ρ) c
      ∧ r.2.mem ((c.tc : Thread nD τ).loc main_v1_1) = D (V0 m ρ) c
      ∧ r.2.mem ((c.tc : Thread nD τ).loc main_v1_2) = M (V0 m ρ) c
      ∧ r.2.mem ((c.tc : Thread nD τ).loc main_v1_3) = Vn (V0 m ρ) c) :=
  (θ_run defs _ _).mono (fun _ h c => have f := final m ρ c
    ⟨(h c _ (mem_uc main_v1_0 (by decide))).trans f.1, (h c _ (mem_uc main_v1_1 (by decide))).trans f.2.1,
      (h c _ (mem_uc main_v1_2 (by decide))).trans f.2.2.1, (h c _ (mem_uc main_v1_3 (by decide))).trans f.2.2.2⟩) (run_left m ρ)

end Cert.AdamOutIdeal.Grad
-- ==== Proof.AdamInValue.lean ====
/- The optimiser on the mixers' input projection: the arrays after the two calls are the reference's. -/
module

public import proofs.«01_k».proof.Proof.Gen.AdamInIdeal.Frame
public import proofs.«01_k».proof.Proof.Gen.AdamInRefIdeal
public import proofs.«01_k».proof.Proof.Adam

@[expose] public section

set_option maxRecDepth 16384

noncomputable section

namespace Cert.AdamInIdeal.Grad

open Cert.AdamInIdeal.Gen Cert.Adam
open Idealize.ShloMosaic Idealize.ShloMosaic.TcCoe Idealize.SL.Sem
open Idealize.ShloMosaic.Pipeline (Dat)

/-! ## The windows -/

theorem idx0 : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] := (by decide +kernel : ∀ t : Fin grid0.N, _)

theorem idx1 : ∀ t : Fin cfg1.N, win1_0.index t = ![0, 0, 0] ∧ win1_1.index t = ![1, 0, 0] ∧ win1_2.index t = ![1, 0, 0] ∧ win1_3.index t = ![1, 0, 0]
    ∧ win1_4.index t = ![1, 0, 0] ∧ win1_5.index t = ![1, 0, 0] ∧ win1_6.index t = ![1, 0, 0] ∧ win1_7.index t = ![1, 0, 0] := (by decide +kernel : ∀ t : Fin grid1.N, _)

variable (V : (c : Dev nD) → (b : Ref sig .tc) → Buf (Elt Ideal) ((c : Thread nD τ).loc b))

/-- The arguments' arrays on a device. -/
abbrev a0 (c : Dev nD) : FVec Ideal S8x128x1830 .bf16 := V c main_arg0
abbrev a1 (c : Dev nD) : FVec Ideal S8x128x1830 .bf16 := V c main_arg1
abbrev a2 (c : Dev nD) : FVec Ideal S2x128x1830 .f32 := V c main_arg2
abbrev a3 (c : Dev nD) : FVec Ideal S2x128x1830 .f32 := V c main_arg3
abbrev a4 (c : Dev nD) : FVec Ideal S2x128x1830 .f32 := V c main_arg4

/-- The reference's arrays of them. -/
abbrev G (c : Dev nD) : FVec Ideal S2x128x1830 .f32 :=
  rG Cert.AdamInRefIdeal.Gen.reducesTo_S8x128x1830_S128x1830_d0 Cert.AdamInRefIdeal.Gen.h_S_ Cert.AdamInRefIdeal.Gen.bcast_S128x1830_S1x128x1830_1_2
    Cert.AdamInRefIdeal.Gen.concatenates_S1x128x1830_S1x128x1830_S2x128x1830_d0 bitsLt_bf16_f32 (a0 V c) (a1 V c)
abbrev M (c : Dev nD) : FVec Ideal S2x128x1830 .f32 := rM Cert.AdamInRefIdeal.Gen.bcast_S_S2x128x1830 (G V c) (a3 V c)
abbrev Vn (c : Dev nD) : FVec Ideal S2x128x1830 .f32 := rV Cert.AdamInRefIdeal.Gen.bcast_S_S2x128x1830 (G V c) (a4 V c)
abbrev D (c : Dev nD) : FVec Ideal S2x128x1830 .f32 := rD Cert.AdamInRefIdeal.Gen.bcast_S_S2x128x1830 (a2 V c) (M V c) (Vn V c)

/-! ## What the calls store -/

/-- The gradient's block as a call adds it up. -/
abbrev sum (x : Vec Ideal S8x128x1830 .bf16) : FVec Ideal S128x1830 .f32 := sumB shapeCasts_S1x128x1830_S128x1830 bitsLt_bf16_f32
  (View.ld x r0_0) (View.ld x r0_1) (View.ld x r0_2) (View.ld x r0_3) (View.ld x r0_4) (View.ld x r0_5) (View.ld x r0_6) (View.ld x r0_7)

theorem sum0_at (c : Dev nD) (t : Fin cfg0.N) (y : S1x128x1830.Idx) :
    shapeCast S1x128x1830 (sum (iblk0 V c 0 t)) shapeCasts_S128x1830_S1x128x1830 y = G V c ((win0_4.blk t).view.emb y) := by
  have he : (win0_4.blk t).view.emb y = ix3 (0 : Fin 2) (y 1 : Fin 128) (y 2 : Fin 1830) := by blk_ext [idx0 t]
  refine (pieces_at _ _ _ (iblk0 V c 0 t) _ _ _ _ _ _ _ _ y).trans (Eq.trans (congrArg gradv (funext fun d => ?_))
    ((rG_at0 _ _ _ _ _ (a0 V c) (a1 V c) (by decide) (by decide) _ _).symm.trans (congrArg _ he.symm)))
  dsimp only [a0]
  blk_point [iblk0, idx0 t]

theorem sum1_at (c : Dev nD) (t : Fin cfg1.N) (y : S1x128x1830.Idx) :
    shapeCast S1x128x1830 (sum (iblk1 V c 0 t)) shapeCasts_S128x1830_S1x128x1830 y = G V c ((win1_4.blk t).view.emb y) := by
  have he : (win1_4.blk t).view.emb y = ix3 (1 : Fin 2) (y 1 : Fin 128) (y 2 : Fin 1830) := by blk_ext [idx1 t]
  refine (pieces_at _ _ _ (iblk1 V c 0 t) _ _ _ _ _ _ _ _ y).trans (Eq.trans (congrArg gradv (funext fun d => ?_))
    ((rG_at1 _ _ _ _ _ (a0 V c) (a1 V c) (by decide) (by decide) _ _).symm.trans (congrArg _ he.symm)))
  dsimp only [a1]
  blk_point [iblk1, idx1 t]

/-- What a call stores is the reference's on its layer, at the places it stores it. -/
abbrev stored0 (c : Dev nD) (t : Fin cfg0.N) := stored shapeCasts_S1x128x1830_S128x1830 shapeCasts_S128x1830_S1x128x1830 (sum (iblk0 V c 0 t))
  (iblk0 V c 1 t) (iblk0 V c 2 t) (iblk0 V c 3 t) Cert.AdamInRefIdeal.Gen.bcast_S_S2x128x1830 (win0_4.blk t).view.emb (G V c) (a2 V c) (a3 V c) (a4 V c)
  (sum0_at V c t) (fun _ => rfl) (fun _ => rfl) (fun _ => rfl)
abbrev stored1 (c : Dev nD) (t : Fin cfg1.N) := stored shapeCasts_S1x128x1830_S128x1830 shapeCasts_S128x1830_S1x128x1830 (sum (iblk1 V c 0 t))
  (iblk1 V c 1 t) (iblk1 V c 2 t) (iblk1 V c 3 t) Cert.AdamInRefIdeal.Gen.bcast_S_S2x128x1830 (win1_4.blk t).view.emb (G V c) (a2 V c) (a3 V c) (a4 V c)
  (sum1_at V c t) (fun _ => rfl) (fun _ => rfl) (fun _ => rfl)

/-! ## The arrays after each call: its own layer's part written, the rest kept -/

theorem first (c : Dev nD) :
    ((dat0 V c).arrAt 4 cfg0.N = fun i : S2x128x1830.Idx => if (i 0 : ℕ) < 1 then G V c i else V c main_v0_0 i)
    ∧ ((dat0 V c).arrAt 5 cfg0.N = fun i : S2x128x1830.Idx => if (i 0 : ℕ) < 1 then D V c i else V c main_v0_1 i)
    ∧ ((dat0 V c).arrAt 6 cfg0.N = fun i : S2x128x1830.Idx => if (i 0 : ℕ) < 1 then M V c i else V c main_v0_2 i)
    ∧ ((dat0 V c).arrAt 7 cfg0.N = fun i : S2x128x1830.Idx => if (i 0 : ℕ) < 1 then Vn V c i else V c main_v0_3 i) := by
  refine ⟨(dat0 V c).arrAt_eq_of_coversWhere 4 _ (fun β => β 0 < 1) (by decide +kernel) (fun t hf y => ?_) (fun j => ?_),
    (dat0 V c).arrAt_eq_of_coversWhere 5 _ (fun β => β 0 < 1) (by decide +kernel) (fun t hf y => ?_) (fun j => ?_),
    (dat0 V c).arrAt_eq_of_coversWhere 6 _ (fun β => β 0 < 1) (by decide +kernel) (fun t hf y => ?_) (fun j => ?_),
    (dat0 V c).arrAt_eq_of_coversWhere 7 _ (fun β => β 0 < 1) (by decide +kernel) (fun t hf y => ?_) (fun j => ?_)⟩
  · rw [after0_4]; unfold_out out0_4; blk_simp; frame_out
    exact (stored0 V c t y).1
  · blk_simp [Pipeline.Window.cell_apply]; try omega
  · rw [after0_5]; unfold_out out0_5; blk_simp; frame_out
    exact (stored0 V c t y).2.1
  · blk_simp [Pipeline.Window.cell_apply]; try omega
  · rw [after0_6]; unfold_out out0_6; blk_simp; frame_out
    exact (stored0 V c t y).2.2.1
  · blk_simp [Pipeline.Window.cell_apply]; try omega
  · rw [after0_7]; unfold_out out0_7; blk_simp; frame_out
    exact (stored0 V c t y).2.2.2
  · blk_simp [Pipeline.Window.cell_apply]; try omega

theorem last (c : Dev nD) :
    ((dat1 V c).arrAt 4 cfg1.N = fun i : S2x128x1830.Idx => if 1 ≤ (i 0 : ℕ) then G V c i else V c main_v1_0 i)
    ∧ ((dat1 V c).arrAt 5 cfg1.N = fun i : S2x128x1830.Idx => if 1 ≤ (i 0 : ℕ) then D V c i else V c main_v1_1 i)
    ∧ ((dat1 V c).arrAt 6 cfg1.N = fun i : S2x128x1830.Idx => if 1 ≤ (i 0 : ℕ) then M V c i else V c main_v1_2 i)
    ∧ ((dat1 V c).arrAt 7 cfg1.N = fun i : S2x128x1830.Idx => if 1 ≤ (i 0 : ℕ) then Vn V c i else V c main_v1_3 i) := by
  refine ⟨(dat1 V c).arrAt_eq_of_coversWhere 4 _ (fun β => 1 ≤ β 0) (by decide +kernel) (fun t hf y => ?_) (fun j => ?_),
    (dat1 V c).arrAt_eq_of_coversWhere 5 _ (fun β => 1 ≤ β 0) (by decide +kernel) (fun t hf y => ?_) (fun j => ?_),
    (dat1 V c).arrAt_eq_of_coversWhere 6 _ (fun β => 1 ≤ β 0) (by decide +kernel) (fun t hf y => ?_) (fun j => ?_),
    (dat1 V c).arrAt_eq_of_coversWhere 7 _ (fun β => 1 ≤ β 0) (by decide +kernel) (fun t hf y => ?_) (fun j => ?_)⟩
  · rw [after1_4, outsAt1]; blk_simp; frame_out
    exact (stored1 V c t y).1
  · blk_simp [Pipeline.Window.cell_apply]; try omega
  · rw [after1_5, outsAt1]; blk_simp; frame_out
    exact (stored1 V c t y).2.1
  · blk_simp [Pipeline.Window.cell_apply]; try omega
  · rw [after1_6, outsAt1]; blk_simp; frame_out
    exact (stored1 V c t y).2.2.1
  · blk_simp [Pipeline.Window.cell_apply]; try omega
  · rw [after1_7, outsAt1]; blk_simp; frame_out
    exact (stored1 V c t y).2.2.2
  · blk_simp [Pipeline.Window.cell_apply]; try omega

/-! ## The results after the run -/

variable (m : (ℓ : Loc nD τ sig) → Buf (Elt Ideal) ℓ) (ρ : Dev nD → PrngReg)

/-- The second call finds in its results what the first left in its own. -/
theorem kept (c : Dev nD) : V2 m ρ c main_v1_0 = V1 m ρ c main_v0_0 ∧ V2 m ρ c main_v1_1 = V1 m ρ c main_v0_1
    ∧ V2 m ρ c main_v1_2 = V1 m ρ c main_v0_2 ∧ V2 m ρ c main_v1_3 = V1 m ρ c main_v0_3 := by
  refine ⟨show StableHlo.after hostOps1 (W1 m ρ c) (Proc.devRef .tc main_v1_0) = W1 m ρ c (Proc.devRef .tc main_v0_0) from ?_,
    show StableHlo.after hostOps1 (W1 m ρ c) (Proc.devRef .tc main_v1_1) = W1 m ρ c (Proc.devRef .tc main_v0_1) from ?_,
    show StableHlo.after hostOps1 (W1 m ρ c) (Proc.devRef .tc main_v1_2) = W1 m ρ c (Proc.devRef .tc main_v0_2) from ?_,
    show StableHlo.after hostOps1 (W1 m ρ c) (Proc.devRef .tc main_v1_3) = W1 m ρ c (Proc.devRef .tc main_v0_3) from ?_⟩
  all_goals after_results
  all_goals rfl

theorem args (c : Dev nD) : ∀ a ∈ argRefs, V2 m ρ c a = V0 m ρ c a := fun a ha => (W2_args m ρ c a ha).trans (W0_args m ρ c a ha).symm

/-- The second call leaves the arguments as the first found them. -/
theorem same (c : Dev nD) : G (V2 m ρ) c = G (V0 m ρ) c ∧ D (V2 m ρ) c = D (V0 m ρ) c ∧ M (V2 m ρ) c = M (V0 m ρ) c ∧ Vn (V2 m ρ) c = Vn (V0 m ρ) c := by
  unfold D M Vn G a0 a1 a2 a3 a4
  rw [args m ρ c main_arg0 (by decide), args m ρ c main_arg1 (by decide), args m ρ c main_arg2 (by decide), args m ρ c main_arg3 (by decide),
    args m ρ c main_arg4 (by decide)]
  exact ⟨rfl, rfl, rfl, rfl⟩

theorem final (c : Dev nD) : W3 m ρ c (Proc.devRef .tc main_v1_0) = G (V0 m ρ) c ∧ W3 m ρ c (Proc.devRef .tc main_v1_1) = D (V0 m ρ) c
    ∧ W3 m ρ c (Proc.devRef .tc main_v1_2) = M (V0 m ρ) c ∧ W3 m ρ c (Proc.devRef .tc main_v1_3) = Vn (V0 m ρ) c := by
  refine ⟨(W3_arr m ρ c 4).trans ((last _ c).1.trans (Eq.trans ?_ (glue (fun i : S2x128x1830.Idx => (i 0 : ℕ)) (G (V0 m ρ) c) (V0 m ρ c main_v0_0)))),
    (W3_arr m ρ c 5).trans ((last _ c).2.1.trans (Eq.trans ?_ (glue (fun i : S2x128x1830.Idx => (i 0 : ℕ)) (D (V0 m ρ) c) (V0 m ρ c main_v0_1)))),
    (W3_arr m ρ c 6).trans ((last _ c).2.2.1.trans (Eq.trans ?_ (glue (fun i : S2x128x1830.Idx => (i 0 : ℕ)) (M (V0 m ρ) c) (V0 m ρ c main_v0_2)))),
    (W3_arr m ρ c 7).trans ((last _ c).2.2.2.trans (Eq.trans ?_ (glue (fun i : S2x128x1830.Idx => (i 0 : ℕ)) (Vn (V0 m ρ) c) (V0 m ρ c main_v0_3))))⟩
  · rw [(same m ρ c).1, (kept m ρ c).1, show V1 m ρ c main_v0_0 = _ from (W1_arr m ρ c 4).trans (first _ c).1]
  · rw [(same m ρ c).2.1, (kept m ρ c).2.1, show V1 m ρ c main_v0_1 = _ from (W1_arr m ρ c 5).trans (first _ c).2.1]
  · rw [(same m ρ c).2.2.1, (kept m ρ c).2.2.1, show V1 m ρ c main_v0_2 = _ from (W1_arr m ρ c 6).trans (first _ c).2.2.1]
  · rw [(same m ρ c).2.2.2, (kept m ρ c).2.2.2, show V1 m ρ c main_v0_3 = _ from (W1_arr m ρ c 7).trans (first _ c).2.2.2]

/-! ## The run -/

open Idealize.SL Idealize.SL.RA Idealize.SL.BI
open scoped Idealize.SL.BI
open Idealize.SL.BI.BIBase Idealize.SL.BI.Laws Idealize.SL.ProofMode
open Idealize.ShloMosaic.Rounds

local notation "𝕄" => MT nD τ sig Unit (Elt Ideal) ℕ (UR sig nD τ) ℕ

set_option backward.isDefEq.respectTransparency.types false in
/-- After the run each array outside the calls holds what the last call left. -/
theorem run_left : θ_run defs (onTc (τ := τ) (main (F := Ideal))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- After the run the results are the reference's arrays of the arguments. -/
theorem run : θ_run defs (onTc (τ := τ) (main (F := Ideal))) ⟨m, fun _ => 0, ρ⟩ (fun r => ∀ c : Dev nD,
      r.2.mem ((c.tc : Thread nD τ).loc main_v1_0) = G (V0 m ρ) c
      ∧ r.2.mem ((c.tc : Thread nD τ).loc main_v1_1) = D (V0 m ρ) c
      ∧ r.2.mem ((c.tc : Thread nD τ).loc main_v1_2) = M (V0 m ρ) c
      ∧ r.2.mem ((c.tc : Thread nD τ).loc main_v1_3) = Vn (V0 m ρ) c) :=
  (θ_run defs _ _).mono (fun _ h c => have f := final m ρ c
    ⟨(h c _ (mem_uc main_v1_0 (by decide))).trans f.1, (h c _ (mem_uc main_v1_1 (by decide))).trans f.2.1,
      (h c _ (mem_uc main_v1_2 (by decide))).trans f.2.2.1, (h c _ (mem_uc main_v1_3 (by decide))).trans f.2.2.2⟩) (run_left m ρ)

end Cert.AdamInIdeal.Grad
-- ==== Proof.AdamDownValue.lean ====
/- The optimiser on a feed-forward network's down projection: the arrays after the two calls are the reference's. -/
module

public import proofs.«01_k».proof.Proof.Gen.AdamDownIdeal.Frame
public import proofs.«01_k».proof.Proof.Gen.AdamDownRefIdeal
public import proofs.«01_k».proof.Proof.Adam

@[expose] public section

set_option maxRecDepth 16384

noncomputable section

namespace Cert.AdamDownIdeal.Grad

open Cert.AdamDownIdeal.Gen Cert.Adam
open Idealize.ShloMosaic Idealize.ShloMosaic.TcCoe Idealize.SL.Sem
open Idealize.ShloMosaic.Pipeline (Dat)

/-! ## The windows -/

theorem idx0 : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] := (by decide +kernel : ∀ t : Fin grid0.N, _)

theorem idx1 : ∀ t : Fin cfg1.N, win1_0.index t = ![0, 0, 0] ∧ win1_1.index t = ![1, 0, 0] ∧ win1_2.index t = ![1, 0, 0] ∧ win1_3.index t = ![1, 0, 0]
    ∧ win1_4.index t = ![1, 0, 0] ∧ win1_5.index t = ![1, 0, 0] ∧ win1_6.index t = ![1, 0, 0] ∧ win1_7.index t = ![1, 0, 0] := (by decide +kernel : ∀ t : Fin grid1.N, _)

variable (V : (c : Dev nD) → (b : Ref sig .tc) → Buf (Elt Ideal) ((c : Thread nD τ).loc b))

/-- The arguments' arrays on a device. -/
abbrev a0 (c : Dev nD) : FVec Ideal S8x352x1024 .bf16 := V c main_arg0
abbrev a1 (c : Dev nD) : FVec Ideal S8x352x1024 .bf16 := V c main_arg1
abbrev a2 (c : Dev nD) : FVec Ideal S2x352x1024 .f32 := V c main_arg2
abbrev a3 (c : Dev nD) : FVec Ideal S2x352x1024 .f32 := V c main_arg3
abbrev a4 (c : Dev nD) : FVec Ideal S2x352x1024 .f32 := V c main_arg4

/-- The reference's arrays of them. -/
abbrev G (c : Dev nD) : FVec Ideal S2x352x1024 .f32 :=
  rG Cert.AdamDownRefIdeal.Gen.reducesTo_S8x352x1024_S352x1024_d0 Cert.AdamDownRefIdeal.Gen.h_S_ Cert.AdamDownRefIdeal.Gen.bcast_S352x1024_S1x352x1024_1_2
    Cert.AdamDownRefIdeal.Gen.concatenates_S1x352x1024_S1x352x1024_S2x352x1024_d0 bitsLt_bf16_f32 (a0 V c) (a1 V c)
abbrev M (c : Dev nD) : FVec Ideal S2x352x1024 .f32 := rM Cert.AdamDownRefIdeal.Gen.bcast_S_S2x352x1024 (G V c) (a3 V c)
abbrev Vn (c : Dev nD) : FVec Ideal S2x352x1024 .f32 := rV Cert.AdamDownRefIdeal.Gen.bcast_S_S2x352x1024 (G V c) (a4 V c)
abbrev D (c : Dev nD) : FVec Ideal S2x352x1024 .f32 := rD Cert.AdamDownRefIdeal.Gen.bcast_S_S2x352x1024 (a2 V c) (M V c) (Vn V c)

/-! ## What the calls store -/

/-- The gradient's block as a call adds it up. -/
abbrev sum (x : Vec Ideal S8x352x1024 .bf16) : FVec Ideal S352x1024 .f32 := sumB shapeCasts_S1x352x1024_S352x1024 bitsLt_bf16_f32
  (View.ld x r0_0) (View.ld x r0_1) (View.ld x r0_2) (View.ld x r0_3) (View.ld x r0_4) (View.ld x r0_5) (View.ld x r0_6) (View.ld x r0_7)

theorem sum0_at (c : Dev nD) (t : Fin cfg0.N) (y : S1x352x1024.Idx) :
    shapeCast S1x352x1024 (sum (iblk0 V c 0 t)) shapeCasts_S352x1024_S1x352x1024 y = G V c ((win0_4.blk t).view.emb y) := by
  have he : (win0_4.blk t).view.emb y = ix3 (0 : Fin 2) (y 1 : Fin 352) (y 2 : Fin 1024) := by blk_ext [idx0 t]
  refine (pieces_at _ _ _ (iblk0 V c 0 t) _ _ _ _ _ _ _ _ y).trans (Eq.trans (congrArg gradv (funext fun d => ?_))
    ((rG_at0 _ _ _ _ _ (a0 V c) (a1 V c) (by decide) (by decide) _ _).symm.trans (congrArg _ he.symm)))
  dsimp only [a0]
  blk_point [iblk0, idx0 t]

theorem sum1_at (c : Dev nD) (t : Fin cfg1.N) (y : S1x352x1024.Idx) :
    shapeCast S1x352x1024 (sum (iblk1 V c 0 t)) shapeCasts_S352x1024_S1x352x1024 y = G V c ((win1_4.blk t).view.emb y) := by
  have he : (win1_4.blk t).view.emb y = ix3 (1 : Fin 2) (y 1 : Fin 352) (y 2 : Fin 1024) := by blk_ext [idx1 t]
  refine (pieces_at _ _ _ (iblk1 V c 0 t) _ _ _ _ _ _ _ _ y).trans (Eq.trans (congrArg gradv (funext fun d => ?_))
    ((rG_at1 _ _ _ _ _ (a0 V c) (a1 V c) (by decide) (by decide) _ _).symm.trans (congrArg _ he.symm)))
  dsimp only [a1]
  blk_point [iblk1, idx1 t]

/-- What a call stores is the reference's on its layer, at the places it stores it. -/
abbrev stored0 (c : Dev nD) (t : Fin cfg0.N) := stored shapeCasts_S1x352x1024_S352x1024 shapeCasts_S352x1024_S1x352x1024 (sum (iblk0 V c 0 t))
  (iblk0 V c 1 t) (iblk0 V c 2 t) (iblk0 V c 3 t) Cert.AdamDownRefIdeal.Gen.bcast_S_S2x352x1024 (win0_4.blk t).view.emb (G V c) (a2 V c) (a3 V c) (a4 V c)
  (sum0_at V c t) (fun _ => rfl) (fun _ => rfl) (fun _ => rfl)
abbrev stored1 (c : Dev nD) (t : Fin cfg1.N) := stored shapeCasts_S1x352x1024_S352x1024 shapeCasts_S352x1024_S1x352x1024 (sum (iblk1 V c 0 t))
  (iblk1 V c 1 t) (iblk1 V c 2 t) (iblk1 V c 3 t) Cert.AdamDownRefIdeal.Gen.bcast_S_S2x352x1024 (win1_4.blk t).view.emb (G V c) (a2 V c) (a3 V c) (a4 V c)
  (sum1_at V c t) (fun _ => rfl) (fun _ => rfl) (fun _ => rfl)

/-! ## The arrays after each call: its own layer's part written, the rest kept -/

theorem first (c : Dev nD) :
    ((dat0 V c).arrAt 4 cfg0.N = fun i : S2x352x1024.Idx => if (i 0 : ℕ) < 1 then G V c i else V c main_v0_0 i)
    ∧ ((dat0 V c).arrAt 5 cfg0.N = fun i : S2x352x1024.Idx => if (i 0 : ℕ) < 1 then D V c i else V c main_v0_1 i)
    ∧ ((dat0 V c).arrAt 6 cfg0.N = fun i : S2x352x1024.Idx => if (i 0 : ℕ) < 1 then M V c i else V c main_v0_2 i)
    ∧ ((dat0 V c).arrAt 7 cfg0.N = fun i : S2x352x1024.Idx => if (i 0 : ℕ) < 1 then Vn V c i else V c main_v0_3 i) := by
  refine ⟨(dat0 V c).arrAt_eq_of_coversWhere 4 _ (fun β => β 0 < 1) (by decide +kernel) (fun t hf y => ?_) (fun j => ?_),
    (dat0 V c).arrAt_eq_of_coversWhere 5 _ (fun β => β 0 < 1) (by decide +kernel) (fun t hf y => ?_) (fun j => ?_),
    (dat0 V c).arrAt_eq_of_coversWhere 6 _ (fun β => β 0 < 1) (by decide +kernel) (fun t hf y => ?_) (fun j => ?_),
    (dat0 V c).arrAt_eq_of_coversWhere 7 _ (fun β => β 0 < 1) (by decide +kernel) (fun t hf y => ?_) (fun j => ?_)⟩
  · rw [after0_4]; unfold_out out0_4; blk_simp; frame_out
    exact (stored0 V c t y).1
  · blk_simp [Pipeline.Window.cell_apply]; try omega
  · rw [after0_5]; unfold_out out0_5; blk_simp; frame_out
    exact (stored0 V c t y).2.1
  · blk_simp [Pipeline.Window.cell_apply]; try omega
  · rw [after0_6]; unfold_out out0_6; blk_simp; frame_out
    exact (stored0 V c t y).2.2.1
  · blk_simp [Pipeline.Window.cell_apply]; try omega
  · rw [after0_7]; unfold_out out0_7; blk_simp; frame_out
    exact (stored0 V c t y).2.2.2
  · blk_simp [Pipeline.Window.cell_apply]; try omega

theorem last (c : Dev nD) :
    ((dat1 V c).arrAt 4 cfg1.N = fun i : S2x352x1024.Idx => if 1 ≤ (i 0 : ℕ) then G V c i else V c main_v1_0 i)
    ∧ ((dat1 V c).arrAt 5 cfg1.N = fun i : S2x352x1024.Idx => if 1 ≤ (i 0 : ℕ) then D V c i else V c main_v1_1 i)
    ∧ ((dat1 V c).arrAt 6 cfg1.N = fun i : S2x352x1024.Idx => if 1 ≤ (i 0 : ℕ) then M V c i else V c main_v1_2 i)
    ∧ ((dat1 V c).arrAt 7 cfg1.N = fun i : S2x352x1024.Idx => if 1 ≤ (i 0 : ℕ) then Vn V c i else V c main_v1_3 i) := by
  refine ⟨(dat1 V c).arrAt_eq_of_coversWhere 4 _ (fun β => 1 ≤ β 0) (by decide +kernel) (fun t hf y => ?_) (fun j => ?_),
    (dat1 V c).arrAt_eq_of_coversWhere 5 _ (fun β => 1 ≤ β 0) (by decide +kernel) (fun t hf y => ?_) (fun j => ?_),
    (dat1 V c).arrAt_eq_of_coversWhere 6 _ (fun β => 1 ≤ β 0) (by decide +kernel) (fun t hf y => ?_) (fun j => ?_),
    (dat1 V c).arrAt_eq_of_coversWhere 7 _ (fun β => 1 ≤ β 0) (by decide +kernel) (fun t hf y => ?_) (fun j => ?_)⟩
  · rw [after1_4, outsAt1]; blk_simp; frame_out
    exact (stored1 V c t y).1
  · blk_simp [Pipeline.Window.cell_apply]; try omega
  · rw [after1_5, outsAt1]; blk_simp; frame_out
    exact (stored1 V c t y).2.1
  · blk_simp [Pipeline.Window.cell_apply]; try omega
  · rw [after1_6, outsAt1]; blk_simp; frame_out
    exact (stored1 V c t y).2.2.1
  · blk_simp [Pipeline.Window.cell_apply]; try omega
  · rw [after1_7, outsAt1]; blk_simp; frame_out
    exact (stored1 V c t y).2.2.2
  · blk_simp [Pipeline.Window.cell_apply]; try omega

/-! ## The results after the run -/

variable (m : (ℓ : Loc nD τ sig) → Buf (Elt Ideal) ℓ) (ρ : Dev nD → PrngReg)

/-- The second call finds in its results what the first left in its own. -/
theorem kept (c : Dev nD) : V2 m ρ c main_v1_0 = V1 m ρ c main_v0_0 ∧ V2 m ρ c main_v1_1 = V1 m ρ c main_v0_1
    ∧ V2 m ρ c main_v1_2 = V1 m ρ c main_v0_2 ∧ V2 m ρ c main_v1_3 = V1 m ρ c main_v0_3 := by
  refine ⟨show StableHlo.after hostOps1 (W1 m ρ c) (Proc.devRef .tc main_v1_0) = W1 m ρ c (Proc.devRef .tc main_v0_0) from ?_,
    show StableHlo.after hostOps1 (W1 m ρ c) (Proc.devRef .tc main_v1_1) = W1 m ρ c (Proc.devRef .tc main_v0_1) from ?_,
    show StableHlo.after hostOps1 (W1 m ρ c) (Proc.devRef .tc main_v1_2) = W1 m ρ c (Proc.devRef .tc main_v0_2) from ?_,
    show StableHlo.after hostOps1 (W1 m ρ c) (Proc.devRef .tc main_v1_3) = W1 m ρ c (Proc.devRef .tc main_v0_3) from ?_⟩
  all_goals after_results
  all_goals rfl

theorem args (c : Dev nD) : ∀ a ∈ argRefs, V2 m ρ c a = V0 m ρ c a := fun a ha => (W2_args m ρ c a ha).trans (W0_args m ρ c a ha).symm

/-- The second call leaves the arguments as the first found them. -/
theorem same (c : Dev nD) : G (V2 m ρ) c = G (V0 m ρ) c ∧ D (V2 m ρ) c = D (V0 m ρ) c ∧ M (V2 m ρ) c = M (V0 m ρ) c ∧ Vn (V2 m ρ) c = Vn (V0 m ρ) c := by
  unfold D M Vn G a0 a1 a2 a3 a4
  rw [args m ρ c main_arg0 (by decide), args m ρ c main_arg1 (by decide), args m ρ c main_arg2 (by decide), args m ρ c main_arg3 (by decide),
    args m ρ c main_arg4 (by decide)]
  exact ⟨rfl, rfl, rfl, rfl⟩

theorem final (c : Dev nD) : W3 m ρ c (Proc.devRef .tc main_v1_0) = G (V0 m ρ) c ∧ W3 m ρ c (Proc.devRef .tc main_v1_1) = D (V0 m ρ) c
    ∧ W3 m ρ c (Proc.devRef .tc main_v1_2) = M (V0 m ρ) c ∧ W3 m ρ c (Proc.devRef .tc main_v1_3) = Vn (V0 m ρ) c := by
  refine ⟨(W3_arr m ρ c 4).trans ((last _ c).1.trans (Eq.trans ?_ (glue (fun i : S2x352x1024.Idx => (i 0 : ℕ)) (G (V0 m ρ) c) (V0 m ρ c main_v0_0)))),
    (W3_arr m ρ c 5).trans ((last _ c).2.1.trans (Eq.trans ?_ (glue (fun i : S2x352x1024.Idx => (i 0 : ℕ)) (D (V0 m ρ) c) (V0 m ρ c main_v0_1)))),
    (W3_arr m ρ c 6).trans ((last _ c).2.2.1.trans (Eq.trans ?_ (glue (fun i : S2x352x1024.Idx => (i 0 : ℕ)) (M (V0 m ρ) c) (V0 m ρ c main_v0_2)))),
    (W3_arr m ρ c 7).trans ((last _ c).2.2.2.trans (Eq.trans ?_ (glue (fun i : S2x352x1024.Idx => (i 0 : ℕ)) (Vn (V0 m ρ) c) (V0 m ρ c main_v0_3))))⟩
  · rw [(same m ρ c).1, (kept m ρ c).1, show V1 m ρ c main_v0_0 = _ from (W1_arr m ρ c 4).trans (first _ c).1]
  · rw [(same m ρ c).2.1, (kept m ρ c).2.1, show V1 m ρ c main_v0_1 = _ from (W1_arr m ρ c 5).trans (first _ c).2.1]
  · rw [(same m ρ c).2.2.1, (kept m ρ c).2.2.1, show V1 m ρ c main_v0_2 = _ from (W1_arr m ρ c 6).trans (first _ c).2.2.1]
  · rw [(same m ρ c).2.2.2, (kept m ρ c).2.2.2, show V1 m ρ c main_v0_3 = _ from (W1_arr m ρ c 7).trans (first _ c).2.2.2]

/-! ## The run -/

open Idealize.SL Idealize.SL.RA Idealize.SL.BI
open scoped Idealize.SL.BI
open Idealize.SL.BI.BIBase Idealize.SL.BI.Laws Idealize.SL.ProofMode
open Idealize.ShloMosaic.Rounds

local notation "𝕄" => MT nD τ sig Unit (Elt Ideal) ℕ (UR sig nD τ) ℕ

set_option backward.isDefEq.respectTransparency.types false in
/-- After the run each array outside the calls holds what the last call left. -/
theorem run_left : θ_run defs (onTc (τ := τ) (main (F := Ideal))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- After the run the results are the reference's arrays of the arguments. -/
theorem run : θ_run defs (onTc (τ := τ) (main (F := Ideal))) ⟨m, fun _ => 0, ρ⟩ (fun r => ∀ c : Dev nD,
      r.2.mem ((c.tc : Thread nD τ).loc main_v1_0) = G (V0 m ρ) c
      ∧ r.2.mem ((c.tc : Thread nD τ).loc main_v1_1) = D (V0 m ρ) c
      ∧ r.2.mem ((c.tc : Thread nD τ).loc main_v1_2) = M (V0 m ρ) c
      ∧ r.2.mem ((c.tc : Thread nD τ).loc main_v1_3) = Vn (V0 m ρ) c) :=
  (θ_run defs _ _).mono (fun _ h c => have f := final m ρ c
    ⟨(h c _ (mem_uc main_v1_0 (by decide))).trans f.1, (h c _ (mem_uc main_v1_1 (by decide))).trans f.2.1,
      (h c _ (mem_uc main_v1_2 (by decide))).trans f.2.2.1, (h c _ (mem_uc main_v1_3 (by decide))).trans f.2.2.2⟩) (run_left m ρ)

end Cert.AdamDownIdeal.Grad
-- ==== Proof.AdamGuValue.lean ====
/- The optimiser on a feed-forward network's gate and up projections: the arrays after the two calls, transposed back, are the reference's. -/
module

public import proofs.«01_k».proof.Proof.Gen.AdamGuIdeal.Frame
public import proofs.«01_k».proof.Proof.Gen.AdamGuRefIdeal
public import proofs.«01_k».proof.Proof.Adam

@[expose] public section

set_option maxRecDepth 16384

noncomputable section

namespace Cert.AdamGuIdeal.Grad

open Cert.AdamGuIdeal.Gen Cert.Adam
open Idealize.ShloMosaic Idealize.ShloMosaic.TcCoe Idealize.SL.Sem
open Idealize.ShloMosaic.Pipeline (Dat)

/-! ## The windows -/

theorem idx0 : ∀ t : Fin cfg0.N, win0_0.index t = ![0, (t : ℕ), 0] ∧ win0_1.index t = ![0, (t : ℕ), 0] ∧ win0_2.index t = ![0, (t : ℕ), 0] ∧ win0_3.index t = ![0, (t : ℕ), 0]
    ∧ win0_4.index t = ![0, (t : ℕ), 0] ∧ win0_5.index t = ![0, (t : ℕ), 0] ∧ win0_6.index t = ![0, (t : ℕ), 0] ∧ win0_7.index t = ![0, (t : ℕ), 0] := (by decide +kernel : ∀ t : Fin grid0.N, _)

theorem idx1 : ∀ t : Fin cfg1.N, win1_0.index t = ![0, (t : ℕ), 0] ∧ win1_1.index t = ![1, (t : ℕ), 0] ∧ win1_2.index t = ![1, (t : ℕ), 0] ∧ win1_3.index t = ![1, (t : ℕ), 0]
    ∧ win1_4.index t = ![1, (t : ℕ), 0] ∧ win1_5.index t = ![1, (t : ℕ), 0] ∧ win1_6.index t = ![1, (t : ℕ), 0] ∧ win1_7.index t = ![1, (t : ℕ), 0] := (by decide +kernel : ∀ t : Fin grid1.N, _)

theorem below {t a : ℕ} (ht : t < 2) (ha : a < 352) : 352 * t + a < 704 := by omega

theorem bcast_S_S2x704x1024 : (⟨0, ![]⟩ : Shape).BroadcastsInDim S2x704x1024 (![] : Fin 0 → Fin S2x704x1024.rank) := by decide

variable (V : (c : Dev nD) → (b : Ref sig .tc) → Buf (Elt Ideal) ((c : Thread nD τ).loc b))

/-- The devices' pieces of the gradient, and the weight and the moments transposed, on a device. -/
abbrev a0 (c : Dev nD) : FVec Ideal S8x704x1024 .bf16 := V c main_arg0
abbrev a1 (c : Dev nD) : FVec Ideal S8x704x1024 .bf16 := V c main_arg1
abbrev a2 (c : Dev nD) : FVec Ideal S2x704x1024 .f32 := V c main_v0
abbrev a3 (c : Dev nD) : FVec Ideal S2x704x1024 .f32 := V c main_v1
abbrev a4 (c : Dev nD) : FVec Ideal S2x704x1024 .f32 := V c main_v2

/-- The reference's arrays of them, transposed as they are. -/
abbrev G (c : Dev nD) : FVec Ideal S2x704x1024 .f32 :=
  rG Cert.AdamGuRefIdeal.Gen.reducesTo_S8x704x1024_S704x1024_d0 Cert.AdamGuRefIdeal.Gen.h_S_ Cert.AdamGuRefIdeal.Gen.bcast_S704x1024_S1x704x1024_1_2
    Cert.AdamGuRefIdeal.Gen.concatenates_S1x704x1024_S1x704x1024_S2x704x1024_d0 bitsLt_bf16_f32 (a0 V c) (a1 V c)
abbrev M (c : Dev nD) : FVec Ideal S2x704x1024 .f32 := rM bcast_S_S2x704x1024 (G V c) (a3 V c)
abbrev Vn (c : Dev nD) : FVec Ideal S2x704x1024 .f32 := rV bcast_S_S2x704x1024 (G V c) (a4 V c)
abbrev D (c : Dev nD) : FVec Ideal S2x704x1024 .f32 := rD bcast_S_S2x704x1024 (a2 V c) (M V c) (Vn V c)

/-! ## What the calls store -/

/-- The gradient's block as a call adds it up. -/
abbrev sum (x : Vec Ideal S8x352x1024 .bf16) : FVec Ideal S352x1024 .f32 := sumB shapeCasts_S1x352x1024_S352x1024 bitsLt_bf16_f32
  (View.ld x r0_0) (View.ld x r0_1) (View.ld x r0_2) (View.ld x r0_3) (View.ld x r0_4) (View.ld x r0_5) (View.ld x r0_6) (View.ld x r0_7)

theorem sum0_at (c : Dev nD) (t : Fin cfg0.N) (y : S1x352x1024.Idx) :
    shapeCast S1x352x1024 (sum (iblk0 V c 0 t)) shapeCasts_S352x1024_S1x352x1024 y = G V c ((win0_4.blk t).view.emb y) := by
  have he : (win0_4.blk t).view.emb y = ix3 (0 : Fin 2) (⟨352 * (t : ℕ) + (y 1 : ℕ), below t.isLt (y 1).isLt⟩ : Fin 704) (y 2 : Fin 1024) := by blk_ext [idx0 t]
  refine (pieces_at _ _ _ (iblk0 V c 0 t) _ _ _ _ _ _ _ _ y).trans (Eq.trans (congrArg gradv (funext fun d => ?_))
    ((rG_at0 _ _ _ _ _ (a0 V c) (a1 V c) (by decide) (by decide) _ _).symm.trans (congrArg _ he.symm)))
  dsimp only [a0]
  blk_point [iblk0, idx0 t]

theorem sum1_at (c : Dev nD) (t : Fin cfg1.N) (y : S1x352x1024.Idx) :
    shapeCast S1x352x1024 (sum (iblk1 V c 0 t)) shapeCasts_S352x1024_S1x352x1024 y = G V c ((win1_4.blk t).view.emb y) := by
  have he : (win1_4.blk t).view.emb y = ix3 (1 : Fin 2) (⟨352 * (t : ℕ) + (y 1 : ℕ), below t.isLt (y 1).isLt⟩ : Fin 704) (y 2 : Fin 1024) := by blk_ext [idx1 t]
  refine (pieces_at _ _ _ (iblk1 V c 0 t) _ _ _ _ _ _ _ _ y).trans (Eq.trans (congrArg gradv (funext fun d => ?_))
    ((rG_at1 _ _ _ _ _ (a0 V c) (a1 V c) (by decide) (by decide) _ _).symm.trans (congrArg _ he.symm)))
  dsimp only [a1]
  blk_point [iblk1, idx1 t]

/-- What a call stores is the reference's on its layer, at the places it stores it. -/
abbrev stored0 (c : Dev nD) (t : Fin cfg0.N) := stored shapeCasts_S1x352x1024_S352x1024 shapeCasts_S352x1024_S1x352x1024 (sum (iblk0 V c 0 t))
  (iblk0 V c 1 t) (iblk0 V c 2 t) (iblk0 V c 3 t) bcast_S_S2x704x1024 (win0_4.blk t).view.emb (G V c) (a2 V c) (a3 V c) (a4 V c)
  (sum0_at V c t) (fun _ => rfl) (fun _ => rfl) (fun _ => rfl)
abbrev stored1 (c : Dev nD) (t : Fin cfg1.N) := stored shapeCasts_S1x352x1024_S352x1024 shapeCasts_S352x1024_S1x352x1024 (sum (iblk1 V c 0 t))
  (iblk1 V c 1 t) (iblk1 V c 2 t) (iblk1 V c 3 t) bcast_S_S2x704x1024 (win1_4.blk t).view.emb (G V c) (a2 V c) (a3 V c) (a4 V c)
  (sum1_at V c t) (fun _ => rfl) (fun _ => rfl) (fun _ => rfl)

/-! ## The arrays after each call: its own layer's part written, the rest kept -/

theorem first (c : Dev nD) :
    ((dat0 V c).arrAt 4 cfg0.N = fun i : S2x704x1024.Idx => if (i 0 : ℕ) < 1 then G V c i else V c main_v3_0 i)
    ∧ ((dat0 V c).arrAt 5 cfg0.N = fun i : S2x704x1024.Idx => if (i 0 : ℕ) < 1 then D V c i else V c main_v3_1 i)
    ∧ ((dat0 V c).arrAt 6 cfg0.N = fun i : S2x704x1024.Idx => if (i 0 : ℕ) < 1 then M V c i else V c main_v3_2 i)
    ∧ ((dat0 V c).arrAt 7 cfg0.N = fun i : S2x704x1024.Idx => if (i 0 : ℕ) < 1 then Vn V c i else V c main_v3_3 i) := by
  refine ⟨(dat0 V c).arrAt_eq_of_coversWhere 4 _ (fun β => β 0 < 1) (by decide +kernel) (fun t hf y => ?_) (fun j => ?_),
    (dat0 V c).arrAt_eq_of_coversWhere 5 _ (fun β => β 0 < 1) (by decide +kernel) (fun t hf y => ?_) (fun j => ?_),
    (dat0 V c).arrAt_eq_of_coversWhere 6 _ (fun β => β 0 < 1) (by decide +kernel) (fun t hf y => ?_) (fun j => ?_),
    (dat0 V c).arrAt_eq_of_coversWhere 7 _ (fun β => β 0 < 1) (by decide +kernel) (fun t hf y => ?_) (fun j => ?_)⟩
  · rw [after0_4]; unfold_out out0_4; blk_simp; frame_out
    exact (stored0 V c t y).1
  · blk_simp [Pipeline.Window.cell_apply]; try omega
  · rw [after0_5]; unfold_out out0_5; blk_simp; frame_out
    exact (stored0 V c t y).2.1
  · blk_simp [Pipeline.Window.cell_apply]; try omega
  · rw [after0_6]; unfold_out out0_6; blk_simp; frame_out
    exact (stored0 V c t y).2.2.1
  · blk_simp [Pipeline.Window.cell_apply]; try omega
  · rw [after0_7]; unfold_out out0_7; blk_simp; frame_out
    exact (stored0 V c t y).2.2.2
  · blk_simp [Pipeline.Window.cell_apply]; try omega

theorem last (c : Dev nD) :
    ((dat1 V c).arrAt 4 cfg1.N = fun i : S2x704x1024.Idx => if 1 ≤ (i 0 : ℕ) then G V c i else V c main_v4_0 i)
    ∧ ((dat1 V c).arrAt 5 cfg1.N = fun i : S2x704x1024.Idx => if 1 ≤ (i 0 : ℕ) then D V c i else V c main_v4_1 i)
    ∧ ((dat1 V c).arrAt 6 cfg1.N = fun i : S2x704x1024.Idx => if 1 ≤ (i 0 : ℕ) then M V c i else V c main_v4_2 i)
    ∧ ((dat1 V c).arrAt 7 cfg1.N = fun i : S2x704x1024.Idx => if 1 ≤ (i 0 : ℕ) then Vn V c i else V c main_v4_3 i) := by
  refine ⟨(dat1 V c).arrAt_eq_of_coversWhere 4 _ (fun β => 1 ≤ β 0) (by decide +kernel) (fun t hf y => ?_) (fun j => ?_),
    (dat1 V c).arrAt_eq_of_coversWhere 5 _ (fun β => 1 ≤ β 0) (by decide +kernel) (fun t hf y => ?_) (fun j => ?_),
    (dat1 V c).arrAt_eq_of_coversWhere 6 _ (fun β => 1 ≤ β 0) (by decide +kernel) (fun t hf y => ?_) (fun j => ?_),
    (dat1 V c).arrAt_eq_of_coversWhere 7 _ (fun β => 1 ≤ β 0) (by decide +kernel) (fun t hf y => ?_) (fun j => ?_)⟩
  · rw [after1_4, outsAt1]; blk_simp; frame_out
    exact (stored1 V c t y).1
  · blk_simp [Pipeline.Window.cell_apply]; try omega
  · rw [after1_5, outsAt1]; blk_simp; frame_out
    exact (stored1 V c t y).2.1
  · blk_simp [Pipeline.Window.cell_apply]; try omega
  · rw [after1_6, outsAt1]; blk_simp; frame_out
    exact (stored1 V c t y).2.2.1
  · blk_simp [Pipeline.Window.cell_apply]; try omega
  · rw [after1_7, outsAt1]; blk_simp; frame_out
    exact (stored1 V c t y).2.2.2
  · blk_simp [Pipeline.Window.cell_apply]; try omega

/-! ## The results after the run -/

variable (m : (ℓ : Loc nD τ sig) → Buf (Elt Ideal) ℓ) (ρ : Dev nD → PrngReg)

/-- The first call finds the weight and the moments transposed. -/
theorem turned (c : Dev nD) :
    V1 m ρ c main_v0 = transpose S2x704x1024 [0, 2, 1] (m ((c : Thread nD τ).loc main_arg2)) transposes_S2x1024x704_S2x704x1024_0_2_1
    ∧ V1 m ρ c main_v1 = transpose S2x704x1024 [0, 2, 1] (m ((c : Thread nD τ).loc main_arg3)) transposes_S2x1024x704_S2x704x1024_0_2_1
    ∧ V1 m ρ c main_v2 = transpose S2x704x1024 [0, 2, 1] (m ((c : Thread nD τ).loc main_arg4)) transposes_S2x1024x704_S2x704x1024_0_2_1 := by
  refine ⟨show StableHlo.after hostOps0 (W0 m ρ c) (Proc.devRef .tc main_v0) = _ from ?_,
    show StableHlo.after hostOps0 (W0 m ρ c) (Proc.devRef .tc main_v1) = _ from ?_,
    show StableHlo.after hostOps0 (W0 m ρ c) (Proc.devRef .tc main_v2) = _ from ?_⟩
  all_goals after_results
  all_goals rfl

/-- The second call finds in its results what the first left in its own. -/
theorem kept (c : Dev nD) : V3 m ρ c main_v4_0 = V2 m ρ c main_v3_0 ∧ V3 m ρ c main_v4_1 = V2 m ρ c main_v3_1
    ∧ V3 m ρ c main_v4_2 = V2 m ρ c main_v3_2 ∧ V3 m ρ c main_v4_3 = V2 m ρ c main_v3_3 := by
  refine ⟨show StableHlo.after hostOps1 (W2 m ρ c) (Proc.devRef .tc main_v4_0) = W2 m ρ c (Proc.devRef .tc main_v3_0) from ?_,
    show StableHlo.after hostOps1 (W2 m ρ c) (Proc.devRef .tc main_v4_1) = W2 m ρ c (Proc.devRef .tc main_v3_1) from ?_,
    show StableHlo.after hostOps1 (W2 m ρ c) (Proc.devRef .tc main_v4_2) = W2 m ρ c (Proc.devRef .tc main_v3_2) from ?_,
    show StableHlo.after hostOps1 (W2 m ρ c) (Proc.devRef .tc main_v4_3) = W2 m ρ c (Proc.devRef .tc main_v3_3) from ?_⟩
  all_goals after_results
  all_goals rfl

/-- The second call finds what the first read as the first found it. -/
theorem args (c : Dev nD) (r : Ref sig .tc) (h : ∀ w : Fin cfg0.W, Pipeline.arrRef spec0 w = r → (cfg0.win w).isOut = false) (h' : r ∉ hostOps1_W) :
    V3 m ρ c r = V1 m ρ c r := (W3_of m ρ c r h').trans (W2_of m ρ c r h)

theorem same (c : Dev nD) : G (V3 m ρ) c = G (V1 m ρ) c ∧ D (V3 m ρ) c = D (V1 m ρ) c ∧ M (V3 m ρ) c = M (V1 m ρ) c ∧ Vn (V3 m ρ) c = Vn (V1 m ρ) c := by
  unfold D M Vn G a0 a1 a2 a3 a4
  rw [args m ρ c main_arg0 (by decide) (by decide), args m ρ c main_arg1 (by decide) (by decide), args m ρ c main_v0 (by decide) (by decide),
    args m ρ c main_v1 (by decide) (by decide), args m ρ c main_v2 (by decide) (by decide)]
  exact ⟨rfl, rfl, rfl, rfl⟩

theorem whole (c : Dev nD) : W4 m ρ c (Proc.devRef .tc main_v4_0) = G (V1 m ρ) c ∧ W4 m ρ c (Proc.devRef .tc main_v4_1) = D (V1 m ρ) c
    ∧ W4 m ρ c (Proc.devRef .tc main_v4_2) = M (V1 m ρ) c ∧ W4 m ρ c (Proc.devRef .tc main_v4_3) = Vn (V1 m ρ) c := by
  refine ⟨(W4_arr m ρ c 4).trans ((last _ c).1.trans (Eq.trans ?_ (glue (fun i : S2x704x1024.Idx => (i 0 : ℕ)) (G (V1 m ρ) c) (V1 m ρ c main_v3_0)))),
    (W4_arr m ρ c 5).trans ((last _ c).2.1.trans (Eq.trans ?_ (glue (fun i : S2x704x1024.Idx => (i 0 : ℕ)) (D (V1 m ρ) c) (V1 m ρ c main_v3_1)))),
    (W4_arr m ρ c 6).trans ((last _ c).2.2.1.trans (Eq.trans ?_ (glue (fun i : S2x704x1024.Idx => (i 0 : ℕ)) (M (V1 m ρ) c) (V1 m ρ c main_v3_2)))),
    (W4_arr m ρ c 7).trans ((last _ c).2.2.2.trans (Eq.trans ?_ (glue (fun i : S2x704x1024.Idx => (i 0 : ℕ)) (Vn (V1 m ρ) c) (V1 m ρ c main_v3_3))))⟩
  · rw [(same m ρ c).1, (kept m ρ c).1, show V2 m ρ c main_v3_0 = _ from (W2_arr m ρ c 4).trans (first _ c).1]
  · rw [(same m ρ c).2.1, (kept m ρ c).2.1, show V2 m ρ c main_v3_1 = _ from (W2_arr m ρ c 5).trans (first _ c).2.1]
  · rw [(same m ρ c).2.2.1, (kept m ρ c).2.2.1, show V2 m ρ c main_v3_2 = _ from (W2_arr m ρ c 6).trans (first _ c).2.2.1]
  · rw [(same m ρ c).2.2.2, (kept m ρ c).2.2.2, show V2 m ρ c main_v3_3 = _ from (W2_arr m ρ c 7).trans (first _ c).2.2.2]

/-- The reference's arrays, of the arguments as they are. -/
abbrev gR (c : Dev nD) : FVec Ideal S2x1024x704 .f32 := transpose S2x1024x704 [0, 2, 1]
  (rG Cert.AdamGuRefIdeal.Gen.reducesTo_S8x704x1024_S704x1024_d0 Cert.AdamGuRefIdeal.Gen.h_S_ Cert.AdamGuRefIdeal.Gen.bcast_S704x1024_S1x704x1024_1_2
    Cert.AdamGuRefIdeal.Gen.concatenates_S1x704x1024_S1x704x1024_S2x704x1024_d0 bitsLt_bf16_f32
    (m ((c : Thread nD τ).loc main_arg0)) (m ((c : Thread nD τ).loc main_arg1))) transposes_S2x704x1024_S2x1024x704_0_2_1
abbrev mR (c : Dev nD) : FVec Ideal S2x1024x704 .f32 := rM Cert.AdamGuRefIdeal.Gen.bcast_S_S2x1024x704 (gR m c) (m ((c : Thread nD τ).loc main_arg3))
abbrev vR (c : Dev nD) : FVec Ideal S2x1024x704 .f32 := rV Cert.AdamGuRefIdeal.Gen.bcast_S_S2x1024x704 (gR m c) (m ((c : Thread nD τ).loc main_arg4))
abbrev dR (c : Dev nD) : FVec Ideal S2x1024x704 .f32 :=
  rD Cert.AdamGuRefIdeal.Gen.bcast_S_S2x1024x704 (m ((c : Thread nD τ).loc main_arg2)) (mR m c) (vR m c)

theorem back_at (c : Dev nD) : transpose S2x1024x704 [0, 2, 1] (G (V1 m ρ) c) transposes_S2x704x1024_S2x1024x704_0_2_1 = gR m c := by
  unfold gR G a0 a1
  rw [show V1 m ρ c main_arg0 = _ from W1_args m ρ c main_arg0 (by decide), show V1 m ρ c main_arg1 = _ from W1_args m ρ c main_arg1 (by decide)]

/-- Transposed back, the calls' arrays are the reference's. -/
abbrev steps (c : Dev nD) := moved bcast_S_S2x704x1024 (G (V1 m ρ) c) (a2 (V1 m ρ) c) (a3 (V1 m ρ) c) (a4 (V1 m ρ) c)
  Cert.AdamGuRefIdeal.Gen.bcast_S_S2x1024x704 (g' := gR m c) (w' := m ((c : Thread nD τ).loc main_arg2)) (m' := m ((c : Thread nD τ).loc main_arg3))
  (v' := m ((c : Thread nD τ).loc main_arg4)) transposes_S2x704x1024_S2x1024x704_0_2_1.src (back_at m ρ c)
  ((congrArg (transpose S2x1024x704 [0, 2, 1] · transposes_S2x704x1024_S2x1024x704_0_2_1) (turned m ρ c).1).trans (transpose_back _ _ _))
  ((congrArg (transpose S2x1024x704 [0, 2, 1] · transposes_S2x704x1024_S2x1024x704_0_2_1) (turned m ρ c).2.1).trans (transpose_back _ _ _))
  ((congrArg (transpose S2x1024x704 [0, 2, 1] · transposes_S2x704x1024_S2x1024x704_0_2_1) (turned m ρ c).2.2).trans (transpose_back _ _ _))

/-- The results are the second call's arrays, transposed back. -/
theorem ends (c : Dev nD) :
    W5 m ρ c (Proc.devRef .tc main_v5) = transpose S2x1024x704 [0, 2, 1] (W4 m ρ c (Proc.devRef .tc main_v4_0)) transposes_S2x704x1024_S2x1024x704_0_2_1
    ∧ W5 m ρ c (Proc.devRef .tc main_v6) = transpose S2x1024x704 [0, 2, 1] (W4 m ρ c (Proc.devRef .tc main_v4_1)) transposes_S2x704x1024_S2x1024x704_0_2_1
    ∧ W5 m ρ c (Proc.devRef .tc main_v7) = transpose S2x1024x704 [0, 2, 1] (W4 m ρ c (Proc.devRef .tc main_v4_2)) transposes_S2x704x1024_S2x1024x704_0_2_1
    ∧ W5 m ρ c (Proc.devRef .tc main_v8) = transpose S2x1024x704 [0, 2, 1] (W4 m ρ c (Proc.devRef .tc main_v4_3)) transposes_S2x704x1024_S2x1024x704_0_2_1 := by
  refine ⟨show StableHlo.after hostOps2 (W4 m ρ c) (Proc.devRef .tc main_v5) = _ from ?_,
    show StableHlo.after hostOps2 (W4 m ρ c) (Proc.devRef .tc main_v6) = _ from ?_,
    show StableHlo.after hostOps2 (W4 m ρ c) (Proc.devRef .tc main_v7) = _ from ?_,
    show StableHlo.after hostOps2 (W4 m ρ c) (Proc.devRef .tc main_v8) = _ from ?_⟩
  all_goals after_results
  all_goals rfl

theorem final (c : Dev nD) : W5 m ρ c (Proc.devRef .tc main_v5) = gR m c ∧ W5 m ρ c (Proc.devRef .tc main_v6) = dR m c
    ∧ W5 m ρ c (Proc.devRef .tc main_v7) = mR m c ∧ W5 m ρ c (Proc.devRef .tc main_v8) = vR m c := by
  refine ⟨(ends m ρ c).1.trans ?_, (ends m ρ c).2.1.trans ?_, (ends m ρ c).2.2.1.trans ?_, (ends m ρ c).2.2.2.trans ?_⟩
  · rw [(whole m ρ c).1]; exact back_at m ρ c
  · rw [(whole m ρ c).2.1]; exact (steps m ρ c).1
  · rw [(whole m ρ c).2.2.1]; exact (steps m ρ c).2.1
  · rw [(whole m ρ c).2.2.2]; exact (steps m ρ c).2.2

/-! ## The run -/

open Idealize.SL Idealize.SL.RA Idealize.SL.BI
open scoped Idealize.SL.BI
open Idealize.SL.BI.BIBase Idealize.SL.BI.Laws Idealize.SL.ProofMode
open Idealize.ShloMosaic.Rounds

local notation "𝕄" => MT nD τ sig Unit (Elt Ideal) ℕ (UR sig nD τ) ℕ

set_option backward.isDefEq.respectTransparency.types false in
/-- After the run each array outside the calls holds what the last transposes left. -/
theorem run_left : θ_run defs (onTc (τ := τ) (main (F := Ideal))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- After the run the results are the reference's arrays of the arguments. -/
theorem run : θ_run defs (onTc (τ := τ) (main (F := Ideal))) ⟨m, fun _ => 0, ρ⟩ (fun r => ∀ c : Dev nD,
      r.2.mem ((c.tc : Thread nD τ).loc main_v5) = gR m c
      ∧ r.2.mem ((c.tc : Thread nD τ).loc main_v6) = dR m c
      ∧ r.2.mem ((c.tc : Thread nD τ).loc main_v7) = mR m c
      ∧ r.2.mem ((c.tc : Thread nD τ).loc main_v8) = vR m c) :=
  (θ_run defs _ _).mono (fun _ h c => have f := final m ρ c
    ⟨(h c _ (mem_uc main_v5 (by decide))).trans f.1, (h c _ (mem_uc main_v6 (by decide))).trans f.2.1,
      (h c _ (mem_uc main_v7 (by decide))).trans f.2.2.1, (h c _ (mem_uc main_v8 (by decide))).trans f.2.2.2⟩) (run_left m ρ)

end Cert.AdamGuIdeal.Grad
-- ==== Proof.AdamSmallValue.lean ====
/- The optimiser on the two small projections packed together: the arrays after the two calls, cut apart, are the reference's. -/
module

public import proofs.«01_k».proof.Proof.Gen.AdamSmallIdeal.Frame
public import proofs.«01_k».proof.Proof.Gen.AdamSmallRefIdeal
public import proofs.«01_k».proof.Proof.Adam

@[expose] public section

set_option maxRecDepth 16384

noncomputable section

namespace Cert.AdamSmallIdeal.Grad

open Cert.AdamSmallIdeal.Gen Cert.Adam
open Idealize.ShloMosaic Idealize.ShloMosaic.TcCoe Idealize.SL.Sem
open Idealize.ShloMosaic.Pipeline (Dat)

/-! ## The windows -/

theorem idx0 : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] := (by decide +kernel : ∀ t : Fin grid0.N, _)

theorem idx1 : ∀ t : Fin cfg1.N, win1_0.index t = ![0, 0, 0] ∧ win1_1.index t = ![1, 0, 0] ∧ win1_2.index t = ![1, 0, 0] ∧ win1_3.index t = ![1, 0, 0]
    ∧ win1_4.index t = ![1, 0, 0] ∧ win1_5.index t = ![1, 0, 0] ∧ win1_6.index t = ![1, 0, 0] ∧ win1_7.index t = ![1, 0, 0] := (by decide +kernel : ∀ t : Fin grid1.N, _)

theorem bcast_S_S2x384x128 : (⟨0, ![]⟩ : Shape).BroadcastsInDim S2x384x128 (![] : Fin 0 → Fin S2x384x128.rank) := by decide

variable (V : (c : Dev nD) → (b : Ref sig .tc) → Buf (Elt Ideal) ((c : Thread nD τ).loc b))

/-- The devices' pieces of the packed gradient, and the packed weights and moments, on a device. -/
abbrev a0 (c : Dev nD) : FVec Ideal S8x384x128 .bf16 := V c main_arg0
abbrev a1 (c : Dev nD) : FVec Ideal S8x384x128 .bf16 := V c main_arg1
abbrev a2 (c : Dev nD) : FVec Ideal S2x384x128 .f32 := V c main_v2
abbrev a3 (c : Dev nD) : FVec Ideal S2x384x128 .f32 := V c main_v5
abbrev a4 (c : Dev nD) : FVec Ideal S2x384x128 .f32 := V c main_v8

/-- The reference's arrays of them, packed as they are. -/
abbrev G (c : Dev nD) : FVec Ideal S2x384x128 .f32 :=
  rG Cert.AdamSmallRefIdeal.Gen.reducesTo_S8x384x128_S384x128_d0 Cert.AdamSmallRefIdeal.Gen.h_S_ Cert.AdamSmallRefIdeal.Gen.bcast_S384x128_S1x384x128_1_2
    Cert.AdamSmallRefIdeal.Gen.concatenates_S1x384x128_S1x384x128_S2x384x128_d0 bitsLt_bf16_f32 (a0 V c) (a1 V c)
abbrev M (c : Dev nD) : FVec Ideal S2x384x128 .f32 := rM bcast_S_S2x384x128 (G V c) (a3 V c)
abbrev Vn (c : Dev nD) : FVec Ideal S2x384x128 .f32 := rV bcast_S_S2x384x128 (G V c) (a4 V c)
abbrev D (c : Dev nD) : FVec Ideal S2x384x128 .f32 := rD bcast_S_S2x384x128 (a2 V c) (M V c) (Vn V c)

/-! ## What the calls store -/

/-- The gradient's block as a call adds it up. -/
abbrev sum (x : Vec Ideal S8x384x128 .bf16) : FVec Ideal S384x128 .f32 := sumB shapeCasts_S1x384x128_S384x128 bitsLt_bf16_f32
  (View.ld x r0_0) (View.ld x r0_1) (View.ld x r0_2) (View.ld x r0_3) (View.ld x r0_4) (View.ld x r0_5) (View.ld x r0_6) (View.ld x r0_7)

theorem sum0_at (c : Dev nD) (t : Fin cfg0.N) (y : S1x384x128.Idx) :
    shapeCast S1x384x128 (sum (iblk0 V c 0 t)) shapeCasts_S384x128_S1x384x128 y = G V c ((win0_4.blk t).view.emb y) := by
  have he : (win0_4.blk t).view.emb y = ix3 (0 : Fin 2) (y 1 : Fin 384) (y 2 : Fin 128) := by blk_ext [idx0 t]
  refine (pieces_at _ _ _ (iblk0 V c 0 t) _ _ _ _ _ _ _ _ y).trans (Eq.trans (congrArg gradv (funext fun d => ?_))
    ((rG_at0 _ _ _ _ _ (a0 V c) (a1 V c) (by decide) (by decide) _ _).symm.trans (congrArg _ he.symm)))
  dsimp only [a0]
  blk_point [iblk0, idx0 t]

theorem sum1_at (c : Dev nD) (t : Fin cfg1.N) (y : S1x384x128.Idx) :
    shapeCast S1x384x128 (sum (iblk1 V c 0 t)) shapeCasts_S384x128_S1x384x128 y = G V c ((win1_4.blk t).view.emb y) := by
  have he : (win1_4.blk t).view.emb y = ix3 (1 : Fin 2) (y 1 : Fin 384) (y 2 : Fin 128) := by blk_ext [idx1 t]
  refine (pieces_at _ _ _ (iblk1 V c 0 t) _ _ _ _ _ _ _ _ y).trans (Eq.trans (congrArg gradv (funext fun d => ?_))
    ((rG_at1 _ _ _ _ _ (a0 V c) (a1 V c) (by decide) (by decide) _ _).symm.trans (congrArg _ he.symm)))
  dsimp only [a1]
  blk_point [iblk1, idx1 t]

/-- What a call stores is the reference's on its layer, at the places it stores it. -/
abbrev stored0 (c : Dev nD) (t : Fin cfg0.N) := stored shapeCasts_S1x384x128_S384x128 shapeCasts_S384x128_S1x384x128 (sum (iblk0 V c 0 t))
  (iblk0 V c 1 t) (iblk0 V c 2 t) (iblk0 V c 3 t) bcast_S_S2x384x128 (win0_4.blk t).view.emb (G V c) (a2 V c) (a3 V c) (a4 V c)
  (sum0_at V c t) (fun _ => rfl) (fun _ => rfl) (fun _ => rfl)
abbrev stored1 (c : Dev nD) (t : Fin cfg1.N) := stored shapeCasts_S1x384x128_S384x128 shapeCasts_S384x128_S1x384x128 (sum (iblk1 V c 0 t))
  (iblk1 V c 1 t) (iblk1 V c 2 t) (iblk1 V c 3 t) bcast_S_S2x384x128 (win1_4.blk t).view.emb (G V c) (a2 V c) (a3 V c) (a4 V c)
  (sum1_at V c t) (fun _ => rfl) (fun _ => rfl) (fun _ => rfl)

/-! ## The arrays after each call: its own layer's part written, the rest kept -/

theorem first (c : Dev nD) :
    ((dat0 V c).arrAt 4 cfg0.N = fun i : S2x384x128.Idx => if (i 0 : ℕ) < 1 then G V c i else V c main_v9_0 i)
    ∧ ((dat0 V c).arrAt 5 cfg0.N = fun i : S2x384x128.Idx => if (i 0 : ℕ) < 1 then D V c i else V c main_v9_1 i)
    ∧ ((dat0 V c).arrAt 6 cfg0.N = fun i : S2x384x128.Idx => if (i 0 : ℕ) < 1 then M V c i else V c main_v9_2 i)
    ∧ ((dat0 V c).arrAt 7 cfg0.N = fun i : S2x384x128.Idx => if (i 0 : ℕ) < 1 then Vn V c i else V c main_v9_3 i) := by
  refine ⟨(dat0 V c).arrAt_eq_of_coversWhere 4 _ (fun β => β 0 < 1) (by decide +kernel) (fun t hf y => ?_) (fun j => ?_),
    (dat0 V c).arrAt_eq_of_coversWhere 5 _ (fun β => β 0 < 1) (by decide +kernel) (fun t hf y => ?_) (fun j => ?_),
    (dat0 V c).arrAt_eq_of_coversWhere 6 _ (fun β => β 0 < 1) (by decide +kernel) (fun t hf y => ?_) (fun j => ?_),
    (dat0 V c).arrAt_eq_of_coversWhere 7 _ (fun β => β 0 < 1) (by decide +kernel) (fun t hf y => ?_) (fun j => ?_)⟩
  · rw [after0_4]; unfold_out out0_4; blk_simp; frame_out
    exact (stored0 V c t y).1
  · blk_simp [Pipeline.Window.cell_apply]; try omega
  · rw [after0_5]; unfold_out out0_5; blk_simp; frame_out
    exact (stored0 V c t y).2.1
  · blk_simp [Pipeline.Window.cell_apply]; try omega
  · rw [after0_6]; unfold_out out0_6; blk_simp; frame_out
    exact (stored0 V c t y).2.2.1
  · blk_simp [Pipeline.Window.cell_apply]; try omega
  · rw [after0_7]; unfold_out out0_7; blk_simp; frame_out
    exact (stored0 V c t y).2.2.2
  · blk_simp [Pipeline.Window.cell_apply]; try omega

theorem last (c : Dev nD) :
    ((dat1 V c).arrAt 4 cfg1.N = fun i : S2x384x128.Idx => if 1 ≤ (i 0 : ℕ) then G V c i else V c main_v10_0 i)
    ∧ ((dat1 V c).arrAt 5 cfg1.N = fun i : S2x384x128.Idx => if 1 ≤ (i 0 : ℕ) then D V c i else V c main_v10_1 i)
    ∧ ((dat1 V c).arrAt 6 cfg1.N = fun i : S2x384x128.Idx => if 1 ≤ (i 0 : ℕ) then M V c i else V c main_v10_2 i)
    ∧ ((dat1 V c).arrAt 7 cfg1.N = fun i : S2x384x128.Idx => if 1 ≤ (i 0 : ℕ) then Vn V c i else V c main_v10_3 i) := by
  refine ⟨(dat1 V c).arrAt_eq_of_coversWhere 4 _ (fun β => 1 ≤ β 0) (by decide +kernel) (fun t hf y => ?_) (fun j => ?_),
    (dat1 V c).arrAt_eq_of_coversWhere 5 _ (fun β => 1 ≤ β 0) (by decide +kernel) (fun t hf y => ?_) (fun j => ?_),
    (dat1 V c).arrAt_eq_of_coversWhere 6 _ (fun β => 1 ≤ β 0) (by decide +kernel) (fun t hf y => ?_) (fun j => ?_),
    (dat1 V c).arrAt_eq_of_coversWhere 7 _ (fun β => 1 ≤ β 0) (by decide +kernel) (fun t hf y => ?_) (fun j => ?_)⟩
  · rw [after1_4, outsAt1]; blk_simp; frame_out
    exact (stored1 V c t y).1
  · blk_simp [Pipeline.Window.cell_apply]; try omega
  · rw [after1_5, outsAt1]; blk_simp; frame_out
    exact (stored1 V c t y).2.1
  · blk_simp [Pipeline.Window.cell_apply]; try omega
  · rw [after1_6, outsAt1]; blk_simp; frame_out
    exact (stored1 V c t y).2.2.1
  · blk_simp [Pipeline.Window.cell_apply]; try omega
  · rw [after1_7, outsAt1]; blk_simp; frame_out
    exact (stored1 V c t y).2.2.2
  · blk_simp [Pipeline.Window.cell_apply]; try omega

/-! ## The packs -/

/-- Two weights' arrays one under the other, each filled up with zeros on the right. -/
abbrev pack (x : FVec Ideal S2x256x72 .f32) (y : FVec Ideal S2x128x96 .f32) : FVec Ideal S2x384x128 .f32 :=
  concatenate S2x384x128 1 [
    ⟨S2x256x128, pad S2x256x128 ![0, 0, 0] ![0, 0, 56] ![0, 0, 0] x (sitofp .f32 (constantI S_ 32 0#32)) pads_S2x256x72_S2x256x128_000_000_0560 h_S_⟩,
    ⟨S2x128x128, pad S2x128x128 ![0, 0, 0] ![0, 0, 32] ![0, 0, 0] y (sitofp .f32 (constantI S_ 32 0#32)) pads_S2x128x96_S2x128x128_000_000_0320 h_S_⟩]
    concatenates_S2x256x128_S2x128x128_S2x384x128_d1

/-- The pack's upper and lower part, and where their entries lie. -/
abbrev cutQ (x : FVec Ideal S2x384x128 .f32) : FVec Ideal S2x256x72 .f32 := extractStridedSlice S2x256x72 ![0, 0, 0] x slices_S2x384x128_S2x256x72_0_0_0
abbrev cutK (x : FVec Ideal S2x384x128 .f32) : FVec Ideal S2x128x96 .f32 := extractStridedSlice S2x128x96 ![0, 256, 0] x slices_S2x384x128_S2x128x96_0_256_0
abbrev atQ : S2x256x72.Idx → S2x384x128.Idx := extractStridedSlice (s := S2x384x128) S2x256x72 ![0, 0, 0] (fun i => i) slices_S2x384x128_S2x256x72_0_0_0
abbrev atK : S2x128x96.Idx → S2x384x128.Idx := extractStridedSlice (s := S2x384x128) S2x128x96 ![0, 256, 0] (fun i => i) slices_S2x384x128_S2x128x96_0_256_0

/-- Cut apart, a pack is the arrays packed. -/
theorem upper (x : FVec Ideal S2x256x72 .f32) (y : FVec Ideal S2x128x96 .f32) :
    cutQ (pack x y) = x := by
  funext i
  pointwise [cutQ, pack]

theorem lower (x : FVec Ideal S2x256x72 .f32) (y : FVec Ideal S2x128x96 .f32) :
    cutK (pack x y) = y := by
  funext i
  pointwise [cutK, pack]

variable (m : (ℓ : Loc nD τ sig) → Buf (Elt Ideal) ℓ) (ρ : Dev nD → PrngReg)

theorem packed (c : Dev nD) :
    V13 m ρ c main_v2 = pack (m ((c : Thread nD τ).loc main_arg2)) (m ((c : Thread nD τ).loc main_arg3))
    ∧ V13 m ρ c main_v5 = pack (m ((c : Thread nD τ).loc main_arg4)) (m ((c : Thread nD τ).loc main_arg5))
    ∧ V13 m ρ c main_v8 = pack (m ((c : Thread nD τ).loc main_arg6)) (m ((c : Thread nD τ).loc main_arg7)) := by
  refine ⟨?_, ?_, ?_⟩
  all_goals dsimp only [V13, W13, W12, W11, W10, W9, W8, W7, W6, W5, W4, W3, W2, W1]
  all_goals after_results
  all_goals rfl

/-! ## The results after the run -/

/-- The second call finds in its results what the first left in its own. -/
theorem kept (c : Dev nD) : V15 m ρ c main_v10_0 = V14 m ρ c main_v9_0 ∧ V15 m ρ c main_v10_1 = V14 m ρ c main_v9_1
    ∧ V15 m ρ c main_v10_2 = V14 m ρ c main_v9_2 ∧ V15 m ρ c main_v10_3 = V14 m ρ c main_v9_3 := by
  refine ⟨show StableHlo.after hostOps1 (W14 m ρ c) (Proc.devRef .tc main_v10_0) = W14 m ρ c (Proc.devRef .tc main_v9_0) from ?_,
    show StableHlo.after hostOps1 (W14 m ρ c) (Proc.devRef .tc main_v10_1) = W14 m ρ c (Proc.devRef .tc main_v9_1) from ?_,
    show StableHlo.after hostOps1 (W14 m ρ c) (Proc.devRef .tc main_v10_2) = W14 m ρ c (Proc.devRef .tc main_v9_2) from ?_,
    show StableHlo.after hostOps1 (W14 m ρ c) (Proc.devRef .tc main_v10_3) = W14 m ρ c (Proc.devRef .tc main_v9_3) from ?_⟩
  all_goals after_results
  all_goals rfl

/-- The second call finds what the first read as the first found it. -/
theorem args (c : Dev nD) (r : Ref sig .tc) (h : ∀ w : Fin cfg0.W, Pipeline.arrRef spec0 w = r → (cfg0.win w).isOut = false) (h' : r ∉ hostOps1_W) :
    V15 m ρ c r = V13 m ρ c r := (W15_of m ρ c r h').trans (W14_of m ρ c r h)

theorem same (c : Dev nD) : G (V15 m ρ) c = G (V13 m ρ) c ∧ D (V15 m ρ) c = D (V13 m ρ) c ∧ M (V15 m ρ) c = M (V13 m ρ) c ∧ Vn (V15 m ρ) c = Vn (V13 m ρ) c := by
  unfold D M Vn G a0 a1 a2 a3 a4
  rw [args m ρ c main_arg0 (by decide) (by decide), args m ρ c main_arg1 (by decide) (by decide), args m ρ c main_v2 (by decide) (by decide),
    args m ρ c main_v5 (by decide) (by decide), args m ρ c main_v8 (by decide) (by decide)]
  exact ⟨rfl, rfl, rfl, rfl⟩

theorem whole (c : Dev nD) : W16 m ρ c (Proc.devRef .tc main_v10_0) = G (V13 m ρ) c ∧ W16 m ρ c (Proc.devRef .tc main_v10_1) = D (V13 m ρ) c
    ∧ W16 m ρ c (Proc.devRef .tc main_v10_2) = M (V13 m ρ) c ∧ W16 m ρ c (Proc.devRef .tc main_v10_3) = Vn (V13 m ρ) c := by
  refine ⟨(W16_arr m ρ c 4).trans ((last _ c).1.trans (Eq.trans ?_ (glue (fun i : S2x384x128.Idx => (i 0 : ℕ)) (G (V13 m ρ) c) (V13 m ρ c main_v9_0)))),
    (W16_arr m ρ c 5).trans ((last _ c).2.1.trans (Eq.trans ?_ (glue (fun i : S2x384x128.Idx => (i 0 : ℕ)) (D (V13 m ρ) c) (V13 m ρ c main_v9_1)))),
    (W16_arr m ρ c 6).trans ((last _ c).2.2.1.trans (Eq.trans ?_ (glue (fun i : S2x384x128.Idx => (i 0 : ℕ)) (M (V13 m ρ) c) (V13 m ρ c main_v9_2)))),
    (W16_arr m ρ c 7).trans ((last _ c).2.2.2.trans (Eq.trans ?_ (glue (fun i : S2x384x128.Idx => (i 0 : ℕ)) (Vn (V13 m ρ) c) (V13 m ρ c main_v9_3))))⟩
  · rw [(same m ρ c).1, (kept m ρ c).1, show V14 m ρ c main_v9_0 = _ from (W14_arr m ρ c 4).trans (first _ c).1]
  · rw [(same m ρ c).2.1, (kept m ρ c).2.1, show V14 m ρ c main_v9_1 = _ from (W14_arr m ρ c 5).trans (first _ c).2.1]
  · rw [(same m ρ c).2.2.1, (kept m ρ c).2.2.1, show V14 m ρ c main_v9_2 = _ from (W14_arr m ρ c 6).trans (first _ c).2.2.1]
  · rw [(same m ρ c).2.2.2, (kept m ρ c).2.2.2, show V14 m ρ c main_v9_3 = _ from (W14_arr m ρ c 7).trans (first _ c).2.2.2]

/-- The reference's arrays of the arguments, of the first weight and of the second. -/
abbrev gP (c : Dev nD) : FVec Ideal S2x384x128 .f32 :=
  rG Cert.AdamSmallRefIdeal.Gen.reducesTo_S8x384x128_S384x128_d0 Cert.AdamSmallRefIdeal.Gen.h_S_ Cert.AdamSmallRefIdeal.Gen.bcast_S384x128_S1x384x128_1_2
    Cert.AdamSmallRefIdeal.Gen.concatenates_S1x384x128_S1x384x128_S2x384x128_d0 bitsLt_bf16_f32
    (m ((c : Thread nD τ).loc main_arg0)) (m ((c : Thread nD τ).loc main_arg1))
abbrev gQ (c : Dev nD) : FVec Ideal S2x256x72 .f32 := cutQ (gP m c)
abbrev mQ (c : Dev nD) : FVec Ideal S2x256x72 .f32 := rM Cert.AdamSmallRefIdeal.Gen.bcast_S_S2x256x72 (gQ m c) (m ((c : Thread nD τ).loc main_arg4))
abbrev vQ (c : Dev nD) : FVec Ideal S2x256x72 .f32 := rV Cert.AdamSmallRefIdeal.Gen.bcast_S_S2x256x72 (gQ m c) (m ((c : Thread nD τ).loc main_arg6))
abbrev dQ (c : Dev nD) : FVec Ideal S2x256x72 .f32 :=
  rD Cert.AdamSmallRefIdeal.Gen.bcast_S_S2x256x72 (m ((c : Thread nD τ).loc main_arg2)) (mQ m c) (vQ m c)
abbrev gK (c : Dev nD) : FVec Ideal S2x128x96 .f32 := cutK (gP m c)
abbrev mK (c : Dev nD) : FVec Ideal S2x128x96 .f32 := rM Cert.AdamSmallRefIdeal.Gen.bcast_S_S2x128x96 (gK m c) (m ((c : Thread nD τ).loc main_arg5))
abbrev vK (c : Dev nD) : FVec Ideal S2x128x96 .f32 := rV Cert.AdamSmallRefIdeal.Gen.bcast_S_S2x128x96 (gK m c) (m ((c : Thread nD τ).loc main_arg7))
abbrev dK (c : Dev nD) : FVec Ideal S2x128x96 .f32 :=
  rD Cert.AdamSmallRefIdeal.Gen.bcast_S_S2x128x96 (m ((c : Thread nD τ).loc main_arg3)) (mK m c) (vK m c)

theorem G_eq (c : Dev nD) : G (V13 m ρ) c = gP m c := by
  unfold gP G a0 a1
  rw [show V13 m ρ c main_arg0 = _ from W13_args m ρ c main_arg0 (by decide), show V13 m ρ c main_arg1 = _ from W13_args m ρ c main_arg1 (by decide)]

/-- Cut apart, the calls' arrays are the reference's. -/
abbrev stepsQ (c : Dev nD) := moved bcast_S_S2x384x128 (G (V13 m ρ) c) (a2 (V13 m ρ) c) (a3 (V13 m ρ) c) (a4 (V13 m ρ) c)
  Cert.AdamSmallRefIdeal.Gen.bcast_S_S2x256x72 (g' := gQ m c) (w' := m ((c : Thread nD τ).loc main_arg2)) (m' := m ((c : Thread nD τ).loc main_arg4))
  (v' := m ((c : Thread nD τ).loc main_arg6)) atQ
  (congrArg cutQ (G_eq m ρ c))
  ((congrArg cutQ (packed m ρ c).1).trans (upper _ _))
  ((congrArg cutQ (packed m ρ c).2.1).trans (upper _ _))
  ((congrArg cutQ (packed m ρ c).2.2).trans (upper _ _))
abbrev stepsK (c : Dev nD) := moved bcast_S_S2x384x128 (G (V13 m ρ) c) (a2 (V13 m ρ) c) (a3 (V13 m ρ) c) (a4 (V13 m ρ) c)
  Cert.AdamSmallRefIdeal.Gen.bcast_S_S2x128x96 (g' := gK m c) (w' := m ((c : Thread nD τ).loc main_arg3)) (m' := m ((c : Thread nD τ).loc main_arg5))
  (v' := m ((c : Thread nD τ).loc main_arg7)) atK
  (congrArg cutK (G_eq m ρ c))
  ((congrArg cutK (packed m ρ c).1).trans (lower _ _))
  ((congrArg cutK (packed m ρ c).2.1).trans (lower _ _))
  ((congrArg cutK (packed m ρ c).2.2).trans (lower _ _))

/-- The results are the second call's arrays, cut apart. -/
theorem ends (c : Dev nD) :
    W17 m ρ c (Proc.devRef .tc main_v11) = cutQ (W16 m ρ c (Proc.devRef .tc main_v10_0))
    ∧ W17 m ρ c (Proc.devRef .tc main_v13) = cutQ (W16 m ρ c (Proc.devRef .tc main_v10_1))
    ∧ W17 m ρ c (Proc.devRef .tc main_v15) = cutQ (W16 m ρ c (Proc.devRef .tc main_v10_2))
    ∧ W17 m ρ c (Proc.devRef .tc main_v17) = cutQ (W16 m ρ c (Proc.devRef .tc main_v10_3))
    ∧ W17 m ρ c (Proc.devRef .tc main_v12) = cutK (W16 m ρ c (Proc.devRef .tc main_v10_0))
    ∧ W17 m ρ c (Proc.devRef .tc main_v14) = cutK (W16 m ρ c (Proc.devRef .tc main_v10_1))
    ∧ W17 m ρ c (Proc.devRef .tc main_v16) = cutK (W16 m ρ c (Proc.devRef .tc main_v10_2))
    ∧ W17 m ρ c (Proc.devRef .tc main_v18) = cutK (W16 m ρ c (Proc.devRef .tc main_v10_3)) := by
  refine ⟨show StableHlo.after hostOps2 (W16 m ρ c) (Proc.devRef .tc main_v11) = _ from ?_,
    show StableHlo.after hostOps2 (W16 m ρ c) (Proc.devRef .tc main_v13) = _ from ?_,
    show StableHlo.after hostOps2 (W16 m ρ c) (Proc.devRef .tc main_v15) = _ from ?_,
    show StableHlo.after hostOps2 (W16 m ρ c) (Proc.devRef .tc main_v17) = _ from ?_,
    show StableHlo.after hostOps2 (W16 m ρ c) (Proc.devRef .tc main_v12) = _ from ?_,
    show StableHlo.after hostOps2 (W16 m ρ c) (Proc.devRef .tc main_v14) = _ from ?_,
    show StableHlo.after hostOps2 (W16 m ρ c) (Proc.devRef .tc main_v16) = _ from ?_,
    show StableHlo.after hostOps2 (W16 m ρ c) (Proc.devRef .tc main_v18) = _ from ?_⟩
  all_goals after_results
  all_goals rfl

theorem final (c : Dev nD) : W17 m ρ c (Proc.devRef .tc main_v11) = gQ m c
    ∧ W17 m ρ c (Proc.devRef .tc main_v13) = dQ m c
    ∧ W17 m ρ c (Proc.devRef .tc main_v15) = mQ m c
    ∧ W17 m ρ c (Proc.devRef .tc main_v17) = vQ m c
    ∧ W17 m ρ c (Proc.devRef .tc main_v12) = gK m c
    ∧ W17 m ρ c (Proc.devRef .tc main_v14) = dK m c
    ∧ W17 m ρ c (Proc.devRef .tc main_v16) = mK m c
    ∧ W17 m ρ c (Proc.devRef .tc main_v18) = vK m c := by
  have h := ends m ρ c
  rw [(whole m ρ c).1, (whole m ρ c).2.1, (whole m ρ c).2.2.1, (whole m ρ c).2.2.2] at h
  exact ⟨h.1.trans (congrArg cutQ (G_eq m ρ c)),
    h.2.1.trans (stepsQ m ρ c).1,
    h.2.2.1.trans (stepsQ m ρ c).2.1,
    h.2.2.2.1.trans (stepsQ m ρ c).2.2,
    h.2.2.2.2.1.trans (congrArg cutK (G_eq m ρ c)),
    h.2.2.2.2.2.1.trans (stepsK m ρ c).1,
    h.2.2.2.2.2.2.1.trans (stepsK m ρ c).2.1,
    h.2.2.2.2.2.2.2.trans (stepsK m ρ c).2.2⟩

/-! ## The run -/

open Idealize.SL Idealize.SL.RA Idealize.SL.BI
open scoped Idealize.SL.BI
open Idealize.SL.BI.BIBase Idealize.SL.BI.Laws Idealize.SL.ProofMode
open Idealize.ShloMosaic.Rounds

local notation "𝕄" => MT nD τ sig Unit (Elt Ideal) ℕ (UR sig nD τ) ℕ

set_option backward.isDefEq.respectTransparency.types false in
/-- After the run each array outside the calls holds what the last cuts left. -/
theorem run_left : θ_run defs (onTc (τ := τ) (main (F := Ideal))) ⟨m, fun _ => 0, ρ⟩
    (fun r => ∀ c : Dev nD, ∀ b ∈ Pipeline.ucRefs τ sig, r.2.mem (((c : Thread nD τ)).1, b) = W17 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h _ => h)

/-- After the run the results are the reference's arrays of the arguments. -/
theorem run : θ_run defs (onTc (τ := τ) (main (F := Ideal))) ⟨m, fun _ => 0, ρ⟩ (fun r => ∀ c : Dev nD,
      r.2.mem ((c.tc : Thread nD τ).loc main_v11) = gQ m c
      ∧ r.2.mem ((c.tc : Thread nD τ).loc main_v13) = dQ m c
      ∧ r.2.mem ((c.tc : Thread nD τ).loc main_v15) = mQ m c
      ∧ r.2.mem ((c.tc : Thread nD τ).loc main_v17) = vQ m c
      ∧ r.2.mem ((c.tc : Thread nD τ).loc main_v12) = gK m c
      ∧ r.2.mem ((c.tc : Thread nD τ).loc main_v14) = dK m c
      ∧ r.2.mem ((c.tc : Thread nD τ).loc main_v16) = mK m c
      ∧ r.2.mem ((c.tc : Thread nD τ).loc main_v18) = vK m c) :=
  (θ_run defs _ _).mono (fun _ h c => have f := final m ρ c
    ⟨(h c _ (mem_uc main_v11 (by decide))).trans f.1,
      (h c _ (mem_uc main_v13 (by decide))).trans f.2.1,
      (h c _ (mem_uc main_v15 (by decide))).trans f.2.2.1,
      (h c _ (mem_uc main_v17 (by decide))).trans f.2.2.2.1,
      (h c _ (mem_uc main_v12 (by decide))).trans f.2.2.2.2.1,
      (h c _ (mem_uc main_v14 (by decide))).trans f.2.2.2.2.2.1,
      (h c _ (mem_uc main_v16 (by decide))).trans f.2.2.2.2.2.2.1,
      (h c _ (mem_uc main_v18 (by decide))).trans f.2.2.2.2.2.2.2⟩) (run_left m ρ)

end Cert.AdamSmallIdeal.Grad
-- ==== Proof.lean ====
module

public import proofs.«01_k».proof.Proof.Run
public import proofs.«01_k».proof.Proof.Gen.ReferenceIdeal.Run
public import proofs.«01_k».proof.Defs
public import proofs.«01_k».proof.Proof.Gen.Kernel
public import proofs.«01_k».proof.Proof.Same
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Equal
public import proofs.«01_k».proof.Proof.Gen.FfnBwd
public import proofs.«01_k».proof.Proof.Gen.FfnBwd.Frame
public import proofs.«01_k».proof.Proof.Gen.FfnBwdIdeal
public import proofs.«01_k».proof.Proof.Gen.FfnBwdIdeal.Frame
public import proofs.«01_k».proof.Proof.Gen.FfnBwdRefIdeal
public import proofs.«01_k».proof.Proof.Gen.FfnBwdRefIdeal.Run
public import proofs.«01_k».proof.Proof.Gen.Pre_finite_bwd
public import proofs.«01_k».proof.Proof.DwUpValue
public import proofs.«01_k».proof.Proof.DwDownValue
public import proofs.«01_k».proof.Proof.DwInValue
public import proofs.«01_k».proof.Proof.DwOutValue
public import proofs.«01_k».proof.Proof.FfnFwdValue
public import proofs.«01_k».proof.Proof.FfnBwdReal
public import proofs.«01_k».proof.Proof.FfnActValue
public import proofs.«01_k».proof.Proof.FfnInValue
public import proofs.«01_k».proof.Proof.MixOutValue
public import proofs.«01_k».proof.Proof.MixOutBwdValue
public import proofs.«01_k».proof.Proof.Gen.FfnAct
public import proofs.«01_k».proof.Proof.Gen.FfnAct.Frame
public import proofs.«01_k».proof.Proof.Gen.FfnActIdeal
public import proofs.«01_k».proof.Proof.Gen.FfnActIdeal.Frame
public import proofs.«01_k».proof.Proof.Gen.FfnActRefIdeal
public import proofs.«01_k».proof.Proof.Gen.FfnActRefIdeal.Run
public import proofs.«01_k».proof.Proof.Gen.FfnIn
public import proofs.«01_k».proof.Proof.Gen.FfnIn.Frame
public import proofs.«01_k».proof.Proof.Gen.FfnInIdeal
public import proofs.«01_k».proof.Proof.Gen.FfnInIdeal.Frame
public import proofs.«01_k».proof.Proof.Gen.FfnInRefIdeal
public import proofs.«01_k».proof.Proof.Gen.FfnInRefIdeal.Run
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.MixOutRefIdeal
public import proofs.«01_k».proof.Proof.Gen.MixOutRefIdeal.Run
public import proofs.«01_k».proof.Proof.Gen.MixOutBwd
public import proofs.«01_k».proof.Proof.Gen.MixOutBwd.Frame
public import proofs.«01_k».proof.Proof.Gen.MixOutBwdIdeal
public import proofs.«01_k».proof.Proof.Gen.MixOutBwdIdeal.Frame
public import proofs.«01_k».proof.Proof.Gen.MixOutBwdRefIdeal
public import proofs.«01_k».proof.Proof.Gen.MixOutBwdRefIdeal.Run
public import proofs.«01_k».proof.Proof.Gen.Pre_finite_in
public import proofs.«01_k».proof.Proof.Gen.DwUp
public import proofs.«01_k».proof.Proof.Gen.DwUp.Frame
public import proofs.«01_k».proof.Proof.Gen.DwUpIdeal
public import proofs.«01_k».proof.Proof.Gen.DwUpIdeal.Frame
public import proofs.«01_k».proof.Proof.Gen.DwUpRefIdeal
public import proofs.«01_k».proof.Proof.Gen.DwUpRefIdeal.Run
public import proofs.«01_k».proof.Proof.Gen.DwDown
public import proofs.«01_k».proof.Proof.Gen.DwDown.Frame
public import proofs.«01_k».proof.Proof.Gen.DwDownIdeal
public import proofs.«01_k».proof.Proof.Gen.DwDownIdeal.Frame
public import proofs.«01_k».proof.Proof.Gen.DwDownRefIdeal
public import proofs.«01_k».proof.Proof.Gen.DwDownRefIdeal.Run
public import proofs.«01_k».proof.Proof.Gen.DwIn
public import proofs.«01_k».proof.Proof.Gen.DwIn.Frame
public import proofs.«01_k».proof.Proof.Gen.DwInIdeal
public import proofs.«01_k».proof.Proof.Gen.DwInIdeal.Frame
public import proofs.«01_k».proof.Proof.Gen.DwInRefIdeal
public import proofs.«01_k».proof.Proof.Gen.DwInRefIdeal.Run
public import proofs.«01_k».proof.Proof.Gen.DwOut
public import proofs.«01_k».proof.Proof.Gen.DwOut.Frame
public import proofs.«01_k».proof.Proof.Gen.DwOutIdeal
public import proofs.«01_k».proof.Proof.Gen.DwOutIdeal.Frame
public import proofs.«01_k».proof.Proof.Gen.DwOutRefIdeal
public import proofs.«01_k».proof.Proof.Gen.DwOutRefIdeal.Run
public import proofs.«01_k».proof.Proof.Gen.FfnFwd
public import proofs.«01_k».proof.Proof.Gen.FfnFwd.Frame
public import proofs.«01_k».proof.Proof.Gen.FfnFwdIdeal
public import proofs.«01_k».proof.Proof.Gen.FfnFwdIdeal.Frame
public import proofs.«01_k».proof.Proof.Gen.FfnFwdRefIdeal
public import proofs.«01_k».proof.Proof.Gen.FfnFwdRefIdeal.Run
public import Idealize.ShloMosaic.Adequacy
public import Idealize.ShloMosaic.Init
public import proofs.«01_k».proof.Proof.AdamOutValue
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamOutRefIdeal.Run
public import proofs.«01_k».proof.Proof.AdamInValue
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamInRefIdeal.Run
public import proofs.«01_k».proof.Proof.AdamDownValue
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownRefIdeal
public import proofs.«01_k».proof.Proof.Gen.AdamDownRefIdeal.Run
public import proofs.«01_k».proof.Proof.AdamGuValue
public import proofs.«01_k».proof.Proof.Gen.AdamGu
public import proofs.«01_k».proof.Proof.Gen.AdamGu.Skeleton
public import proofs.«01_k».proof.Proof.Gen.AdamGu.Launch
public import proofs.«01_k».proof.Proof.Gen.AdamGu.Points
public import proofs.«01_k».proof.Proof.Gen.AdamGu.Frame
public import proofs.«01_k».proof.Proof.Gen.AdamGuIdeal
public import proofs.«01_k».proof.Proof.Gen.AdamGuIdeal.Skeleton
public import proofs.«01_k».proof.Proof.Gen.AdamGuIdeal.Launch
public import proofs.«01_k».proof.Proof.Gen.AdamGuIdeal.Points
public import proofs.«01_k».proof.Proof.Gen.AdamGuIdeal.Frame
public import proofs.«01_k».proof.Proof.Gen.AdamGuRefIdeal
public import proofs.«01_k».proof.Proof.Gen.AdamGuRefIdeal.Run
public import proofs.«01_k».proof.Proof.AdamSmallValue
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallRefIdeal
public import proofs.«01_k».proof.Proof.Gen.AdamSmallRefIdeal.Run

@[expose] public section

noncomputable section

namespace Cert.Proof

open Idealize.ShloMosaic Idealize.SL.Sem

set_option maxHeartbeats 4000000 in
/-- The kernel at its formats: its idealization is the same text, so the run over any arithmetic is its run too. -/
theorem frame_kernel : Cert.quiescent_Kernel := by
  intro m ρ _
  have h := Cert.KernelIdeal.Grad.frame_run (F := Bits) m ρ
  rw [Cert.Same.defs_eq, Cert.Same.main_eq] at h
  exact h

/-- The kernel over the extended reals. -/
theorem frame_kernelIdeal : Cert.quiescent_KernelIdeal := fun m ρ _ => Cert.KernelIdeal.Grad.frame_run m ρ

/-- The same from finite arguments. -/
theorem frame_kernelIdeal_pre : Cert.quiescent_KernelIdeal_pre_finite := fun m ρ _ =>
  Cert.KernelIdeal.Grad.frame_run m ρ

/-- The reference over the extended reals: a host program, which has no semaphores. -/
theorem frame_reference : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run m ρ)

/-- The same from finite arguments. -/
theorem frame_reference_pre : Cert.quiescent_ReferenceIdeal_pre_finite := fun m ρ _ =>
  frame_reference m ρ trivial

/-- From finite arguments the kernel and the reference, both over the extended reals, return the same five arrays. -/
theorem equal : Cert.algebraic_KernelIdeal_ReferenceIdeal_pre_finite := by
  intro m g m' g' hpre hagree
  have hA := fun c => Cert.Grad.args_of_fn _ _ _ (hpre c)
  refine ⟨_, _, _, _, _, Cert.KernelIdeal.Grad.value_run m g hA, Cert.ReferenceIdeal.Value.value_run m' g' (Cert.KernelIdeal.Grad.dat m) fun c => ?_⟩
  obtain ⟨h0, h1, h2⟩ := hagree c
  rw [h0, h1, h2]
  exact hA c

/-! ## The weight gradients: two arguments, one result, no precondition. -/

theorem frame_DwUpRef : Cert.quiescent_DwUpRefIdeal := fun m ρ _ =>
  (θ_run Cert.DwUpRefIdeal.defs _ _).mono (fun r h => ⟨fun c => (h c).2, sem_eq_zero_of_no_sems (by decide) r.2⟩)
    (Cert.DwUpRefIdeal.Value.run m ρ)

/-- The up projection's weight gradient, summed by blocks of tokens and all at once. -/
theorem equal_DwUp : Cert.algebraic_DwUpIdeal_DwUpRefIdeal := by
  pair_intro
  · run_from Cert.DwUpIdeal.Gen.run_main m g
  · run_from Cert.DwUpRefIdeal.Value.run m' g'
    exact (Cert.DwUpIdeal.Grad.final m c).symm

theorem frame_DwDownRef : Cert.quiescent_DwDownRefIdeal := fun m ρ _ =>
  (θ_run Cert.DwDownRefIdeal.defs _ _).mono (fun r h => ⟨fun c => (h c).2, sem_eq_zero_of_no_sems (by decide) r.2⟩)
    (Cert.DwDownRefIdeal.Value.run m ρ)

/-- The down projection's weight gradient, summed by blocks of tokens and all at once. -/
theorem equal_DwDown : Cert.algebraic_DwDownIdeal_DwDownRefIdeal := by
  pair_intro
  · run_from Cert.DwDownIdeal.Gen.run_main m g
  · run_from Cert.DwDownRefIdeal.Value.run m' g'
    exact (Cert.DwDownIdeal.Grad.final m c).symm

theorem frame_DwInRef : Cert.quiescent_DwInRefIdeal := fun m ρ _ =>
  (θ_run Cert.DwInRefIdeal.defs _ _).mono (fun r h => ⟨fun c => (h c).2, sem_eq_zero_of_no_sems (by decide) r.2⟩)
    (Cert.DwInRefIdeal.Value.run m ρ)

/-- The mixing input projection's weight gradient, summed by blocks of tokens and all at once. -/
theorem equal_DwIn : Cert.algebraic_DwInIdeal_DwInRefIdeal := by
  pair_intro
  · run_from Cert.DwInIdeal.Gen.run_main m g
  · run_from Cert.DwInRefIdeal.Value.run m' g'
    exact (Cert.DwInIdeal.Grad.final m c).symm

theorem frame_DwOutRef : Cert.quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run m ρ)

/-- The mixing output projection's weight gradient, summed by blocks of tokens and all at once. -/
theorem equal_DwOut : Cert.algebraic_DwOutIdeal_DwOutRefIdeal := by
  pair_intro
  · run_from Cert.DwOutIdeal.Gen.run_main m g
  · run_from Cert.DwOutRefIdeal.Value.run m' g'
    exact (Cert.DwOutIdeal.Grad.final m c).symm

/-! ## The feed-forward half step -/

theorem frame_FfnFwdRef : Cert.quiescent_FfnFwdRefIdeal := fun m ρ _ =>
  (θ_run Cert.FfnFwdRefIdeal.defs _ _).mono (fun r h => ⟨fun c => (h c).2.2.2, sem_eq_zero_of_no_sems (by decide) r.2⟩)
    (Cert.FfnFwdRefIdeal.Value.run m ρ)

/-- The half step's output, its normalised input and its up projection, by chunks of the hidden width and all at once. -/
theorem equal_FfnFwd : Cert.algebraic_FfnFwdIdeal_FfnFwdRefIdeal := by
  intro m g m' g' _ hagree
  refine ⟨_, _, _, (θ_run Cert.FfnFwdIdeal.defs _ _).mono (fun r h c => ⟨((h.1 c).1 4).trans (Cert.FfnFwdIdeal.Grad.final4 m c),
      ((h.1 c).1 5).trans (Cert.FfnFwdIdeal.Grad.final5 m c), ((h.1 c).1 6).trans (Cert.FfnFwdIdeal.Grad.final6 m c), h.2.1 c⟩)
      (θ_run_and (Cert.FfnFwdIdeal.Gen.run_main m g) (Cert.FfnFwdIdeal.Gen.frame m g)),
    (θ_run Cert.FfnFwdRefIdeal.defs _ _).mono (fun r h c => ?_) (Cert.FfnFwdRefIdeal.Value.run m' g')⟩
  obtain ⟨h0, h1, h2, h3⟩ := h c
  obtain ⟨e0, e1, e2, e3⟩ := hagree c
  refine ⟨h0.trans ?_, h1.trans ?_, h2.trans ?_, h3⟩ <;> simp only [e0, e1, e2, e3] <;> rfl

theorem frame_FfnBwdRef : Cert.quiescent_FfnBwdRefIdeal := fun m ρ _ =>
  (θ_run Cert.FfnBwdRefIdeal.defs _ _).mono (fun r h => ⟨fun c => (h c).2.2.2.2.2, sem_eq_zero_of_no_sems (by decide) r.2⟩)
    (Cert.FfnBwdRefIdeal.Value.run m ρ)

/-- The feed-forward block's cotangents: the kernel's closed forms, by blocks of tokens and pieces of the hidden width, and the chain rule's. -/
theorem equal_FfnBwd : Cert.algebraic_FfnBwdIdeal_FfnBwdRefIdeal_pre_finite_bwd := by
  intro m g m' g' hpre hagree
  have hr := Cert.FfnBwdIdeal.Grad.real_of_pre m hpre
  refine ⟨_, _, _, _, _, (θ_run Cert.FfnBwdIdeal.defs _ _).mono (fun r h c => ⟨((h.1 c).1 6).trans (Cert.FfnBwdIdeal.Grad.final6 (hr c)),
      ((h.1 c).1 7).trans (Cert.FfnBwdIdeal.Grad.final7 (hr c)), ((h.1 c).1 8).trans (Cert.FfnBwdIdeal.Grad.final8 (hr c)),
      ((h.1 c).1 9).trans (Cert.FfnBwdIdeal.Grad.final9 c), ((h.1 c).1 10).trans (Cert.FfnBwdIdeal.Grad.final10 c), h.2.1 c⟩)
      (θ_run_and (Cert.FfnBwdIdeal.Gen.run_main m g) (Cert.FfnBwdIdeal.Gen.frame m g)),
    (θ_run Cert.FfnBwdRefIdeal.defs _ _).mono (fun r h c => ?_) (Cert.FfnBwdRefIdeal.Value.run m' g')⟩
  obtain ⟨h0, h1, h2, h3, h4, h5⟩ := h c
  obtain ⟨e0, e1, e2, e3, e4⟩ := hagree c
  refine ⟨h0.trans ?_, h1.trans ?_, h2.trans ?_, h3.trans ?_, h4.trans ?_, h5⟩
  · unfold Cert.FfnBwdRefIdeal.Value.res_main_v56
    simp only [e0, e1, e2, e3, e4]
  · unfold Cert.FfnBwdRefIdeal.Value.res_main_v57
    simp only [e0, e1, e2, e3, e4]
  · unfold Cert.FfnBwdRefIdeal.Value.res_main_v58
    simp only [e0, e1, e2, e3, e4]
  · simp only [e0, e1, e2]
  · simp only [e4]

theorem frame_FfnActRef : Cert.quiescent_FfnActRefIdeal := fun m ρ _ =>
  (θ_run Cert.FfnActRefIdeal.defs _ _).mono (fun r h => ⟨fun c => (h c).2.2.2, sem_eq_zero_of_no_sems (by decide) r.2⟩)
    (Cert.FfnActRefIdeal.Value.run m ρ)

/-- The first call of the split half step backwards: the gradients up to that of the up projection. -/
theorem equal_FfnAct : Cert.algebraic_FfnActIdeal_FfnActRefIdeal_pre_finite_bwd := by
  intro m g m' g' hpre hagree
  have hr := Cert.FfnActIdeal.Grad.real_of_pre m hpre
  refine ⟨_, _, _, (θ_run Cert.FfnActIdeal.defs _ _).mono (fun r h c => ⟨((h.1 c).1 3).trans (Cert.FfnActIdeal.Grad.final3 (hr c)),
      ((h.1 c).1 4).trans (Cert.FfnActIdeal.Grad.final4 c),
      ((h.1 c).1 5).trans (Cert.FfnActIdeal.Grad.final5 c), h.2.1 c⟩)
      (θ_run_and (Cert.FfnActIdeal.Gen.run_main m g) (Cert.FfnActIdeal.Gen.frame m g)),
    (θ_run Cert.FfnActRefIdeal.defs _ _).mono (fun r h c => ?_) (Cert.FfnActRefIdeal.Value.run m' g')⟩
  obtain ⟨h0, h1, h2, h3⟩ := h c
  obtain ⟨e0, e1, e2, e3, e4⟩ := hagree c
  refine ⟨h0.trans ?_, h1.trans ?_, h2.trans ?_, h3⟩
  · unfold Cert.FfnActRefIdeal.Value.res_main_v31
    simp only [e0, e1, e2, e3, e4]
    rfl
  · simp only [e0, e1, e2]
    rfl
  · simp only [e4]

theorem frame_FfnInRef : Cert.quiescent_FfnInRefIdeal := fun m ρ _ =>
  (θ_run Cert.FfnInRefIdeal.defs _ _).mono (fun r h => ⟨fun c => (h c).2.2, sem_eq_zero_of_no_sems (by decide) r.2⟩)
    (Cert.FfnInRefIdeal.Value.run m ρ)

/-- The second call of the split half step backwards: the gradients from that of the up projection on. -/
theorem equal_FfnIn : Cert.algebraic_FfnInIdeal_FfnInRefIdeal_pre_finite_in := by
  intro m g m' g' hpre hagree
  have hr := Cert.FfnInIdeal.Grad.real_of_pre m hpre
  refine ⟨_, _, (θ_run Cert.FfnInIdeal.defs _ _).mono (fun r h c => ⟨((h.1 c).1 5).trans (Cert.FfnInIdeal.Grad.final5 (hr c)),
      ((h.1 c).1 6).trans (Cert.FfnInIdeal.Grad.final6 c), h.2.1 c⟩)
      (θ_run_and (Cert.FfnInIdeal.Gen.run_main m g) (Cert.FfnInIdeal.Gen.frame m g)),
    (θ_run Cert.FfnInRefIdeal.defs _ _).mono (fun r h c => ?_) (Cert.FfnInRefIdeal.Value.run m' g')⟩
  obtain ⟨h0, h1, h2⟩ := h c
  obtain ⟨e0, e1, e2, e3, e4⟩ := hagree c
  refine ⟨h0.trans ?_, h1.trans ?_, h2⟩
  · unfold Cert.FfnInRefIdeal.Value.res_main_v39
    simp only [e0, e1, e2, e3, e4]
    rfl
  · simp only [e0, e2, e3]
    rfl

theorem frame_MixOutRef : Cert.quiescent_MixOutRefIdeal := fun m ρ _ =>
  (θ_run Cert.MixOutRefIdeal.defs _ _).mono (fun r h => ⟨fun c => (h c).2.2, sem_eq_zero_of_no_sems (by decide) r.2⟩)
    (Cert.MixOutRefIdeal.Value.run m ρ)

/-- The mixers' output projection, by blocks of tokens. -/
theorem equal_MixOut : Cert.algebraic_MixOutIdeal_MixOutRefIdeal := by
  intro m g m' g' hpre hagree
  refine ⟨_, _, (θ_run Cert.MixOutIdeal.defs _ _).mono (fun r h c => ⟨((h.1 c).1 5).trans (Cert.MixOutIdeal.Grad.final5 m c),
      ((h.1 c).1 6).trans (Cert.MixOutIdeal.Grad.final6 m c), h.2.1 c⟩)
      (θ_run_and (Cert.MixOutIdeal.Gen.run_main m g) (Cert.MixOutIdeal.Gen.frame m g)),
    (θ_run Cert.MixOutRefIdeal.defs _ _).mono (fun r h c => ?_) (Cert.MixOutRefIdeal.Value.run m' g')⟩
  obtain ⟨h0, h1, h2⟩ := h c
  obtain ⟨e0, e1, e2, e3, e4⟩ := hagree c
  refine ⟨h0.trans ?_, h1.trans ?_, h2⟩
  · rw [e0, e1, e2, e3, e4]
  · rw [e1, e2, e3]

theorem frame_MixOutBwdRef : Cert.quiescent_MixOutBwdRefIdeal := fun m ρ _ =>
  (θ_run Cert.MixOutBwdRefIdeal.defs _ _).mono (fun r h => ⟨fun c => (h c).2.2.2.2.2, sem_eq_zero_of_no_sems (by decide) r.2⟩)
    (Cert.MixOutBwdRefIdeal.Value.run m ρ)

/-- The mixers' output projection backwards, by blocks of tokens, with the heads' sums by masks. -/
theorem equal_MixOutBwd : Cert.algebraic_MixOutBwdIdeal_MixOutBwdRefIdeal := by
  intro m g m' g' hpre hagree
  refine ⟨_, _, _, _, _, (θ_run Cert.MixOutBwdIdeal.defs _ _).mono (fun r h c => ⟨((h.1 c).1 4).trans (Cert.MixOutBwdIdeal.Grad.final4 m c),
      ((h.1 c).1 5).trans (Cert.MixOutBwdIdeal.Grad.final5 m c),
      ((h.1 c).1 6).trans (Cert.MixOutBwdIdeal.Grad.final6 m c),
      ((h.1 c).1 7).trans (Cert.MixOutBwdIdeal.Grad.final7 m c),
      ((h.1 c).1 8).trans (Cert.MixOutBwdIdeal.Grad.final8 m c), h.2.1 c⟩)
      (θ_run_and (Cert.MixOutBwdIdeal.Gen.run_main m g) (Cert.MixOutBwdIdeal.Gen.frame m g)),
    (θ_run Cert.MixOutBwdRefIdeal.defs _ _).mono (fun r h c => ?_) (Cert.MixOutBwdRefIdeal.Value.run m' g')⟩
  obtain ⟨h0, h1, h2, h3, h4, h5⟩ := h c
  obtain ⟨e0, e1, e2, e3⟩ := hagree c
  refine ⟨h0.trans ?_, h1.trans ?_, h2.trans ?_, h3.trans ?_, h4.trans ?_, h5⟩
  · simp only [e2, e3]
  · simp only [e2, e3]
  · simp only [e2, e3]
  · simp only [e0, e2, e3]
  · simp only [e1, e2, e3]

theorem frame_AdamOutRef : Cert.quiescent_AdamOutRefIdeal := fun m ρ _ =>
  (θ_run Cert.AdamOutRefIdeal.defs _ _).mono (fun r h => ⟨fun c => (h c).2.2.2.2, sem_eq_zero_of_no_sems (by decide) r.2⟩)
    (Cert.AdamOutRefIdeal.Value.run m ρ)

/-- The optimiser on the mixers' output projection: the layers' calls one after the other. -/
theorem equal_AdamOut : Cert.algebraic_AdamOutIdeal_AdamOutRefIdeal := by
  intro m g m' g' hpre hagree
  refine ⟨_, _, _, _, (θ_run Cert.AdamOutIdeal.defs _ _).mono (fun r h c => ⟨(h.1 c).1, (h.1 c).2.1, (h.1 c).2.2.1, (h.1 c).2.2.2, h.2.1 c⟩)
      (θ_run_and (Cert.AdamOutIdeal.Grad.run m g) (Cert.AdamOutIdeal.Gen.frame m g)),
    (θ_run Cert.AdamOutRefIdeal.defs _ _).mono (fun r h c => ?_) (Cert.AdamOutRefIdeal.Value.run m' g')⟩
  obtain ⟨h0, h1, h2, h3, h4⟩ := h c
  obtain ⟨e0, e1, e2, e3, e4⟩ := hagree c
  refine ⟨h0.trans ?_, h1.trans ?_, h2.trans ?_, h3.trans ?_, h4⟩
  · rw [e0, e1]
  · rw [e0, e1, e2, e3, e4]
  · rw [e0, e1, e3]
  · rw [e0, e1, e4]

theorem frame_AdamInRef : Cert.quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run m ρ)

/-- The optimiser on the mixers' input projection. -/
theorem equal_AdamIn : Cert.algebraic_AdamInIdeal_AdamInRefIdeal := by
  intro m g m' g' hpre hagree
  refine ⟨_, _, _, _, (θ_run Cert.AdamInIdeal.defs _ _).mono (fun r h c => ⟨(h.1 c).1, (h.1 c).2.1, (h.1 c).2.2.1, (h.1 c).2.2.2, h.2.1 c⟩)
      (θ_run_and (Cert.AdamInIdeal.Grad.run m g) (Cert.AdamInIdeal.Gen.frame m g)),
    (θ_run Cert.AdamInRefIdeal.defs _ _).mono (fun r h c => ?_) (Cert.AdamInRefIdeal.Value.run m' g')⟩
  obtain ⟨h0, h1, h2, h3, h4⟩ := h c
  obtain ⟨e0, e1, e2, e3, e4⟩ := hagree c
  refine ⟨h0.trans ?_, h1.trans ?_, h2.trans ?_, h3.trans ?_, h4⟩
  · rw [e0, e1]
  · rw [e0, e1, e2, e3, e4]
  · rw [e0, e1, e3]
  · rw [e0, e1, e4]

theorem frame_AdamDownRef : Cert.quiescent_AdamDownRefIdeal := fun m ρ _ =>
  (θ_run Cert.AdamDownRefIdeal.defs _ _).mono (fun r h => ⟨fun c => (h c).2.2.2.2, sem_eq_zero_of_no_sems (by decide) r.2⟩)
    (Cert.AdamDownRefIdeal.Value.run m ρ)

/-- The optimiser on a feed-forward network's down projection. -/
theorem equal_AdamDown : Cert.algebraic_AdamDownIdeal_AdamDownRefIdeal := by
  intro m g m' g' hpre hagree
  refine ⟨_, _, _, _, (θ_run Cert.AdamDownIdeal.defs _ _).mono (fun r h c => ⟨(h.1 c).1, (h.1 c).2.1, (h.1 c).2.2.1, (h.1 c).2.2.2, h.2.1 c⟩)
      (θ_run_and (Cert.AdamDownIdeal.Grad.run m g) (Cert.AdamDownIdeal.Gen.frame m g)),
    (θ_run Cert.AdamDownRefIdeal.defs _ _).mono (fun r h c => ?_) (Cert.AdamDownRefIdeal.Value.run m' g')⟩
  obtain ⟨h0, h1, h2, h3, h4⟩ := h c
  obtain ⟨e0, e1, e2, e3, e4⟩ := hagree c
  refine ⟨h0.trans ?_, h1.trans ?_, h2.trans ?_, h3.trans ?_, h4⟩
  · rw [e0, e1]
  · rw [e0, e1, e2, e3, e4]
  · rw [e0, e1, e3]
  · rw [e0, e1, e4]

theorem frame_AdamGuRef : Cert.quiescent_AdamGuRefIdeal := fun m ρ _ =>
  (θ_run Cert.AdamGuRefIdeal.defs _ _).mono (fun r h => ⟨fun c => (h c).2.2.2.2, sem_eq_zero_of_no_sems (by decide) r.2⟩)
    (Cert.AdamGuRefIdeal.Value.run m ρ)

/-- The optimiser on a feed-forward network's gate and up projections, transposed and a half of the rows at a time. -/
theorem equal_AdamGu : Cert.algebraic_AdamGuIdeal_AdamGuRefIdeal := by
  intro m g m' g' hpre hagree
  refine ⟨_, _, _, _, (θ_run Cert.AdamGuIdeal.defs _ _).mono (fun r h c => ⟨(h.1 c).1, (h.1 c).2.1, (h.1 c).2.2.1, (h.1 c).2.2.2, h.2.1 c⟩)
      (θ_run_and (Cert.AdamGuIdeal.Grad.run m g) (Cert.AdamGuIdeal.Gen.frame m g)),
    (θ_run Cert.AdamGuRefIdeal.defs _ _).mono (fun r h c => ?_) (Cert.AdamGuRefIdeal.Value.run m' g')⟩
  obtain ⟨h0, h1, h2, h3, h4⟩ := h c
  obtain ⟨e0, e1, e2, e3, e4⟩ := hagree c
  refine ⟨h0.trans ?_, h1.trans ?_, h2.trans ?_, h3.trans ?_, h4⟩
  · rw [e0, e1]
  · rw [e0, e1, e2, e3, e4]
  · rw [e0, e1, e3]
  · rw [e0, e1, e4]

theorem frame_AdamSmallRef : Cert.quiescent_AdamSmallRefIdeal := fun m ρ _ =>
  (θ_run Cert.AdamSmallRefIdeal.defs _ _).mono (fun r h => ⟨fun c => (h c).2.2.2.2.2.2.2.2, sem_eq_zero_of_no_sems (by decide) r.2⟩)
    (Cert.AdamSmallRefIdeal.Value.run m ρ)

/-- The optimiser on the two small projections, packed together. -/
theorem equal_AdamSmall : Cert.algebraic_AdamSmallIdeal_AdamSmallRefIdeal := by
  intro m g m' g' hpre hagree
  refine ⟨_, _, _, _, _, _, _, _, (θ_run Cert.AdamSmallIdeal.defs _ _).mono (fun r h c =>
      have k := h.1 c
      ⟨k.1, k.2.1, k.2.2.1, k.2.2.2.1, k.2.2.2.2.1, k.2.2.2.2.2.1, k.2.2.2.2.2.2.1, k.2.2.2.2.2.2.2, h.2.1 c⟩)
      (θ_run_and (Cert.AdamSmallIdeal.Grad.run m g) (Cert.AdamSmallIdeal.Gen.frame m g)),
    (θ_run Cert.AdamSmallRefIdeal.defs _ _).mono (fun r h c => ?_) (Cert.AdamSmallRefIdeal.Value.run m' g')⟩
  obtain ⟨h0, h1, h2, h3, h4, h5, h6, h7, h8⟩ := h c
  obtain ⟨e0, e1, e2, e3, e4, e5, e6, e7⟩ := hagree c
  refine ⟨h0.trans ?_, h1.trans ?_, h2.trans ?_, h3.trans ?_, h4.trans ?_, h5.trans ?_, h6.trans ?_, h7.trans ?_, h8⟩
  · rw [e0, e1]
  · rw [e0, e1, e2, e4, e6]
  · rw [e0, e1, e4]
  · rw [e0, e1, e6]
  · rw [e0, e1]
  · rw [e0, e1, e3, e5, e7]
  · rw [e0, e1, e5]
  · rw [e0, e1, e7]

theorem claim : Cert.Claim :=
  ⟨Cert.Kernel.Gen.facts, Cert.KernelIdeal.Gen.facts, Cert.ReferenceIdeal.Gen.facts, Cert.FfnBwd.Gen.facts, Cert.FfnBwdIdeal.Gen.facts,
    Cert.FfnBwdRefIdeal.Gen.facts, Cert.DwUp.Gen.facts, Cert.DwUpIdeal.Gen.facts, Cert.DwUpRefIdeal.Gen.facts, Cert.DwDown.Gen.facts,
    Cert.DwDownIdeal.Gen.facts, Cert.DwDownRefIdeal.Gen.facts, Cert.FfnFwd.Gen.facts, Cert.FfnFwdIdeal.Gen.facts, Cert.FfnFwdRefIdeal.Gen.facts,
    Cert.DwIn.Gen.facts, Cert.DwInIdeal.Gen.facts, Cert.DwInRefIdeal.Gen.facts, Cert.DwOut.Gen.facts, Cert.DwOutIdeal.Gen.facts,
    Cert.DwOutRefIdeal.Gen.facts, Cert.FfnAct.Gen.facts, Cert.FfnActIdeal.Gen.facts, Cert.FfnActRefIdeal.Gen.facts, Cert.FfnIn.Gen.facts,
    Cert.FfnInIdeal.Gen.facts, Cert.FfnInRefIdeal.Gen.facts, Cert.MixOut.Gen.facts, Cert.MixOutIdeal.Gen.facts, Cert.MixOutRefIdeal.Gen.facts,
    Cert.MixOutBwd.Gen.facts, Cert.MixOutBwdIdeal.Gen.facts, Cert.MixOutBwdRefIdeal.Gen.facts, Cert.AdamOut.Gen.facts, Cert.AdamOutIdeal.Gen.facts,
    Cert.AdamOutRefIdeal.Gen.facts, Cert.AdamIn.Gen.facts, Cert.AdamInIdeal.Gen.facts, Cert.AdamInRefIdeal.Gen.facts, Cert.AdamDown.Gen.facts,
    Cert.AdamDownIdeal.Gen.facts, Cert.AdamDownRefIdeal.Gen.facts, Cert.AdamGu.Gen.facts, Cert.AdamGuIdeal.Gen.facts, Cert.AdamGuRefIdeal.Gen.facts,
    Cert.AdamSmall.Gen.facts, Cert.AdamSmallIdeal.Gen.facts, Cert.AdamSmallRefIdeal.Gen.facts, Cert.Pre_finite.Gen.facts, Cert.Pre_finite_bwd.Gen.facts,
    Cert.Pre_finite_in.Gen.facts,
    frame_kernel, frame_kernelIdeal, frame_kernelIdeal_pre, frame_reference, frame_reference_pre, fun m ρ _ => Cert.FfnBwd.Gen.frame m ρ,
    fun m ρ _ => Cert.FfnBwdIdeal.Gen.frame m ρ, fun m ρ _ => Cert.FfnBwdIdeal.Gen.frame m ρ, frame_FfnBwdRef, fun m ρ _ => frame_FfnBwdRef m ρ trivial,
    fun m ρ _ => Cert.DwUp.Gen.frame m ρ, fun m ρ _ => Cert.DwUpIdeal.Gen.frame m ρ, frame_DwUpRef, fun m ρ _ => Cert.DwDown.Gen.frame m ρ,
    fun m ρ _ => Cert.DwDownIdeal.Gen.frame m ρ, frame_DwDownRef, fun m ρ _ => Cert.FfnFwd.Gen.frame m ρ, fun m ρ _ => Cert.FfnFwdIdeal.Gen.frame m ρ,
    frame_FfnFwdRef, fun m ρ _ => Cert.DwIn.Gen.frame m ρ, fun m ρ _ => Cert.DwInIdeal.Gen.frame m ρ, frame_DwInRef,
    fun m ρ _ => Cert.DwOut.Gen.frame m ρ, fun m ρ _ => Cert.DwOutIdeal.Gen.frame m ρ, frame_DwOutRef, fun m ρ _ => Cert.FfnAct.Gen.frame m ρ,
    fun m ρ _ => Cert.FfnActIdeal.Gen.frame m ρ, fun m ρ _ => Cert.FfnActIdeal.Gen.frame m ρ, frame_FfnActRef, fun m ρ _ => frame_FfnActRef m ρ trivial,
    fun m ρ _ => Cert.FfnIn.Gen.frame m ρ, fun m ρ _ => Cert.FfnInIdeal.Gen.frame m ρ, fun m ρ _ => Cert.FfnInIdeal.Gen.frame m ρ, frame_FfnInRef,
    fun m ρ _ => frame_FfnInRef m ρ trivial, fun m ρ _ => Cert.MixOut.Gen.frame m ρ, fun m ρ _ => Cert.MixOutIdeal.Gen.frame m ρ, frame_MixOutRef,
    fun m ρ _ => Cert.MixOutBwd.Gen.frame m ρ, fun m ρ _ => Cert.MixOutBwdIdeal.Gen.frame m ρ, frame_MixOutBwdRef,
    fun m ρ _ => Cert.AdamOut.Gen.frame m ρ, fun m ρ _ => Cert.AdamOutIdeal.Gen.frame m ρ, frame_AdamOutRef, fun m ρ _ => Cert.AdamIn.Gen.frame m ρ,
    fun m ρ _ => Cert.AdamInIdeal.Gen.frame m ρ, frame_AdamInRef, fun m ρ _ => Cert.AdamDown.Gen.frame m ρ, fun m ρ _ => Cert.AdamDownIdeal.Gen.frame m ρ,
    frame_AdamDownRef, fun m ρ _ => Cert.AdamGu.Gen.frame m ρ, fun m ρ _ => Cert.AdamGuIdeal.Gen.frame m ρ, frame_AdamGuRef,
    fun m ρ _ => Cert.AdamSmall.Gen.frame m ρ, fun m ρ _ => Cert.AdamSmallIdeal.Gen.frame m ρ, frame_AdamSmallRef, trivial, equal, trivial, equal_FfnBwd,
    trivial, equal_DwUp, trivial, equal_DwDown, trivial, equal_FfnFwd, trivial, equal_DwIn, trivial, equal_DwOut, trivial, equal_FfnAct, trivial,
    equal_FfnIn, trivial, equal_MixOut, trivial, equal_MixOutBwd, trivial, equal_AdamOut, trivial, equal_AdamIn, trivial, equal_AdamDown, trivial,
    equal_AdamGu, trivial, equal_AdamSmall⟩

end Cert.Proof

end
